-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_packed [hPre_packed : Cert.Pre_packed.Facts] (m : (ℓ : Loc Cert.KernelIdeal.nD Cert.KernelIdeal.τ Cert.KernelIdeal.sig) → Buf (Elt Ideal) ℓ) : Prop :=
  ∀ c : Dev Cert.KernelIdeal.nD,
    (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed [hPre_packed : Cert.Pre_packed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_packed [hKernelIdeal : Cert.KernelIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_packed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_packed [hReferenceIdeal : Cert.ReferenceIdeal.Facts] [hPre_packed : Cert.Pre_packed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scaled_log2e" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "masked" .f32 0xF149F2CA#32 ⊥

def algebraic_KernelIdeal_ReferenceIdeal_pre_packed [hKernelIdeal : Cert.KernelIdeal.Facts] [hReferenceIdeal : Cert.ReferenceIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_packed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_packed : Cert.Pre_packed.Facts),
    quiescent_Kernel (hKernel := hKernel)
    ∧ quiescent_KernelIdeal (hKernelIdeal := hKernelIdeal)
    ∧ quiescent_KernelIdeal_pre_packed (hKernelIdeal := hKernelIdeal) (hPre_packed := hPre_packed)
    ∧ quiescent_ReferenceIdeal (hReferenceIdeal := hReferenceIdeal)
    ∧ quiescent_ReferenceIdeal_pre_packed (hReferenceIdeal := hReferenceIdeal) (hPre_packed := hPre_packed)
    ∧ preserves_Kernel_KernelIdeal
    ∧ algebraic_KernelIdeal_ReferenceIdeal_pre_packed (hKernelIdeal := hKernelIdeal) (hReferenceIdeal := hReferenceIdeal) (hPre_packed := hPre_packed)
-- ==== Pre_packed.lean ====
abbrev S2x32768x1024 : Shape := ⟨3, ![2, 32768, 1024]⟩
abbrev S2x32768x256 : Shape := ⟨3, ![2, 32768, 256]⟩
abbrev S2x32768x16 : Shape := ⟨3, ![2, 32768, 16]⟩
abbrev S2x32768x4 : Shape := ⟨3, ![2, 32768, 4]⟩
abbrev S2x32768 : Shape := ⟨2, ![2, 32768]⟩
abbrev S2x32767 : Shape := ⟨2, ![2, 32767]⟩
abbrev S_ : Shape := ⟨0, ![]⟩

class Facts : Prop where
  slices_S2x32768_S2x32767_0_0 : S2x32768.Slices ![0, 0] S2x32767
  slices_S2x32768_S2x32767_0_1 : S2x32768.Slices ![0, 1] S2x32767
  reducesTo_S2x32767_S_d0_1 : S2x32767.ReducesTo [0, 1] S_
  h_S_ : 0 < S_.numel
  bcast_S_S2x32768x4 : S_.BroadcastsInDim S2x32768x4 (![] : Fin 0 → Fin S2x32768x4.rank)
  reducesTo_S2x32768x4_S_d0_1_2 : S2x32768x4.ReducesTo [0, 1, 2] S_

variable [Facts]

def fn {F : FTy → Type} [FloatOps F] (main_arg0 : FVec F S2x32768x1024 .fp8e4m3) (main_arg1 : FVec F S2x32768x256 .fp8e4m3) (main_arg2 : FVec F S2x32768x256 .fp8e4m3) (main_arg3 : FVec F S2x32768x16 .f32) (main_arg4 : FVec F S2x32768x4 .f32) (main_arg5 : FVec F S2x32768x4 .f32) (main_arg6 : IVec S2x32768 32) : IVec S_ 1 :=
  let main_v0 : IVec S2x32767 32 := (extractStridedSlice S2x32767 ![0, 0] · slices_S2x32768_S2x32767_0_0) main_arg6
  let main_v1 : IVec S2x32767 32 := (extractStridedSlice S2x32767 ![0, 1] · slices_S2x32768_S2x32767_0_1) main_arg6
  let main_v2 : IVec S2x32767 1 := cmpi .sle main_v0 main_v1
  let main_c : IVec S_ 1 := constantI S_ 1 1#1
  let main_v3 : IVec S_ 1 := (fun x v => Host.reduce IntOp.andi x v reducesTo_S2x32767_S_d0_1 h_S_) main_v2 main_c
  let main_cst : FVec F S_ .f32 := constant S_ .f32 0x00000000#32
  let main_v4 : FVec F S2x32768x4 .f32 := broadcastInDim S2x32768x4 ![] bcast_S_S2x32768x4 main_cst
  let main_v5 : IVec S2x32768x4 1 := cmpf .oge main_arg5 main_v4
  let main_c_0 : IVec S_ 1 := constantI S_ 1 1#1
  let main_v6 : IVec S_ 1 := (fun x v => Host.reduce IntOp.andi x v reducesTo_S2x32768x4_S_d0_1_2 h_S_) main_v5 main_c_0
  let main_v7 : IVec S_ 1 := andi main_v3 main_v6
  main_v7
-- ==== Kernel.lean ====
abbrev S2x32768x1024 : Shape := ⟨3, ![2, 32768, 1024]⟩
abbrev S2x32768x256 : Shape := ⟨3, ![2, 32768, 256]⟩
abbrev S2x32768x16 : Shape := ⟨3, ![2, 32768, 16]⟩
abbrev S2x32768x4 : Shape := ⟨3, ![2, 32768, 4]⟩
abbrev S2x32768 : Shape := ⟨2, ![2, 32768]⟩
abbrev S2x32768x4x64 : Shape := ⟨4, ![2, 32768, 4, 64]⟩
abbrev S_ : Shape := ⟨0, ![]⟩
abbrev S2x1 : Shape := ⟨2, ![2, 1]⟩
abbrev S2x32767 : Shape := ⟨2, ![2, 32767]⟩
abbrev S2x4x64x32768 : Shape := ⟨4, ![2, 4, 64, 32768]⟩
abbrev S2x4x128x32768 : Shape := ⟨4, ![2, 4, 128, 32768]⟩
abbrev S2x4x128x33280 : Shape := ⟨4, ![2, 4, 128, 33280]⟩
abbrev S2x4x32768x64 : Shape := ⟨4, ![2, 4, 32768, 64]⟩
abbrev S2x4x32768x128 : Shape := ⟨4, ![2, 4, 32768, 128]⟩
abbrev S2x4x33280x128 : Shape := ⟨4, ![2, 4, 33280, 128]⟩
abbrev S2x256 : Shape := ⟨2, ![2, 256]⟩
abbrev S2x32768x1 : Shape := ⟨3, ![2, 32768, 1]⟩
abbrev S2x4x32768 : Shape := ⟨3, ![2, 4, 32768]⟩
abbrev S2x4x33280 : Shape := ⟨3, ![2, 4, 33280]⟩
abbrev S2x4x1x33280 : Shape := ⟨4, ![2, 4, 1, 33280]⟩
abbrev S1x128x128 : Shape := ⟨3, ![1, 128, 128]⟩
abbrev S1x128x16 : Shape := ⟨3, ![1, 128, 16]⟩
abbrev S1x128x1 : Shape := ⟨3, ![1, 128, 1]⟩
abbrev S1x1x128x33280 : Shape := ⟨4, ![1, 1, 128, 33280]⟩
abbrev S1x1x33280x128 : Shape := ⟨4, ![1, 1, 33280, 128]⟩
abbrev S1x1x1x33280 : Shape := ⟨4, ![1, 1, 1, 33280]⟩
abbrev S64x256x512 : Shape := ⟨3, ![64, 256, 512]⟩
abbrev S256x512 : Shape := ⟨2, ![256, 512]⟩
abbrev S256x128 : Shape := ⟨2, ![256, 128]⟩
abbrev S1x1 : Shape := ⟨2, ![1, 1]⟩
abbrev S1x128 : Shape := ⟨2, ![1, 128]⟩
abbrev S128x128 : Shape := ⟨2, ![128, 128]⟩
abbrev S128x1 : Shape := ⟨2, ![128, 1]⟩
abbrev S128x16 : Shape := ⟨2, ![128, 16]⟩
abbrev S128 : Shape := ⟨1, ![128]⟩
abbrev S1x1x128x512 : Shape := ⟨4, ![1, 1, 128, 512]⟩
abbrev S128x512 : Shape := ⟨2, ![128, 512]⟩
abbrev S32x128 : Shape := ⟨2, ![32, 128]⟩
abbrev S1x1x1x128 : Shape := ⟨4, ![1, 1, 1, 128]⟩
abbrev S32 : Shape := ⟨1, ![32]⟩
abbrev S32x1 : Shape := ⟨2, ![32, 1]⟩
abbrev S1x32x128 : Shape := ⟨3, ![1, 32, 128]⟩
abbrev S1x1x512x128 : Shape := ⟨4, ![1, 1, 512, 128]⟩
abbrev S512x128 : Shape := ⟨2, ![512, 128]⟩

abbrev nBuf : Space → Nat
  | .hbm => 43
  | .vmem => 27
  | .smem => 1
  | _ => 0

abbrev bufTy : (tb : Table) → Fin (tcTables nBuf tb) → BufTy
  | .hbm, ⟨0, _⟩ => ⟨S2x32768x1024, .fp8e4m3⟩
  | .hbm, ⟨1, _⟩ => ⟨S2x32768x256, .fp8e4m3⟩
  | .hbm, ⟨2, _⟩ => ⟨S2x32768x256, .fp8e4m3⟩
  | .hbm, ⟨3, _⟩ => ⟨S2x32768x16, .f32⟩
  | .hbm, ⟨4, _⟩ => ⟨S2x32768x4, .f32⟩
  | .hbm, ⟨5, _⟩ => ⟨S2x32768x4, .f32⟩
  | .hbm, ⟨6, _⟩ => ⟨S2x32768, .i32⟩
  | .hbm, ⟨7, _⟩ => ⟨S2x32768x4x64, .fp8e4m3⟩
  | .hbm, ⟨8, _⟩ => ⟨S2x32768x4x64, .fp8e4m3⟩
  | .hbm, ⟨9, _⟩ => ⟨S2x32768, .i32⟩
  | .hbm, ⟨10, _⟩ => ⟨S_, .i1⟩
  | .hbm, ⟨11, _⟩ => ⟨S2x1, .i1⟩
  | .hbm, ⟨12, _⟩ => ⟨S2x32767, .i32⟩
  | .hbm, ⟨13, _⟩ => ⟨S2x32767, .i32⟩
  | .hbm, ⟨14, _⟩ => ⟨S2x32767, .i1⟩
  | .hbm, ⟨15, _⟩ => ⟨S2x32768, .i1⟩
  | .hbm, ⟨16, _⟩ => ⟨S_, .i32⟩
  | .hbm, ⟨17, _⟩ => ⟨S_, .i32⟩
  | .hbm, ⟨18, _⟩ => ⟨S2x32768, .i32⟩
  | .hbm, ⟨19, _⟩ => ⟨S2x32768, .i32⟩
  | .hbm, ⟨20, _⟩ => ⟨S_, .i32⟩
  | .hbm, ⟨21, _⟩ => ⟨S_, .i32⟩
  | .hbm, ⟨22, _⟩ => ⟨S2x32768, .i32⟩
  | .hbm, ⟨23, _⟩ => ⟨S_, .i8⟩
  | .hbm, ⟨24, _⟩ => ⟨S_, .fp8e4m3⟩
  | .hbm, ⟨25, _⟩ => ⟨S2x4x64x32768, .fp8e4m3⟩
  | .hbm, ⟨26, _⟩ => ⟨S2x4x128x32768, .fp8e4m3⟩
  | .hbm, ⟨27, _⟩ => ⟨S2x4x128x33280, .fp8e4m3⟩
  | .hbm, ⟨28, _⟩ => ⟨S2x4x32768x64, .fp8e4m3⟩
  | .hbm, ⟨29, _⟩ => ⟨S2x4x32768x128, .fp8e4m3⟩
  | .hbm, ⟨30, _⟩ => ⟨S2x4x33280x128, .fp8e4m3⟩
  | .hbm, ⟨31, _⟩ => ⟨S2x32768x1, .i32⟩
  | .hbm, ⟨32, _⟩ => ⟨S2x4x32768, .f32⟩
  | .hbm, ⟨33, _⟩ => ⟨S_, .i32⟩
  | .hbm, ⟨34, _⟩ => ⟨S_, .f32⟩
  | .hbm, ⟨35, _⟩ => ⟨S2x4x33280, .f32⟩
  | .hbm, ⟨36, _⟩ => ⟨S2x4x1x33280, .f32⟩
  | .hbm, ⟨37, _⟩ => ⟨S2x4x32768, .f32⟩
  | .hbm, ⟨38, _⟩ => ⟨S_, .i32⟩
  | .hbm, ⟨39, _⟩ => ⟨S_, .f32⟩
  | .hbm, ⟨40, _⟩ => ⟨S2x4x33280, .f32⟩
  | .hbm, ⟨41, _⟩ => ⟨S2x4x1x33280, .f32⟩
  | .hbm, ⟨42, _⟩ => ⟨S2x32768x1024, .bf16⟩
  | .local _ .vmem, ⟨0, _⟩ => ⟨S1x128x128, .fp8e4m3⟩
  | .local _ .vmem, ⟨1, _⟩ => ⟨S1x128x128, .fp8e4m3⟩
  | .local _ .vmem, ⟨2, _⟩ => ⟨S1x128x16, .f32⟩
  | .local _ .vmem, ⟨3, _⟩ => ⟨S1x128x16, .f32⟩
  | .local _ .vmem, ⟨4, _⟩ => ⟨S1x128x1, .i32⟩
  | .local _ .vmem, ⟨5, _⟩ => ⟨S1x128x1, .i32⟩
  | .local _ .vmem, ⟨6, _⟩ => ⟨S1x1x128x33280, .fp8e4m3⟩
  | .local _ .vmem, ⟨7, _⟩ => ⟨S1x1x128x33280, .fp8e4m3⟩
  | .local _ .vmem, ⟨8, _⟩ => ⟨S1x1x33280x128, .fp8e4m3⟩
  | .local _ .vmem, ⟨9, _⟩ => ⟨S1x1x33280x128, .fp8e4m3⟩
  | .local _ .vmem, ⟨10, _⟩ => ⟨S1x1x1x33280, .f32⟩
  | .local _ .vmem, ⟨11, _⟩ => ⟨S1x1x1x33280, .f32⟩
  | .local _ .vmem, ⟨12, _⟩ => ⟨S1x1x1x33280, .f32⟩
  | .local _ .vmem, ⟨13, _⟩ => ⟨S1x1x1x33280, .f32⟩
  | .local _ .vmem, ⟨14, _⟩ => ⟨S1x128x128, .bf16⟩
  | .local _ .vmem, ⟨15, _⟩ => ⟨S1x128x128, .bf16⟩
  | .local _ .vmem, ⟨16, _⟩ => ⟨S64x256x512, .f32⟩
  | .local _ .vmem, ⟨17, _⟩ => ⟨S256x512, .f32⟩
  | .local _ .vmem, ⟨18, _⟩ => ⟨S256x512, .fp8e4m3⟩
  | .local _ .vmem, ⟨19, _⟩ => ⟨S256x128, .fp8e4m3⟩
  | .local _ .vmem, ⟨20, _⟩ => ⟨S256x128, .f32⟩
  | .local _ .vmem, ⟨21, _⟩ => ⟨S256x128, .i32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .smem, ⟨0, _⟩ => ⟨S2x256, .i32⟩
  | _, _ => ⟨S2x32768x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_call1_c : Ref sig .tc := ⟨.hbm, 20, rfl⟩
abbrev main_call1_v0 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_call2_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_call3_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v17 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨4, ![2, 4, 2, 256], ![false, false, false, false]⟩

abbrev pre0 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg3 : BitVec 32 := BitVec.ofNat 32 (i 3).val
  let v1 : Index := Scalar.indexCast arg3
  ![v0.toNat, v1.toNat]
@[reducible] def k0_t1_loop (i : grid0.Coords) (v2 : BitVec 32) : Scf.Loop 32 :=
  let c0_i32_43 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_45 : BitVec 32 := 1#32
  ⟨c0_i32_43, v104, c1_i32_45⟩

def k0_mult1 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_271 : BitVec 32 := 512#32
  let v593 : BitVec 32 := Scalar.addi v592 c512_i32_271
  v593
def k0_off2 (i : grid0.Coords) (v2 : BitVec 32) (k0_t1 : Fin (k0_t1_loop i v2).trips) : Fin 4 → Nat :=
  let c0_272 : Index := 0#32
  let c0_273 : Index := 0#32
  let c0_274 : Index := 0#32
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_271 : BitVec 32 := 512#32
  let v593 : BitVec 32 := Scalar.addi v592 c512_i32_271
  let v594 : BitVec 32 := v593
  let v595 : Index := Scalar.indexCast v594
  ![0, 0, 0, v595.toNat]
def k0_mult2 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_288 : BitVec 32 := 512#32
  let v613 : BitVec 32 := Scalar.addi v592 c512_i32_288
  v613
def k0_off3 (i : grid0.Coords) (v2 : BitVec 32) (k0_t1 : Fin (k0_t1_loop i v2).trips) (c0_i32_289 : BitVec 32) : Fin 4 → Nat :=
  let c0_290 : Index := 0#32
  let c0_291 : Index := 0#32
  let c0_292 : Index := 0#32
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_288 : BitVec 32 := 512#32
  let v613 : BitVec 32 := Scalar.addi v592 c512_i32_288
  let v614 : BitVec 32 := v613
  let v615 : BitVec 32 := Scalar.addi v614 c0_i32_289
  let v616 : Index := Scalar.indexCast v615
  ![0, 0, 0, v616.toNat]
def k0_mult3 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_297 : BitVec 32 := 512#32
  let v639 : BitVec 32 := Scalar.addi v592 c512_i32_297
  v639
def k0_mult4 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_305 : BitVec 32 := 512#32
  let v665 : BitVec 32 := Scalar.addi v592 c512_i32_305
  v665
def k0_mult5 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_312 : BitVec 32 := 512#32
  let v691 : BitVec 32 := Scalar.addi v592 c512_i32_312
  v691
def k0_mult6 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_328 : BitVec 32 := 512#32
  let v731 : BitVec 32 := Scalar.addi v592 c512_i32_328
  v731
def k0_mult7 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_337 : BitVec 32 := 512#32
  let v757 : BitVec 32 := Scalar.addi v592 c512_i32_337
  v757
def k0_mult8 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_346 : BitVec 32 := 512#32
  let v783 : BitVec 32 := Scalar.addi v592 c512_i32_346
  v783
def k0_mult9 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_355 : BitVec 32 := 512#32
  let v809 : BitVec 32 := Scalar.addi v592 c512_i32_355
  v809
def k0_mult10 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_373 : BitVec 32 := 512#32
  let v849 : BitVec 32 := Scalar.addi v592 c512_i32_373
  v849
def k0_mult11 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_382 : BitVec 32 := 512#32
  let v875 : BitVec 32 := Scalar.addi v592 c512_i32_382
  v875
def k0_mult12 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_391 : BitVec 32 := 512#32
  let v901 : BitVec 32 := Scalar.addi v592 c512_i32_391
  v901
def k0_mult13 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_400 : BitVec 32 := 512#32
  let v927 : BitVec 32 := Scalar.addi v592 c512_i32_400
  v927
def k0_mult14 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_417 : BitVec 32 := 512#32
  let v967 : BitVec 32 := Scalar.addi v592 c512_i32_417
  v967
def k0_mult15 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_426 : BitVec 32 := 512#32
  let v993 : BitVec 32 := Scalar.addi v592 c512_i32_426
  v993
def k0_mult16 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_435 : BitVec 32 := 512#32
  let v1019 : BitVec 32 := Scalar.addi v592 c512_i32_435
  v1019
def k0_mult17 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_444 : BitVec 32 := 512#32
  let v1045 : BitVec 32 := Scalar.addi v592 c512_i32_444
  v1045
def k0_mult18 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_462 : BitVec 32 := 512#32
  let v1085 : BitVec 32 := Scalar.addi v592 c512_i32_462
  v1085
def k0_mult19 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_471 : BitVec 32 := 512#32
  let v1111 : BitVec 32 := Scalar.addi v592 c512_i32_471
  v1111
def k0_mult20 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_480 : BitVec 32 := 512#32
  let v1137 : BitVec 32 := Scalar.addi v592 c512_i32_480
  v1137
def k0_mult21 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_489 : BitVec 32 := 512#32
  let v1163 : BitVec 32 := Scalar.addi v592 c512_i32_489
  v1163
def k0_mult22 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_507 : BitVec 32 := 512#32
  let v1203 : BitVec 32 := Scalar.addi v592 c512_i32_507
  v1203
def k0_mult23 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_516 : BitVec 32 := 512#32
  let v1229 : BitVec 32 := Scalar.addi v592 c512_i32_516
  v1229
def k0_mult24 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_525 : BitVec 32 := 512#32
  let v1255 : BitVec 32 := Scalar.addi v592 c512_i32_525
  v1255
def k0_mult25 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_534 : BitVec 32 := 512#32
  let v1281 : BitVec 32 := Scalar.addi v592 c512_i32_534
  v1281
def k0_mult26 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_552 : BitVec 32 := 512#32
  let v1321 : BitVec 32 := Scalar.addi v592 c512_i32_552
  v1321
def k0_mult27 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_561 : BitVec 32 := 512#32
  let v1347 : BitVec 32 := Scalar.addi v592 c512_i32_561
  v1347
def k0_mult28 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_570 : BitVec 32 := 512#32
  let v1373 : BitVec 32 := Scalar.addi v592 c512_i32_570
  v1373
def k0_mult29 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_579 : BitVec 32 := 512#32
  let v1399 : BitVec 32 := Scalar.addi v592 c512_i32_579
  v1399
def k0_mult30 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_597 : BitVec 32 := 512#32
  let v1439 : BitVec 32 := Scalar.addi v592 c512_i32_597
  v1439
def k0_mult31 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_606 : BitVec 32 := 512#32
  let v1465 : BitVec 32 := Scalar.addi v592 c512_i32_606
  v1465
def k0_mult32 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_615 : BitVec 32 := 512#32
  let v1491 : BitVec 32 := Scalar.addi v592 c512_i32_615
  v1491
def k0_mult33 (i : grid0.Coords) (v2 : BitVec 32) (k0_t1 : Fin (k0_t1_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c1_i32_45 : BitVec 32 := 1#32
  let arg24 : BitVec 32 := Scf.iv c0_i32_43 c1_i32_45 k0_t1
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_624 : BitVec 32 := 512#32
  let v1517 : BitVec 32 := Scalar.addi v592 c512_i32_624
  v1517
@[reducible] def k0_t2_loop (i : grid0.Coords) (v2 : BitVec 32) : Scf.Loop 32 :=
  let c0_i32_43 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let v101 : BitVec 32 := Scalar.addi c0_i32_43 v100
  let c1_i32_46 : BitVec 32 := 1#32
  ⟨v104, v101, c1_i32_46⟩
def k0_mult34 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_271 : BitVec 32 := 512#32
  let v593 : BitVec 32 := Scalar.addi v592 c512_i32_271
  v593
def k0_off4 (i : grid0.Coords) (v2 : BitVec 32) (k0_t2 : Fin (k0_t2_loop i v2).trips) : Fin 4 → Nat :=
  let c0_272 : Index := 0#32
  let c0_273 : Index := 0#32
  let c0_274 : Index := 0#32
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_271 : BitVec 32 := 512#32
  let v593 : BitVec 32 := Scalar.addi v592 c512_i32_271
  let v594 : BitVec 32 := v593
  let v595 : Index := Scalar.indexCast v594
  ![0, 0, 0, v595.toNat]
def k0_mult35 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_288 : BitVec 32 := 512#32
  let v613 : BitVec 32 := Scalar.addi v592 c512_i32_288
  v613
def k0_off5 (i : grid0.Coords) (v2 : BitVec 32) (k0_t2 : Fin (k0_t2_loop i v2).trips) (c0_i32_289 : BitVec 32) : Fin 4 → Nat :=
  let c0_290 : Index := 0#32
  let c0_291 : Index := 0#32
  let c0_292 : Index := 0#32
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_288 : BitVec 32 := 512#32
  let v613 : BitVec 32 := Scalar.addi v592 c512_i32_288
  let v614 : BitVec 32 := v613
  let v615 : BitVec 32 := Scalar.addi v614 c0_i32_289
  let v616 : Index := Scalar.indexCast v615
  ![0, 0, 0, v616.toNat]
def k0_mult36 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_297 : BitVec 32 := 512#32
  let v639 : BitVec 32 := Scalar.addi v592 c512_i32_297
  v639
def k0_mult37 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_305 : BitVec 32 := 512#32
  let v665 : BitVec 32 := Scalar.addi v592 c512_i32_305
  v665
def k0_mult38 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_312 : BitVec 32 := 512#32
  let v691 : BitVec 32 := Scalar.addi v592 c512_i32_312
  v691
def k0_mult39 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_328 : BitVec 32 := 512#32
  let v731 : BitVec 32 := Scalar.addi v592 c512_i32_328
  v731
def k0_mult40 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_337 : BitVec 32 := 512#32
  let v757 : BitVec 32 := Scalar.addi v592 c512_i32_337
  v757
def k0_mult41 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_346 : BitVec 32 := 512#32
  let v783 : BitVec 32 := Scalar.addi v592 c512_i32_346
  v783
def k0_mult42 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_355 : BitVec 32 := 512#32
  let v809 : BitVec 32 := Scalar.addi v592 c512_i32_355
  v809
def k0_mult43 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_373 : BitVec 32 := 512#32
  let v849 : BitVec 32 := Scalar.addi v592 c512_i32_373
  v849
def k0_mult44 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_382 : BitVec 32 := 512#32
  let v875 : BitVec 32 := Scalar.addi v592 c512_i32_382
  v875
def k0_mult45 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_391 : BitVec 32 := 512#32
  let v901 : BitVec 32 := Scalar.addi v592 c512_i32_391
  v901
def k0_mult46 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_400 : BitVec 32 := 512#32
  let v927 : BitVec 32 := Scalar.addi v592 c512_i32_400
  v927
def k0_mult47 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_417 : BitVec 32 := 512#32
  let v967 : BitVec 32 := Scalar.addi v592 c512_i32_417
  v967
def k0_mult48 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_426 : BitVec 32 := 512#32
  let v993 : BitVec 32 := Scalar.addi v592 c512_i32_426
  v993
def k0_mult49 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_435 : BitVec 32 := 512#32
  let v1019 : BitVec 32 := Scalar.addi v592 c512_i32_435
  v1019
def k0_mult50 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_444 : BitVec 32 := 512#32
  let v1045 : BitVec 32 := Scalar.addi v592 c512_i32_444
  v1045
def k0_mult51 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_462 : BitVec 32 := 512#32
  let v1085 : BitVec 32 := Scalar.addi v592 c512_i32_462
  v1085
def k0_mult52 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_471 : BitVec 32 := 512#32
  let v1111 : BitVec 32 := Scalar.addi v592 c512_i32_471
  v1111
def k0_mult53 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_480 : BitVec 32 := 512#32
  let v1137 : BitVec 32 := Scalar.addi v592 c512_i32_480
  v1137
def k0_mult54 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_489 : BitVec 32 := 512#32
  let v1163 : BitVec 32 := Scalar.addi v592 c512_i32_489
  v1163
def k0_mult55 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_507 : BitVec 32 := 512#32
  let v1203 : BitVec 32 := Scalar.addi v592 c512_i32_507
  v1203
def k0_mult56 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_516 : BitVec 32 := 512#32
  let v1229 : BitVec 32 := Scalar.addi v592 c512_i32_516
  v1229
def k0_mult57 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_525 : BitVec 32 := 512#32
  let v1255 : BitVec 32 := Scalar.addi v592 c512_i32_525
  v1255
def k0_mult58 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_534 : BitVec 32 := 512#32
  let v1281 : BitVec 32 := Scalar.addi v592 c512_i32_534
  v1281
def k0_mult59 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_552 : BitVec 32 := 512#32
  let v1321 : BitVec 32 := Scalar.addi v592 c512_i32_552
  v1321
def k0_mult60 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_561 : BitVec 32 := 512#32
  let v1347 : BitVec 32 := Scalar.addi v592 c512_i32_561
  v1347
def k0_mult61 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_570 : BitVec 32 := 512#32
  let v1373 : BitVec 32 := Scalar.addi v592 c512_i32_570
  v1373
def k0_mult62 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_579 : BitVec 32 := 512#32
  let v1399 : BitVec 32 := Scalar.addi v592 c512_i32_579
  v1399
def k0_mult63 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_597 : BitVec 32 := 512#32
  let v1439 : BitVec 32 := Scalar.addi v592 c512_i32_597
  v1439
def k0_mult64 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_606 : BitVec 32 := 512#32
  let v1465 : BitVec 32 := Scalar.addi v592 c512_i32_606
  v1465
def k0_mult65 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_615 : BitVec 32 := 512#32
  let v1491 : BitVec 32 := Scalar.addi v592 c512_i32_615
  v1491
def k0_mult66 (i : grid0.Coords) (v2 : BitVec 32) (k0_t2 : Fin (k0_t2_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_43 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v100 : BitVec 32 := Scalar.subi v8 c0_i32_43
  let c1_i32_44 : BitVec 32 := 1#32
  let v102 : BitVec 32 := Scalar.divsi v100 c1_i32_44
  let v103 : BitVec 32 := Scalar.muli v102 c1_i32_44
  let v104 : BitVec 32 := Scalar.addi c0_i32_43 v103
  let c1_i32_46 : BitVec 32 := 1#32
  let arg24 : BitVec 32 := Scf.iv v104 c1_i32_46 k0_t2
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_624 : BitVec 32 := 512#32
  let v1517 : BitVec 32 := Scalar.addi v592 c512_i32_624
  v1517
@[reducible] def k0_t3_loop (i : grid0.Coords) (v2 : BitVec 32) : Scf.Loop 32 :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_90 : BitVec 32 := 1#32
  ⟨c0_i32_88, v181, c1_i32_90⟩
def k0_mult67 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_271 : BitVec 32 := 512#32
  let v593 : BitVec 32 := Scalar.addi v592 c512_i32_271
  v593
def k0_off6 (i : grid0.Coords) (v2 : BitVec 32) (k0_t3 : Fin (k0_t3_loop i v2).trips) : Fin 4 → Nat :=
  let c0_272 : Index := 0#32
  let c0_273 : Index := 0#32
  let c0_274 : Index := 0#32
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_271 : BitVec 32 := 512#32
  let v593 : BitVec 32 := Scalar.addi v592 c512_i32_271
  let v594 : BitVec 32 := v593
  let v595 : Index := Scalar.indexCast v594
  ![0, 0, 0, v595.toNat]
def k0_mult68 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_292 : BitVec 32 := 512#32
  let v615 : BitVec 32 := Scalar.addi v592 c512_i32_292
  v615
def k0_off7 (i : grid0.Coords) (v2 : BitVec 32) (k0_t3 : Fin (k0_t3_loop i v2).trips) (c0_i32_293 : BitVec 32) : Fin 4 → Nat :=
  let c0_294 : Index := 0#32
  let c0_295 : Index := 0#32
  let c0_296 : Index := 0#32
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_292 : BitVec 32 := 512#32
  let v615 : BitVec 32 := Scalar.addi v592 c512_i32_292
  let v616 : BitVec 32 := v615
  let v617 : BitVec 32 := Scalar.addi v616 c0_i32_293
  let v618 : Index := Scalar.indexCast v617
  ![0, 0, 0, v618.toNat]
def k0_mult69 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_301 : BitVec 32 := 512#32
  let v641 : BitVec 32 := Scalar.addi v592 c512_i32_301
  v641
def k0_mult70 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_309 : BitVec 32 := 512#32
  let v667 : BitVec 32 := Scalar.addi v592 c512_i32_309
  v667
def k0_mult71 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_316 : BitVec 32 := 512#32
  let v693 : BitVec 32 := Scalar.addi v592 c512_i32_316
  v693
def k0_mult72 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_323 : BitVec 32 := 512#32
  let v719 : BitVec 32 := Scalar.addi v592 c512_i32_323
  v719
def k0_off8 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v728 : Index := Scalar.indexCast arg24
  let c0_328 : Index := 0#32
  let c0_329 : Index := 0#32
  ![v728.toNat, 0, 0]
def k0_mult73 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_330 : BitVec 32 := 512#32
  let v735 : BitVec 32 := Scalar.addi v592 c512_i32_330
  v735
def k0_off9 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v744 : Index := Scalar.indexCast arg24
  let c0_335 : Index := 0#32
  let c128_336 : Index := 128#32
  ![v744.toNat, 0, 128]
def k0_mult74 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_337 : BitVec 32 := 512#32
  let v751 : BitVec 32 := Scalar.addi v592 c512_i32_337
  v751
def k0_off10 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v760 : Index := Scalar.indexCast arg24
  let c0_342 : Index := 0#32
  let c256_343 : Index := 256#32
  ![v760.toNat, 0, 256]
def k0_mult75 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_344 : BitVec 32 := 512#32
  let v767 : BitVec 32 := Scalar.addi v592 c512_i32_344
  v767
def k0_off11 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v776 : Index := Scalar.indexCast arg24
  let c0_349 : Index := 0#32
  let c384_350 : Index := 384#32
  ![v776.toNat, 0, 384]
def k0_mult76 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_366 : BitVec 32 := 512#32
  let v798 : BitVec 32 := Scalar.addi v592 c512_i32_366
  v798
def k0_mult77 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_375 : BitVec 32 := 512#32
  let v824 : BitVec 32 := Scalar.addi v592 c512_i32_375
  v824
def k0_mult78 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_384 : BitVec 32 := 512#32
  let v850 : BitVec 32 := Scalar.addi v592 c512_i32_384
  v850
def k0_mult79 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_393 : BitVec 32 := 512#32
  let v876 : BitVec 32 := Scalar.addi v592 c512_i32_393
  v876
def k0_mult80 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_401 : BitVec 32 := 512#32
  let v902 : BitVec 32 := Scalar.addi v592 c512_i32_401
  v902
def k0_off12 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v911 : Index := Scalar.indexCast arg24
  let c32_406 : Index := 32#32
  let c0_407 : Index := 0#32
  ![v911.toNat, 32, 0]
def k0_mult81 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_408 : BitVec 32 := 512#32
  let v918 : BitVec 32 := Scalar.addi v592 c512_i32_408
  v918
def k0_off13 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v927 : Index := Scalar.indexCast arg24
  let c32_413 : Index := 32#32
  let c128_414 : Index := 128#32
  ![v927.toNat, 32, 128]
def k0_mult82 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_415 : BitVec 32 := 512#32
  let v934 : BitVec 32 := Scalar.addi v592 c512_i32_415
  v934
def k0_off14 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v943 : Index := Scalar.indexCast arg24
  let c32_420 : Index := 32#32
  let c256_421 : Index := 256#32
  ![v943.toNat, 32, 256]
def k0_mult83 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_422 : BitVec 32 := 512#32
  let v950 : BitVec 32 := Scalar.addi v592 c512_i32_422
  v950
def k0_off15 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v959 : Index := Scalar.indexCast arg24
  let c32_427 : Index := 32#32
  let c384_428 : Index := 384#32
  ![v959.toNat, 32, 384]
def k0_mult84 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_445 : BitVec 32 := 512#32
  let v981 : BitVec 32 := Scalar.addi v592 c512_i32_445
  v981
def k0_mult85 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_454 : BitVec 32 := 512#32
  let v1007 : BitVec 32 := Scalar.addi v592 c512_i32_454
  v1007
def k0_mult86 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_463 : BitVec 32 := 512#32
  let v1033 : BitVec 32 := Scalar.addi v592 c512_i32_463
  v1033
def k0_mult87 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_472 : BitVec 32 := 512#32
  let v1059 : BitVec 32 := Scalar.addi v592 c512_i32_472
  v1059
def k0_mult88 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_480 : BitVec 32 := 512#32
  let v1085 : BitVec 32 := Scalar.addi v592 c512_i32_480
  v1085
def k0_off16 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1094 : Index := Scalar.indexCast arg24
  let c64_485 : Index := 64#32
  let c0_486 : Index := 0#32
  ![v1094.toNat, 64, 0]
def k0_mult89 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_487 : BitVec 32 := 512#32
  let v1101 : BitVec 32 := Scalar.addi v592 c512_i32_487
  v1101
def k0_off17 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1110 : Index := Scalar.indexCast arg24
  let c64_492 : Index := 64#32
  let c128_493 : Index := 128#32
  ![v1110.toNat, 64, 128]
def k0_mult90 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_494 : BitVec 32 := 512#32
  let v1117 : BitVec 32 := Scalar.addi v592 c512_i32_494
  v1117
def k0_off18 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1126 : Index := Scalar.indexCast arg24
  let c64_499 : Index := 64#32
  let c256_500 : Index := 256#32
  ![v1126.toNat, 64, 256]
def k0_mult91 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_501 : BitVec 32 := 512#32
  let v1133 : BitVec 32 := Scalar.addi v592 c512_i32_501
  v1133
def k0_off19 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1142 : Index := Scalar.indexCast arg24
  let c64_506 : Index := 64#32
  let c384_507 : Index := 384#32
  ![v1142.toNat, 64, 384]
def k0_mult92 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_523 : BitVec 32 := 512#32
  let v1164 : BitVec 32 := Scalar.addi v592 c512_i32_523
  v1164
def k0_mult93 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_532 : BitVec 32 := 512#32
  let v1190 : BitVec 32 := Scalar.addi v592 c512_i32_532
  v1190
def k0_mult94 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_541 : BitVec 32 := 512#32
  let v1216 : BitVec 32 := Scalar.addi v592 c512_i32_541
  v1216
def k0_mult95 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_550 : BitVec 32 := 512#32
  let v1242 : BitVec 32 := Scalar.addi v592 c512_i32_550
  v1242
def k0_mult96 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_558 : BitVec 32 := 512#32
  let v1268 : BitVec 32 := Scalar.addi v592 c512_i32_558
  v1268
def k0_off20 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1277 : Index := Scalar.indexCast arg24
  let c96_563 : Index := 96#32
  let c0_564 : Index := 0#32
  ![v1277.toNat, 96, 0]
def k0_mult97 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_565 : BitVec 32 := 512#32
  let v1284 : BitVec 32 := Scalar.addi v592 c512_i32_565
  v1284
def k0_off21 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1293 : Index := Scalar.indexCast arg24
  let c96_570 : Index := 96#32
  let c128_571 : Index := 128#32
  ![v1293.toNat, 96, 128]
def k0_mult98 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_572 : BitVec 32 := 512#32
  let v1300 : BitVec 32 := Scalar.addi v592 c512_i32_572
  v1300
def k0_off22 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1309 : Index := Scalar.indexCast arg24
  let c96_577 : Index := 96#32
  let c256_578 : Index := 256#32
  ![v1309.toNat, 96, 256]
def k0_mult99 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_579 : BitVec 32 := 512#32
  let v1316 : BitVec 32 := Scalar.addi v592 c512_i32_579
  v1316
def k0_off23 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1325 : Index := Scalar.indexCast arg24
  let c96_584 : Index := 96#32
  let c384_585 : Index := 384#32
  ![v1325.toNat, 96, 384]
def k0_mult100 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_602 : BitVec 32 := 512#32
  let v1347 : BitVec 32 := Scalar.addi v592 c512_i32_602
  v1347
def k0_mult101 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_611 : BitVec 32 := 512#32
  let v1373 : BitVec 32 := Scalar.addi v592 c512_i32_611
  v1373
def k0_mult102 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_620 : BitVec 32 := 512#32
  let v1399 : BitVec 32 := Scalar.addi v592 c512_i32_620
  v1399
def k0_mult103 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_629 : BitVec 32 := 512#32
  let v1425 : BitVec 32 := Scalar.addi v592 c512_i32_629
  v1425
def k0_mult104 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_637 : BitVec 32 := 512#32
  let v1451 : BitVec 32 := Scalar.addi v592 c512_i32_637
  v1451
def k0_off24 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1460 : Index := Scalar.indexCast arg24
  let c128_642 : Index := 128#32
  let c0_643 : Index := 0#32
  ![v1460.toNat, 128, 0]
def k0_mult105 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_644 : BitVec 32 := 512#32
  let v1467 : BitVec 32 := Scalar.addi v592 c512_i32_644
  v1467
def k0_off25 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1476 : Index := Scalar.indexCast arg24
  let c128_649 : Index := 128#32
  let c128_650 : Index := 128#32
  ![v1476.toNat, 128, 128]
def k0_mult106 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_651 : BitVec 32 := 512#32
  let v1483 : BitVec 32 := Scalar.addi v592 c512_i32_651
  v1483
def k0_off26 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1492 : Index := Scalar.indexCast arg24
  let c128_656 : Index := 128#32
  let c256_657 : Index := 256#32
  ![v1492.toNat, 128, 256]
def k0_mult107 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_658 : BitVec 32 := 512#32
  let v1499 : BitVec 32 := Scalar.addi v592 c512_i32_658
  v1499
def k0_off27 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1508 : Index := Scalar.indexCast arg24
  let c128_663 : Index := 128#32
  let c384_664 : Index := 384#32
  ![v1508.toNat, 128, 384]
def k0_mult108 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_681 : BitVec 32 := 512#32
  let v1530 : BitVec 32 := Scalar.addi v592 c512_i32_681
  v1530
def k0_mult109 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_690 : BitVec 32 := 512#32
  let v1556 : BitVec 32 := Scalar.addi v592 c512_i32_690
  v1556
def k0_mult110 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_699 : BitVec 32 := 512#32
  let v1582 : BitVec 32 := Scalar.addi v592 c512_i32_699
  v1582
def k0_mult111 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_708 : BitVec 32 := 512#32
  let v1608 : BitVec 32 := Scalar.addi v592 c512_i32_708
  v1608
def k0_mult112 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_716 : BitVec 32 := 512#32
  let v1634 : BitVec 32 := Scalar.addi v592 c512_i32_716
  v1634
def k0_off28 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1643 : Index := Scalar.indexCast arg24
  let c160_721 : Index := 160#32
  let c0_722 : Index := 0#32
  ![v1643.toNat, 160, 0]
def k0_mult113 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_723 : BitVec 32 := 512#32
  let v1650 : BitVec 32 := Scalar.addi v592 c512_i32_723
  v1650
def k0_off29 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1659 : Index := Scalar.indexCast arg24
  let c160_728 : Index := 160#32
  let c128_729 : Index := 128#32
  ![v1659.toNat, 160, 128]
def k0_mult114 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_730 : BitVec 32 := 512#32
  let v1666 : BitVec 32 := Scalar.addi v592 c512_i32_730
  v1666
def k0_off30 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1675 : Index := Scalar.indexCast arg24
  let c160_735 : Index := 160#32
  let c256_736 : Index := 256#32
  ![v1675.toNat, 160, 256]
def k0_mult115 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_737 : BitVec 32 := 512#32
  let v1682 : BitVec 32 := Scalar.addi v592 c512_i32_737
  v1682
def k0_off31 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1691 : Index := Scalar.indexCast arg24
  let c160_742 : Index := 160#32
  let c384_743 : Index := 384#32
  ![v1691.toNat, 160, 384]
def k0_mult116 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_760 : BitVec 32 := 512#32
  let v1713 : BitVec 32 := Scalar.addi v592 c512_i32_760
  v1713
def k0_mult117 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_769 : BitVec 32 := 512#32
  let v1739 : BitVec 32 := Scalar.addi v592 c512_i32_769
  v1739
def k0_mult118 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_778 : BitVec 32 := 512#32
  let v1765 : BitVec 32 := Scalar.addi v592 c512_i32_778
  v1765
def k0_mult119 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_787 : BitVec 32 := 512#32
  let v1791 : BitVec 32 := Scalar.addi v592 c512_i32_787
  v1791
def k0_mult120 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_795 : BitVec 32 := 512#32
  let v1817 : BitVec 32 := Scalar.addi v592 c512_i32_795
  v1817
def k0_off32 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1826 : Index := Scalar.indexCast arg24
  let c192_800 : Index := 192#32
  let c0_801 : Index := 0#32
  ![v1826.toNat, 192, 0]
def k0_mult121 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_802 : BitVec 32 := 512#32
  let v1833 : BitVec 32 := Scalar.addi v592 c512_i32_802
  v1833
def k0_off33 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1842 : Index := Scalar.indexCast arg24
  let c192_807 : Index := 192#32
  let c128_808 : Index := 128#32
  ![v1842.toNat, 192, 128]
def k0_mult122 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_809 : BitVec 32 := 512#32
  let v1849 : BitVec 32 := Scalar.addi v592 c512_i32_809
  v1849
def k0_off34 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1858 : Index := Scalar.indexCast arg24
  let c192_814 : Index := 192#32
  let c256_815 : Index := 256#32
  ![v1858.toNat, 192, 256]
def k0_mult123 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_816 : BitVec 32 := 512#32
  let v1865 : BitVec 32 := Scalar.addi v592 c512_i32_816
  v1865
def k0_off35 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v1874 : Index := Scalar.indexCast arg24
  let c192_821 : Index := 192#32
  let c384_822 : Index := 384#32
  ![v1874.toNat, 192, 384]
def k0_mult124 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_839 : BitVec 32 := 512#32
  let v1896 : BitVec 32 := Scalar.addi v592 c512_i32_839
  v1896
def k0_mult125 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_848 : BitVec 32 := 512#32
  let v1922 : BitVec 32 := Scalar.addi v592 c512_i32_848
  v1922
def k0_mult126 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_857 : BitVec 32 := 512#32
  let v1948 : BitVec 32 := Scalar.addi v592 c512_i32_857
  v1948
def k0_mult127 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_866 : BitVec 32 := 512#32
  let v1974 : BitVec 32 := Scalar.addi v592 c512_i32_866
  v1974
def k0_mult128 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_874 : BitVec 32 := 512#32
  let v2000 : BitVec 32 := Scalar.addi v592 c512_i32_874
  v2000
def k0_off36 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v2009 : Index := Scalar.indexCast arg24
  let c224_879 : Index := 224#32
  let c0_880 : Index := 0#32
  ![v2009.toNat, 224, 0]
def k0_mult129 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_881 : BitVec 32 := 512#32
  let v2016 : BitVec 32 := Scalar.addi v592 c512_i32_881
  v2016
def k0_off37 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v2025 : Index := Scalar.indexCast arg24
  let c224_886 : Index := 224#32
  let c128_887 : Index := 128#32
  ![v2025.toNat, 224, 128]
def k0_mult130 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_888 : BitVec 32 := 512#32
  let v2032 : BitVec 32 := Scalar.addi v592 c512_i32_888
  v2032
def k0_off38 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v2041 : Index := Scalar.indexCast arg24
  let c224_893 : Index := 224#32
  let c256_894 : Index := 256#32
  ![v2041.toNat, 224, 256]
def k0_mult131 (i : grid0.Coords) (v2 : BitVec 32) (k0_t3 : Fin (k0_t3_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c1_i32_90 : BitVec 32 := 1#32
  let arg24 : BitVec 32 := Scf.iv c0_i32_88 c1_i32_90 k0_t3
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_895 : BitVec 32 := 512#32
  let v2048 : BitVec 32 := Scalar.addi v592 c512_i32_895
  v2048
def k0_off39 (i : grid0.Coords) (v2 : BitVec 32) (k0_t3 : Fin (k0_t3_loop i v2).trips) : Fin 3 → Nat :=
  let c0_i32_88 : BitVec 32 := 0#32
  let c1_i32_90 : BitVec 32 := 1#32
  let arg24 : BitVec 32 := Scf.iv c0_i32_88 c1_i32_90 k0_t3
  let v2057 : Index := Scalar.indexCast arg24
  let c224_900 : Index := 224#32
  let c384_901 : Index := 384#32
  ![v2057.toNat, 224, 384]
@[reducible] def k0_t4_loop (i : grid0.Coords) (v2 : BitVec 32) : Scf.Loop 32 :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let v178 : BitVec 32 := Scalar.addi c0_i32_88 v177
  let c1_i32_91 : BitVec 32 := 1#32
  ⟨v181, v178, c1_i32_91⟩
def k0_mult132 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_271 : BitVec 32 := 512#32
  let v593 : BitVec 32 := Scalar.addi v592 c512_i32_271
  v593
def k0_off40 (i : grid0.Coords) (v2 : BitVec 32) (k0_t4 : Fin (k0_t4_loop i v2).trips) : Fin 4 → Nat :=
  let c0_272 : Index := 0#32
  let c0_273 : Index := 0#32
  let c0_274 : Index := 0#32
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_271 : BitVec 32 := 512#32
  let v593 : BitVec 32 := Scalar.addi v592 c512_i32_271
  let v594 : BitVec 32 := v593
  let v595 : Index := Scalar.indexCast v594
  ![0, 0, 0, v595.toNat]
def k0_mult133 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_292 : BitVec 32 := 512#32
  let v615 : BitVec 32 := Scalar.addi v592 c512_i32_292
  v615
def k0_off41 (i : grid0.Coords) (v2 : BitVec 32) (k0_t4 : Fin (k0_t4_loop i v2).trips) (c0_i32_293 : BitVec 32) : Fin 4 → Nat :=
  let c0_294 : Index := 0#32
  let c0_295 : Index := 0#32
  let c0_296 : Index := 0#32
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_292 : BitVec 32 := 512#32
  let v615 : BitVec 32 := Scalar.addi v592 c512_i32_292
  let v616 : BitVec 32 := v615
  let v617 : BitVec 32 := Scalar.addi v616 c0_i32_293
  let v618 : Index := Scalar.indexCast v617
  ![0, 0, 0, v618.toNat]
def k0_mult134 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_301 : BitVec 32 := 512#32
  let v641 : BitVec 32 := Scalar.addi v592 c512_i32_301
  v641
def k0_mult135 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_309 : BitVec 32 := 512#32
  let v667 : BitVec 32 := Scalar.addi v592 c512_i32_309
  v667
def k0_mult136 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_316 : BitVec 32 := 512#32
  let v693 : BitVec 32 := Scalar.addi v592 c512_i32_316
  v693
def k0_mult137 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_323 : BitVec 32 := 512#32
  let v719 : BitVec 32 := Scalar.addi v592 c512_i32_323
  v719
def k0_off42 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v728 : Index := Scalar.indexCast arg24
  let c0_328 : Index := 0#32
  let c0_329 : Index := 0#32
  ![v728.toNat, 0, 0]
def k0_mult138 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_330 : BitVec 32 := 512#32
  let v735 : BitVec 32 := Scalar.addi v592 c512_i32_330
  v735
def k0_off43 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v744 : Index := Scalar.indexCast arg24
  let c0_335 : Index := 0#32
  let c128_336 : Index := 128#32
  ![v744.toNat, 0, 128]
def k0_mult139 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_337 : BitVec 32 := 512#32
  let v751 : BitVec 32 := Scalar.addi v592 c512_i32_337
  v751
def k0_off44 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v760 : Index := Scalar.indexCast arg24
  let c0_342 : Index := 0#32
  let c256_343 : Index := 256#32
  ![v760.toNat, 0, 256]
def k0_mult140 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_344 : BitVec 32 := 512#32
  let v767 : BitVec 32 := Scalar.addi v592 c512_i32_344
  v767
def k0_off45 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v776 : Index := Scalar.indexCast arg24
  let c0_349 : Index := 0#32
  let c384_350 : Index := 384#32
  ![v776.toNat, 0, 384]
def k0_mult141 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_366 : BitVec 32 := 512#32
  let v798 : BitVec 32 := Scalar.addi v592 c512_i32_366
  v798
def k0_mult142 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_375 : BitVec 32 := 512#32
  let v824 : BitVec 32 := Scalar.addi v592 c512_i32_375
  v824
def k0_mult143 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_384 : BitVec 32 := 512#32
  let v850 : BitVec 32 := Scalar.addi v592 c512_i32_384
  v850
def k0_mult144 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_393 : BitVec 32 := 512#32
  let v876 : BitVec 32 := Scalar.addi v592 c512_i32_393
  v876
def k0_mult145 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_401 : BitVec 32 := 512#32
  let v902 : BitVec 32 := Scalar.addi v592 c512_i32_401
  v902
def k0_off46 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v911 : Index := Scalar.indexCast arg24
  let c32_406 : Index := 32#32
  let c0_407 : Index := 0#32
  ![v911.toNat, 32, 0]
def k0_mult146 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_408 : BitVec 32 := 512#32
  let v918 : BitVec 32 := Scalar.addi v592 c512_i32_408
  v918
def k0_off47 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v927 : Index := Scalar.indexCast arg24
  let c32_413 : Index := 32#32
  let c128_414 : Index := 128#32
  ![v927.toNat, 32, 128]
def k0_mult147 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_415 : BitVec 32 := 512#32
  let v934 : BitVec 32 := Scalar.addi v592 c512_i32_415
  v934
def k0_off48 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v943 : Index := Scalar.indexCast arg24
  let c32_420 : Index := 32#32
  let c256_421 : Index := 256#32
  ![v943.toNat, 32, 256]
def k0_mult148 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_422 : BitVec 32 := 512#32
  let v950 : BitVec 32 := Scalar.addi v592 c512_i32_422
  v950
def k0_off49 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v959 : Index := Scalar.indexCast arg24
  let c32_427 : Index := 32#32
  let c384_428 : Index := 384#32
  ![v959.toNat, 32, 384]
def k0_mult149 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_445 : BitVec 32 := 512#32
  let v981 : BitVec 32 := Scalar.addi v592 c512_i32_445
  v981
def k0_mult150 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_454 : BitVec 32 := 512#32
  let v1007 : BitVec 32 := Scalar.addi v592 c512_i32_454
  v1007
def k0_mult151 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_463 : BitVec 32 := 512#32
  let v1033 : BitVec 32 := Scalar.addi v592 c512_i32_463
  v1033
def k0_mult152 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_472 : BitVec 32 := 512#32
  let v1059 : BitVec 32 := Scalar.addi v592 c512_i32_472
  v1059
def k0_mult153 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_480 : BitVec 32 := 512#32
  let v1085 : BitVec 32 := Scalar.addi v592 c512_i32_480
  v1085
def k0_off50 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1094 : Index := Scalar.indexCast arg24
  let c64_485 : Index := 64#32
  let c0_486 : Index := 0#32
  ![v1094.toNat, 64, 0]
def k0_mult154 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_487 : BitVec 32 := 512#32
  let v1101 : BitVec 32 := Scalar.addi v592 c512_i32_487
  v1101
def k0_off51 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1110 : Index := Scalar.indexCast arg24
  let c64_492 : Index := 64#32
  let c128_493 : Index := 128#32
  ![v1110.toNat, 64, 128]
def k0_mult155 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_494 : BitVec 32 := 512#32
  let v1117 : BitVec 32 := Scalar.addi v592 c512_i32_494
  v1117
def k0_off52 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1126 : Index := Scalar.indexCast arg24
  let c64_499 : Index := 64#32
  let c256_500 : Index := 256#32
  ![v1126.toNat, 64, 256]
def k0_mult156 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_501 : BitVec 32 := 512#32
  let v1133 : BitVec 32 := Scalar.addi v592 c512_i32_501
  v1133
def k0_off53 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1142 : Index := Scalar.indexCast arg24
  let c64_506 : Index := 64#32
  let c384_507 : Index := 384#32
  ![v1142.toNat, 64, 384]
def k0_mult157 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_523 : BitVec 32 := 512#32
  let v1164 : BitVec 32 := Scalar.addi v592 c512_i32_523
  v1164
def k0_mult158 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_532 : BitVec 32 := 512#32
  let v1190 : BitVec 32 := Scalar.addi v592 c512_i32_532
  v1190
def k0_mult159 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_541 : BitVec 32 := 512#32
  let v1216 : BitVec 32 := Scalar.addi v592 c512_i32_541
  v1216
def k0_mult160 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_550 : BitVec 32 := 512#32
  let v1242 : BitVec 32 := Scalar.addi v592 c512_i32_550
  v1242
def k0_mult161 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_558 : BitVec 32 := 512#32
  let v1268 : BitVec 32 := Scalar.addi v592 c512_i32_558
  v1268
def k0_off54 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1277 : Index := Scalar.indexCast arg24
  let c96_563 : Index := 96#32
  let c0_564 : Index := 0#32
  ![v1277.toNat, 96, 0]
def k0_mult162 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_565 : BitVec 32 := 512#32
  let v1284 : BitVec 32 := Scalar.addi v592 c512_i32_565
  v1284
def k0_off55 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1293 : Index := Scalar.indexCast arg24
  let c96_570 : Index := 96#32
  let c128_571 : Index := 128#32
  ![v1293.toNat, 96, 128]
def k0_mult163 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_572 : BitVec 32 := 512#32
  let v1300 : BitVec 32 := Scalar.addi v592 c512_i32_572
  v1300
def k0_off56 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1309 : Index := Scalar.indexCast arg24
  let c96_577 : Index := 96#32
  let c256_578 : Index := 256#32
  ![v1309.toNat, 96, 256]
def k0_mult164 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_579 : BitVec 32 := 512#32
  let v1316 : BitVec 32 := Scalar.addi v592 c512_i32_579
  v1316
def k0_off57 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1325 : Index := Scalar.indexCast arg24
  let c96_584 : Index := 96#32
  let c384_585 : Index := 384#32
  ![v1325.toNat, 96, 384]
def k0_mult165 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_602 : BitVec 32 := 512#32
  let v1347 : BitVec 32 := Scalar.addi v592 c512_i32_602
  v1347
def k0_mult166 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_611 : BitVec 32 := 512#32
  let v1373 : BitVec 32 := Scalar.addi v592 c512_i32_611
  v1373
def k0_mult167 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_620 : BitVec 32 := 512#32
  let v1399 : BitVec 32 := Scalar.addi v592 c512_i32_620
  v1399
def k0_mult168 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_629 : BitVec 32 := 512#32
  let v1425 : BitVec 32 := Scalar.addi v592 c512_i32_629
  v1425
def k0_mult169 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_637 : BitVec 32 := 512#32
  let v1451 : BitVec 32 := Scalar.addi v592 c512_i32_637
  v1451
def k0_off58 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1460 : Index := Scalar.indexCast arg24
  let c128_642 : Index := 128#32
  let c0_643 : Index := 0#32
  ![v1460.toNat, 128, 0]
def k0_mult170 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_644 : BitVec 32 := 512#32
  let v1467 : BitVec 32 := Scalar.addi v592 c512_i32_644
  v1467
def k0_off59 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1476 : Index := Scalar.indexCast arg24
  let c128_649 : Index := 128#32
  let c128_650 : Index := 128#32
  ![v1476.toNat, 128, 128]
def k0_mult171 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_651 : BitVec 32 := 512#32
  let v1483 : BitVec 32 := Scalar.addi v592 c512_i32_651
  v1483
def k0_off60 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1492 : Index := Scalar.indexCast arg24
  let c128_656 : Index := 128#32
  let c256_657 : Index := 256#32
  ![v1492.toNat, 128, 256]
def k0_mult172 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_658 : BitVec 32 := 512#32
  let v1499 : BitVec 32 := Scalar.addi v592 c512_i32_658
  v1499
def k0_off61 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1508 : Index := Scalar.indexCast arg24
  let c128_663 : Index := 128#32
  let c384_664 : Index := 384#32
  ![v1508.toNat, 128, 384]
def k0_mult173 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_681 : BitVec 32 := 512#32
  let v1530 : BitVec 32 := Scalar.addi v592 c512_i32_681
  v1530
def k0_mult174 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_690 : BitVec 32 := 512#32
  let v1556 : BitVec 32 := Scalar.addi v592 c512_i32_690
  v1556
def k0_mult175 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_699 : BitVec 32 := 512#32
  let v1582 : BitVec 32 := Scalar.addi v592 c512_i32_699
  v1582
def k0_mult176 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_708 : BitVec 32 := 512#32
  let v1608 : BitVec 32 := Scalar.addi v592 c512_i32_708
  v1608
def k0_mult177 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_716 : BitVec 32 := 512#32
  let v1634 : BitVec 32 := Scalar.addi v592 c512_i32_716
  v1634
def k0_off62 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1643 : Index := Scalar.indexCast arg24
  let c160_721 : Index := 160#32
  let c0_722 : Index := 0#32
  ![v1643.toNat, 160, 0]
def k0_mult178 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_723 : BitVec 32 := 512#32
  let v1650 : BitVec 32 := Scalar.addi v592 c512_i32_723
  v1650
def k0_off63 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1659 : Index := Scalar.indexCast arg24
  let c160_728 : Index := 160#32
  let c128_729 : Index := 128#32
  ![v1659.toNat, 160, 128]
def k0_mult179 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_730 : BitVec 32 := 512#32
  let v1666 : BitVec 32 := Scalar.addi v592 c512_i32_730
  v1666
def k0_off64 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1675 : Index := Scalar.indexCast arg24
  let c160_735 : Index := 160#32
  let c256_736 : Index := 256#32
  ![v1675.toNat, 160, 256]
def k0_mult180 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_737 : BitVec 32 := 512#32
  let v1682 : BitVec 32 := Scalar.addi v592 c512_i32_737
  v1682
def k0_off65 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1691 : Index := Scalar.indexCast arg24
  let c160_742 : Index := 160#32
  let c384_743 : Index := 384#32
  ![v1691.toNat, 160, 384]
def k0_mult181 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_760 : BitVec 32 := 512#32
  let v1713 : BitVec 32 := Scalar.addi v592 c512_i32_760
  v1713
def k0_mult182 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_769 : BitVec 32 := 512#32
  let v1739 : BitVec 32 := Scalar.addi v592 c512_i32_769
  v1739
def k0_mult183 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_778 : BitVec 32 := 512#32
  let v1765 : BitVec 32 := Scalar.addi v592 c512_i32_778
  v1765
def k0_mult184 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_787 : BitVec 32 := 512#32
  let v1791 : BitVec 32 := Scalar.addi v592 c512_i32_787
  v1791
def k0_mult185 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_795 : BitVec 32 := 512#32
  let v1817 : BitVec 32 := Scalar.addi v592 c512_i32_795
  v1817
def k0_off66 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1826 : Index := Scalar.indexCast arg24
  let c192_800 : Index := 192#32
  let c0_801 : Index := 0#32
  ![v1826.toNat, 192, 0]
def k0_mult186 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_802 : BitVec 32 := 512#32
  let v1833 : BitVec 32 := Scalar.addi v592 c512_i32_802
  v1833
def k0_off67 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1842 : Index := Scalar.indexCast arg24
  let c192_807 : Index := 192#32
  let c128_808 : Index := 128#32
  ![v1842.toNat, 192, 128]
def k0_mult187 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_809 : BitVec 32 := 512#32
  let v1849 : BitVec 32 := Scalar.addi v592 c512_i32_809
  v1849
def k0_off68 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1858 : Index := Scalar.indexCast arg24
  let c192_814 : Index := 192#32
  let c256_815 : Index := 256#32
  ![v1858.toNat, 192, 256]
def k0_mult188 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_816 : BitVec 32 := 512#32
  let v1865 : BitVec 32 := Scalar.addi v592 c512_i32_816
  v1865
def k0_off69 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v1874 : Index := Scalar.indexCast arg24
  let c192_821 : Index := 192#32
  let c384_822 : Index := 384#32
  ![v1874.toNat, 192, 384]
def k0_mult189 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_839 : BitVec 32 := 512#32
  let v1896 : BitVec 32 := Scalar.addi v592 c512_i32_839
  v1896
def k0_mult190 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_848 : BitVec 32 := 512#32
  let v1922 : BitVec 32 := Scalar.addi v592 c512_i32_848
  v1922
def k0_mult191 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_857 : BitVec 32 := 512#32
  let v1948 : BitVec 32 := Scalar.addi v592 c512_i32_857
  v1948
def k0_mult192 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_866 : BitVec 32 := 512#32
  let v1974 : BitVec 32 := Scalar.addi v592 c512_i32_866
  v1974
def k0_mult193 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_874 : BitVec 32 := 512#32
  let v2000 : BitVec 32 := Scalar.addi v592 c512_i32_874
  v2000
def k0_off70 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v2009 : Index := Scalar.indexCast arg24
  let c224_879 : Index := 224#32
  let c0_880 : Index := 0#32
  ![v2009.toNat, 224, 0]
def k0_mult194 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_881 : BitVec 32 := 512#32
  let v2016 : BitVec 32 := Scalar.addi v592 c512_i32_881
  v2016
def k0_off71 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v2025 : Index := Scalar.indexCast arg24
  let c224_886 : Index := 224#32
  let c128_887 : Index := 128#32
  ![v2025.toNat, 224, 128]
def k0_mult195 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_888 : BitVec 32 := 512#32
  let v2032 : BitVec 32 := Scalar.addi v592 c512_i32_888
  v2032
def k0_off72 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v2041 : Index := Scalar.indexCast arg24
  let c224_893 : Index := 224#32
  let c256_894 : Index := 256#32
  ![v2041.toNat, 224, 256]
def k0_mult196 (i : grid0.Coords) (v2 : BitVec 32) (k0_t4 : Fin (k0_t4_loop i v2).trips) : BitVec 32 :=
  let arg3 : BitVec 32 := BitVec.ofNat 32 (i 3).val
  let c128_i32 : BitVec 32 := 128#32
  let v3 : BitVec 32 := Scalar.muli arg3 c128_i32
  let c128_i32_268 : BitVec 32 := 128#32
  let v589 : BitVec 32 := Scalar.addi v3 c128_i32_268
  let c512_i32_270 : BitVec 32 := 512#32
  let c0_i32_88 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let c1_i32_269 : BitVec 32 := 1#32
  let v590 : BitVec 32 := Scalar.addi arg24 c1_i32_269
  let v591 : BitVec 32 := Scalar.muli c512_i32_270 v590
  let v592 : BitVec 32 := Scalar.subi v589 v591
  let c512_i32_895 : BitVec 32 := 512#32
  let v2048 : BitVec 32 := Scalar.addi v592 c512_i32_895
  v2048
def k0_off73 (i : grid0.Coords) (v2 : BitVec 32) (k0_t4 : Fin (k0_t4_loop i v2).trips) : Fin 3 → Nat :=
  let c0_i32_88 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v177 : BitVec 32 := Scalar.subi v8 c0_i32_88
  let c1_i32_89 : BitVec 32 := 1#32
  let v179 : BitVec 32 := Scalar.divsi v177 c1_i32_89
  let v180 : BitVec 32 := Scalar.muli v179 c1_i32_89
  let v181 : BitVec 32 := Scalar.addi c0_i32_88 v180
  let c1_i32_91 : BitVec 32 := 1#32
  let arg24 : BitVec 32 := Scf.iv v181 c1_i32_91 k0_t4
  let v2057 : Index := Scalar.indexCast arg24
  let c224_900 : Index := 224#32
  let c384_901 : Index := 384#32
  ![v2057.toNat, 224, 384]
@[reducible] def k0_t5_loop (i : grid0.Coords) (v2 : BitVec 32) : Scf.Loop 32 :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_258 : BitVec 32 := 1#32
  ⟨c0_i32_256, v574, c1_i32_258⟩
def k0_off74 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v590 : Index := Scalar.indexCast arg24
  let c0_270 : Index := 0#32
  let c0_271 : Index := 0#32
  ![v590.toNat, 0, 0]
def k0_off75 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v602 : Index := Scalar.indexCast arg24
  let c0_276 : Index := 0#32
  let c128_277 : Index := 128#32
  ![v602.toNat, 0, 128]
def k0_off76 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v614 : Index := Scalar.indexCast arg24
  let c0_282 : Index := 0#32
  let c256 : Index := 256#32
  ![v614.toNat, 0, 256]
def k0_off77 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v626 : Index := Scalar.indexCast arg24
  let c0_287 : Index := 0#32
  let c384 : Index := 384#32
  ![v626.toNat, 0, 384]
def k0_off78 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v639 : Index := Scalar.indexCast arg24
  let c32_294 : Index := 32#32
  let c0_295 : Index := 0#32
  ![v639.toNat, 32, 0]
def k0_off79 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v651 : Index := Scalar.indexCast arg24
  let c32_300 : Index := 32#32
  let c128_301 : Index := 128#32
  ![v651.toNat, 32, 128]
def k0_off80 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v663 : Index := Scalar.indexCast arg24
  let c32_306 : Index := 32#32
  let c256_307 : Index := 256#32
  ![v663.toNat, 32, 256]
def k0_off81 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v675 : Index := Scalar.indexCast arg24
  let c32_312 : Index := 32#32
  let c384_313 : Index := 384#32
  ![v675.toNat, 32, 384]
def k0_off82 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v688 : Index := Scalar.indexCast arg24
  let c64_320 : Index := 64#32
  let c0_321 : Index := 0#32
  ![v688.toNat, 64, 0]
def k0_off83 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v700 : Index := Scalar.indexCast arg24
  let c64_326 : Index := 64#32
  let c128_327 : Index := 128#32
  ![v700.toNat, 64, 128]
def k0_off84 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v712 : Index := Scalar.indexCast arg24
  let c64_332 : Index := 64#32
  let c256_333 : Index := 256#32
  ![v712.toNat, 64, 256]
def k0_off85 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v724 : Index := Scalar.indexCast arg24
  let c64_338 : Index := 64#32
  let c384_339 : Index := 384#32
  ![v724.toNat, 64, 384]
def k0_off86 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v737 : Index := Scalar.indexCast arg24
  let c96_346 : Index := 96#32
  let c0_347 : Index := 0#32
  ![v737.toNat, 96, 0]
def k0_off87 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v749 : Index := Scalar.indexCast arg24
  let c96_352 : Index := 96#32
  let c128_353 : Index := 128#32
  ![v749.toNat, 96, 128]
def k0_off88 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v761 : Index := Scalar.indexCast arg24
  let c96_358 : Index := 96#32
  let c256_359 : Index := 256#32
  ![v761.toNat, 96, 256]
def k0_off89 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v773 : Index := Scalar.indexCast arg24
  let c96_364 : Index := 96#32
  let c384_365 : Index := 384#32
  ![v773.toNat, 96, 384]
def k0_off90 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v786 : Index := Scalar.indexCast arg24
  let c128_372 : Index := 128#32
  let c0_373 : Index := 0#32
  ![v786.toNat, 128, 0]
def k0_off91 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v798 : Index := Scalar.indexCast arg24
  let c128_378 : Index := 128#32
  let c128_379 : Index := 128#32
  ![v798.toNat, 128, 128]
def k0_off92 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v810 : Index := Scalar.indexCast arg24
  let c128_384 : Index := 128#32
  let c256_385 : Index := 256#32
  ![v810.toNat, 128, 256]
def k0_off93 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v822 : Index := Scalar.indexCast arg24
  let c128_390 : Index := 128#32
  let c384_391 : Index := 384#32
  ![v822.toNat, 128, 384]
def k0_off94 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v835 : Index := Scalar.indexCast arg24
  let c160_398 : Index := 160#32
  let c0_399 : Index := 0#32
  ![v835.toNat, 160, 0]
def k0_off95 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v847 : Index := Scalar.indexCast arg24
  let c160_404 : Index := 160#32
  let c128_405 : Index := 128#32
  ![v847.toNat, 160, 128]
def k0_off96 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v859 : Index := Scalar.indexCast arg24
  let c160_410 : Index := 160#32
  let c256_411 : Index := 256#32
  ![v859.toNat, 160, 256]
def k0_off97 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v871 : Index := Scalar.indexCast arg24
  let c160_416 : Index := 160#32
  let c384_417 : Index := 384#32
  ![v871.toNat, 160, 384]
def k0_off98 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v884 : Index := Scalar.indexCast arg24
  let c192_424 : Index := 192#32
  let c0_425 : Index := 0#32
  ![v884.toNat, 192, 0]
def k0_off99 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v896 : Index := Scalar.indexCast arg24
  let c192_430 : Index := 192#32
  let c128_431 : Index := 128#32
  ![v896.toNat, 192, 128]
def k0_off100 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v908 : Index := Scalar.indexCast arg24
  let c192_436 : Index := 192#32
  let c256_437 : Index := 256#32
  ![v908.toNat, 192, 256]
def k0_off101 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v920 : Index := Scalar.indexCast arg24
  let c192_442 : Index := 192#32
  let c384_443 : Index := 384#32
  ![v920.toNat, 192, 384]
def k0_off102 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v933 : Index := Scalar.indexCast arg24
  let c224_450 : Index := 224#32
  let c0_451 : Index := 0#32
  ![v933.toNat, 224, 0]
def k0_off103 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v945 : Index := Scalar.indexCast arg24
  let c224_456 : Index := 224#32
  let c128_457 : Index := 128#32
  ![v945.toNat, 224, 128]
def k0_off104 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v957 : Index := Scalar.indexCast arg24
  let c224_462 : Index := 224#32
  let c256_463 : Index := 256#32
  ![v957.toNat, 224, 256]
def k0_off105 (i : grid0.Coords) (v2 : BitVec 32) (k0_t5 : Fin (k0_t5_loop i v2).trips) : Fin 3 → Nat :=
  let c0_i32_256 : BitVec 32 := 0#32
  let c1_i32_258 : BitVec 32 := 1#32
  let arg24 : BitVec 32 := Scf.iv c0_i32_256 c1_i32_258 k0_t5
  let v969 : Index := Scalar.indexCast arg24
  let c224_468 : Index := 224#32
  let c384_469 : Index := 384#32
  ![v969.toNat, 224, 384]
def k0_mult197 (i : grid0.Coords) (v2 : BitVec 32) (k0_t5 : Fin (k0_t5_loop i v2).trips) : BitVec 32 :=
  let arg3 : BitVec 32 := BitVec.ofNat 32 (i 3).val
  let c128_i32 : BitVec 32 := 128#32
  let v3 : BitVec 32 := Scalar.muli arg3 c128_i32
  let c128_i32_474 : BitVec 32 := 128#32
  let v981 : BitVec 32 := Scalar.addi v3 c128_i32_474
  let c512_i32_476 : BitVec 32 := 512#32
  let c0_i32_256 : BitVec 32 := 0#32
  let c1_i32_258 : BitVec 32 := 1#32
  let arg24 : BitVec 32 := Scf.iv c0_i32_256 c1_i32_258 k0_t5
  let c1_i32_475 : BitVec 32 := 1#32
  let v982 : BitVec 32 := Scalar.addi arg24 c1_i32_475
  let v983 : BitVec 32 := Scalar.muli c512_i32_476 v982
  let v984 : BitVec 32 := Scalar.subi v981 v983
  let c512_i32_477 : BitVec 32 := 512#32
  let v985 : BitVec 32 := Scalar.addi v984 c512_i32_477
  v985
def k0_off106 (i : grid0.Coords) (v2 : BitVec 32) (k0_t5 : Fin (k0_t5_loop i v2).trips) : Fin 4 → Nat :=
  let c0_478 : Index := 0#32
  let c0_479 : Index := 0#32
  let arg3 : BitVec 32 := BitVec.ofNat 32 (i 3).val
  let c128_i32 : BitVec 32 := 128#32
  let v3 : BitVec 32 := Scalar.muli arg3 c128_i32
  let c128_i32_474 : BitVec 32 := 128#32
  let v981 : BitVec 32 := Scalar.addi v3 c128_i32_474
  let c512_i32_476 : BitVec 32 := 512#32
  let c0_i32_256 : BitVec 32 := 0#32
  let c1_i32_258 : BitVec 32 := 1#32
  let arg24 : BitVec 32 := Scf.iv c0_i32_256 c1_i32_258 k0_t5
  let c1_i32_475 : BitVec 32 := 1#32
  let v982 : BitVec 32 := Scalar.addi arg24 c1_i32_475
  let v983 : BitVec 32 := Scalar.muli c512_i32_476 v982
  let v984 : BitVec 32 := Scalar.subi v981 v983
  let c512_i32_477 : BitVec 32 := 512#32
  let v985 : BitVec 32 := Scalar.addi v984 c512_i32_477
  let v986 : BitVec 32 := v985
  let v987 : Index := Scalar.indexCast v986
  let c0_480 : Index := 0#32
  ![0, 0, v987.toNat, 0]
@[reducible] def k0_t6_loop (i : grid0.Coords) (v2 : BitVec 32) : Scf.Loop 32 :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let v571 : BitVec 32 := Scalar.addi c0_i32_256 v570
  let c1_i32_259 : BitVec 32 := 1#32
  ⟨v574, v571, c1_i32_259⟩
def k0_off107 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v590 : Index := Scalar.indexCast arg24
  let c0_270 : Index := 0#32
  let c0_271 : Index := 0#32
  ![v590.toNat, 0, 0]
def k0_off108 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v602 : Index := Scalar.indexCast arg24
  let c0_276 : Index := 0#32
  let c128_277 : Index := 128#32
  ![v602.toNat, 0, 128]
def k0_off109 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v614 : Index := Scalar.indexCast arg24
  let c0_282 : Index := 0#32
  let c256 : Index := 256#32
  ![v614.toNat, 0, 256]
def k0_off110 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v626 : Index := Scalar.indexCast arg24
  let c0_287 : Index := 0#32
  let c384 : Index := 384#32
  ![v626.toNat, 0, 384]
def k0_off111 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v639 : Index := Scalar.indexCast arg24
  let c32_294 : Index := 32#32
  let c0_295 : Index := 0#32
  ![v639.toNat, 32, 0]
def k0_off112 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v651 : Index := Scalar.indexCast arg24
  let c32_300 : Index := 32#32
  let c128_301 : Index := 128#32
  ![v651.toNat, 32, 128]
def k0_off113 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v663 : Index := Scalar.indexCast arg24
  let c32_306 : Index := 32#32
  let c256_307 : Index := 256#32
  ![v663.toNat, 32, 256]
def k0_off114 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v675 : Index := Scalar.indexCast arg24
  let c32_312 : Index := 32#32
  let c384_313 : Index := 384#32
  ![v675.toNat, 32, 384]
def k0_off115 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v688 : Index := Scalar.indexCast arg24
  let c64_320 : Index := 64#32
  let c0_321 : Index := 0#32
  ![v688.toNat, 64, 0]
def k0_off116 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v700 : Index := Scalar.indexCast arg24
  let c64_326 : Index := 64#32
  let c128_327 : Index := 128#32
  ![v700.toNat, 64, 128]
def k0_off117 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v712 : Index := Scalar.indexCast arg24
  let c64_332 : Index := 64#32
  let c256_333 : Index := 256#32
  ![v712.toNat, 64, 256]
def k0_off118 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v724 : Index := Scalar.indexCast arg24
  let c64_338 : Index := 64#32
  let c384_339 : Index := 384#32
  ![v724.toNat, 64, 384]
def k0_off119 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v737 : Index := Scalar.indexCast arg24
  let c96_346 : Index := 96#32
  let c0_347 : Index := 0#32
  ![v737.toNat, 96, 0]
def k0_off120 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v749 : Index := Scalar.indexCast arg24
  let c96_352 : Index := 96#32
  let c128_353 : Index := 128#32
  ![v749.toNat, 96, 128]
def k0_off121 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v761 : Index := Scalar.indexCast arg24
  let c96_358 : Index := 96#32
  let c256_359 : Index := 256#32
  ![v761.toNat, 96, 256]
def k0_off122 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v773 : Index := Scalar.indexCast arg24
  let c96_364 : Index := 96#32
  let c384_365 : Index := 384#32
  ![v773.toNat, 96, 384]
def k0_off123 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v786 : Index := Scalar.indexCast arg24
  let c128_372 : Index := 128#32
  let c0_373 : Index := 0#32
  ![v786.toNat, 128, 0]
def k0_off124 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v798 : Index := Scalar.indexCast arg24
  let c128_378 : Index := 128#32
  let c128_379 : Index := 128#32
  ![v798.toNat, 128, 128]
def k0_off125 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v810 : Index := Scalar.indexCast arg24
  let c128_384 : Index := 128#32
  let c256_385 : Index := 256#32
  ![v810.toNat, 128, 256]
def k0_off126 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v822 : Index := Scalar.indexCast arg24
  let c128_390 : Index := 128#32
  let c384_391 : Index := 384#32
  ![v822.toNat, 128, 384]
def k0_off127 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v835 : Index := Scalar.indexCast arg24
  let c160_398 : Index := 160#32
  let c0_399 : Index := 0#32
  ![v835.toNat, 160, 0]
def k0_off128 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v847 : Index := Scalar.indexCast arg24
  let c160_404 : Index := 160#32
  let c128_405 : Index := 128#32
  ![v847.toNat, 160, 128]
def k0_off129 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v859 : Index := Scalar.indexCast arg24
  let c160_410 : Index := 160#32
  let c256_411 : Index := 256#32
  ![v859.toNat, 160, 256]
def k0_off130 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v871 : Index := Scalar.indexCast arg24
  let c160_416 : Index := 160#32
  let c384_417 : Index := 384#32
  ![v871.toNat, 160, 384]
def k0_off131 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v884 : Index := Scalar.indexCast arg24
  let c192_424 : Index := 192#32
  let c0_425 : Index := 0#32
  ![v884.toNat, 192, 0]
def k0_off132 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v896 : Index := Scalar.indexCast arg24
  let c192_430 : Index := 192#32
  let c128_431 : Index := 128#32
  ![v896.toNat, 192, 128]
def k0_off133 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v908 : Index := Scalar.indexCast arg24
  let c192_436 : Index := 192#32
  let c256_437 : Index := 256#32
  ![v908.toNat, 192, 256]
def k0_off134 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v920 : Index := Scalar.indexCast arg24
  let c192_442 : Index := 192#32
  let c384_443 : Index := 384#32
  ![v920.toNat, 192, 384]
def k0_off135 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v933 : Index := Scalar.indexCast arg24
  let c224_450 : Index := 224#32
  let c0_451 : Index := 0#32
  ![v933.toNat, 224, 0]
def k0_off136 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v945 : Index := Scalar.indexCast arg24
  let c224_456 : Index := 224#32
  let c128_457 : Index := 128#32
  ![v945.toNat, 224, 128]
def k0_off137 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v957 : Index := Scalar.indexCast arg24
  let c224_462 : Index := 224#32
  let c256_463 : Index := 256#32
  ![v957.toNat, 224, 256]
def k0_off138 (i : grid0.Coords) (v2 : BitVec 32) (k0_t6 : Fin (k0_t6_loop i v2).trips) : Fin 3 → Nat :=
  let c0_i32_256 : BitVec 32 := 0#32
  let arg3 : BitVec 32 := BitVec.ofNat 32 (i 3).val
  let c128_i32 : BitVec 32 := 128#32
  let v3 : BitVec 32 := Scalar.muli arg3 c128_i32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let v969 : Index := Scalar.indexCast arg24
  let c224_468 : Index := 224#32
  let c384_469 : Index := 384#32
  ![v969.toNat, 224, 384]
def k0_mult198 (i : grid0.Coords) (v2 : BitVec 32) (k0_t6 : Fin (k0_t6_loop i v2).trips) : BitVec 32 :=
  let arg3 : BitVec 32 := BitVec.ofNat 32 (i 3).val
  let c128_i32 : BitVec 32 := 128#32
  let v3 : BitVec 32 := Scalar.muli arg3 c128_i32
  let c128_i32_474 : BitVec 32 := 128#32
  let v981 : BitVec 32 := Scalar.addi v3 c128_i32_474
  let c512_i32_476 : BitVec 32 := 512#32
  let c0_i32_256 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let c1_i32_475 : BitVec 32 := 1#32
  let v982 : BitVec 32 := Scalar.addi arg24 c1_i32_475
  let v983 : BitVec 32 := Scalar.muli c512_i32_476 v982
  let v984 : BitVec 32 := Scalar.subi v981 v983
  let c512_i32_477 : BitVec 32 := 512#32
  let v985 : BitVec 32 := Scalar.addi v984 c512_i32_477
  v985
def k0_off139 (i : grid0.Coords) (v2 : BitVec 32) (k0_t6 : Fin (k0_t6_loop i v2).trips) : Fin 4 → Nat :=
  let c0_478 : Index := 0#32
  let c0_479 : Index := 0#32
  let arg3 : BitVec 32 := BitVec.ofNat 32 (i 3).val
  let c128_i32 : BitVec 32 := 128#32
  let v3 : BitVec 32 := Scalar.muli arg3 c128_i32
  let c128_i32_474 : BitVec 32 := 128#32
  let v981 : BitVec 32 := Scalar.addi v3 c128_i32_474
  let c512_i32_476 : BitVec 32 := 512#32
  let c0_i32_256 : BitVec 32 := 0#32
  let c128_i32_0 : BitVec 32 := 128#32
  let v4 : BitVec 32 := Scalar.addi v3 c128_i32_0
  let v5 : BitVec 32 := Scalar.subi v4 v2
  let c512_i32 : BitVec 32 := 512#32
  let v6 : BitVec 32 := Scalar.addi v5 c512_i32
  let c1_i32 : BitVec 32 := 1#32
  let v7 : BitVec 32 := Scalar.subi v6 c1_i32
  let c9_i32 : BitVec 32 := 9#32
  let v8 : BitVec 32 := Scalar.shrui v7 c9_i32
  let v570 : BitVec 32 := Scalar.subi v8 c0_i32_256
  let c1_i32_257 : BitVec 32 := 1#32
  let v572 : BitVec 32 := Scalar.divsi v570 c1_i32_257
  let v573 : BitVec 32 := Scalar.muli v572 c1_i32_257
  let v574 : BitVec 32 := Scalar.addi c0_i32_256 v573
  let c1_i32_259 : BitVec 32 := 1#32
  let arg24 : BitVec 32 := Scf.iv v574 c1_i32_259 k0_t6
  let c1_i32_475 : BitVec 32 := 1#32
  let v982 : BitVec 32 := Scalar.addi arg24 c1_i32_475
  let v983 : BitVec 32 := Scalar.muli c512_i32_476 v982
  let v984 : BitVec 32 := Scalar.subi v981 v983
  let c512_i32_477 : BitVec 32 := 512#32
  let v985 : BitVec 32 := Scalar.addi v984 c512_i32_477
  let v986 : BitVec 32 := v985
  let v987 : Index := Scalar.indexCast v986
  let c0_480 : Index := 0#32
  ![0, 0, v987.toNat, 0]

def k0_chk1_0 (i : grid0.Coords) (v2 : BitVec 32) : Prop :=
  ((k0_t1_loop i v2).OK) ∧
  (∀ k0_t1 : Fin (k0_t1_loop i v2).trips, 128 ∣ (k0_mult1 i v2 k0_t1).toNat) ∧
  (∀ k0_t1 : Fin (k0_t1_loop i v2).trips, ∀ a, (k0_off2 i v2 k0_t1) a + S1x1x128x512.size a ≤ S1x1x128x33280.size a) ∧
  (∀ k0_t1 : Fin (k0_t1_loop i v2).trips, 128 ∣ (k0_mult2 i v2 k0_t1).toNat) ∧
  (∀ k0_t1 : Fin (k0_t1_loop i v2).trips, ∀ (r : Fin 4), ∀ a, (k0_off3 i v2 k0_t1 (BitVec.ofNat 32 (128 * r.val))) a + S1x1x1x128.size a ≤ S1x1x1x33280.size a) ∧
  (∀ k0_t1 : Fin (k0_t1_loop i v2).trips, 128 ∣ (k0_mult3 i v2 k0_t1).toNat) ∧
  (∀ k0_t1 : Fin (k0_t1_loop i v2).trips, 128 ∣ (k0_mult4 i v2 k0_t1).toNat) ∧
  (∀ k0_t1 : Fin (k0_t1_loop i v2).trips, 128 ∣ (k0_mult5 i v2 k0_t1).toNat) ∧
  (∀ k0_t1 : Fin (k0_t1_loop i v2).trips, 128 ∣ (k0_mult6 i v2 k0_t1).toNat) ∧
  (∀ k0_t1 : Fin (k0_t1_loop i v2).trips, 128 ∣ (k0_mult7 i v2 k0_t1).toNat) ∧
  (∀ k0_t1 : Fin (k0_t1_loop i v2).trips, 128 ∣ (k0_mult8 i v2 k0_t1).toNat) ∧
  (∀ k0_t1 : Fin (k0_t1_loop i v2).trips, 128 ∣ (k0_mult9 i v2 k0_t1).toNat) ∧
  (∀ k0_t1 : Fin (k0_t1_loop i v2).trips, 128 ∣ (k0_mult10 i v2 k0_t1).toNat) ∧
  (∀ k0_t1 : Fin (k0_t1_loop i v2).trips, 128 ∣ (k0_mult11 i v2 k0_t1).toNat) ∧
  (∀ k0_t1 : Fin (k0_t1_loop i v2).trips, 128 ∣ (k0_mult12 i v2 k0_t1).toNat) ∧
  (∀ k0_t1 : Fin (k0_t1_loop i v2).trips, 128 ∣ (k0_mult13 i v2 k0_t1).toNat) ∧
  (∀ k0_t1 : Fin (k0_t1_loop i v2).trips, 128 ∣ (k0_mult14 i v2 k0_t1).toNat) ∧
  (∀ k0_t1 : Fin (k0_t1_loop i v2).trips, 128 ∣ (k0_mult15 i v2 k0_t1).toNat) ∧
  (∀ k0_t1 : Fin (k0_t1_loop i v2).trips, 128 ∣ (k0_mult16 i v2 k0_t1).toNat) ∧
  (∀ k0_t1 : Fin (k0_t1_loop i v2).trips, 128 ∣ (k0_mult17 i v2 k0_t1).toNat) ∧
  (∀ k0_t1 : Fin (k0_t1_loop i v2).trips, 128 ∣ (k0_mult18 i v2 k0_t1).toNat) ∧
  (∀ k0_t1 : Fin (k0_t1_loop i v2).trips, 128 ∣ (k0_mult19 i v2 k0_t1).toNat) ∧
  (∀ k0_t1 : Fin (k0_t1_loop i v2).trips, 128 ∣ (k0_mult20 i v2 k0_t1).toNat) ∧
  (∀ k0_t1 : Fin (k0_t1_loop i v2).trips, 128 ∣ (k0_mult21 i v2 k0_t1).toNat) ∧
  (∀ k0_t1 : Fin (k0_t1_loop i v2).trips, 128 ∣ (k0_mult22 i v2 k0_t1).toNat) ∧
  (∀ k0_t1 : Fin (k0_t1_loop i v2).trips, 128 ∣ (k0_mult23 i v2 k0_t1).toNat) ∧
  (∀ k0_t1 : Fin (k0_t1_loop i v2).trips, 128 ∣ (k0_mult24 i v2 k0_t1).toNat) ∧
  (∀ k0_t1 : Fin (k0_t1_loop i v2).trips, 128 ∣ (k0_mult25 i v2 k0_t1).toNat) ∧
  (∀ k0_t1 : Fin (k0_t1_loop i v2).trips, 128 ∣ (k0_mult26 i v2 k0_t1).toNat) ∧
  (∀ k0_t1 : Fin (k0_t1_loop i v2).trips, 128 ∣ (k0_mult27 i v2 k0_t1).toNat) ∧
  (∀ k0_t1 : Fin (k0_t1_loop i v2).trips, 128 ∣ (k0_mult28 i v2 k0_t1).toNat) ∧
  (∀ k0_t1 : Fin (k0_t1_loop i v2).trips, 128 ∣ (k0_mult29 i v2 k0_t1).toNat)
def k0_chk1_1 (i : grid0.Coords) (v2 : BitVec 32) : Prop :=
  (∀ k0_t1 : Fin (k0_t1_loop i v2).trips, 128 ∣ (k0_mult30 i v2 k0_t1).toNat) ∧
  (∀ k0_t1 : Fin (k0_t1_loop i v2).trips, 128 ∣ (k0_mult31 i v2 k0_t1).toNat) ∧
  (∀ k0_t1 : Fin (k0_t1_loop i v2).trips, 128 ∣ (k0_mult32 i v2 k0_t1).toNat) ∧
  (∀ k0_t1 : Fin (k0_t1_loop i v2).trips, 128 ∣ (k0_mult33 i v2 k0_t1).toNat) ∧
  ((k0_t2_loop i v2).OK) ∧
  (∀ k0_t2 : Fin (k0_t2_loop i v2).trips, 128 ∣ (k0_mult34 i v2 k0_t2).toNat) ∧
  (∀ k0_t2 : Fin (k0_t2_loop i v2).trips, ∀ a, (k0_off4 i v2 k0_t2) a + S1x1x128x512.size a ≤ S1x1x128x33280.size a) ∧
  (∀ k0_t2 : Fin (k0_t2_loop i v2).trips, 128 ∣ (k0_mult35 i v2 k0_t2).toNat) ∧
  (∀ k0_t2 : Fin (k0_t2_loop i v2).trips, ∀ (r : Fin 4), ∀ a, (k0_off5 i v2 k0_t2 (BitVec.ofNat 32 (128 * r.val))) a + S1x1x1x128.size a ≤ S1x1x1x33280.size a) ∧
  (∀ k0_t2 : Fin (k0_t2_loop i v2).trips, 128 ∣ (k0_mult36 i v2 k0_t2).toNat) ∧
  (∀ k0_t2 : Fin (k0_t2_loop i v2).trips, 128 ∣ (k0_mult37 i v2 k0_t2).toNat) ∧
  (∀ k0_t2 : Fin (k0_t2_loop i v2).trips, 128 ∣ (k0_mult38 i v2 k0_t2).toNat) ∧
  (∀ k0_t2 : Fin (k0_t2_loop i v2).trips, 128 ∣ (k0_mult39 i v2 k0_t2).toNat) ∧
  (∀ k0_t2 : Fin (k0_t2_loop i v2).trips, 128 ∣ (k0_mult40 i v2 k0_t2).toNat) ∧
  (∀ k0_t2 : Fin (k0_t2_loop i v2).trips, 128 ∣ (k0_mult41 i v2 k0_t2).toNat) ∧
  (∀ k0_t2 : Fin (k0_t2_loop i v2).trips, 128 ∣ (k0_mult42 i v2 k0_t2).toNat) ∧
  (∀ k0_t2 : Fin (k0_t2_loop i v2).trips, 128 ∣ (k0_mult43 i v2 k0_t2).toNat) ∧
  (∀ k0_t2 : Fin (k0_t2_loop i v2).trips, 128 ∣ (k0_mult44 i v2 k0_t2).toNat) ∧
  (∀ k0_t2 : Fin (k0_t2_loop i v2).trips, 128 ∣ (k0_mult45 i v2 k0_t2).toNat) ∧
  (∀ k0_t2 : Fin (k0_t2_loop i v2).trips, 128 ∣ (k0_mult46 i v2 k0_t2).toNat) ∧
  (∀ k0_t2 : Fin (k0_t2_loop i v2).trips, 128 ∣ (k0_mult47 i v2 k0_t2).toNat) ∧
  (∀ k0_t2 : Fin (k0_t2_loop i v2).trips, 128 ∣ (k0_mult48 i v2 k0_t2).toNat) ∧
  (∀ k0_t2 : Fin (k0_t2_loop i v2).trips, 128 ∣ (k0_mult49 i v2 k0_t2).toNat) ∧
  (∀ k0_t2 : Fin (k0_t2_loop i v2).trips, 128 ∣ (k0_mult50 i v2 k0_t2).toNat) ∧
  (∀ k0_t2 : Fin (k0_t2_loop i v2).trips, 128 ∣ (k0_mult51 i v2 k0_t2).toNat) ∧
  (∀ k0_t2 : Fin (k0_t2_loop i v2).trips, 128 ∣ (k0_mult52 i v2 k0_t2).toNat) ∧
  (∀ k0_t2 : Fin (k0_t2_loop i v2).trips, 128 ∣ (k0_mult53 i v2 k0_t2).toNat) ∧
  (∀ k0_t2 : Fin (k0_t2_loop i v2).trips, 128 ∣ (k0_mult54 i v2 k0_t2).toNat) ∧
  (∀ k0_t2 : Fin (k0_t2_loop i v2).trips, 128 ∣ (k0_mult55 i v2 k0_t2).toNat) ∧
  (∀ k0_t2 : Fin (k0_t2_loop i v2).trips, 128 ∣ (k0_mult56 i v2 k0_t2).toNat) ∧
  (∀ k0_t2 : Fin (k0_t2_loop i v2).trips, 128 ∣ (k0_mult57 i v2 k0_t2).toNat) ∧
  (∀ k0_t2 : Fin (k0_t2_loop i v2).trips, 128 ∣ (k0_mult58 i v2 k0_t2).toNat)
def k0_chk1_2 (i : grid0.Coords) (v2 : BitVec 32) : Prop :=
  (∀ k0_t2 : Fin (k0_t2_loop i v2).trips, 128 ∣ (k0_mult59 i v2 k0_t2).toNat) ∧
  (∀ k0_t2 : Fin (k0_t2_loop i v2).trips, 128 ∣ (k0_mult60 i v2 k0_t2).toNat) ∧
  (∀ k0_t2 : Fin (k0_t2_loop i v2).trips, 128 ∣ (k0_mult61 i v2 k0_t2).toNat) ∧
  (∀ k0_t2 : Fin (k0_t2_loop i v2).trips, 128 ∣ (k0_mult62 i v2 k0_t2).toNat) ∧
  (∀ k0_t2 : Fin (k0_t2_loop i v2).trips, 128 ∣ (k0_mult63 i v2 k0_t2).toNat) ∧
  (∀ k0_t2 : Fin (k0_t2_loop i v2).trips, 128 ∣ (k0_mult64 i v2 k0_t2).toNat) ∧
  (∀ k0_t2 : Fin (k0_t2_loop i v2).trips, 128 ∣ (k0_mult65 i v2 k0_t2).toNat) ∧
  (∀ k0_t2 : Fin (k0_t2_loop i v2).trips, 128 ∣ (k0_mult66 i v2 k0_t2).toNat) ∧
  ((k0_t3_loop i v2).OK) ∧
  (∀ k0_t3 : Fin (k0_t3_loop i v2).trips, 128 ∣ (k0_mult67 i v2 k0_t3).toNat) ∧
  (∀ k0_t3 : Fin (k0_t3_loop i v2).trips, ∀ a, (k0_off6 i v2 k0_t3) a + S1x1x128x512.size a ≤ S1x1x128x33280.size a) ∧
  (∀ k0_t3 : Fin (k0_t3_loop i v2).trips, 128 ∣ (k0_mult68 i v2 k0_t3).toNat) ∧
  (∀ k0_t3 : Fin (k0_t3_loop i v2).trips, ∀ (r : Fin 4), ∀ a, (k0_off7 i v2 k0_t3 (BitVec.ofNat 32 (128 * r.val))) a + S1x1x1x128.size a ≤ S1x1x1x33280.size a) ∧
  (∀ k0_t3 : Fin (k0_t3_loop i v2).trips, 128 ∣ (k0_mult69 i v2 k0_t3).toNat) ∧
  (∀ k0_t3 : Fin (k0_t3_loop i v2).trips, 128 ∣ (k0_mult70 i v2 k0_t3).toNat) ∧
  (∀ k0_t3 : Fin (k0_t3_loop i v2).trips, 128 ∣ (k0_mult71 i v2 k0_t3).toNat) ∧
  (∀ k0_t3 : Fin (k0_t3_loop i v2).trips, 128 ∣ (k0_mult72 i v2 k0_t3).toNat) ∧
  (∀ k0_t3 : Fin (k0_t3_loop i v2).trips, ∀ a, (k0_off8 i v2 k0_t3) a + S1x32x128.size a ≤ S64x256x512.size a) ∧
  (∀ k0_t3 : Fin (k0_t3_loop i v2).trips, 128 ∣ (k0_mult73 i v2 k0_t3).toNat) ∧
  (∀ k0_t3 : Fin (k0_t3_loop i v2).trips, ∀ a, (k0_off9 i v2 k0_t3) a + S1x32x128.size a ≤ S64x256x512.size a) ∧
  (∀ k0_t3 : Fin (k0_t3_loop i v2).trips, 128 ∣ (k0_mult74 i v2 k0_t3).toNat) ∧
  (∀ k0_t3 : Fin (k0_t3_loop i v2).trips, ∀ a, (k0_off10 i v2 k0_t3) a + S1x32x128.size a ≤ S64x256x512.size a) ∧
  (∀ k0_t3 : Fin (k0_t3_loop i v2).trips, 128 ∣ (k0_mult75 i v2 k0_t3).toNat) ∧
  (∀ k0_t3 : Fin (k0_t3_loop i v2).trips, ∀ a, (k0_off11 i v2 k0_t3) a + S1x32x128.size a ≤ S64x256x512.size a) ∧
  (∀ k0_t3 : Fin (k0_t3_loop i v2).trips, 128 ∣ (k0_mult76 i v2 k0_t3).toNat) ∧
  (∀ k0_t3 : Fin (k0_t3_loop i v2).trips, 128 ∣ (k0_mult77 i v2 k0_t3).toNat) ∧
  (∀ k0_t3 : Fin (k0_t3_loop i v2).trips, 128 ∣ (k0_mult78 i v2 k0_t3).toNat) ∧
  (∀ k0_t3 : Fin (k0_t3_loop i v2).trips, 128 ∣ (k0_mult79 i v2 k0_t3).toNat) ∧
  (∀ k0_t3 : Fin (k0_t3_loop i v2).trips, 128 ∣ (k0_mult80 i v2 k0_t3).toNat) ∧
  (∀ k0_t3 : Fin (k0_t3_loop i v2).trips, ∀ a, (k0_off12 i v2 k0_t3) a + S1x32x128.size a ≤ S64x256x512.size a) ∧
  (∀ k0_t3 : Fin (k0_t3_loop i v2).trips, 128 ∣ (k0_mult81 i v2 k0_t3).toNat) ∧
  (∀ k0_t3 : Fin (k0_t3_loop i v2).trips, ∀ a, (k0_off13 i v2 k0_t3) a + S1x32x128.size a ≤ S64x256x512.size a)
def k0_chk1_3 (i : grid0.Coords) (v2 : BitVec 32) : Prop :=
  (∀ k0_t3 : Fin (k0_t3_loop i v2).trips, 128 ∣ (k0_mult82 i v2 k0_t3).toNat) ∧
  (∀ k0_t3 : Fin (k0_t3_loop i v2).trips, ∀ a, (k0_off14 i v2 k0_t3) a + S1x32x128.size a ≤ S64x256x512.size a) ∧
  (∀ k0_t3 : Fin (k0_t3_loop i v2).trips, 128 ∣ (k0_mult83 i v2 k0_t3).toNat) ∧
  (∀ k0_t3 : Fin (k0_t3_loop i v2).trips, ∀ a, (k0_off15 i v2 k0_t3) a + S1x32x128.size a ≤ S64x256x512.size a) ∧
  (∀ k0_t3 : Fin (k0_t3_loop i v2).trips, 128 ∣ (k0_mult84 i v2 k0_t3).toNat) ∧
  (∀ k0_t3 : Fin (k0_t3_loop i v2).trips, 128 ∣ (k0_mult85 i v2 k0_t3).toNat) ∧
  (∀ k0_t3 : Fin (k0_t3_loop i v2).trips, 128 ∣ (k0_mult86 i v2 k0_t3).toNat) ∧
  (∀ k0_t3 : Fin (k0_t3_loop i v2).trips, 128 ∣ (k0_mult87 i v2 k0_t3).toNat) ∧
  (∀ k0_t3 : Fin (k0_t3_loop i v2).trips, 128 ∣ (k0_mult88 i v2 k0_t3).toNat) ∧
  (∀ k0_t3 : Fin (k0_t3_loop i v2).trips, ∀ a, (k0_off16 i v2 k0_t3) a + S1x32x128.size a ≤ S64x256x512.size a) ∧
  (∀ k0_t3 : Fin (k0_t3_loop i v2).trips, 128 ∣ (k0_mult89 i v2 k0_t3).toNat) ∧
  (∀ k0_t3 : Fin (k0_t3_loop i v2).trips, ∀ a, (k0_off17 i v2 k0_t3) a + S1x32x128.size a ≤ S64x256x512.size a) ∧
  (∀ k0_t3 : Fin (k0_t3_loop i v2).trips, 128 ∣ (k0_mult90 i v2 k0_t3).toNat) ∧
  (∀ k0_t3 : Fin (k0_t3_loop i v2).trips, ∀ a, (k0_off18 i v2 k0_t3) a + S1x32x128.size a ≤ S64x256x512.size a) ∧
  (∀ k0_t3 : Fin (k0_t3_loop i v2).trips, 128 ∣ (k0_mult91 i v2 k0_t3).toNat) ∧
  (∀ k0_t3 : Fin (k0_t3_loop i v2).trips, ∀ a, (k0_off19 i v2 k0_t3) a + S1x32x128.size a ≤ S64x256x512.size a) ∧
  (∀ k0_t3 : Fin (k0_t3_loop i v2).trips, 128 ∣ (k0_mult92 i v2 k0_t3).toNat) ∧
  (∀ k0_t3 : Fin (k0_t3_loop i v2).trips, 128 ∣ (k0_mult93 i v2 k0_t3).toNat) ∧
  (∀ k0_t3 : Fin (k0_t3_loop i v2).trips, 128 ∣ (k0_mult94 i v2 k0_t3).toNat) ∧
  (∀ k0_t3 : Fin (k0_t3_loop i v2).trips, 128 ∣ (k0_mult95 i v2 k0_t3).toNat) ∧
  (∀ k0_t3 : Fin (k0_t3_loop i v2).trips, 128 ∣ (k0_mult96 i v2 k0_t3).toNat) ∧
  (∀ k0_t3 : Fin (k0_t3_loop i v2).trips, ∀ a, (k0_off20 i v2 k0_t3) a + S1x32x128.size a ≤ S64x256x512.size a) ∧
  (∀ k0_t3 : Fin (k0_t3_loop i v2).trips, 128 ∣ (k0_mult97 i v2 k0_t3).toNat) ∧
  (∀ k0_t3 : Fin (k0_t3_loop i v2).trips, ∀ a, (k0_off21 i v2 k0_t3) a + S1x32x128.size a ≤ S64x256x512.size a) ∧
  (∀ k0_t3 : Fin (k0_t3_loop i v2).trips, 128 ∣ (k0_mult98 i v2 k0_t3).toNat) ∧
  (∀ k0_t3 : Fin (k0_t3_loop i v2).trips, ∀ a, (k0_off22 i v2 k0_t3) a + S1x32x128.size a ≤ S64x256x512.size a) ∧
  (∀ k0_t3 : Fin (k0_t3_loop i v2).trips, 128 ∣ (k0_mult99 i v2 k0_t3).toNat) ∧
  (∀ k0_t3 : Fin (k0_t3_loop i v2).trips, ∀ a, (k0_off23 i v2 k0_t3) a + S1x32x128.size a ≤ S64x256x512.size a) ∧
  (∀ k0_t3 : Fin (k0_t3_loop i v2).trips, 128 ∣ (k0_mult100 i v2 k0_t3).toNat) ∧
  (∀ k0_t3 : Fin (k0_t3_loop i v2).trips, 128 ∣ (k0_mult101 i v2 k0_t3).toNat) ∧
  (∀ k0_t3 : Fin (k0_t3_loop i v2).trips, 128 ∣ (k0_mult102 i v2 k0_t3).toNat) ∧
  (∀ k0_t3 : Fin (k0_t3_loop i v2).trips, 128 ∣ (k0_mult103 i v2 k0_t3).toNat)
def k0_chk1_4 (i : grid0.Coords) (v2 : BitVec 32) : Prop :=
  (∀ k0_t3 : Fin (k0_t3_loop i v2).trips, 128 ∣ (k0_mult104 i v2 k0_t3).toNat) ∧
  (∀ k0_t3 : Fin (k0_t3_loop i v2).trips, ∀ a, (k0_off24 i v2 k0_t3) a + S1x32x128.size a ≤ S64x256x512.size a) ∧
  (∀ k0_t3 : Fin (k0_t3_loop i v2).trips, 128 ∣ (k0_mult105 i v2 k0_t3).toNat) ∧
  (∀ k0_t3 : Fin (k0_t3_loop i v2).trips, ∀ a, (k0_off25 i v2 k0_t3) a + S1x32x128.size a ≤ S64x256x512.size a) ∧
  (∀ k0_t3 : Fin (k0_t3_loop i v2).trips, 128 ∣ (k0_mult106 i v2 k0_t3).toNat) ∧
  (∀ k0_t3 : Fin (k0_t3_loop i v2).trips, ∀ a, (k0_off26 i v2 k0_t3) a + S1x32x128.size a ≤ S64x256x512.size a) ∧
  (∀ k0_t3 : Fin (k0_t3_loop i v2).trips, 128 ∣ (k0_mult107 i v2 k0_t3).toNat) ∧
  (∀ k0_t3 : Fin (k0_t3_loop i v2).trips, ∀ a, (k0_off27 i v2 k0_t3) a + S1x32x128.size a ≤ S64x256x512.size a) ∧
  (∀ k0_t3 : Fin (k0_t3_loop i v2).trips, 128 ∣ (k0_mult108 i v2 k0_t3).toNat) ∧
  (∀ k0_t3 : Fin (k0_t3_loop i v2).trips, 128 ∣ (k0_mult109 i v2 k0_t3).toNat) ∧
  (∀ k0_t3 : Fin (k0_t3_loop i v2).trips, 128 ∣ (k0_mult110 i v2 k0_t3).toNat) ∧
  (∀ k0_t3 : Fin (k0_t3_loop i v2).trips, 128 ∣ (k0_mult111 i v2 k0_t3).toNat) ∧
  (∀ k0_t3 : Fin (k0_t3_loop i v2).trips, 128 ∣ (k0_mult112 i v2 k0_t3).toNat) ∧
  (∀ k0_t3 : Fin (k0_t3_loop i v2).trips, ∀ a, (k0_off28 i v2 k0_t3) a + S1x32x128.size a ≤ S64x256x512.size a) ∧
  (∀ k0_t3 : Fin (k0_t3_loop i v2).trips, 128 ∣ (k0_mult113 i v2 k0_t3).toNat) ∧
  (∀ k0_t3 : Fin (k0_t3_loop i v2).trips, ∀ a, (k0_off29 i v2 k0_t3) a + S1x32x128.size a ≤ S64x256x512.size a) ∧
  (∀ k0_t3 : Fin (k0_t3_loop i v2).trips, 128 ∣ (k0_mult114 i v2 k0_t3).toNat) ∧
  (∀ k0_t3 : Fin (k0_t3_loop i v2).trips, ∀ a, (k0_off30 i v2 k0_t3) a + S1x32x128.size a ≤ S64x256x512.size a) ∧
  (∀ k0_t3 : Fin (k0_t3_loop i v2).trips, 128 ∣ (k0_mult115 i v2 k0_t3).toNat) ∧
  (∀ k0_t3 : Fin (k0_t3_loop i v2).trips, ∀ a, (k0_off31 i v2 k0_t3) a + S1x32x128.size a ≤ S64x256x512.size a) ∧
  (∀ k0_t3 : Fin (k0_t3_loop i v2).trips, 128 ∣ (k0_mult116 i v2 k0_t3).toNat) ∧
  (∀ k0_t3 : Fin (k0_t3_loop i v2).trips, 128 ∣ (k0_mult117 i v2 k0_t3).toNat) ∧
  (∀ k0_t3 : Fin (k0_t3_loop i v2).trips, 128 ∣ (k0_mult118 i v2 k0_t3).toNat) ∧
  (∀ k0_t3 : Fin (k0_t3_loop i v2).trips, 128 ∣ (k0_mult119 i v2 k0_t3).toNat) ∧
  (∀ k0_t3 : Fin (k0_t3_loop i v2).trips, 128 ∣ (k0_mult120 i v2 k0_t3).toNat) ∧
  (∀ k0_t3 : Fin (k0_t3_loop i v2).trips, ∀ a, (k0_off32 i v2 k0_t3) a + S1x32x128.size a ≤ S64x256x512.size a) ∧
  (∀ k0_t3 : Fin (k0_t3_loop i v2).trips, 128 ∣ (k0_mult121 i v2 k0_t3).toNat) ∧
  (∀ k0_t3 : Fin (k0_t3_loop i v2).trips, ∀ a, (k0_off33 i v2 k0_t3) a + S1x32x128.size a ≤ S64x256x512.size a) ∧
  (∀ k0_t3 : Fin (k0_t3_loop i v2).trips, 128 ∣ (k0_mult122 i v2 k0_t3).toNat) ∧
  (∀ k0_t3 : Fin (k0_t3_loop i v2).trips, ∀ a, (k0_off34 i v2 k0_t3) a + S1x32x128.size a ≤ S64x256x512.size a) ∧
  (∀ k0_t3 : Fin (k0_t3_loop i v2).trips, 128 ∣ (k0_mult123 i v2 k0_t3).toNat) ∧
  (∀ k0_t3 : Fin (k0_t3_loop i v2).trips, ∀ a, (k0_off35 i v2 k0_t3) a + S1x32x128.size a ≤ S64x256x512.size a)
def k0_chk1_5 (i : grid0.Coords) (v2 : BitVec 32) : Prop :=
  (∀ k0_t3 : Fin (k0_t3_loop i v2).trips, 128 ∣ (k0_mult124 i v2 k0_t3).toNat) ∧
  (∀ k0_t3 : Fin (k0_t3_loop i v2).trips, 128 ∣ (k0_mult125 i v2 k0_t3).toNat) ∧
  (∀ k0_t3 : Fin (k0_t3_loop i v2).trips, 128 ∣ (k0_mult126 i v2 k0_t3).toNat) ∧
  (∀ k0_t3 : Fin (k0_t3_loop i v2).trips, 128 ∣ (k0_mult127 i v2 k0_t3).toNat) ∧
  (∀ k0_t3 : Fin (k0_t3_loop i v2).trips, 128 ∣ (k0_mult128 i v2 k0_t3).toNat) ∧
  (∀ k0_t3 : Fin (k0_t3_loop i v2).trips, ∀ a, (k0_off36 i v2 k0_t3) a + S1x32x128.size a ≤ S64x256x512.size a) ∧
  (∀ k0_t3 : Fin (k0_t3_loop i v2).trips, 128 ∣ (k0_mult129 i v2 k0_t3).toNat) ∧
  (∀ k0_t3 : Fin (k0_t3_loop i v2).trips, ∀ a, (k0_off37 i v2 k0_t3) a + S1x32x128.size a ≤ S64x256x512.size a) ∧
  (∀ k0_t3 : Fin (k0_t3_loop i v2).trips, 128 ∣ (k0_mult130 i v2 k0_t3).toNat) ∧
  (∀ k0_t3 : Fin (k0_t3_loop i v2).trips, ∀ a, (k0_off38 i v2 k0_t3) a + S1x32x128.size a ≤ S64x256x512.size a) ∧
  (∀ k0_t3 : Fin (k0_t3_loop i v2).trips, 128 ∣ (k0_mult131 i v2 k0_t3).toNat) ∧
  (∀ k0_t3 : Fin (k0_t3_loop i v2).trips, ∀ a, (k0_off39 i v2 k0_t3) a + S1x32x128.size a ≤ S64x256x512.size a) ∧
  ((k0_t4_loop i v2).OK) ∧
  (∀ k0_t4 : Fin (k0_t4_loop i v2).trips, 128 ∣ (k0_mult132 i v2 k0_t4).toNat) ∧
  (∀ k0_t4 : Fin (k0_t4_loop i v2).trips, ∀ a, (k0_off40 i v2 k0_t4) a + S1x1x128x512.size a ≤ S1x1x128x33280.size a) ∧
  (∀ k0_t4 : Fin (k0_t4_loop i v2).trips, 128 ∣ (k0_mult133 i v2 k0_t4).toNat) ∧
  (∀ k0_t4 : Fin (k0_t4_loop i v2).trips, ∀ (r : Fin 4), ∀ a, (k0_off41 i v2 k0_t4 (BitVec.ofNat 32 (128 * r.val))) a + S1x1x1x128.size a ≤ S1x1x1x33280.size a) ∧
  (∀ k0_t4 : Fin (k0_t4_loop i v2).trips, 128 ∣ (k0_mult134 i v2 k0_t4).toNat) ∧
  (∀ k0_t4 : Fin (k0_t4_loop i v2).trips, 128 ∣ (k0_mult135 i v2 k0_t4).toNat) ∧
  (∀ k0_t4 : Fin (k0_t4_loop i v2).trips, 128 ∣ (k0_mult136 i v2 k0_t4).toNat) ∧
  (∀ k0_t4 : Fin (k0_t4_loop i v2).trips, 128 ∣ (k0_mult137 i v2 k0_t4).toNat) ∧
  (∀ k0_t4 : Fin (k0_t4_loop i v2).trips, ∀ a, (k0_off42 i v2 k0_t4) a + S1x32x128.size a ≤ S64x256x512.size a) ∧
  (∀ k0_t4 : Fin (k0_t4_loop i v2).trips, 128 ∣ (k0_mult138 i v2 k0_t4).toNat) ∧
  (∀ k0_t4 : Fin (k0_t4_loop i v2).trips, ∀ a, (k0_off43 i v2 k0_t4) a + S1x32x128.size a ≤ S64x256x512.size a) ∧
  (∀ k0_t4 : Fin (k0_t4_loop i v2).trips, 128 ∣ (k0_mult139 i v2 k0_t4).toNat) ∧
  (∀ k0_t4 : Fin (k0_t4_loop i v2).trips, ∀ a, (k0_off44 i v2 k0_t4) a + S1x32x128.size a ≤ S64x256x512.size a) ∧
  (∀ k0_t4 : Fin (k0_t4_loop i v2).trips, 128 ∣ (k0_mult140 i v2 k0_t4).toNat) ∧
  (∀ k0_t4 : Fin (k0_t4_loop i v2).trips, ∀ a, (k0_off45 i v2 k0_t4) a + S1x32x128.size a ≤ S64x256x512.size a) ∧
  (∀ k0_t4 : Fin (k0_t4_loop i v2).trips, 128 ∣ (k0_mult141 i v2 k0_t4).toNat) ∧
  (∀ k0_t4 : Fin (k0_t4_loop i v2).trips, 128 ∣ (k0_mult142 i v2 k0_t4).toNat) ∧
  (∀ k0_t4 : Fin (k0_t4_loop i v2).trips, 128 ∣ (k0_mult143 i v2 k0_t4).toNat) ∧
  (∀ k0_t4 : Fin (k0_t4_loop i v2).trips, 128 ∣ (k0_mult144 i v2 k0_t4).toNat)
def k0_chk1_6 (i : grid0.Coords) (v2 : BitVec 32) : Prop :=
  (∀ k0_t4 : Fin (k0_t4_loop i v2).trips, 128 ∣ (k0_mult145 i v2 k0_t4).toNat) ∧
  (∀ k0_t4 : Fin (k0_t4_loop i v2).trips, ∀ a, (k0_off46 i v2 k0_t4) a + S1x32x128.size a ≤ S64x256x512.size a) ∧
  (∀ k0_t4 : Fin (k0_t4_loop i v2).trips, 128 ∣ (k0_mult146 i v2 k0_t4).toNat) ∧
  (∀ k0_t4 : Fin (k0_t4_loop i v2).trips, ∀ a, (k0_off47 i v2 k0_t4) a + S1x32x128.size a ≤ S64x256x512.size a) ∧
  (∀ k0_t4 : Fin (k0_t4_loop i v2).trips, 128 ∣ (k0_mult147 i v2 k0_t4).toNat) ∧
  (∀ k0_t4 : Fin (k0_t4_loop i v2).trips, ∀ a, (k0_off48 i v2 k0_t4) a + S1x32x128.size a ≤ S64x256x512.size a) ∧
  (∀ k0_t4 : Fin (k0_t4_loop i v2).trips, 128 ∣ (k0_mult148 i v2 k0_t4).toNat) ∧
  (∀ k0_t4 : Fin (k0_t4_loop i v2).trips, ∀ a, (k0_off49 i v2 k0_t4) a + S1x32x128.size a ≤ S64x256x512.size a) ∧
  (∀ k0_t4 : Fin (k0_t4_loop i v2).trips, 128 ∣ (k0_mult149 i v2 k0_t4).toNat) ∧
  (∀ k0_t4 : Fin (k0_t4_loop i v2).trips, 128 ∣ (k0_mult150 i v2 k0_t4).toNat) ∧
  (∀ k0_t4 : Fin (k0_t4_loop i v2).trips, 128 ∣ (k0_mult151 i v2 k0_t4).toNat) ∧
  (∀ k0_t4 : Fin (k0_t4_loop i v2).trips, 128 ∣ (k0_mult152 i v2 k0_t4).toNat) ∧
  (∀ k0_t4 : Fin (k0_t4_loop i v2).trips, 128 ∣ (k0_mult153 i v2 k0_t4).toNat) ∧
  (∀ k0_t4 : Fin (k0_t4_loop i v2).trips, ∀ a, (k0_off50 i v2 k0_t4) a + S1x32x128.size a ≤ S64x256x512.size a) ∧
  (∀ k0_t4 : Fin (k0_t4_loop i v2).trips, 128 ∣ (k0_mult154 i v2 k0_t4).toNat) ∧
  (∀ k0_t4 : Fin (k0_t4_loop i v2).trips, ∀ a, (k0_off51 i v2 k0_t4) a + S1x32x128.size a ≤ S64x256x512.size a) ∧
  (∀ k0_t4 : Fin (k0_t4_loop i v2).trips, 128 ∣ (k0_mult155 i v2 k0_t4).toNat) ∧
  (∀ k0_t4 : Fin (k0_t4_loop i v2).trips, ∀ a, (k0_off52 i v2 k0_t4) a + S1x32x128.size a ≤ S64x256x512.size a) ∧
  (∀ k0_t4 : Fin (k0_t4_loop i v2).trips, 128 ∣ (k0_mult156 i v2 k0_t4).toNat) ∧
  (∀ k0_t4 : Fin (k0_t4_loop i v2).trips, ∀ a, (k0_off53 i v2 k0_t4) a + S1x32x128.size a ≤ S64x256x512.size a) ∧
  (∀ k0_t4 : Fin (k0_t4_loop i v2).trips, 128 ∣ (k0_mult157 i v2 k0_t4).toNat) ∧
  (∀ k0_t4 : Fin (k0_t4_loop i v2).trips, 128 ∣ (k0_mult158 i v2 k0_t4).toNat) ∧
  (∀ k0_t4 : Fin (k0_t4_loop i v2).trips, 128 ∣ (k0_mult159 i v2 k0_t4).toNat) ∧
  (∀ k0_t4 : Fin (k0_t4_loop i v2).trips, 128 ∣ (k0_mult160 i v2 k0_t4).toNat) ∧
  (∀ k0_t4 : Fin (k0_t4_loop i v2).trips, 128 ∣ (k0_mult161 i v2 k0_t4).toNat) ∧
  (∀ k0_t4 : Fin (k0_t4_loop i v2).trips, ∀ a, (k0_off54 i v2 k0_t4) a + S1x32x128.size a ≤ S64x256x512.size a) ∧
  (∀ k0_t4 : Fin (k0_t4_loop i v2).trips, 128 ∣ (k0_mult162 i v2 k0_t4).toNat) ∧
  (∀ k0_t4 : Fin (k0_t4_loop i v2).trips, ∀ a, (k0_off55 i v2 k0_t4) a + S1x32x128.size a ≤ S64x256x512.size a) ∧
  (∀ k0_t4 : Fin (k0_t4_loop i v2).trips, 128 ∣ (k0_mult163 i v2 k0_t4).toNat) ∧
  (∀ k0_t4 : Fin (k0_t4_loop i v2).trips, ∀ a, (k0_off56 i v2 k0_t4) a + S1x32x128.size a ≤ S64x256x512.size a) ∧
  (∀ k0_t4 : Fin (k0_t4_loop i v2).trips, 128 ∣ (k0_mult164 i v2 k0_t4).toNat) ∧
  (∀ k0_t4 : Fin (k0_t4_loop i v2).trips, ∀ a, (k0_off57 i v2 k0_t4) a + S1x32x128.size a ≤ S64x256x512.size a)
def k0_chk1_7 (i : grid0.Coords) (v2 : BitVec 32) : Prop :=
  (∀ k0_t4 : Fin (k0_t4_loop i v2).trips, 128 ∣ (k0_mult165 i v2 k0_t4).toNat) ∧
  (∀ k0_t4 : Fin (k0_t4_loop i v2).trips, 128 ∣ (k0_mult166 i v2 k0_t4).toNat) ∧
  (∀ k0_t4 : Fin (k0_t4_loop i v2).trips, 128 ∣ (k0_mult167 i v2 k0_t4).toNat) ∧
  (∀ k0_t4 : Fin (k0_t4_loop i v2).trips, 128 ∣ (k0_mult168 i v2 k0_t4).toNat) ∧
  (∀ k0_t4 : Fin (k0_t4_loop i v2).trips, 128 ∣ (k0_mult169 i v2 k0_t4).toNat) ∧
  (∀ k0_t4 : Fin (k0_t4_loop i v2).trips, ∀ a, (k0_off58 i v2 k0_t4) a + S1x32x128.size a ≤ S64x256x512.size a) ∧
  (∀ k0_t4 : Fin (k0_t4_loop i v2).trips, 128 ∣ (k0_mult170 i v2 k0_t4).toNat) ∧
  (∀ k0_t4 : Fin (k0_t4_loop i v2).trips, ∀ a, (k0_off59 i v2 k0_t4) a + S1x32x128.size a ≤ S64x256x512.size a) ∧
  (∀ k0_t4 : Fin (k0_t4_loop i v2).trips, 128 ∣ (k0_mult171 i v2 k0_t4).toNat) ∧
  (∀ k0_t4 : Fin (k0_t4_loop i v2).trips, ∀ a, (k0_off60 i v2 k0_t4) a + S1x32x128.size a ≤ S64x256x512.size a) ∧
  (∀ k0_t4 : Fin (k0_t4_loop i v2).trips, 128 ∣ (k0_mult172 i v2 k0_t4).toNat) ∧
  (∀ k0_t4 : Fin (k0_t4_loop i v2).trips, ∀ a, (k0_off61 i v2 k0_t4) a + S1x32x128.size a ≤ S64x256x512.size a) ∧
  (∀ k0_t4 : Fin (k0_t4_loop i v2).trips, 128 ∣ (k0_mult173 i v2 k0_t4).toNat) ∧
  (∀ k0_t4 : Fin (k0_t4_loop i v2).trips, 128 ∣ (k0_mult174 i v2 k0_t4).toNat) ∧
  (∀ k0_t4 : Fin (k0_t4_loop i v2).trips, 128 ∣ (k0_mult175 i v2 k0_t4).toNat) ∧
  (∀ k0_t4 : Fin (k0_t4_loop i v2).trips, 128 ∣ (k0_mult176 i v2 k0_t4).toNat) ∧
  (∀ k0_t4 : Fin (k0_t4_loop i v2).trips, 128 ∣ (k0_mult177 i v2 k0_t4).toNat) ∧
  (∀ k0_t4 : Fin (k0_t4_loop i v2).trips, ∀ a, (k0_off62 i v2 k0_t4) a + S1x32x128.size a ≤ S64x256x512.size a) ∧
  (∀ k0_t4 : Fin (k0_t4_loop i v2).trips, 128 ∣ (k0_mult178 i v2 k0_t4).toNat) ∧
  (∀ k0_t4 : Fin (k0_t4_loop i v2).trips, ∀ a, (k0_off63 i v2 k0_t4) a + S1x32x128.size a ≤ S64x256x512.size a) ∧
  (∀ k0_t4 : Fin (k0_t4_loop i v2).trips, 128 ∣ (k0_mult179 i v2 k0_t4).toNat) ∧
  (∀ k0_t4 : Fin (k0_t4_loop i v2).trips, ∀ a, (k0_off64 i v2 k0_t4) a + S1x32x128.size a ≤ S64x256x512.size a) ∧
  (∀ k0_t4 : Fin (k0_t4_loop i v2).trips, 128 ∣ (k0_mult180 i v2 k0_t4).toNat) ∧
  (∀ k0_t4 : Fin (k0_t4_loop i v2).trips, ∀ a, (k0_off65 i v2 k0_t4) a + S1x32x128.size a ≤ S64x256x512.size a) ∧
  (∀ k0_t4 : Fin (k0_t4_loop i v2).trips, 128 ∣ (k0_mult181 i v2 k0_t4).toNat) ∧
  (∀ k0_t4 : Fin (k0_t4_loop i v2).trips, 128 ∣ (k0_mult182 i v2 k0_t4).toNat) ∧
  (∀ k0_t4 : Fin (k0_t4_loop i v2).trips, 128 ∣ (k0_mult183 i v2 k0_t4).toNat) ∧
  (∀ k0_t4 : Fin (k0_t4_loop i v2).trips, 128 ∣ (k0_mult184 i v2 k0_t4).toNat) ∧
  (∀ k0_t4 : Fin (k0_t4_loop i v2).trips, 128 ∣ (k0_mult185 i v2 k0_t4).toNat) ∧
  (∀ k0_t4 : Fin (k0_t4_loop i v2).trips, ∀ a, (k0_off66 i v2 k0_t4) a + S1x32x128.size a ≤ S64x256x512.size a) ∧
  (∀ k0_t4 : Fin (k0_t4_loop i v2).trips, 128 ∣ (k0_mult186 i v2 k0_t4).toNat) ∧
  (∀ k0_t4 : Fin (k0_t4_loop i v2).trips, ∀ a, (k0_off67 i v2 k0_t4) a + S1x32x128.size a ≤ S64x256x512.size a)
def k0_chk1_8 (i : grid0.Coords) (v2 : BitVec 32) : Prop :=
  (∀ k0_t4 : Fin (k0_t4_loop i v2).trips, 128 ∣ (k0_mult187 i v2 k0_t4).toNat) ∧
  (∀ k0_t4 : Fin (k0_t4_loop i v2).trips, ∀ a, (k0_off68 i v2 k0_t4) a + S1x32x128.size a ≤ S64x256x512.size a) ∧
  (∀ k0_t4 : Fin (k0_t4_loop i v2).trips, 128 ∣ (k0_mult188 i v2 k0_t4).toNat) ∧
  (∀ k0_t4 : Fin (k0_t4_loop i v2).trips, ∀ a, (k0_off69 i v2 k0_t4) a + S1x32x128.size a ≤ S64x256x512.size a) ∧
  (∀ k0_t4 : Fin (k0_t4_loop i v2).trips, 128 ∣ (k0_mult189 i v2 k0_t4).toNat) ∧
  (∀ k0_t4 : Fin (k0_t4_loop i v2).trips, 128 ∣ (k0_mult190 i v2 k0_t4).toNat) ∧
  (∀ k0_t4 : Fin (k0_t4_loop i v2).trips, 128 ∣ (k0_mult191 i v2 k0_t4).toNat) ∧
  (∀ k0_t4 : Fin (k0_t4_loop i v2).trips, 128 ∣ (k0_mult192 i v2 k0_t4).toNat) ∧
  (∀ k0_t4 : Fin (k0_t4_loop i v2).trips, 128 ∣ (k0_mult193 i v2 k0_t4).toNat) ∧
  (∀ k0_t4 : Fin (k0_t4_loop i v2).trips, ∀ a, (k0_off70 i v2 k0_t4) a + S1x32x128.size a ≤ S64x256x512.size a) ∧
  (∀ k0_t4 : Fin (k0_t4_loop i v2).trips, 128 ∣ (k0_mult194 i v2 k0_t4).toNat) ∧
  (∀ k0_t4 : Fin (k0_t4_loop i v2).trips, ∀ a, (k0_off71 i v2 k0_t4) a + S1x32x128.size a ≤ S64x256x512.size a) ∧
  (∀ k0_t4 : Fin (k0_t4_loop i v2).trips, 128 ∣ (k0_mult195 i v2 k0_t4).toNat) ∧
  (∀ k0_t4 : Fin (k0_t4_loop i v2).trips, ∀ a, (k0_off72 i v2 k0_t4) a + S1x32x128.size a ≤ S64x256x512.size a) ∧
  (∀ k0_t4 : Fin (k0_t4_loop i v2).trips, 128 ∣ (k0_mult196 i v2 k0_t4).toNat) ∧
  (∀ k0_t4 : Fin (k0_t4_loop i v2).trips, ∀ a, (k0_off73 i v2 k0_t4) a + S1x32x128.size a ≤ S64x256x512.size a) ∧
  ((k0_t5_loop i v2).OK) ∧
  (∀ k0_t5 : Fin (k0_t5_loop i v2).trips, ∀ a, (k0_off74 i v2 k0_t5) a + S1x32x128.size a ≤ S64x256x512.size a) ∧
  (∀ k0_t5 : Fin (k0_t5_loop i v2).trips, ∀ a, (k0_off75 i v2 k0_t5) a + S1x32x128.size a ≤ S64x256x512.size a) ∧
  (∀ k0_t5 : Fin (k0_t5_loop i v2).trips, ∀ a, (k0_off76 i v2 k0_t5) a + S1x32x128.size a ≤ S64x256x512.size a) ∧
  (∀ k0_t5 : Fin (k0_t5_loop i v2).trips, ∀ a, (k0_off77 i v2 k0_t5) a + S1x32x128.size a ≤ S64x256x512.size a) ∧
  (∀ k0_t5 : Fin (k0_t5_loop i v2).trips, ∀ a, (k0_off78 i v2 k0_t5) a + S1x32x128.size a ≤ S64x256x512.size a) ∧
  (∀ k0_t5 : Fin (k0_t5_loop i v2).trips, ∀ a, (k0_off79 i v2 k0_t5) a + S1x32x128.size a ≤ S64x256x512.size a) ∧
  (∀ k0_t5 : Fin (k0_t5_loop i v2).trips, ∀ a, (k0_off80 i v2 k0_t5) a + S1x32x128.size a ≤ S64x256x512.size a) ∧
  (∀ k0_t5 : Fin (k0_t5_loop i v2).trips, ∀ a, (k0_off81 i v2 k0_t5) a + S1x32x128.size a ≤ S64x256x512.size a) ∧
  (∀ k0_t5 : Fin (k0_t5_loop i v2).trips, ∀ a, (k0_off82 i v2 k0_t5) a + S1x32x128.size a ≤ S64x256x512.size a) ∧
  (∀ k0_t5 : Fin (k0_t5_loop i v2).trips, ∀ a, (k0_off83 i v2 k0_t5) a + S1x32x128.size a ≤ S64x256x512.size a) ∧
  (∀ k0_t5 : Fin (k0_t5_loop i v2).trips, ∀ a, (k0_off84 i v2 k0_t5) a + S1x32x128.size a ≤ S64x256x512.size a) ∧
  (∀ k0_t5 : Fin (k0_t5_loop i v2).trips, ∀ a, (k0_off85 i v2 k0_t5) a + S1x32x128.size a ≤ S64x256x512.size a) ∧
  (∀ k0_t5 : Fin (k0_t5_loop i v2).trips, ∀ a, (k0_off86 i v2 k0_t5) a + S1x32x128.size a ≤ S64x256x512.size a) ∧
  (∀ k0_t5 : Fin (k0_t5_loop i v2).trips, ∀ a, (k0_off87 i v2 k0_t5) a + S1x32x128.size a ≤ S64x256x512.size a) ∧
  (∀ k0_t5 : Fin (k0_t5_loop i v2).trips, ∀ a, (k0_off88 i v2 k0_t5) a + S1x32x128.size a ≤ S64x256x512.size a)
def k0_chk1_9 (i : grid0.Coords) (v2 : BitVec 32) : Prop :=
  (∀ k0_t5 : Fin (k0_t5_loop i v2).trips, ∀ a, (k0_off89 i v2 k0_t5) a + S1x32x128.size a ≤ S64x256x512.size a) ∧
  (∀ k0_t5 : Fin (k0_t5_loop i v2).trips, ∀ a, (k0_off90 i v2 k0_t5) a + S1x32x128.size a ≤ S64x256x512.size a) ∧
  (∀ k0_t5 : Fin (k0_t5_loop i v2).trips, ∀ a, (k0_off91 i v2 k0_t5) a + S1x32x128.size a ≤ S64x256x512.size a) ∧
  (∀ k0_t5 : Fin (k0_t5_loop i v2).trips, ∀ a, (k0_off92 i v2 k0_t5) a + S1x32x128.size a ≤ S64x256x512.size a) ∧
  (∀ k0_t5 : Fin (k0_t5_loop i v2).trips, ∀ a, (k0_off93 i v2 k0_t5) a + S1x32x128.size a ≤ S64x256x512.size a) ∧
  (∀ k0_t5 : Fin (k0_t5_loop i v2).trips, ∀ a, (k0_off94 i v2 k0_t5) a + S1x32x128.size a ≤ S64x256x512.size a) ∧
  (∀ k0_t5 : Fin (k0_t5_loop i v2).trips, ∀ a, (k0_off95 i v2 k0_t5) a + S1x32x128.size a ≤ S64x256x512.size a) ∧
  (∀ k0_t5 : Fin (k0_t5_loop i v2).trips, ∀ a, (k0_off96 i v2 k0_t5) a + S1x32x128.size a ≤ S64x256x512.size a) ∧
  (∀ k0_t5 : Fin (k0_t5_loop i v2).trips, ∀ a, (k0_off97 i v2 k0_t5) a + S1x32x128.size a ≤ S64x256x512.size a) ∧
  (∀ k0_t5 : Fin (k0_t5_loop i v2).trips, ∀ a, (k0_off98 i v2 k0_t5) a + S1x32x128.size a ≤ S64x256x512.size a) ∧
  (∀ k0_t5 : Fin (k0_t5_loop i v2).trips, ∀ a, (k0_off99 i v2 k0_t5) a + S1x32x128.size a ≤ S64x256x512.size a) ∧
  (∀ k0_t5 : Fin (k0_t5_loop i v2).trips, ∀ a, (k0_off100 i v2 k0_t5) a + S1x32x128.size a ≤ S64x256x512.size a) ∧
  (∀ k0_t5 : Fin (k0_t5_loop i v2).trips, ∀ a, (k0_off101 i v2 k0_t5) a + S1x32x128.size a ≤ S64x256x512.size a) ∧
  (∀ k0_t5 : Fin (k0_t5_loop i v2).trips, ∀ a, (k0_off102 i v2 k0_t5) a + S1x32x128.size a ≤ S64x256x512.size a) ∧
  (∀ k0_t5 : Fin (k0_t5_loop i v2).trips, ∀ a, (k0_off103 i v2 k0_t5) a + S1x32x128.size a ≤ S64x256x512.size a) ∧
  (∀ k0_t5 : Fin (k0_t5_loop i v2).trips, ∀ a, (k0_off104 i v2 k0_t5) a + S1x32x128.size a ≤ S64x256x512.size a) ∧
  (∀ k0_t5 : Fin (k0_t5_loop i v2).trips, ∀ a, (k0_off105 i v2 k0_t5) a + S1x32x128.size a ≤ S64x256x512.size a) ∧
  (∀ k0_t5 : Fin (k0_t5_loop i v2).trips, 128 ∣ (k0_mult197 i v2 k0_t5).toNat) ∧
  (∀ k0_t5 : Fin (k0_t5_loop i v2).trips, ∀ a, (k0_off106 i v2 k0_t5) a + S1x1x512x128.size a ≤ S1x1x33280x128.size a) ∧
  ((k0_t6_loop i v2).OK) ∧
  (∀ k0_t6 : Fin (k0_t6_loop i v2).trips, ∀ a, (k0_off107 i v2 k0_t6) a + S1x32x128.size a ≤ S64x256x512.size a) ∧
  (∀ k0_t6 : Fin (k0_t6_loop i v2).trips, ∀ a, (k0_off108 i v2 k0_t6) a + S1x32x128.size a ≤ S64x256x512.size a) ∧
  (∀ k0_t6 : Fin (k0_t6_loop i v2).trips, ∀ a, (k0_off109 i v2 k0_t6) a + S1x32x128.size a ≤ S64x256x512.size a) ∧
  (∀ k0_t6 : Fin (k0_t6_loop i v2).trips, ∀ a, (k0_off110 i v2 k0_t6) a + S1x32x128.size a ≤ S64x256x512.size a) ∧
  (∀ k0_t6 : Fin (k0_t6_loop i v2).trips, ∀ a, (k0_off111 i v2 k0_t6) a + S1x32x128.size a ≤ S64x256x512.size a) ∧
  (∀ k0_t6 : Fin (k0_t6_loop i v2).trips, ∀ a, (k0_off112 i v2 k0_t6) a + S1x32x128.size a ≤ S64x256x512.size a) ∧
  (∀ k0_t6 : Fin (k0_t6_loop i v2).trips, ∀ a, (k0_off113 i v2 k0_t6) a + S1x32x128.size a ≤ S64x256x512.size a) ∧
  (∀ k0_t6 : Fin (k0_t6_loop i v2).trips, ∀ a, (k0_off114 i v2 k0_t6) a + S1x32x128.size a ≤ S64x256x512.size a) ∧
  (∀ k0_t6 : Fin (k0_t6_loop i v2).trips, ∀ a, (k0_off115 i v2 k0_t6) a + S1x32x128.size a ≤ S64x256x512.size a) ∧
  (∀ k0_t6 : Fin (k0_t6_loop i v2).trips, ∀ a, (k0_off116 i v2 k0_t6) a + S1x32x128.size a ≤ S64x256x512.size a) ∧
  (∀ k0_t6 : Fin (k0_t6_loop i v2).trips, ∀ a, (k0_off117 i v2 k0_t6) a + S1x32x128.size a ≤ S64x256x512.size a) ∧
  (∀ k0_t6 : Fin (k0_t6_loop i v2).trips, ∀ a, (k0_off118 i v2 k0_t6) a + S1x32x128.size a ≤ S64x256x512.size a)
def k0_chk1_10 (i : grid0.Coords) (v2 : BitVec 32) : Prop :=
  (∀ k0_t6 : Fin (k0_t6_loop i v2).trips, ∀ a, (k0_off119 i v2 k0_t6) a + S1x32x128.size a ≤ S64x256x512.size a) ∧
  (∀ k0_t6 : Fin (k0_t6_loop i v2).trips, ∀ a, (k0_off120 i v2 k0_t6) a + S1x32x128.size a ≤ S64x256x512.size a) ∧
  (∀ k0_t6 : Fin (k0_t6_loop i v2).trips, ∀ a, (k0_off121 i v2 k0_t6) a + S1x32x128.size a ≤ S64x256x512.size a) ∧
  (∀ k0_t6 : Fin (k0_t6_loop i v2).trips, ∀ a, (k0_off122 i v2 k0_t6) a + S1x32x128.size a ≤ S64x256x512.size a) ∧
  (∀ k0_t6 : Fin (k0_t6_loop i v2).trips, ∀ a, (k0_off123 i v2 k0_t6) a + S1x32x128.size a ≤ S64x256x512.size a) ∧
  (∀ k0_t6 : Fin (k0_t6_loop i v2).trips, ∀ a, (k0_off124 i v2 k0_t6) a + S1x32x128.size a ≤ S64x256x512.size a) ∧
  (∀ k0_t6 : Fin (k0_t6_loop i v2).trips, ∀ a, (k0_off125 i v2 k0_t6) a + S1x32x128.size a ≤ S64x256x512.size a) ∧
  (∀ k0_t6 : Fin (k0_t6_loop i v2).trips, ∀ a, (k0_off126 i v2 k0_t6) a + S1x32x128.size a ≤ S64x256x512.size a) ∧
  (∀ k0_t6 : Fin (k0_t6_loop i v2).trips, ∀ a, (k0_off127 i v2 k0_t6) a + S1x32x128.size a ≤ S64x256x512.size a) ∧
  (∀ k0_t6 : Fin (k0_t6_loop i v2).trips, ∀ a, (k0_off128 i v2 k0_t6) a + S1x32x128.size a ≤ S64x256x512.size a) ∧
  (∀ k0_t6 : Fin (k0_t6_loop i v2).trips, ∀ a, (k0_off129 i v2 k0_t6) a + S1x32x128.size a ≤ S64x256x512.size a) ∧
  (∀ k0_t6 : Fin (k0_t6_loop i v2).trips, ∀ a, (k0_off130 i v2 k0_t6) a + S1x32x128.size a ≤ S64x256x512.size a) ∧
  (∀ k0_t6 : Fin (k0_t6_loop i v2).trips, ∀ a, (k0_off131 i v2 k0_t6) a + S1x32x128.size a ≤ S64x256x512.size a) ∧
  (∀ k0_t6 : Fin (k0_t6_loop i v2).trips, ∀ a, (k0_off132 i v2 k0_t6) a + S1x32x128.size a ≤ S64x256x512.size a) ∧
  (∀ k0_t6 : Fin (k0_t6_loop i v2).trips, ∀ a, (k0_off133 i v2 k0_t6) a + S1x32x128.size a ≤ S64x256x512.size a) ∧
  (∀ k0_t6 : Fin (k0_t6_loop i v2).trips, ∀ a, (k0_off134 i v2 k0_t6) a + S1x32x128.size a ≤ S64x256x512.size a) ∧
  (∀ k0_t6 : Fin (k0_t6_loop i v2).trips, ∀ a, (k0_off135 i v2 k0_t6) a + S1x32x128.size a ≤ S64x256x512.size a) ∧
  (∀ k0_t6 : Fin (k0_t6_loop i v2).trips, ∀ a, (k0_off136 i v2 k0_t6) a + S1x32x128.size a ≤ S64x256x512.size a) ∧
  (∀ k0_t6 : Fin (k0_t6_loop i v2).trips, ∀ a, (k0_off137 i v2 k0_t6) a + S1x32x128.size a ≤ S64x256x512.size a) ∧
  (∀ k0_t6 : Fin (k0_t6_loop i v2).trips, ∀ a, (k0_off138 i v2 k0_t6) a + S1x32x128.size a ≤ S64x256x512.size a) ∧
  (∀ k0_t6 : Fin (k0_t6_loop i v2).trips, 128 ∣ (k0_mult198 i v2 k0_t6).toNat) ∧
  (∀ k0_t6 : Fin (k0_t6_loop i v2).trips, ∀ a, (k0_off139 i v2 k0_t6) a + S1x1x512x128.size a ≤ S1x1x33280x128.size a)
def k0_chk1 (i : grid0.Coords) (v2 : BitVec 32) : Prop :=
  k0_chk1_0 i v2 ∧
  k0_chk1_1 i v2 ∧
  k0_chk1_2 i v2 ∧
  k0_chk1_3 i v2 ∧
  k0_chk1_4 i v2 ∧
  k0_chk1_5 i v2 ∧
  k0_chk1_6 i v2 ∧
  k0_chk1_7 i v2 ∧
  k0_chk1_8 i v2 ∧
  k0_chk1_9 i v2 ∧
  k0_chk1_10 i v2
theorem k0_t1_ok : ∀ (i : grid0.Coords) (v2 : BitVec 32) (k0_hw1 : k0_chk1 i v2), (k0_t1_loop i v2).OK := fun i v2 k0_hw1 => k0_hw1.1.1
theorem k0_mult1_dvd : ∀ (i : grid0.Coords) (v2 : BitVec 32) (k0_hw1 : k0_chk1 i v2) (k0_t1 : Fin (k0_t1_loop i v2).trips), 128 ∣ (k0_mult1 i v2 k0_t1).toNat := fun i v2 k0_hw1 k0_t1 => k0_hw1.1.2.1 k0_t1
theorem k0_off2_inb : ∀ (i : grid0.Coords) (v2 : BitVec 32) (k0_hw1 : k0_chk1 i v2) (k0_t1 : Fin (k0_t1_loop i v2).trips), ∀ a, (k0_off2 i v2 k0_t1) a + S1x1x128x512.size a ≤ S1x1x128x33280.size a := fun i v2 k0_hw1 k0_t1 => k0_hw1.1.2.2.1 k0_t1
theorem k0_mult2_dvd : ∀ (i : grid0.Coords) (v2 : BitVec 32) (k0_hw1 : k0_chk1 i v2) (k0_t1 : Fin (k0_t1_loop i v2).trips), 128 ∣ (k0_mult2 i v2 k0_t1).toNat := fun i v2 k0_hw1 k0_t1 => k0_hw1.1.2.2.2.1 k0_t1
theorem k0_off3_inb : ∀ (i : grid0.Coords) (v2 : BitVec 32) (k0_hw1 : k0_chk1 i v2) (k0_t1 : Fin (k0_t1_loop i v2).trips), ∀ (r : Fin 4), ∀ a, (k0_off3 i v2 k0_t1 (BitVec.ofNat 32 (128 * r.val))) a + S1x1x1x128.size a ≤ S1x1x1x33280.size a := fun i v2 k0_hw1 k0_t1 r => k0_hw1.1.2.2.2.2.1 k0_t1 r
theorem k0_mult3_dvd : ∀ (i : grid0.Coords) (v2 : BitVec 32) (k0_hw1 : k0_chk1 i v2) (k0_t1 : Fin (k0_t1_loop i v2).trips), 128 ∣ (k0_mult3 i v2 k0_t1).toNat := fun i v2 k0_hw1 k0_t1 => k0_hw1.1.2.2.2.2.2.1 k0_t1
theorem k0_mult4_dvd : ∀ (i : grid0.Coords) (v2 : BitVec 32) (k0_hw1 : k0_chk1 i v2) (k0_t1 : Fin (k0_t1_loop i v2).trips), 128 ∣ (k0_mult4 i v2 k0_t1).toNat := fun i v2 k0_hw1 k0_t1 => k0_hw1.1.2.2.2.2.2.2.1 k0_t1
theorem k0_mult5_dvd : ∀ (i : grid0.Coords) (v2 : BitVec 32) (k0_hw1 : k0_chk1 i v2) (k0_t1 : Fin (k0_t1_loop i v2).trips), 128 ∣ (k0_mult5 i v2 k0_t1).toNat := fun i v2 k0_hw1 k0_t1 => k0_hw1.1.2.2.2.2.2.2.2.1 k0_t1
theorem k0_mult6_dvd : ∀ (i : grid0.Coords) (v2 : BitVec 32) (k0_hw1 : k0_chk1 i v2) (k0_t1 : Fin (k0_t1_loop i v2).trips), 128 ∣ (k0_mult6 i v2 k0_t1).toNat := fun i v2 k0_hw1 k0_t1 => k0_hw1.1.2.2.2.2.2.2.2.2.1 k0_t1
theorem k0_mult7_dvd : ∀ (i : grid0.Coords) (v2 : BitVec 32) (k0_hw1 : k0_chk1 i v2) (k0_t1 : Fin (k0_t1_loop i v2).trips), 128 ∣ (k0_mult7 i v2 k0_t1).toNat := fun i v2 k0_hw1 k0_t1 => k0_hw1.1.2.2.2.2.2.2.2.2.2.1 k0_t1
theorem k0_mult8_dvd : ∀ (i : grid0.Coords) (v2 : BitVec 32) (k0_hw1 : k0_chk1 i v2) (k0_t1 : Fin (k0_t1_loop i v2).trips), 128 ∣ (k0_mult8 i v2 k0_t1).toNat := fun i v2 k0_hw1 k0_t1 => k0_hw1.1.2.2.2.2.2.2.2.2.2.2.1 k0_t1
theorem k0_mult9_dvd : ∀ (i : grid0.Coords) (v2 : BitVec 32) (k0_hw1 : k0_chk1 i v2) (k0_t1 : Fin (k0_t1_loop i v2).trips), 128 ∣ (k0_mult9 i v2 k0_t1).toNat := fun i v2 k0_hw1 k0_t1 => k0_hw1.1.2.2.2.2.2.2.2.2.2.2.2.1 k0_t1
theorem k0_mult10_dvd : ∀ (i : grid0.Coords) (v2 : BitVec 32) (k0_hw1 : k0_chk1 i v2) (k0_t1 : Fin (k0_t1_loop i v2).trips), 128 ∣ (k0_mult10 i v2 k0_t1).toNat := fun i v2 k0_hw1 k0_t1 => k0_hw1.1.2.2.2.2.2.2.2.2.2.2.2.2.1 k0_t1
theorem k0_mult11_dvd : ∀ (i : grid0.Coords) (v2 : BitVec 32) (k0_hw1 : k0_chk1 i v2) (k0_t1 : Fin (k0_t1_loop i v2).trips), 128 ∣ (k0_mult11 i v2 k0_t1).toNat := fun i v2 k0_hw1 k0_t1 => k0_hw1.1.2.2.2.2.2.2.2.2.2.2.2.2.2.1 k0_t1
theorem k0_mult12_dvd : ∀ (i : grid0.Coords) (v2 : BitVec 32) (k0_hw1 : k0_chk1 i v2) (k0_t1 : Fin (k0_t1_loop i v2).trips), 128 ∣ (k0_mult12 i v2 k0_t1).toNat := fun i v2 k0_hw1 k0_t1 => k0_hw1.1.2.2.2.2.2.2.2.2.2.2.2.2.2.2.1 k0_t1
theorem k0_mult13_dvd : ∀ (i : grid0.Coords) (v2 : BitVec 32) (k0_hw1 : k0_chk1 i v2) (k0_t1 : Fin (k0_t1_loop i v2).trips), 128 ∣ (k0_mult13 i v2 k0_t1).toNat := fun i v2 k0_hw1 k0_t1 => k0_hw1.1.2.2.2.2.2.2.2.2.2.2.2.2.2.2.2.1 k0_t1
theorem k0_mult14_dvd : ∀ (i : grid0.Coords) (v2 : BitVec 32) (k0_hw1 : k0_chk1 i v2) (k0_t1 : Fin (k0_t1_loop i v2).trips), 128 ∣ (k0_mult14 i v2 k0_t1).toNat := fun i v2 k0_hw1 k0_t1 => k0_hw1.1.2.2.2.2.2.2.2.2.2.2.2.2.2.2.2.2.1 k0_t1
theorem k0_mult15_dvd : ∀ (i : grid0.Coords) (v2 : BitVec 32) (k0_hw1 : k0_chk1 i v2) (k0_t1 : Fin (k0_t1_loop i v2).trips), 128 ∣ (k0_mult15 i v2 k0_t1).toNat := fun i v2 k0_hw1 k0_t1 => k0_hw1.1.2.2.2.2.2.2.2.2.2.2.2.2.2.2.2.2.2.1 k0_t1
theorem k0_mult16_dvd : ∀ (i : grid0.Coords) (v2 : BitVec 32) (k0_hw1 : k0_chk1 i v2) (k0_t1 : Fin (k0_t1_loop i v2).trips), 128 ∣ (k0_mult16 i v2 k0_t1).toNat := fun i v2 k0_hw1 k0_t1 => k0_hw1.1.2.2.2.2.2.2.2.2.2.2.2.2.2.2.2.2.2.2.1 k0_t1
theorem k0_mult17_dvd : ∀ (i : grid0.Coords) (v2 : BitVec 32) (k0_hw1 : k0_chk1 i v2) (k0_t1 : Fin (k0_t1_loop i v2).trips), 128 ∣ (k0_mult17 i v2 k0_t1).toNat := fun i v2 k0_hw1 k0_t1 => k0_hw1.1.2.2.2.2.2.2.2.2.2.2.2.2.2.2.2.2.2.2.2.1 k0_t1
theorem k0_mult18_dvd : ∀ (i : grid0.Coords) (v2 : BitVec 32) (k0_hw1 : k0_chk1 i v2) (k0_t1 : Fin (k0_t1_loop i v2).trips), 128 ∣ (k0_mult18 i v2 k0_t1).toNat := fun i v2 k0_hw1 k0_t1 => k0_hw1.1.2.2.2.2.2.2.2.2.2.2.2.2.2.2.2.2.2.2.2.2.1 k0_t1
theorem k0_mult19_dvd : ∀ (i : grid0.Coords) (v2 : BitVec 32) (k0_hw1 : k0_chk1 i v2) (k0_t1 : Fin (k0_t1_loop i v2).trips), 128 ∣ (k0_mult19 i v2 k0_t1).toNat := fun i v2 k0_hw1 k0_t1 => k0_hw1.1.2.2.2.2.2.2.2.2.2.2.2.2.2.2.2.2.2.2.2.2.2.1 k0_t1
theorem k0_mult20_dvd : ∀ (i : grid0.Coords) (v2 : BitVec 32) (k0_hw1 : k0_chk1 i v2) (k0_t1 : Fin (k0_t1_loop i v2).trips), 128 ∣ (k0_mult20 i v2 k0_t1).toNat := fun i v2 k0_hw1 k0_t1 => k0_hw1.1.2.2.2.2.2.2.2.2.2.2.2.2.2.2.2.2.2.2.2.2.2.2.1 k0_t1
theorem k0_mult21_dvd : ∀ (i : grid0.Coords) (v2 : BitVec 32) (k0_hw1 : k0_chk1 i v2) (k0_t1 : Fin (k0_t1_loop i v2).trips), 128 ∣ (k0_mult21 i v2 k0_t1).toNat := fun i v2 k0_hw1 k0_t1 => k0_hw1.1.2.2.2.2.2.2.2.2.2.2.2.2.2.2.2.2.2.2.2.2.2.2.2.1 k0_t1
theorem k0_mult22_dvd : ∀ (i : grid0.Coords) (v2 : BitVec 32) (k0_hw1 : k0_chk1 i v2) (k0_t1 : Fin (k0_t1_loop i v2).trips), 128 ∣ (k0_mult22 i v2 k0_t1).toNat := fun i v2 k0_hw1 k0_t1 => k0_hw1.1.2.2.2.2.2.2.2.2.2.2.2.2.2.2.2.2.2.2.2.2.2.2.2.2.1 k0_t1
theorem k0_mult23_dvd : ∀ (i : grid0.Coords) (v2 : BitVec 32) (k0_hw1 : k0_chk1 i v2) (k0_t1 : Fin (k0_t1_loop i v2).trips), 128 ∣ (k0_mult23 i v2 k0_t1).toNat := fun i v2 k0_hw1 k0_t1 => k0_hw1.1.2.2.2.2.2.2.2.2.2.2.2.2.2.2.2.2.2.2.2.2.2.2.2.2.2.1 k0_t1
theorem k0_mult24_dvd : ∀ (i : grid0.Coords) (v2 : BitVec 32) (k0_hw1 : k0_chk1 i v2) (k0_t1 : Fin (k0_t1_loop i v2).trips), 128 ∣ (k0_mult24 i v2 k0_t1).toNat := fun i v2 k0_hw1 k0_t1 => k0_hw1.1.2.2.2.2.2.2.2.2.2.2.2.2.2.2.2.2.2.2.2.2.2.2.2.2.2.2.1 k0_t1
theorem k0_mult25_dvd : ∀ (i : grid0.Coords) (v2 : BitVec 32) (k0_hw1 : k0_chk1 i v2) (k0_t1 : Fin (k0_t1_loop i v2).trips), 128 ∣ (k0_mult25 i v2 k0_t1).toNat := fun i v2 k0_hw1 k0_t1 => k0_hw1.1.2.2.2.2.2.2.2.2.2.2.2.2.2.2.2.2.2.2.2.2.2.2.2.2.2.2.2.1 k0_t1
theorem k0_mult26_dvd : ∀ (i : grid0.Coords) (v2 : BitVec 32) (k0_hw1 : k0_chk1 i v2) (k0_t1 : Fin (k0_t1_loop i v2).trips), 128 ∣ (k0_mult26 i v2 k0_t1).toNat := fun i v2 k0_hw1 k0_t1 => k0_hw1.1.2.2.2.2.2.2.2.2.2.2.2.2.2.2.2.2.2.2.2.2.2.2.2.2.2.2.2.2.1 k0_t1
theorem k0_mult27_dvd : ∀ (i : grid0.Coords) (v2 : BitVec 32) (k0_hw1 : k0_chk1 i v2) (k0_t1 : Fin (k0_t1_loop i v2).trips), 128 ∣ (k0_mult27 i v2 k0_t1).toNat := fun i v2 k0_hw1 k0_t1 => k0_hw1.1.2.2.2.2.2.2.2.2.2.2.2.2.2.2.2.2.2.2.2.2.2.2.2.2.2.2.2.2.2.1 k0_t1
theorem k0_mult28_dvd : ∀ (i : grid0.Coords) (v2 : BitVec 32) (k0_hw1 : k0_chk1 i v2) (k0_t1 : Fin (k0_t1_loop i v2).trips), 128 ∣ (k0_mult28 i v2 k0_t1).toNat := fun i v2 k0_hw1 k0_t1 => k0_hw1.1.2.2.2.2.2.2.2.2.2.2.2.2.2.2.2.2.2.2.2.2.2.2.2.2.2.2.2.2.2.2.1 k0_t1
theorem k0_mult29_dvd : ∀ (i : grid0.Coords) (v2 : BitVec 32) (k0_hw1 : k0_chk1 i v2) (k0_t1 : Fin (k0_t1_loop i v2).trips), 128 ∣ (k0_mult29 i v2 k0_t1).toNat := fun i v2 k0_hw1 k0_t1 => k0_hw1.1.2.2.2.2.2.2.2.2.2.2.2.2.2.2.2.2.2.2.2.2.2.2.2.2.2.2.2.2.2.2.2 k0_t1
theorem k0_mult30_dvd : ∀ (i : grid0.Coords) (v2 : BitVec 32) (k0_hw1 : k0_chk1 i v2) (k0_t1 : Fin (k0_t1_loop i v2).trips), 128 ∣ (k0_mult30 i v2 k0_t1).toNat := fun i v2 k0_hw1 k0_t1 => k0_hw1.2.1.1 k0_t1
theorem k0_mult31_dvd : ∀ (i : grid0.Coords) (v2 : BitVec 32) (k0_hw1 : k0_chk1 i v2) (k0_t1 : Fin (k0_t1_loop i v2).trips), 128 ∣ (k0_mult31 i v2 k0_t1).toNat := fun i v2 k0_hw1 k0_t1 => k0_hw1.2.1.2.1 k0_t1
theorem k0_mult32_dvd : ∀ (i : grid0.Coords) (v2 : BitVec 32) (k0_hw1 : k0_chk1 i v2) (k0_t1 : Fin (k0_t1_loop i v2).trips), 128 ∣ (k0_mult32 i v2 k0_t1).toNat := fun i v2 k0_hw1 k0_t1 => k0_hw1.2.1.2.2.1 k0_t1
theorem k0_mult33_dvd : ∀ (i : grid0.Coords) (v2 : BitVec 32) (k0_hw1 : k0_chk1 i v2) (k0_t1 : Fin (k0_t1_loop i v2).trips), 128 ∣ (k0_mult33 i v2 k0_t1).toNat := fun i v2 k0_hw1 k0_t1 => k0_hw1.2.1.2.2.2.1 k0_t1
theorem k0_t2_ok : ∀ (i : grid0.Coords) (v2 : BitVec 32) (k0_hw1 : k0_chk1 i v2), (k0_t2_loop i v2).OK := fun i v2 k0_hw1 => k0_hw1.2.1.2.2.2.2.1
theorem k0_mult34_dvd : ∀ (i : grid0.Coords) (v2 : BitVec 32) (k0_hw1 : k0_chk1 i v2) (k0_t2 : Fin (k0_t2_loop i v2).trips), 128 ∣ (k0_mult34 i v2 k0_t2).toNat := fun i v2 k0_hw1 k0_t2 => k0_hw1.2.1.2.2.2.2.2.1 k0_t2
theorem k0_off4_inb : ∀ (i : grid0.Coords) (v2 : BitVec 32) (k0_hw1 : k0_chk1 i v2) (k0_t2 : Fin (k0_t2_loop i v2).trips), ∀ a, (k0_off4 i v2 k0_t2) a + S1x1x128x512.size a ≤ S1x1x128x33280.size a := fun i v2 k0_hw1 k0_t2 => k0_hw1.2.1.2.2.2.2.2.2.1 k0_t2
theorem k0_mult35_dvd : ∀ (i : grid0.Coords) (v2 : BitVec 32) (k0_hw1 : k0_chk1 i v2) (k0_t2 : Fin (k0_t2_loop i v2).trips), 128 ∣ (k0_mult35 i v2 k0_t2).toNat := fun i v2 k0_hw1 k0_t2 => k0_hw1.2.1.2.2.2.2.2.2.2.1 k0_t2
theorem k0_off5_inb : ∀ (i : grid0.Coords) (v2 : BitVec 32) (k0_hw1 : k0_chk1 i v2) (k0_t2 : Fin (k0_t2_loop i v2).trips), ∀ (r : Fin 4), ∀ a, (k0_off5 i v2 k0_t2 (BitVec.ofNat 32 (128 * r.val))) a + S1x1x1x128.size a ≤ S1x1x1x33280.size a := fun i v2 k0_hw1 k0_t2 r => k0_hw1.2.1.2.2.2.2.2.2.2.2.1 k0_t2 r
theorem k0_mult36_dvd : ∀ (i : grid0.Coords) (v2 : BitVec 32) (k0_hw1 : k0_chk1 i v2) (k0_t2 : Fin (k0_t2_loop i v2).trips), 128 ∣ (k0_mult36 i v2 k0_t2).toNat := fun i v2 k0_hw1 k0_t2 => k0_hw1.2.1.2.2.2.2.2.2.2.2.2.1 k0_t2
theorem k0_mult37_dvd : ∀ (i : grid0.Coords) (v2 : BitVec 32) (k0_hw1 : k0_chk1 i v2) (k0_t2 : Fin (k0_t2_loop i v2).trips), 128 ∣ (k0_mult37 i v2 k0_t2).toNat := fun i v2 k0_hw1 k0_t2 => k0_hw1.2.1.2.2.2.2.2.2.2.2.2.2.1 k0_t2
theorem k0_mult38_dvd : ∀ (i : grid0.Coords) (v2 : BitVec 32) (k0_hw1 : k0_chk1 i v2) (k0_t2 : Fin (k0_t2_loop i v2).trips), 128 ∣ (k0_mult38 i v2 k0_t2).toNat := fun i v2 k0_hw1 k0_t2 => k0_hw1.2.1.2.2.2.2.2.2.2.2.2.2.2.1 k0_t2
theorem k0_mult39_dvd : ∀ (i : grid0.Coords) (v2 : BitVec 32) (k0_hw1 : k0_chk1 i v2) (k0_t2 : Fin (k0_t2_loop i v2).trips), 128 ∣ (k0_mult39 i v2 k0_t2).toNat := fun i v2 k0_hw1 k0_t2 => k0_hw1.2.1.2.2.2.2.2.2.2.2.2.2.2.2.1 k0_t2
theorem k0_mult40_dvd : ∀ (i : grid0.Coords) (v2 : BitVec 32) (k0_hw1 : k0_chk1 i v2) (k0_t2 : Fin (k0_t2_loop i v2).trips), 128 ∣ (k0_mult40 i v2 k0_t2).toNat := fun i v2 k0_hw1 k0_t2 => k0_hw1.2.1.2.2.2.2.2.2.2.2.2.2.2.2.2.1 k0_t2
theorem k0_mult41_dvd : ∀ (i : grid0.Coords) (v2 : BitVec 32) (k0_hw1 : k0_chk1 i v2) (k0_t2 : Fin (k0_t2_loop i v2).trips), 128 ∣ (k0_mult41 i v2 k0_t2).toNat := fun i v2 k0_hw1 k0_t2 => k0_hw1.2.1.2.2.2.2.2.2.2.2.2.2.2.2.2.2.1 k0_t2
theorem k0_mult42_dvd : ∀ (i : grid0.Coords) (v2 : BitVec 32) (k0_hw1 : k0_chk1 i v2) (k0_t2 : Fin (k0_t2_loop i v2).trips), 128 ∣ (k0_mult42 i v2 k0_t2).toNat := fun i v2 k0_hw1 k0_t2 => k0_hw1.2.1.2.2.2.2.2.2.2.2.2.2.2.2.2.2.2.1 k0_t2
theorem k0_mult43_dvd : ∀ (i : grid0.Coords) (v2 : BitVec 32) (k0_hw1 : k0_chk1 i v2) (k0_t2 : Fin (k0_t2_loop i v2).trips), 128 ∣ (k0_mult43 i v2 k0_t2).toNat := fun i v2 k0_hw1 k0_t2 => k0_hw1.2.1.2.2.2.2.2.2.2.2.2.2.2.2.2.2.2.2.1 k0_t2
theorem k0_mult44_dvd : ∀ (i : grid0.Coords) (v2 : BitVec 32) (k0_hw1 : k0_chk1 i v2) (k0_t2 : Fin (k0_t2_loop i v2).trips), 128 ∣ (k0_mult44 i v2 k0_t2).toNat := fun i v2 k0_hw1 k0_t2 => k0_hw1.2.1.2.2.2.2.2.2.2.2.2.2.2.2.2.2.2.2.2.1 k0_t2
theorem k0_mult45_dvd : ∀ (i : grid0.Coords) (v2 : BitVec 32) (k0_hw1 : k0_chk1 i v2) (k0_t2 : Fin (k0_t2_loop i v2).trips), 128 ∣ (k0_mult45 i v2 k0_t2).toNat := fun i v2 k0_hw1 k0_t2 => k0_hw1.2.1.2.2.2.2.2.2.2.2.2.2.2.2.2.2.2.2.2.2.1 k0_t2
theorem k0_mult46_dvd : ∀ (i : grid0.Coords) (v2 : BitVec 32) (k0_hw1 : k0_chk1 i v2) (k0_t2 : Fin (k0_t2_loop i v2).trips), 128 ∣ (k0_mult46 i v2 k0_t2).toNat := fun i v2 k0_hw1 k0_t2 => k0_hw1.2.1.2.2.2.2.2.2.2.2.2.2.2.2.2.2.2.2.2.2.2.1 k0_t2
theorem k0_mult47_dvd : ∀ (i : grid0.Coords) (v2 : BitVec 32) (k0_hw1 : k0_chk1 i v2) (k0_t2 : Fin (k0_t2_loop i v2).trips), 128 ∣ (k0_mult47 i v2 k0_t2).toNat := fun i v2 k0_hw1 k0_t2 => k0_hw1.2.1.2.2.2.2.2.2.2.2.2.2.2.2.2.2.2.2.2.2.2.2.1 k0_t2
theorem k0_mult48_dvd : ∀ (i : grid0.Coords) (v2 : BitVec 32) (k0_hw1 : k0_chk1 i v2) (k0_t2 : Fin (k0_t2_loop i v2).trips), 128 ∣ (k0_mult48 i v2 k0_t2).toNat := fun i v2 k0_hw1 k0_t2 => k0_hw1.2.1.2.2.2.2.2.2.2.2.2.2.2.2.2.2.2.2.2.2.2.2.2.1 k0_t2
theorem k0_mult49_dvd : ∀ (i : grid0.Coords) (v2 : BitVec 32) (k0_hw1 : k0_chk1 i v2) (k0_t2 : Fin (k0_t2_loop i v2).trips), 128 ∣ (k0_mult49 i v2 k0_t2).toNat := fun i v2 k0_hw1 k0_t2 => k0_hw1.2.1.2.2.2.2.2.2.2.2.2.2.2.2.2.2.2.2.2.2.2.2.2.2.1 k0_t2
theorem k0_mult50_dvd : ∀ (i : grid0.Coords) (v2 : BitVec 32) (k0_hw1 : k0_chk1 i v2) (k0_t2 : Fin (k0_t2_loop i v2).trips), 128 ∣ (k0_mult50 i v2 k0_t2).toNat := fun i v2 k0_hw1 k0_t2 => k0_hw1.2.1.2.2.2.2.2.2.2.2.2.2.2.2.2.2.2.2.2.2.2.2.2.2.2.1 k0_t2
theorem k0_mult51_dvd : ∀ (i : grid0.Coords) (v2 : BitVec 32) (k0_hw1 : k0_chk1 i v2) (k0_t2 : Fin (k0_t2_loop i v2).trips), 128 ∣ (k0_mult51 i v2 k0_t2).toNat := fun i v2 k0_hw1 k0_t2 => k0_hw1.2.1.2.2.2.2.2.2.2.2.2.2.2.2.2.2.2.2.2.2.2.2.2.2.2.2.1 k0_t2
theorem k0_mult52_dvd : ∀ (i : grid0.Coords) (v2 : BitVec 32) (k0_hw1 : k0_chk1 i v2) (k0_t2 : Fin (k0_t2_loop i v2).trips), 128 ∣ (k0_mult52 i v2 k0_t2).toNat := fun i v2 k0_hw1 k0_t2 => k0_hw1.2.1.2.2.2.2.2.2.2.2.2.2.2.2.2.2.2.2.2.2.2.2.2.2.2.2.2.1 k0_t2
theorem k0_mult53_dvd : ∀ (i : grid0.Coords) (v2 : BitVec 32) (k0_hw1 : k0_chk1 i v2) (k0_t2 : Fin (k0_t2_loop i v2).trips), 128 ∣ (k0_mult53 i v2 k0_t2).toNat := fun i v2 k0_hw1 k0_t2 => k0_hw1.2.1.2.2.2.2.2.2.2.2.2.2.2.2.2.2.2.2.2.2.2.2.2.2.2.2.2.2.1 k0_t2
theorem k0_mult54_dvd : ∀ (i : grid0.Coords) (v2 : BitVec 32) (k0_hw1 : k0_chk1 i v2) (k0_t2 : Fin (k0_t2_loop i v2).trips), 128 ∣ (k0_mult54 i v2 k0_t2).toNat := fun i v2 k0_hw1 k0_t2 => k0_hw1.2.1.2.2.2.2.2.2.2.2.2.2.2.2.2.2.2.2.2.2.2.2.2.2.2.2.2.2.2.1 k0_t2
theorem k0_mult55_dvd : ∀ (i : grid0.Coords) (v2 : BitVec 32) (k0_hw1 : k0_chk1 i v2) (k0_t2 : Fin (k0_t2_loop i v2).trips), 128 ∣ (k0_mult55 i v2 k0_t2).toNat := fun i v2 k0_hw1 k0_t2 => k0_hw1.2.1.2.2.2.2.2.2.2.2.2.2.2.2.2.2.2.2.2.2.2.2.2.2.2.2.2.2.2.2.1 k0_t2
theorem k0_mult56_dvd : ∀ (i : grid0.Coords) (v2 : BitVec 32) (k0_hw1 : k0_chk1 i v2) (k0_t2 : Fin (k0_t2_loop i v2).trips), 128 ∣ (k0_mult56 i v2 k0_t2).toNat := fun i v2 k0_hw1 k0_t2 => k0_hw1.2.1.2.2.2.2.2.2.2.2.2.2.2.2.2.2.2.2.2.2.2.2.2.2.2.2.2.2.2.2.2.1 k0_t2
theorem k0_mult57_dvd : ∀ (i : grid0.Coords) (v2 : BitVec 32) (k0_hw1 : k0_chk1 i v2) (k0_t2 : Fin (k0_t2_loop i v2).trips), 128 ∣ (k0_mult57 i v2 k0_t2).toNat := fun i v2 k0_hw1 k0_t2 => k0_hw1.2.1.2.2.2.2.2.2.2.2.2.2.2.2.2.2.2.2.2.2.2.2.2.2.2.2.2.2.2.2.2.2.1 k0_t2
theorem k0_mult58_dvd : ∀ (i : grid0.Coords) (v2 : BitVec 32) (k0_hw1 : k0_chk1 i v2) (k0_t2 : Fin (k0_t2_loop i v2).trips), 128 ∣ (k0_mult58 i v2 k0_t2).toNat := fun i v2 k0_hw1 k0_t2 => k0_hw1.2.1.2.2.2.2.2.2.2.2.2.2.2.2.2.2.2.2.2.2.2.2.2.2.2.2.2.2.2.2.2.2.2 k0_t2
theorem k0_mult59_dvd : ∀ (i : grid0.Coords) (v2 : BitVec 32) (k0_hw1 : k0_chk1 i v2) (k0_t2 : Fin (k0_t2_loop i v2).trips), 128 ∣ (k0_mult59 i v2 k0_t2).toNat := fun i v2 k0_hw1 k0_t2 => k0_hw1.2.2.1.1 k0_t2
theorem k0_mult60_dvd : ∀ (i : grid0.Coords) (v2 : BitVec 32) (k0_hw1 : k0_chk1 i v2) (k0_t2 : Fin (k0_t2_loop i v2).trips), 128 ∣ (k0_mult60 i v2 k0_t2).toNat := fun i v2 k0_hw1 k0_t2 => k0_hw1.2.2.1.2.1 k0_t2
theorem k0_mult61_dvd : ∀ (i : grid0.Coords) (v2 : BitVec 32) (k0_hw1 : k0_chk1 i v2) (k0_t2 : Fin (k0_t2_loop i v2).trips), 128 ∣ (k0_mult61 i v2 k0_t2).toNat := fun i v2 k0_hw1 k0_t2 => k0_hw1.2.2.1.2.2.1 k0_t2
theorem k0_mult62_dvd : ∀ (i : grid0.Coords) (v2 : BitVec 32) (k0_hw1 : k0_chk1 i v2) (k0_t2 : Fin (k0_t2_loop i v2).trips), 128 ∣ (k0_mult62 i v2 k0_t2).toNat := fun i v2 k0_hw1 k0_t2 => k0_hw1.2.2.1.2.2.2.1 k0_t2
theorem k0_mult63_dvd : ∀ (i : grid0.Coords) (v2 : BitVec 32) (k0_hw1 : k0_chk1 i v2) (k0_t2 : Fin (k0_t2_loop i v2).trips), 128 ∣ (k0_mult63 i v2 k0_t2).toNat := fun i v2 k0_hw1 k0_t2 => k0_hw1.2.2.1.2.2.2.2.1 k0_t2
theorem k0_mult64_dvd : ∀ (i : grid0.Coords) (v2 : BitVec 32) (k0_hw1 : k0_chk1 i v2) (k0_t2 : Fin (k0_t2_loop i v2).trips), 128 ∣ (k0_mult64 i v2 k0_t2).toNat := fun i v2 k0_hw1 k0_t2 => k0_hw1.2.2.1.2.2.2.2.2.1 k0_t2
theorem k0_mult65_dvd : ∀ (i : grid0.Coords) (v2 : BitVec 32) (k0_hw1 : k0_chk1 i v2) (k0_t2 : Fin (k0_t2_loop i v2).trips), 128 ∣ (k0_mult65 i v2 k0_t2).toNat := fun i v2 k0_hw1 k0_t2 => k0_hw1.2.2.1.2.2.2.2.2.2.1 k0_t2
theorem k0_mult66_dvd : ∀ (i : grid0.Coords) (v2 : BitVec 32) (k0_hw1 : k0_chk1 i v2) (k0_t2 : Fin (k0_t2_loop i v2).trips), 128 ∣ (k0_mult66 i v2 k0_t2).toNat := fun i v2 k0_hw1 k0_t2 => k0_hw1.2.2.1.2.2.2.2.2.2.2.1 k0_t2
theorem k0_t3_ok : ∀ (i : grid0.Coords) (v2 : BitVec 32) (k0_hw1 : k0_chk1 i v2), (k0_t3_loop i v2).OK := fun i v2 k0_hw1 => k0_hw1.2.2.1.2.2.2.2.2.2.2.2.1
theorem k0_mult67_dvd : ∀ (i : grid0.Coords) (v2 : BitVec 32) (k0_hw1 : k0_chk1 i v2) (k0_t3 : Fin (k0_t3_loop i v2).trips), 128 ∣ (k0_mult67 i v2 k0_t3).toNat := fun i v2 k0_hw1 k0_t3 => k0_hw1.2.2.1.2.2.2.2.2.2.2.2.2.1 k0_t3
theorem k0_off6_inb : ∀ (i : grid0.Coords) (v2 : BitVec 32) (k0_hw1 : k0_chk1 i v2) (k0_t3 : Fin (k0_t3_loop i v2).trips), ∀ a, (k0_off6 i v2 k0_t3) a + S1x1x128x512.size a ≤ S1x1x128x33280.size a := fun i v2 k0_hw1 k0_t3 => k0_hw1.2.2.1.2.2.2.2.2.2.2.2.2.2.1 k0_t3
theorem k0_mult68_dvd : ∀ (i : grid0.Coords) (v2 : BitVec 32) (k0_hw1 : k0_chk1 i v2) (k0_t3 : Fin (k0_t3_loop i v2).trips), 128 ∣ (k0_mult68 i v2 k0_t3).toNat := fun i v2 k0_hw1 k0_t3 => k0_hw1.2.2.1.2.2.2.2.2.2.2.2.2.2.2.1 k0_t3
theorem k0_off7_inb : ∀ (i : grid0.Coords) (v2 : BitVec 32) (k0_hw1 : k0_chk1 i v2) (k0_t3 : Fin (k0_t3_loop i v2).trips), ∀ (r : Fin 4), ∀ a, (k0_off7 i v2 k0_t3 (BitVec.ofNat 32 (128 * r.val))) a + S1x1x1x128.size a ≤ S1x1x1x33280.size a := fun i v2 k0_hw1 k0_t3 r => k0_hw1.2.2.1.2.2.2.2.2.2.2.2.2.2.2.2.1 k0_t3 r
theorem k0_mult69_dvd : ∀ (i : grid0.Coords) (v2 : BitVec 32) (k0_hw1 : k0_chk1 i v2) (k0_t3 : Fin (k0_t3_loop i v2).trips), 128 ∣ (k0_mult69 i v2 k0_t3).toNat := fun i v2 k0_hw1 k0_t3 => k0_hw1.2.2.1.2.2.2.2.2.2.2.2.2.2.2.2.2.1 k0_t3
theorem k0_mult70_dvd : ∀ (i : grid0.Coords) (v2 : BitVec 32) (k0_hw1 : k0_chk1 i v2) (k0_t3 : Fin (k0_t3_loop i v2).trips), 128 ∣ (k0_mult70 i v2 k0_t3).toNat := fun i v2 k0_hw1 k0_t3 => k0_hw1.2.2.1.2.2.2.2.2.2.2.2.2.2.2.2.2.2.1 k0_t3
theorem k0_mult71_dvd : ∀ (i : grid0.Coords) (v2 : BitVec 32) (k0_hw1 : k0_chk1 i v2) (k0_t3 : Fin (k0_t3_loop i v2).trips), 128 ∣ (k0_mult71 i v2 k0_t3).toNat := fun i v2 k0_hw1 k0_t3 => k0_hw1.2.2.1.2.2.2.2.2.2.2.2.2.2.2.2.2.2.2.1 k0_t3
theorem k0_mult72_dvd : ∀ (i : grid0.Coords) (v2 : BitVec 32) (k0_hw1 : k0_chk1 i v2) (k0_t3 : Fin (k0_t3_loop i v2).trips), 128 ∣ (k0_mult72 i v2 k0_t3).toNat := fun i v2 k0_hw1 k0_t3 => k0_hw1.2.2.1.2.2.2.2.2.2.2.2.2.2.2.2.2.2.2.2.1 k0_t3
theorem k0_off8_inb : ∀ (i : grid0.Coords) (v2 : BitVec 32) (k0_hw1 : k0_chk1 i v2) (k0_t3 : Fin (k0_t3_loop i v2).trips), ∀ a, (k0_off8 i v2 k0_t3) a + S1x32x128.size a ≤ S64x256x512.size a := fun i v2 k0_hw1 k0_t3 => k0_hw1.2.2.1.2.2.2.2.2.2.2.2.2.2.2.2.2.2.2.2.2.1 k0_t3
theorem k0_mult73_dvd : ∀ (i : grid0.Coords) (v2 : BitVec 32) (k0_hw1 : k0_chk1 i v2) (k0_t3 : Fin (k0_t3_loop i v2).trips), 128 ∣ (k0_mult73 i v2 k0_t3).toNat := fun i v2 k0_hw1 k0_t3 => k0_hw1.2.2.1.2.2.2.2.2.2.2.2.2.2.2.2.2.2.2.2.2.2.1 k0_t3
theorem k0_off9_inb : ∀ (i : grid0.Coords) (v2 : BitVec 32) (k0_hw1 : k0_chk1 i v2) (k0_t3 : Fin (k0_t3_loop i v2).trips), ∀ a, (k0_off9 i v2 k0_t3) a + S1x32x128.size a ≤ S64x256x512.size a := fun i v2 k0_hw1 k0_t3 => k0_hw1.2.2.1.2.2.2.2.2.2.2.2.2.2.2.2.2.2.2.2.2.2.2.1 k0_t3
theorem k0_mult74_dvd : ∀ (i : grid0.Coords) (v2 : BitVec 32) (k0_hw1 : k0_chk1 i v2) (k0_t3 : Fin (k0_t3_loop i v2).trips), 128 ∣ (k0_mult74 i v2 k0_t3).toNat := fun i v2 k0_hw1 k0_t3 => k0_hw1.2.2.1.2.2.2.2.2.2.2.2.2.2.2.2.2.2.2.2.2.2.2.2.1 k0_t3
theorem k0_off10_inb : ∀ (i : grid0.Coords) (v2 : BitVec 32) (k0_hw1 : k0_chk1 i v2) (k0_t3 : Fin (k0_t3_loop i v2).trips), ∀ a, (k0_off10 i v2 k0_t3) a + S1x32x128.size a ≤ S64x256x512.size a := fun i v2 k0_hw1 k0_t3 => k0_hw1.2.2.1.2.2.2.2.2.2.2.2.2.2.2.2.2.2.2.2.2.2.2.2.2.1 k0_t3
theorem k0_mult75_dvd : ∀ (i : grid0.Coords) (v2 : BitVec 32) (k0_hw1 : k0_chk1 i v2) (k0_t3 : Fin (k0_t3_loop i v2).trips), 128 ∣ (k0_mult75 i v2 k0_t3).toNat := fun i v2 k0_hw1 k0_t3 => k0_hw1.2.2.1.2.2.2.2.2.2.2.2.2.2.2.2.2.2.2.2.2.2.2.2.2.2.1 k0_t3
theorem k0_off11_inb : ∀ (i : grid0.Coords) (v2 : BitVec 32) (k0_hw1 : k0_chk1 i v2) (k0_t3 : Fin (k0_t3_loop i v2).trips), ∀ a, (k0_off11 i v2 k0_t3) a + S1x32x128.size a ≤ S64x256x512.size a := fun i v2 k0_hw1 k0_t3 => k0_hw1.2.2.1.2.2.2.2.2.2.2.2.2.2.2.2.2.2.2.2.2.2.2.2.2.2.2.1 k0_t3
theorem k0_mult76_dvd : ∀ (i : grid0.Coords) (v2 : BitVec 32) (k0_hw1 : k0_chk1 i v2) (k0_t3 : Fin (k0_t3_loop i v2).trips), 128 ∣ (k0_mult76 i v2 k0_t3).toNat := fun i v2 k0_hw1 k0_t3 => k0_hw1.2.2.1.2.2.2.2.2.2.2.2.2.2.2.2.2.2.2.2.2.2.2.2.2.2.2.2.1 k0_t3
theorem k0_mult77_dvd : ∀ (i : grid0.Coords) (v2 : BitVec 32) (k0_hw1 : k0_chk1 i v2) (k0_t3 : Fin (k0_t3_loop i v2).trips), 128 ∣ (k0_mult77 i v2 k0_t3).toNat := fun i v2 k0_hw1 k0_t3 => k0_hw1.2.2.1.2.2.2.2.2.2.2.2.2.2.2.2.2.2.2.2.2.2.2.2.2.2.2.2.2.1 k0_t3
theorem k0_mult78_dvd : ∀ (i : grid0.Coords) (v2 : BitVec 32) (k0_hw1 : k0_chk1 i v2) (k0_t3 : Fin (k0_t3_loop i v2).trips), 128 ∣ (k0_mult78 i v2 k0_t3).toNat := fun i v2 k0_hw1 k0_t3 => k0_hw1.2.2.1.2.2.2.2.2.2.2.2.2.2.2.2.2.2.2.2.2.2.2.2.2.2.2.2.2.2.1 k0_t3
theorem k0_mult79_dvd : ∀ (i : grid0.Coords) (v2 : BitVec 32) (k0_hw1 : k0_chk1 i v2) (k0_t3 : Fin (k0_t3_loop i v2).trips), 128 ∣ (k0_mult79 i v2 k0_t3).toNat := fun i v2 k0_hw1 k0_t3 => k0_hw1.2.2.1.2.2.2.2.2.2.2.2.2.2.2.2.2.2.2.2.2.2.2.2.2.2.2.2.2.2.2.1 k0_t3
theorem k0_mult80_dvd : ∀ (i : grid0.Coords) (v2 : BitVec 32) (k0_hw1 : k0_chk1 i v2) (k0_t3 : Fin (k0_t3_loop i v2).trips), 128 ∣ (k0_mult80 i v2 k0_t3).toNat := fun i v2 k0_hw1 k0_t3 => k0_hw1.2.2.1.2.2.2.2.2.2.2.2.2.2.2.2.2.2.2.2.2.2.2.2.2.2.2.2.2.2.2.2.1 k0_t3
theorem k0_off12_inb : ∀ (i : grid0.Coords) (v2 : BitVec 32) (k0_hw1 : k0_chk1 i v2) (k0_t3 : Fin (k0_t3_loop i v2).trips), ∀ a, (k0_off12 i v2 k0_t3) a + S1x32x128.size a ≤ S64x256x512.size a := fun i v2 k0_hw1 k0_t3 => k0_hw1.2.2.1.2.2.2.2.2.2.2.2.2.2.2.2.2.2.2.2.2.2.2.2.2.2.2.2.2.2.2.2.2.1 k0_t3
theorem k0_mult81_dvd : ∀ (i : grid0.Coords) (v2 : BitVec 32) (k0_hw1 : k0_chk1 i v2) (k0_t3 : Fin (k0_t3_loop i v2).trips), 128 ∣ (k0_mult81 i v2 k0_t3).toNat := fun i v2 k0_hw1 k0_t3 => k0_hw1.2.2.1.2.2.2.2.2.2.2.2.2.2.2.2.2.2.2.2.2.2.2.2.2.2.2.2.2.2.2.2.2.2.1 k0_t3
theorem k0_off13_inb : ∀ (i : grid0.Coords) (v2 : BitVec 32) (k0_hw1 : k0_chk1 i v2) (k0_t3 : Fin (k0_t3_loop i v2).trips), ∀ a, (k0_off13 i v2 k0_t3) a + S1x32x128.size a ≤ S64x256x512.size a := fun i v2 k0_hw1 k0_t3 => k0_hw1.2.2.1.2.2.2.2.2.2.2.2.2.2.2.2.2.2.2.2.2.2.2.2.2.2.2.2.2.2.2.2.2.2.2 k0_t3
theorem k0_mult82_dvd : ∀ (i : grid0.Coords) (v2 : BitVec 32) (k0_hw1 : k0_chk1 i v2) (k0_t3 : Fin (k0_t3_loop i v2).trips), 128 ∣ (k0_mult82 i v2 k0_t3).toNat := fun i v2 k0_hw1 k0_t3 => k0_hw1.2.2.2.1.1 k0_t3
theorem k0_off14_inb : ∀ (i : grid0.Coords) (v2 : BitVec 32) (k0_hw1 : k0_chk1 i v2) (k0_t3 : Fin (k0_t3_loop i v2).trips), ∀ a, (k0_off14 i v2 k0_t3) a + S1x32x128.size a ≤ S64x256x512.size a := fun i v2 k0_hw1 k0_t3 => k0_hw1.2.2.2.1.2.1 k0_t3
theorem k0_mult83_dvd : ∀ (i : grid0.Coords) (v2 : BitVec 32) (k0_hw1 : k0_chk1 i v2) (k0_t3 : Fin (k0_t3_loop i v2).trips), 128 ∣ (k0_mult83 i v2 k0_t3).toNat := fun i v2 k0_hw1 k0_t3 => k0_hw1.2.2.2.1.2.2.1 k0_t3
theorem k0_off15_inb : ∀ (i : grid0.Coords) (v2 : BitVec 32) (k0_hw1 : k0_chk1 i v2) (k0_t3 : Fin (k0_t3_loop i v2).trips), ∀ a, (k0_off15 i v2 k0_t3) a + S1x32x128.size a ≤ S64x256x512.size a := fun i v2 k0_hw1 k0_t3 => k0_hw1.2.2.2.1.2.2.2.1 k0_t3
theorem k0_mult84_dvd : ∀ (i : grid0.Coords) (v2 : BitVec 32) (k0_hw1 : k0_chk1 i v2) (k0_t3 : Fin (k0_t3_loop i v2).trips), 128 ∣ (k0_mult84 i v2 k0_t3).toNat := fun i v2 k0_hw1 k0_t3 => k0_hw1.2.2.2.1.2.2.2.2.1 k0_t3
theorem k0_mult85_dvd : ∀ (i : grid0.Coords) (v2 : BitVec 32) (k0_hw1 : k0_chk1 i v2) (k0_t3 : Fin (k0_t3_loop i v2).trips), 128 ∣ (k0_mult85 i v2 k0_t3).toNat := fun i v2 k0_hw1 k0_t3 => k0_hw1.2.2.2.1.2.2.2.2.2.1 k0_t3
theorem k0_mult86_dvd : ∀ (i : grid0.Coords) (v2 : BitVec 32) (k0_hw1 : k0_chk1 i v2) (k0_t3 : Fin (k0_t3_loop i v2).trips), 128 ∣ (k0_mult86 i v2 k0_t3).toNat := fun i v2 k0_hw1 k0_t3 => k0_hw1.2.2.2.1.2.2.2.2.2.2.1 k0_t3
theorem k0_mult87_dvd : ∀ (i : grid0.Coords) (v2 : BitVec 32) (k0_hw1 : k0_chk1 i v2) (k0_t3 : Fin (k0_t3_loop i v2).trips), 128 ∣ (k0_mult87 i v2 k0_t3).toNat := fun i v2 k0_hw1 k0_t3 => k0_hw1.2.2.2.1.2.2.2.2.2.2.2.1 k0_t3
theorem k0_mult88_dvd : ∀ (i : grid0.Coords) (v2 : BitVec 32) (k0_hw1 : k0_chk1 i v2) (k0_t3 : Fin (k0_t3_loop i v2).trips), 128 ∣ (k0_mult88 i v2 k0_t3).toNat := fun i v2 k0_hw1 k0_t3 => k0_hw1.2.2.2.1.2.2.2.2.2.2.2.2.1 k0_t3
theorem k0_off16_inb : ∀ (i : grid0.Coords) (v2 : BitVec 32) (k0_hw1 : k0_chk1 i v2) (k0_t3 : Fin (k0_t3_loop i v2).trips), ∀ a, (k0_off16 i v2 k0_t3) a + S1x32x128.size a ≤ S64x256x512.size a := fun i v2 k0_hw1 k0_t3 => k0_hw1.2.2.2.1.2.2.2.2.2.2.2.2.2.1 k0_t3
theorem k0_mult89_dvd : ∀ (i : grid0.Coords) (v2 : BitVec 32) (k0_hw1 : k0_chk1 i v2) (k0_t3 : Fin (k0_t3_loop i v2).trips), 128 ∣ (k0_mult89 i v2 k0_t3).toNat := fun i v2 k0_hw1 k0_t3 => k0_hw1.2.2.2.1.2.2.2.2.2.2.2.2.2.2.1 k0_t3
theorem k0_off17_inb : ∀ (i : grid0.Coords) (v2 : BitVec 32) (k0_hw1 : k0_chk1 i v2) (k0_t3 : Fin (k0_t3_loop i v2).trips), ∀ a, (k0_off17 i v2 k0_t3) a + S1x32x128.size a ≤ S64x256x512.size a := fun i v2 k0_hw1 k0_t3 => k0_hw1.2.2.2.1.2.2.2.2.2.2.2.2.2.2.2.1 k0_t3
theorem k0_mult90_dvd : ∀ (i : grid0.Coords) (v2 : BitVec 32) (k0_hw1 : k0_chk1 i v2) (k0_t3 : Fin (k0_t3_loop i v2).trips), 128 ∣ (k0_mult90 i v2 k0_t3).toNat := fun i v2 k0_hw1 k0_t3 => k0_hw1.2.2.2.1.2.2.2.2.2.2.2.2.2.2.2.2.1 k0_t3
theorem k0_off18_inb : ∀ (i : grid0.Coords) (v2 : BitVec 32) (k0_hw1 : k0_chk1 i v2) (k0_t3 : Fin (k0_t3_loop i v2).trips), ∀ a, (k0_off18 i v2 k0_t3) a + S1x32x128.size a ≤ S64x256x512.size a := fun i v2 k0_hw1 k0_t3 => k0_hw1.2.2.2.1.2.2.2.2.2.2.2.2.2.2.2.2.2.1 k0_t3
theorem k0_mult91_dvd : ∀ (i : grid0.Coords) (v2 : BitVec 32) (k0_hw1 : k0_chk1 i v2) (k0_t3 : Fin (k0_t3_loop i v2).trips), 128 ∣ (k0_mult91 i v2 k0_t3).toNat := fun i v2 k0_hw1 k0_t3 => k0_hw1.2.2.2.1.2.2.2.2.2.2.2.2.2.2.2.2.2.2.1 k0_t3
theorem k0_off19_inb : ∀ (i : grid0.Coords) (v2 : BitVec 32) (k0_hw1 : k0_chk1 i v2) (k0_t3 : Fin (k0_t3_loop i v2).trips), ∀ a, (k0_off19 i v2 k0_t3) a + S1x32x128.size a ≤ S64x256x512.size a := fun i v2 k0_hw1 k0_t3 => k0_hw1.2.2.2.1.2.2.2.2.2.2.2.2.2.2.2.2.2.2.2.1 k0_t3
theorem k0_mult92_dvd : ∀ (i : grid0.Coords) (v2 : BitVec 32) (k0_hw1 : k0_chk1 i v2) (k0_t3 : Fin (k0_t3_loop i v2).trips), 128 ∣ (k0_mult92 i v2 k0_t3).toNat := fun i v2 k0_hw1 k0_t3 => k0_hw1.2.2.2.1.2.2.2.2.2.2.2.2.2.2.2.2.2.2.2.2.1 k0_t3
theorem k0_mult93_dvd : ∀ (i : grid0.Coords) (v2 : BitVec 32) (k0_hw1 : k0_chk1 i v2) (k0_t3 : Fin (k0_t3_loop i v2).trips), 128 ∣ (k0_mult93 i v2 k0_t3).toNat := fun i v2 k0_hw1 k0_t3 => k0_hw1.2.2.2.1.2.2.2.2.2.2.2.2.2.2.2.2.2.2.2.2.2.1 k0_t3
theorem k0_mult94_dvd : ∀ (i : grid0.Coords) (v2 : BitVec 32) (k0_hw1 : k0_chk1 i v2) (k0_t3 : Fin (k0_t3_loop i v2).trips), 128 ∣ (k0_mult94 i v2 k0_t3).toNat := fun i v2 k0_hw1 k0_t3 => k0_hw1.2.2.2.1.2.2.2.2.2.2.2.2.2.2.2.2.2.2.2.2.2.2.1 k0_t3
theorem k0_mult95_dvd : ∀ (i : grid0.Coords) (v2 : BitVec 32) (k0_hw1 : k0_chk1 i v2) (k0_t3 : Fin (k0_t3_loop i v2).trips), 128 ∣ (k0_mult95 i v2 k0_t3).toNat := fun i v2 k0_hw1 k0_t3 => k0_hw1.2.2.2.1.2.2.2.2.2.2.2.2.2.2.2.2.2.2.2.2.2.2.2.1 k0_t3
theorem k0_mult96_dvd : ∀ (i : grid0.Coords) (v2 : BitVec 32) (k0_hw1 : k0_chk1 i v2) (k0_t3 : Fin (k0_t3_loop i v2).trips), 128 ∣ (k0_mult96 i v2 k0_t3).toNat := fun i v2 k0_hw1 k0_t3 => k0_hw1.2.2.2.1.2.2.2.2.2.2.2.2.2.2.2.2.2.2.2.2.2.2.2.2.1 k0_t3
theorem k0_off20_inb : ∀ (i : grid0.Coords) (v2 : BitVec 32) (k0_hw1 : k0_chk1 i v2) (k0_t3 : Fin (k0_t3_loop i v2).trips), ∀ a, (k0_off20 i v2 k0_t3) a + S1x32x128.size a ≤ S64x256x512.size a := fun i v2 k0_hw1 k0_t3 => k0_hw1.2.2.2.1.2.2.2.2.2.2.2.2.2.2.2.2.2.2.2.2.2.2.2.2.2.1 k0_t3
theorem k0_mult97_dvd : ∀ (i : grid0.Coords) (v2 : BitVec 32) (k0_hw1 : k0_chk1 i v2) (k0_t3 : Fin (k0_t3_loop i v2).trips), 128 ∣ (k0_mult97 i v2 k0_t3).toNat := fun i v2 k0_hw1 k0_t3 => k0_hw1.2.2.2.1.2.2.2.2.2.2.2.2.2.2.2.2.2.2.2.2.2.2.2.2.2.2.1 k0_t3
theorem k0_off21_inb : ∀ (i : grid0.Coords) (v2 : BitVec 32) (k0_hw1 : k0_chk1 i v2) (k0_t3 : Fin (k0_t3_loop i v2).trips), ∀ a, (k0_off21 i v2 k0_t3) a + S1x32x128.size a ≤ S64x256x512.size a := fun i v2 k0_hw1 k0_t3 => k0_hw1.2.2.2.1.2.2.2.2.2.2.2.2.2.2.2.2.2.2.2.2.2.2.2.2.2.2.2.1 k0_t3
theorem k0_mult98_dvd : ∀ (i : grid0.Coords) (v2 : BitVec 32) (k0_hw1 : k0_chk1 i v2) (k0_t3 : Fin (k0_t3_loop i v2).trips), 128 ∣ (k0_mult98 i v2 k0_t3).toNat := fun i v2 k0_hw1 k0_t3 => k0_hw1.2.2.2.1.2.2.2.2.2.2.2.2.2.2.2.2.2.2.2.2.2.2.2.2.2.2.2.2.1 k0_t3
theorem k0_off22_inb : ∀ (i : grid0.Coords) (v2 : BitVec 32) (k0_hw1 : k0_chk1 i v2) (k0_t3 : Fin (k0_t3_loop i v2).trips), ∀ a, (k0_off22 i v2 k0_t3) a + S1x32x128.size a ≤ S64x256x512.size a := fun i v2 k0_hw1 k0_t3 => k0_hw1.2.2.2.1.2.2.2.2.2.2.2.2.2.2.2.2.2.2.2.2.2.2.2.2.2.2.2.2.2.1 k0_t3
theorem k0_mult99_dvd : ∀ (i : grid0.Coords) (v2 : BitVec 32) (k0_hw1 : k0_chk1 i v2) (k0_t3 : Fin (k0_t3_loop i v2).trips), 128 ∣ (k0_mult99 i v2 k0_t3).toNat := fun i v2 k0_hw1 k0_t3 => k0_hw1.2.2.2.1.2.2.2.2.2.2.2.2.2.2.2.2.2.2.2.2.2.2.2.2.2.2.2.2.2.2.1 k0_t3
theorem k0_off23_inb : ∀ (i : grid0.Coords) (v2 : BitVec 32) (k0_hw1 : k0_chk1 i v2) (k0_t3 : Fin (k0_t3_loop i v2).trips), ∀ a, (k0_off23 i v2 k0_t3) a + S1x32x128.size a ≤ S64x256x512.size a := fun i v2 k0_hw1 k0_t3 => k0_hw1.2.2.2.1.2.2.2.2.2.2.2.2.2.2.2.2.2.2.2.2.2.2.2.2.2.2.2.2.2.2.2.1 k0_t3
theorem k0_mult100_dvd : ∀ (i : grid0.Coords) (v2 : BitVec 32) (k0_hw1 : k0_chk1 i v2) (k0_t3 : Fin (k0_t3_loop i v2).trips), 128 ∣ (k0_mult100 i v2 k0_t3).toNat := fun i v2 k0_hw1 k0_t3 => k0_hw1.2.2.2.1.2.2.2.2.2.2.2.2.2.2.2.2.2.2.2.2.2.2.2.2.2.2.2.2.2.2.2.2.1 k0_t3
theorem k0_mult101_dvd : ∀ (i : grid0.Coords) (v2 : BitVec 32) (k0_hw1 : k0_chk1 i v2) (k0_t3 : Fin (k0_t3_loop i v2).trips), 128 ∣ (k0_mult101 i v2 k0_t3).toNat := fun i v2 k0_hw1 k0_t3 => k0_hw1.2.2.2.1.2.2.2.2.2.2.2.2.2.2.2.2.2.2.2.2.2.2.2.2.2.2.2.2.2.2.2.2.2.1 k0_t3
theorem k0_mult102_dvd : ∀ (i : grid0.Coords) (v2 : BitVec 32) (k0_hw1 : k0_chk1 i v2) (k0_t3 : Fin (k0_t3_loop i v2).trips), 128 ∣ (k0_mult102 i v2 k0_t3).toNat := fun i v2 k0_hw1 k0_t3 => k0_hw1.2.2.2.1.2.2.2.2.2.2.2.2.2.2.2.2.2.2.2.2.2.2.2.2.2.2.2.2.2.2.2.2.2.2.1 k0_t3
theorem k0_mult103_dvd : ∀ (i : grid0.Coords) (v2 : BitVec 32) (k0_hw1 : k0_chk1 i v2) (k0_t3 : Fin (k0_t3_loop i v2).trips), 128 ∣ (k0_mult103 i v2 k0_t3).toNat := fun i v2 k0_hw1 k0_t3 => k0_hw1.2.2.2.1.2.2.2.2.2.2.2.2.2.2.2.2.2.2.2.2.2.2.2.2.2.2.2.2.2.2.2.2.2.2.2 k0_t3
theorem k0_mult104_dvd : ∀ (i : grid0.Coords) (v2 : BitVec 32) (k0_hw1 : k0_chk1 i v2) (k0_t3 : Fin (k0_t3_loop i v2).trips), 128 ∣ (k0_mult104 i v2 k0_t3).toNat := fun i v2 k0_hw1 k0_t3 => k0_hw1.2.2.2.2.1.1 k0_t3
theorem k0_off24_inb : ∀ (i : grid0.Coords) (v2 : BitVec 32) (k0_hw1 : k0_chk1 i v2) (k0_t3 : Fin (k0_t3_loop i v2).trips), ∀ a, (k0_off24 i v2 k0_t3) a + S1x32x128.size a ≤ S64x256x512.size a := fun i v2 k0_hw1 k0_t3 => k0_hw1.2.2.2.2.1.2.1 k0_t3
theorem k0_mult105_dvd : ∀ (i : grid0.Coords) (v2 : BitVec 32) (k0_hw1 : k0_chk1 i v2) (k0_t3 : Fin (k0_t3_loop i v2).trips), 128 ∣ (k0_mult105 i v2 k0_t3).toNat := fun i v2 k0_hw1 k0_t3 => k0_hw1.2.2.2.2.1.2.2.1 k0_t3
theorem k0_off25_inb : ∀ (i : grid0.Coords) (v2 : BitVec 32) (k0_hw1 : k0_chk1 i v2) (k0_t3 : Fin (k0_t3_loop i v2).trips), ∀ a, (k0_off25 i v2 k0_t3) a + S1x32x128.size a ≤ S64x256x512.size a := fun i v2 k0_hw1 k0_t3 => k0_hw1.2.2.2.2.1.2.2.2.1 k0_t3
theorem k0_mult106_dvd : ∀ (i : grid0.Coords) (v2 : BitVec 32) (k0_hw1 : k0_chk1 i v2) (k0_t3 : Fin (k0_t3_loop i v2).trips), 128 ∣ (k0_mult106 i v2 k0_t3).toNat := fun i v2 k0_hw1 k0_t3 => k0_hw1.2.2.2.2.1.2.2.2.2.1 k0_t3
theorem k0_off26_inb : ∀ (i : grid0.Coords) (v2 : BitVec 32) (k0_hw1 : k0_chk1 i v2) (k0_t3 : Fin (k0_t3_loop i v2).trips), ∀ a, (k0_off26 i v2 k0_t3) a + S1x32x128.size a ≤ S64x256x512.size a := fun i v2 k0_hw1 k0_t3 => k0_hw1.2.2.2.2.1.2.2.2.2.2.1 k0_t3
theorem k0_mult107_dvd : ∀ (i : grid0.Coords) (v2 : BitVec 32) (k0_hw1 : k0_chk1 i v2) (k0_t3 : Fin (k0_t3_loop i v2).trips), 128 ∣ (k0_mult107 i v2 k0_t3).toNat := fun i v2 k0_hw1 k0_t3 => k0_hw1.2.2.2.2.1.2.2.2.2.2.2.1 k0_t3
theorem k0_off27_inb : ∀ (i : grid0.Coords) (v2 : BitVec 32) (k0_hw1 : k0_chk1 i v2) (k0_t3 : Fin (k0_t3_loop i v2).trips), ∀ a, (k0_off27 i v2 k0_t3) a + S1x32x128.size a ≤ S64x256x512.size a := fun i v2 k0_hw1 k0_t3 => k0_hw1.2.2.2.2.1.2.2.2.2.2.2.2.1 k0_t3
theorem k0_mult108_dvd : ∀ (i : grid0.Coords) (v2 : BitVec 32) (k0_hw1 : k0_chk1 i v2) (k0_t3 : Fin (k0_t3_loop i v2).trips), 128 ∣ (k0_mult108 i v2 k0_t3).toNat := fun i v2 k0_hw1 k0_t3 => k0_hw1.2.2.2.2.1.2.2.2.2.2.2.2.2.1 k0_t3
theorem k0_mult109_dvd : ∀ (i : grid0.Coords) (v2 : BitVec 32) (k0_hw1 : k0_chk1 i v2) (k0_t3 : Fin (k0_t3_loop i v2).trips), 128 ∣ (k0_mult109 i v2 k0_t3).toNat := fun i v2 k0_hw1 k0_t3 => k0_hw1.2.2.2.2.1.2.2.2.2.2.2.2.2.2.1 k0_t3
theorem k0_mult110_dvd : ∀ (i : grid0.Coords) (v2 : BitVec 32) (k0_hw1 : k0_chk1 i v2) (k0_t3 : Fin (k0_t3_loop i v2).trips), 128 ∣ (k0_mult110 i v2 k0_t3).toNat := fun i v2 k0_hw1 k0_t3 => k0_hw1.2.2.2.2.1.2.2.2.2.2.2.2.2.2.2.1 k0_t3
theorem k0_mult111_dvd : ∀ (i : grid0.Coords) (v2 : BitVec 32) (k0_hw1 : k0_chk1 i v2) (k0_t3 : Fin (k0_t3_loop i v2).trips), 128 ∣ (k0_mult111 i v2 k0_t3).toNat := fun i v2 k0_hw1 k0_t3 => k0_hw1.2.2.2.2.1.2.2.2.2.2.2.2.2.2.2.2.1 k0_t3
theorem k0_mult112_dvd : ∀ (i : grid0.Coords) (v2 : BitVec 32) (k0_hw1 : k0_chk1 i v2) (k0_t3 : Fin (k0_t3_loop i v2).trips), 128 ∣ (k0_mult112 i v2 k0_t3).toNat := fun i v2 k0_hw1 k0_t3 => k0_hw1.2.2.2.2.1.2.2.2.2.2.2.2.2.2.2.2.2.1 k0_t3
theorem k0_off28_inb : ∀ (i : grid0.Coords) (v2 : BitVec 32) (k0_hw1 : k0_chk1 i v2) (k0_t3 : Fin (k0_t3_loop i v2).trips), ∀ a, (k0_off28 i v2 k0_t3) a + S1x32x128.size a ≤ S64x256x512.size a := fun i v2 k0_hw1 k0_t3 => k0_hw1.2.2.2.2.1.2.2.2.2.2.2.2.2.2.2.2.2.2.1 k0_t3
theorem k0_mult113_dvd : ∀ (i : grid0.Coords) (v2 : BitVec 32) (k0_hw1 : k0_chk1 i v2) (k0_t3 : Fin (k0_t3_loop i v2).trips), 128 ∣ (k0_mult113 i v2 k0_t3).toNat := fun i v2 k0_hw1 k0_t3 => k0_hw1.2.2.2.2.1.2.2.2.2.2.2.2.2.2.2.2.2.2.2.1 k0_t3
theorem k0_off29_inb : ∀ (i : grid0.Coords) (v2 : BitVec 32) (k0_hw1 : k0_chk1 i v2) (k0_t3 : Fin (k0_t3_loop i v2).trips), ∀ a, (k0_off29 i v2 k0_t3) a + S1x32x128.size a ≤ S64x256x512.size a := fun i v2 k0_hw1 k0_t3 => k0_hw1.2.2.2.2.1.2.2.2.2.2.2.2.2.2.2.2.2.2.2.2.1 k0_t3
theorem k0_mult114_dvd : ∀ (i : grid0.Coords) (v2 : BitVec 32) (k0_hw1 : k0_chk1 i v2) (k0_t3 : Fin (k0_t3_loop i v2).trips), 128 ∣ (k0_mult114 i v2 k0_t3).toNat := fun i v2 k0_hw1 k0_t3 => k0_hw1.2.2.2.2.1.2.2.2.2.2.2.2.2.2.2.2.2.2.2.2.2.1 k0_t3
theorem k0_off30_inb : ∀ (i : grid0.Coords) (v2 : BitVec 32) (k0_hw1 : k0_chk1 i v2) (k0_t3 : Fin (k0_t3_loop i v2).trips), ∀ a, (k0_off30 i v2 k0_t3) a + S1x32x128.size a ≤ S64x256x512.size a := fun i v2 k0_hw1 k0_t3 => k0_hw1.2.2.2.2.1.2.2.2.2.2.2.2.2.2.2.2.2.2.2.2.2.2.1 k0_t3
theorem k0_mult115_dvd : ∀ (i : grid0.Coords) (v2 : BitVec 32) (k0_hw1 : k0_chk1 i v2) (k0_t3 : Fin (k0_t3_loop i v2).trips), 128 ∣ (k0_mult115 i v2 k0_t3).toNat := fun i v2 k0_hw1 k0_t3 => k0_hw1.2.2.2.2.1.2.2.2.2.2.2.2.2.2.2.2.2.2.2.2.2.2.2.1 k0_t3
theorem k0_off31_inb : ∀ (i : grid0.Coords) (v2 : BitVec 32) (k0_hw1 : k0_chk1 i v2) (k0_t3 : Fin (k0_t3_loop i v2).trips), ∀ a, (k0_off31 i v2 k0_t3) a + S1x32x128.size a ≤ S64x256x512.size a := fun i v2 k0_hw1 k0_t3 => k0_hw1.2.2.2.2.1.2.2.2.2.2.2.2.2.2.2.2.2.2.2.2.2.2.2.2.1 k0_t3
theorem k0_mult116_dvd : ∀ (i : grid0.Coords) (v2 : BitVec 32) (k0_hw1 : k0_chk1 i v2) (k0_t3 : Fin (k0_t3_loop i v2).trips), 128 ∣ (k0_mult116 i v2 k0_t3).toNat := fun i v2 k0_hw1 k0_t3 => k0_hw1.2.2.2.2.1.2.2.2.2.2.2.2.2.2.2.2.2.2.2.2.2.2.2.2.2.1 k0_t3
theorem k0_mult117_dvd : ∀ (i : grid0.Coords) (v2 : BitVec 32) (k0_hw1 : k0_chk1 i v2) (k0_t3 : Fin (k0_t3_loop i v2).trips), 128 ∣ (k0_mult117 i v2 k0_t3).toNat := fun i v2 k0_hw1 k0_t3 => k0_hw1.2.2.2.2.1.2.2.2.2.2.2.2.2.2.2.2.2.2.2.2.2.2.2.2.2.2.1 k0_t3
theorem k0_mult118_dvd : ∀ (i : grid0.Coords) (v2 : BitVec 32) (k0_hw1 : k0_chk1 i v2) (k0_t3 : Fin (k0_t3_loop i v2).trips), 128 ∣ (k0_mult118 i v2 k0_t3).toNat := fun i v2 k0_hw1 k0_t3 => k0_hw1.2.2.2.2.1.2.2.2.2.2.2.2.2.2.2.2.2.2.2.2.2.2.2.2.2.2.2.1 k0_t3
theorem k0_mult119_dvd : ∀ (i : grid0.Coords) (v2 : BitVec 32) (k0_hw1 : k0_chk1 i v2) (k0_t3 : Fin (k0_t3_loop i v2).trips), 128 ∣ (k0_mult119 i v2 k0_t3).toNat := fun i v2 k0_hw1 k0_t3 => k0_hw1.2.2.2.2.1.2.2.2.2.2.2.2.2.2.2.2.2.2.2.2.2.2.2.2.2.2.2.2.1 k0_t3
theorem k0_mult120_dvd : ∀ (i : grid0.Coords) (v2 : BitVec 32) (k0_hw1 : k0_chk1 i v2) (k0_t3 : Fin (k0_t3_loop i v2).trips), 128 ∣ (k0_mult120 i v2 k0_t3).toNat := fun i v2 k0_hw1 k0_t3 => k0_hw1.2.2.2.2.1.2.2.2.2.2.2.2.2.2.2.2.2.2.2.2.2.2.2.2.2.2.2.2.2.1 k0_t3
theorem k0_off32_inb : ∀ (i : grid0.Coords) (v2 : BitVec 32) (k0_hw1 : k0_chk1 i v2) (k0_t3 : Fin (k0_t3_loop i v2).trips), ∀ a, (k0_off32 i v2 k0_t3) a + S1x32x128.size a ≤ S64x256x512.size a := fun i v2 k0_hw1 k0_t3 => k0_hw1.2.2.2.2.1.2.2.2.2.2.2.2.2.2.2.2.2.2.2.2.2.2.2.2.2.2.2.2.2.2.1 k0_t3
theorem k0_mult121_dvd : ∀ (i : grid0.Coords) (v2 : BitVec 32) (k0_hw1 : k0_chk1 i v2) (k0_t3 : Fin (k0_t3_loop i v2).trips), 128 ∣ (k0_mult121 i v2 k0_t3).toNat := fun i v2 k0_hw1 k0_t3 => k0_hw1.2.2.2.2.1.2.2.2.2.2.2.2.2.2.2.2.2.2.2.2.2.2.2.2.2.2.2.2.2.2.2.1 k0_t3
theorem k0_off33_inb : ∀ (i : grid0.Coords) (v2 : BitVec 32) (k0_hw1 : k0_chk1 i v2) (k0_t3 : Fin (k0_t3_loop i v2).trips), ∀ a, (k0_off33 i v2 k0_t3) a + S1x32x128.size a ≤ S64x256x512.size a := fun i v2 k0_hw1 k0_t3 => k0_hw1.2.2.2.2.1.2.2.2.2.2.2.2.2.2.2.2.2.2.2.2.2.2.2.2.2.2.2.2.2.2.2.2.1 k0_t3
theorem k0_mult122_dvd : ∀ (i : grid0.Coords) (v2 : BitVec 32) (k0_hw1 : k0_chk1 i v2) (k0_t3 : Fin (k0_t3_loop i v2).trips), 128 ∣ (k0_mult122 i v2 k0_t3).toNat := fun i v2 k0_hw1 k0_t3 => k0_hw1.2.2.2.2.1.2.2.2.2.2.2.2.2.2.2.2.2.2.2.2.2.2.2.2.2.2.2.2.2.2.2.2.2.1 k0_t3
theorem k0_off34_inb : ∀ (i : grid0.Coords) (v2 : BitVec 32) (k0_hw1 : k0_chk1 i v2) (k0_t3 : Fin (k0_t3_loop i v2).trips), ∀ a, (k0_off34 i v2 k0_t3) a + S1x32x128.size a ≤ S64x256x512.size a := fun i v2 k0_hw1 k0_t3 => k0_hw1.2.2.2.2.1.2.2.2.2.2.2.2.2.2.2.2.2.2.2.2.2.2.2.2.2.2.2.2.2.2.2.2.2.2.1 k0_t3
theorem k0_mult123_dvd : ∀ (i : grid0.Coords) (v2 : BitVec 32) (k0_hw1 : k0_chk1 i v2) (k0_t3 : Fin (k0_t3_loop i v2).trips), 128 ∣ (k0_mult123 i v2 k0_t3).toNat := fun i v2 k0_hw1 k0_t3 => k0_hw1.2.2.2.2.1.2.2.2.2.2.2.2.2.2.2.2.2.2.2.2.2.2.2.2.2.2.2.2.2.2.2.2.2.2.2.1 k0_t3
theorem k0_off35_inb : ∀ (i : grid0.Coords) (v2 : BitVec 32) (k0_hw1 : k0_chk1 i v2) (k0_t3 : Fin (k0_t3_loop i v2).trips), ∀ a, (k0_off35 i v2 k0_t3) a + S1x32x128.size a ≤ S64x256x512.size a := fun i v2 k0_hw1 k0_t3 => k0_hw1.2.2.2.2.1.2.2.2.2.2.2.2.2.2.2.2.2.2.2.2.2.2.2.2.2.2.2.2.2.2.2.2.2.2.2.2 k0_t3
theorem k0_mult124_dvd : ∀ (i : grid0.Coords) (v2 : BitVec 32) (k0_hw1 : k0_chk1 i v2) (k0_t3 : Fin (k0_t3_loop i v2).trips), 128 ∣ (k0_mult124 i v2 k0_t3).toNat := fun i v2 k0_hw1 k0_t3 => k0_hw1.2.2.2.2.2.1.1 k0_t3
theorem k0_mult125_dvd : ∀ (i : grid0.Coords) (v2 : BitVec 32) (k0_hw1 : k0_chk1 i v2) (k0_t3 : Fin (k0_t3_loop i v2).trips), 128 ∣ (k0_mult125 i v2 k0_t3).toNat := fun i v2 k0_hw1 k0_t3 => k0_hw1.2.2.2.2.2.1.2.1 k0_t3
theorem k0_mult126_dvd : ∀ (i : grid0.Coords) (v2 : BitVec 32) (k0_hw1 : k0_chk1 i v2) (k0_t3 : Fin (k0_t3_loop i v2).trips), 128 ∣ (k0_mult126 i v2 k0_t3).toNat := fun i v2 k0_hw1 k0_t3 => k0_hw1.2.2.2.2.2.1.2.2.1 k0_t3
theorem k0_mult127_dvd : ∀ (i : grid0.Coords) (v2 : BitVec 32) (k0_hw1 : k0_chk1 i v2) (k0_t3 : Fin (k0_t3_loop i v2).trips), 128 ∣ (k0_mult127 i v2 k0_t3).toNat := fun i v2 k0_hw1 k0_t3 => k0_hw1.2.2.2.2.2.1.2.2.2.1 k0_t3
theorem k0_mult128_dvd : ∀ (i : grid0.Coords) (v2 : BitVec 32) (k0_hw1 : k0_chk1 i v2) (k0_t3 : Fin (k0_t3_loop i v2).trips), 128 ∣ (k0_mult128 i v2 k0_t3).toNat := fun i v2 k0_hw1 k0_t3 => k0_hw1.2.2.2.2.2.1.2.2.2.2.1 k0_t3
theorem k0_off36_inb : ∀ (i : grid0.Coords) (v2 : BitVec 32) (k0_hw1 : k0_chk1 i v2) (k0_t3 : Fin (k0_t3_loop i v2).trips), ∀ a, (k0_off36 i v2 k0_t3) a + S1x32x128.size a ≤ S64x256x512.size a := fun i v2 k0_hw1 k0_t3 => k0_hw1.2.2.2.2.2.1.2.2.2.2.2.1 k0_t3
theorem k0_mult129_dvd : ∀ (i : grid0.Coords) (v2 : BitVec 32) (k0_hw1 : k0_chk1 i v2) (k0_t3 : Fin (k0_t3_loop i v2).trips), 128 ∣ (k0_mult129 i v2 k0_t3).toNat := fun i v2 k0_hw1 k0_t3 => k0_hw1.2.2.2.2.2.1.2.2.2.2.2.2.1 k0_t3
theorem k0_off37_inb : ∀ (i : grid0.Coords) (v2 : BitVec 32) (k0_hw1 : k0_chk1 i v2) (k0_t3 : Fin (k0_t3_loop i v2).trips), ∀ a, (k0_off37 i v2 k0_t3) a + S1x32x128.size a ≤ S64x256x512.size a := fun i v2 k0_hw1 k0_t3 => k0_hw1.2.2.2.2.2.1.2.2.2.2.2.2.2.1 k0_t3
theorem k0_mult130_dvd : ∀ (i : grid0.Coords) (v2 : BitVec 32) (k0_hw1 : k0_chk1 i v2) (k0_t3 : Fin (k0_t3_loop i v2).trips), 128 ∣ (k0_mult130 i v2 k0_t3).toNat := fun i v2 k0_hw1 k0_t3 => k0_hw1.2.2.2.2.2.1.2.2.2.2.2.2.2.2.1 k0_t3
theorem k0_off38_inb : ∀ (i : grid0.Coords) (v2 : BitVec 32) (k0_hw1 : k0_chk1 i v2) (k0_t3 : Fin (k0_t3_loop i v2).trips), ∀ a, (k0_off38 i v2 k0_t3) a + S1x32x128.size a ≤ S64x256x512.size a := fun i v2 k0_hw1 k0_t3 => k0_hw1.2.2.2.2.2.1.2.2.2.2.2.2.2.2.2.1 k0_t3
theorem k0_mult131_dvd : ∀ (i : grid0.Coords) (v2 : BitVec 32) (k0_hw1 : k0_chk1 i v2) (k0_t3 : Fin (k0_t3_loop i v2).trips), 128 ∣ (k0_mult131 i v2 k0_t3).toNat := fun i v2 k0_hw1 k0_t3 => k0_hw1.2.2.2.2.2.1.2.2.2.2.2.2.2.2.2.2.1 k0_t3
theorem k0_off39_inb : ∀ (i : grid0.Coords) (v2 : BitVec 32) (k0_hw1 : k0_chk1 i v2) (k0_t3 : Fin (k0_t3_loop i v2).trips), ∀ a, (k0_off39 i v2 k0_t3) a + S1x32x128.size a ≤ S64x256x512.size a := fun i v2 k0_hw1 k0_t3 => k0_hw1.2.2.2.2.2.1.2.2.2.2.2.2.2.2.2.2.2.1 k0_t3
theorem k0_t4_ok : ∀ (i : grid0.Coords) (v2 : BitVec 32) (k0_hw1 : k0_chk1 i v2), (k0_t4_loop i v2).OK := fun i v2 k0_hw1 => k0_hw1.2.2.2.2.2.1.2.2.2.2.2.2.2.2.2.2.2.2.1
theorem k0_mult132_dvd : ∀ (i : grid0.Coords) (v2 : BitVec 32) (k0_hw1 : k0_chk1 i v2) (k0_t4 : Fin (k0_t4_loop i v2).trips), 128 ∣ (k0_mult132 i v2 k0_t4).toNat := fun i v2 k0_hw1 k0_t4 => k0_hw1.2.2.2.2.2.1.2.2.2.2.2.2.2.2.2.2.2.2.2.1 k0_t4
theorem k0_off40_inb : ∀ (i : grid0.Coords) (v2 : BitVec 32) (k0_hw1 : k0_chk1 i v2) (k0_t4 : Fin (k0_t4_loop i v2).trips), ∀ a, (k0_off40 i v2 k0_t4) a + S1x1x128x512.size a ≤ S1x1x128x33280.size a := fun i v2 k0_hw1 k0_t4 => k0_hw1.2.2.2.2.2.1.2.2.2.2.2.2.2.2.2.2.2.2.2.2.1 k0_t4
theorem k0_mult133_dvd : ∀ (i : grid0.Coords) (v2 : BitVec 32) (k0_hw1 : k0_chk1 i v2) (k0_t4 : Fin (k0_t4_loop i v2).trips), 128 ∣ (k0_mult133 i v2 k0_t4).toNat := fun i v2 k0_hw1 k0_t4 => k0_hw1.2.2.2.2.2.1.2.2.2.2.2.2.2.2.2.2.2.2.2.2.2.1 k0_t4
theorem k0_off41_inb : ∀ (i : grid0.Coords) (v2 : BitVec 32) (k0_hw1 : k0_chk1 i v2) (k0_t4 : Fin (k0_t4_loop i v2).trips), ∀ (r : Fin 4), ∀ a, (k0_off41 i v2 k0_t4 (BitVec.ofNat 32 (128 * r.val))) a + S1x1x1x128.size a ≤ S1x1x1x33280.size a := fun i v2 k0_hw1 k0_t4 r => k0_hw1.2.2.2.2.2.1.2.2.2.2.2.2.2.2.2.2.2.2.2.2.2.2.1 k0_t4 r
theorem k0_mult134_dvd : ∀ (i : grid0.Coords) (v2 : BitVec 32) (k0_hw1 : k0_chk1 i v2) (k0_t4 : Fin (k0_t4_loop i v2).trips), 128 ∣ (k0_mult134 i v2 k0_t4).toNat := fun i v2 k0_hw1 k0_t4 => k0_hw1.2.2.2.2.2.1.2.2.2.2.2.2.2.2.2.2.2.2.2.2.2.2.2.1 k0_t4
theorem k0_mult135_dvd : ∀ (i : grid0.Coords) (v2 : BitVec 32) (k0_hw1 : k0_chk1 i v2) (k0_t4 : Fin (k0_t4_loop i v2).trips), 128 ∣ (k0_mult135 i v2 k0_t4).toNat := fun i v2 k0_hw1 k0_t4 => k0_hw1.2.2.2.2.2.1.2.2.2.2.2.2.2.2.2.2.2.2.2.2.2.2.2.2.1 k0_t4
theorem k0_mult136_dvd : ∀ (i : grid0.Coords) (v2 : BitVec 32) (k0_hw1 : k0_chk1 i v2) (k0_t4 : Fin (k0_t4_loop i v2).trips), 128 ∣ (k0_mult136 i v2 k0_t4).toNat := fun i v2 k0_hw1 k0_t4 => k0_hw1.2.2.2.2.2.1.2.2.2.2.2.2.2.2.2.2.2.2.2.2.2.2.2.2.2.1 k0_t4
theorem k0_mult137_dvd : ∀ (i : grid0.Coords) (v2 : BitVec 32) (k0_hw1 : k0_chk1 i v2) (k0_t4 : Fin (k0_t4_loop i v2).trips), 128 ∣ (k0_mult137 i v2 k0_t4).toNat := fun i v2 k0_hw1 k0_t4 => k0_hw1.2.2.2.2.2.1.2.2.2.2.2.2.2.2.2.2.2.2.2.2.2.2.2.2.2.2.1 k0_t4
theorem k0_off42_inb : ∀ (i : grid0.Coords) (v2 : BitVec 32) (k0_hw1 : k0_chk1 i v2) (k0_t4 : Fin (k0_t4_loop i v2).trips), ∀ a, (k0_off42 i v2 k0_t4) a + S1x32x128.size a ≤ S64x256x512.size a := fun i v2 k0_hw1 k0_t4 => k0_hw1.2.2.2.2.2.1.2.2.2.2.2.2.2.2.2.2.2.2.2.2.2.2.2.2.2.2.2.1 k0_t4
theorem k0_mult138_dvd : ∀ (i : grid0.Coords) (v2 : BitVec 32) (k0_hw1 : k0_chk1 i v2) (k0_t4 : Fin (k0_t4_loop i v2).trips), 128 ∣ (k0_mult138 i v2 k0_t4).toNat := fun i v2 k0_hw1 k0_t4 => k0_hw1.2.2.2.2.2.1.2.2.2.2.2.2.2.2.2.2.2.2.2.2.2.2.2.2.2.2.2.2.1 k0_t4
theorem k0_off43_inb : ∀ (i : grid0.Coords) (v2 : BitVec 32) (k0_hw1 : k0_chk1 i v2) (k0_t4 : Fin (k0_t4_loop i v2).trips), ∀ a, (k0_off43 i v2 k0_t4) a + S1x32x128.size a ≤ S64x256x512.size a := fun i v2 k0_hw1 k0_t4 => k0_hw1.2.2.2.2.2.1.2.2.2.2.2.2.2.2.2.2.2.2.2.2.2.2.2.2.2.2.2.2.2.1 k0_t4
theorem k0_mult139_dvd : ∀ (i : grid0.Coords) (v2 : BitVec 32) (k0_hw1 : k0_chk1 i v2) (k0_t4 : Fin (k0_t4_loop i v2).trips), 128 ∣ (k0_mult139 i v2 k0_t4).toNat := fun i v2 k0_hw1 k0_t4 => k0_hw1.2.2.2.2.2.1.2.2.2.2.2.2.2.2.2.2.2.2.2.2.2.2.2.2.2.2.2.2.2.2.1 k0_t4
theorem k0_off44_inb : ∀ (i : grid0.Coords) (v2 : BitVec 32) (k0_hw1 : k0_chk1 i v2) (k0_t4 : Fin (k0_t4_loop i v2).trips), ∀ a, (k0_off44 i v2 k0_t4) a + S1x32x128.size a ≤ S64x256x512.size a := fun i v2 k0_hw1 k0_t4 => k0_hw1.2.2.2.2.2.1.2.2.2.2.2.2.2.2.2.2.2.2.2.2.2.2.2.2.2.2.2.2.2.2.2.1 k0_t4
theorem k0_mult140_dvd : ∀ (i : grid0.Coords) (v2 : BitVec 32) (k0_hw1 : k0_chk1 i v2) (k0_t4 : Fin (k0_t4_loop i v2).trips), 128 ∣ (k0_mult140 i v2 k0_t4).toNat := fun i v2 k0_hw1 k0_t4 => k0_hw1.2.2.2.2.2.1.2.2.2.2.2.2.2.2.2.2.2.2.2.2.2.2.2.2.2.2.2.2.2.2.2.2.1 k0_t4
theorem k0_off45_inb : ∀ (i : grid0.Coords) (v2 : BitVec 32) (k0_hw1 : k0_chk1 i v2) (k0_t4 : Fin (k0_t4_loop i v2).trips), ∀ a, (k0_off45 i v2 k0_t4) a + S1x32x128.size a ≤ S64x256x512.size a := fun i v2 k0_hw1 k0_t4 => k0_hw1.2.2.2.2.2.1.2.2.2.2.2.2.2.2.2.2.2.2.2.2.2.2.2.2.2.2.2.2.2.2.2.2.2.1 k0_t4
theorem k0_mult141_dvd : ∀ (i : grid0.Coords) (v2 : BitVec 32) (k0_hw1 : k0_chk1 i v2) (k0_t4 : Fin (k0_t4_loop i v2).trips), 128 ∣ (k0_mult141 i v2 k0_t4).toNat := fun i v2 k0_hw1 k0_t4 => k0_hw1.2.2.2.2.2.1.2.2.2.2.2.2.2.2.2.2.2.2.2.2.2.2.2.2.2.2.2.2.2.2.2.2.2.2.1 k0_t4
theorem k0_mult142_dvd : ∀ (i : grid0.Coords) (v2 : BitVec 32) (k0_hw1 : k0_chk1 i v2) (k0_t4 : Fin (k0_t4_loop i v2).trips), 128 ∣ (k0_mult142 i v2 k0_t4).toNat := fun i v2 k0_hw1 k0_t4 => k0_hw1.2.2.2.2.2.1.2.2.2.2.2.2.2.2.2.2.2.2.2.2.2.2.2.2.2.2.2.2.2.2.2.2.2.2.2.1 k0_t4
theorem k0_mult143_dvd : ∀ (i : grid0.Coords) (v2 : BitVec 32) (k0_hw1 : k0_chk1 i v2) (k0_t4 : Fin (k0_t4_loop i v2).trips), 128 ∣ (k0_mult143 i v2 k0_t4).toNat := fun i v2 k0_hw1 k0_t4 => k0_hw1.2.2.2.2.2.1.2.2.2.2.2.2.2.2.2.2.2.2.2.2.2.2.2.2.2.2.2.2.2.2.2.2.2.2.2.2.1 k0_t4
theorem k0_mult144_dvd : ∀ (i : grid0.Coords) (v2 : BitVec 32) (k0_hw1 : k0_chk1 i v2) (k0_t4 : Fin (k0_t4_loop i v2).trips), 128 ∣ (k0_mult144 i v2 k0_t4).toNat := fun i v2 k0_hw1 k0_t4 => k0_hw1.2.2.2.2.2.1.2.2.2.2.2.2.2.2.2.2.2.2.2.2.2.2.2.2.2.2.2.2.2.2.2.2.2.2.2.2.2 k0_t4
theorem k0_mult145_dvd : ∀ (i : grid0.Coords) (v2 : BitVec 32) (k0_hw1 : k0_chk1 i v2) (k0_t4 : Fin (k0_t4_loop i v2).trips), 128 ∣ (k0_mult145 i v2 k0_t4).toNat := fun i v2 k0_hw1 k0_t4 => k0_hw1.2.2.2.2.2.2.1.1 k0_t4
theorem k0_off46_inb : ∀ (i : grid0.Coords) (v2 : BitVec 32) (k0_hw1 : k0_chk1 i v2) (k0_t4 : Fin (k0_t4_loop i v2).trips), ∀ a, (k0_off46 i v2 k0_t4) a + S1x32x128.size a ≤ S64x256x512.size a := fun i v2 k0_hw1 k0_t4 => k0_hw1.2.2.2.2.2.2.1.2.1 k0_t4
theorem k0_mult146_dvd : ∀ (i : grid0.Coords) (v2 : BitVec 32) (k0_hw1 : k0_chk1 i v2) (k0_t4 : Fin (k0_t4_loop i v2).trips), 128 ∣ (k0_mult146 i v2 k0_t4).toNat := fun i v2 k0_hw1 k0_t4 => k0_hw1.2.2.2.2.2.2.1.2.2.1 k0_t4
theorem k0_off47_inb : ∀ (i : grid0.Coords) (v2 : BitVec 32) (k0_hw1 : k0_chk1 i v2) (k0_t4 : Fin (k0_t4_loop i v2).trips), ∀ a, (k0_off47 i v2 k0_t4) a + S1x32x128.size a ≤ S64x256x512.size a := fun i v2 k0_hw1 k0_t4 => k0_hw1.2.2.2.2.2.2.1.2.2.2.1 k0_t4
theorem k0_mult147_dvd : ∀ (i : grid0.Coords) (v2 : BitVec 32) (k0_hw1 : k0_chk1 i v2) (k0_t4 : Fin (k0_t4_loop i v2).trips), 128 ∣ (k0_mult147 i v2 k0_t4).toNat := fun i v2 k0_hw1 k0_t4 => k0_hw1.2.2.2.2.2.2.1.2.2.2.2.1 k0_t4
theorem k0_off48_inb : ∀ (i : grid0.Coords) (v2 : BitVec 32) (k0_hw1 : k0_chk1 i v2) (k0_t4 : Fin (k0_t4_loop i v2).trips), ∀ a, (k0_off48 i v2 k0_t4) a + S1x32x128.size a ≤ S64x256x512.size a := fun i v2 k0_hw1 k0_t4 => k0_hw1.2.2.2.2.2.2.1.2.2.2.2.2.1 k0_t4
theorem k0_mult148_dvd : ∀ (i : grid0.Coords) (v2 : BitVec 32) (k0_hw1 : k0_chk1 i v2) (k0_t4 : Fin (k0_t4_loop i v2).trips), 128 ∣ (k0_mult148 i v2 k0_t4).toNat := fun i v2 k0_hw1 k0_t4 => k0_hw1.2.2.2.2.2.2.1.2.2.2.2.2.2.1 k0_t4
theorem k0_off49_inb : ∀ (i : grid0.Coords) (v2 : BitVec 32) (k0_hw1 : k0_chk1 i v2) (k0_t4 : Fin (k0_t4_loop i v2).trips), ∀ a, (k0_off49 i v2 k0_t4) a + S1x32x128.size a ≤ S64x256x512.size a := fun i v2 k0_hw1 k0_t4 => k0_hw1.2.2.2.2.2.2.1.2.2.2.2.2.2.2.1 k0_t4
theorem k0_mult149_dvd : ∀ (i : grid0.Coords) (v2 : BitVec 32) (k0_hw1 : k0_chk1 i v2) (k0_t4 : Fin (k0_t4_loop i v2).trips), 128 ∣ (k0_mult149 i v2 k0_t4).toNat := fun i v2 k0_hw1 k0_t4 => k0_hw1.2.2.2.2.2.2.1.2.2.2.2.2.2.2.2.1 k0_t4
theorem k0_mult150_dvd : ∀ (i : grid0.Coords) (v2 : BitVec 32) (k0_hw1 : k0_chk1 i v2) (k0_t4 : Fin (k0_t4_loop i v2).trips), 128 ∣ (k0_mult150 i v2 k0_t4).toNat := fun i v2 k0_hw1 k0_t4 => k0_hw1.2.2.2.2.2.2.1.2.2.2.2.2.2.2.2.2.1 k0_t4
theorem k0_mult151_dvd : ∀ (i : grid0.Coords) (v2 : BitVec 32) (k0_hw1 : k0_chk1 i v2) (k0_t4 : Fin (k0_t4_loop i v2).trips), 128 ∣ (k0_mult151 i v2 k0_t4).toNat := fun i v2 k0_hw1 k0_t4 => k0_hw1.2.2.2.2.2.2.1.2.2.2.2.2.2.2.2.2.2.1 k0_t4
theorem k0_mult152_dvd : ∀ (i : grid0.Coords) (v2 : BitVec 32) (k0_hw1 : k0_chk1 i v2) (k0_t4 : Fin (k0_t4_loop i v2).trips), 128 ∣ (k0_mult152 i v2 k0_t4).toNat := fun i v2 k0_hw1 k0_t4 => k0_hw1.2.2.2.2.2.2.1.2.2.2.2.2.2.2.2.2.2.2.1 k0_t4
theorem k0_mult153_dvd : ∀ (i : grid0.Coords) (v2 : BitVec 32) (k0_hw1 : k0_chk1 i v2) (k0_t4 : Fin (k0_t4_loop i v2).trips), 128 ∣ (k0_mult153 i v2 k0_t4).toNat := fun i v2 k0_hw1 k0_t4 => k0_hw1.2.2.2.2.2.2.1.2.2.2.2.2.2.2.2.2.2.2.2.1 k0_t4
theorem k0_off50_inb : ∀ (i : grid0.Coords) (v2 : BitVec 32) (k0_hw1 : k0_chk1 i v2) (k0_t4 : Fin (k0_t4_loop i v2).trips), ∀ a, (k0_off50 i v2 k0_t4) a + S1x32x128.size a ≤ S64x256x512.size a := fun i v2 k0_hw1 k0_t4 => k0_hw1.2.2.2.2.2.2.1.2.2.2.2.2.2.2.2.2.2.2.2.2.1 k0_t4
theorem k0_mult154_dvd : ∀ (i : grid0.Coords) (v2 : BitVec 32) (k0_hw1 : k0_chk1 i v2) (k0_t4 : Fin (k0_t4_loop i v2).trips), 128 ∣ (k0_mult154 i v2 k0_t4).toNat := fun i v2 k0_hw1 k0_t4 => k0_hw1.2.2.2.2.2.2.1.2.2.2.2.2.2.2.2.2.2.2.2.2.2.1 k0_t4
theorem k0_off51_inb : ∀ (i : grid0.Coords) (v2 : BitVec 32) (k0_hw1 : k0_chk1 i v2) (k0_t4 : Fin (k0_t4_loop i v2).trips), ∀ a, (k0_off51 i v2 k0_t4) a + S1x32x128.size a ≤ S64x256x512.size a := fun i v2 k0_hw1 k0_t4 => k0_hw1.2.2.2.2.2.2.1.2.2.2.2.2.2.2.2.2.2.2.2.2.2.2.1 k0_t4
theorem k0_mult155_dvd : ∀ (i : grid0.Coords) (v2 : BitVec 32) (k0_hw1 : k0_chk1 i v2) (k0_t4 : Fin (k0_t4_loop i v2).trips), 128 ∣ (k0_mult155 i v2 k0_t4).toNat := fun i v2 k0_hw1 k0_t4 => k0_hw1.2.2.2.2.2.2.1.2.2.2.2.2.2.2.2.2.2.2.2.2.2.2.2.1 k0_t4
theorem k0_off52_inb : ∀ (i : grid0.Coords) (v2 : BitVec 32) (k0_hw1 : k0_chk1 i v2) (k0_t4 : Fin (k0_t4_loop i v2).trips), ∀ a, (k0_off52 i v2 k0_t4) a + S1x32x128.size a ≤ S64x256x512.size a := fun i v2 k0_hw1 k0_t4 => k0_hw1.2.2.2.2.2.2.1.2.2.2.2.2.2.2.2.2.2.2.2.2.2.2.2.2.1 k0_t4
theorem k0_mult156_dvd : ∀ (i : grid0.Coords) (v2 : BitVec 32) (k0_hw1 : k0_chk1 i v2) (k0_t4 : Fin (k0_t4_loop i v2).trips), 128 ∣ (k0_mult156 i v2 k0_t4).toNat := fun i v2 k0_hw1 k0_t4 => k0_hw1.2.2.2.2.2.2.1.2.2.2.2.2.2.2.2.2.2.2.2.2.2.2.2.2.2.1 k0_t4
theorem k0_off53_inb : ∀ (i : grid0.Coords) (v2 : BitVec 32) (k0_hw1 : k0_chk1 i v2) (k0_t4 : Fin (k0_t4_loop i v2).trips), ∀ a, (k0_off53 i v2 k0_t4) a + S1x32x128.size a ≤ S64x256x512.size a := fun i v2 k0_hw1 k0_t4 => k0_hw1.2.2.2.2.2.2.1.2.2.2.2.2.2.2.2.2.2.2.2.2.2.2.2.2.2.2.1 k0_t4
theorem k0_mult157_dvd : ∀ (i : grid0.Coords) (v2 : BitVec 32) (k0_hw1 : k0_chk1 i v2) (k0_t4 : Fin (k0_t4_loop i v2).trips), 128 ∣ (k0_mult157 i v2 k0_t4).toNat := fun i v2 k0_hw1 k0_t4 => k0_hw1.2.2.2.2.2.2.1.2.2.2.2.2.2.2.2.2.2.2.2.2.2.2.2.2.2.2.2.1 k0_t4
theorem k0_mult158_dvd : ∀ (i : grid0.Coords) (v2 : BitVec 32) (k0_hw1 : k0_chk1 i v2) (k0_t4 : Fin (k0_t4_loop i v2).trips), 128 ∣ (k0_mult158 i v2 k0_t4).toNat := fun i v2 k0_hw1 k0_t4 => k0_hw1.2.2.2.2.2.2.1.2.2.2.2.2.2.2.2.2.2.2.2.2.2.2.2.2.2.2.2.2.1 k0_t4
theorem k0_mult159_dvd : ∀ (i : grid0.Coords) (v2 : BitVec 32) (k0_hw1 : k0_chk1 i v2) (k0_t4 : Fin (k0_t4_loop i v2).trips), 128 ∣ (k0_mult159 i v2 k0_t4).toNat := fun i v2 k0_hw1 k0_t4 => k0_hw1.2.2.2.2.2.2.1.2.2.2.2.2.2.2.2.2.2.2.2.2.2.2.2.2.2.2.2.2.2.1 k0_t4
theorem k0_mult160_dvd : ∀ (i : grid0.Coords) (v2 : BitVec 32) (k0_hw1 : k0_chk1 i v2) (k0_t4 : Fin (k0_t4_loop i v2).trips), 128 ∣ (k0_mult160 i v2 k0_t4).toNat := fun i v2 k0_hw1 k0_t4 => k0_hw1.2.2.2.2.2.2.1.2.2.2.2.2.2.2.2.2.2.2.2.2.2.2.2.2.2.2.2.2.2.2.1 k0_t4
theorem k0_mult161_dvd : ∀ (i : grid0.Coords) (v2 : BitVec 32) (k0_hw1 : k0_chk1 i v2) (k0_t4 : Fin (k0_t4_loop i v2).trips), 128 ∣ (k0_mult161 i v2 k0_t4).toNat := fun i v2 k0_hw1 k0_t4 => k0_hw1.2.2.2.2.2.2.1.2.2.2.2.2.2.2.2.2.2.2.2.2.2.2.2.2.2.2.2.2.2.2.2.1 k0_t4
theorem k0_off54_inb : ∀ (i : grid0.Coords) (v2 : BitVec 32) (k0_hw1 : k0_chk1 i v2) (k0_t4 : Fin (k0_t4_loop i v2).trips), ∀ a, (k0_off54 i v2 k0_t4) a + S1x32x128.size a ≤ S64x256x512.size a := fun i v2 k0_hw1 k0_t4 => k0_hw1.2.2.2.2.2.2.1.2.2.2.2.2.2.2.2.2.2.2.2.2.2.2.2.2.2.2.2.2.2.2.2.2.1 k0_t4
theorem k0_mult162_dvd : ∀ (i : grid0.Coords) (v2 : BitVec 32) (k0_hw1 : k0_chk1 i v2) (k0_t4 : Fin (k0_t4_loop i v2).trips), 128 ∣ (k0_mult162 i v2 k0_t4).toNat := fun i v2 k0_hw1 k0_t4 => k0_hw1.2.2.2.2.2.2.1.2.2.2.2.2.2.2.2.2.2.2.2.2.2.2.2.2.2.2.2.2.2.2.2.2.2.1 k0_t4
theorem k0_off55_inb : ∀ (i : grid0.Coords) (v2 : BitVec 32) (k0_hw1 : k0_chk1 i v2) (k0_t4 : Fin (k0_t4_loop i v2).trips), ∀ a, (k0_off55 i v2 k0_t4) a + S1x32x128.size a ≤ S64x256x512.size a := fun i v2 k0_hw1 k0_t4 => k0_hw1.2.2.2.2.2.2.1.2.2.2.2.2.2.2.2.2.2.2.2.2.2.2.2.2.2.2.2.2.2.2.2.2.2.2.1 k0_t4
theorem k0_mult163_dvd : ∀ (i : grid0.Coords) (v2 : BitVec 32) (k0_hw1 : k0_chk1 i v2) (k0_t4 : Fin (k0_t4_loop i v2).trips), 128 ∣ (k0_mult163 i v2 k0_t4).toNat := fun i v2 k0_hw1 k0_t4 => k0_hw1.2.2.2.2.2.2.1.2.2.2.2.2.2.2.2.2.2.2.2.2.2.2.2.2.2.2.2.2.2.2.2.2.2.2.2.1 k0_t4
theorem k0_off56_inb : ∀ (i : grid0.Coords) (v2 : BitVec 32) (k0_hw1 : k0_chk1 i v2) (k0_t4 : Fin (k0_t4_loop i v2).trips), ∀ a, (k0_off56 i v2 k0_t4) a + S1x32x128.size a ≤ S64x256x512.size a := fun i v2 k0_hw1 k0_t4 => k0_hw1.2.2.2.2.2.2.1.2.2.2.2.2.2.2.2.2.2.2.2.2.2.2.2.2.2.2.2.2.2.2.2.2.2.2.2.2.1 k0_t4
theorem k0_mult164_dvd : ∀ (i : grid0.Coords) (v2 : BitVec 32) (k0_hw1 : k0_chk1 i v2) (k0_t4 : Fin (k0_t4_loop i v2).trips), 128 ∣ (k0_mult164 i v2 k0_t4).toNat := fun i v2 k0_hw1 k0_t4 => k0_hw1.2.2.2.2.2.2.1.2.2.2.2.2.2.2.2.2.2.2.2.2.2.2.2.2.2.2.2.2.2.2.2.2.2.2.2.2.2.1 k0_t4
theorem k0_off57_inb : ∀ (i : grid0.Coords) (v2 : BitVec 32) (k0_hw1 : k0_chk1 i v2) (k0_t4 : Fin (k0_t4_loop i v2).trips), ∀ a, (k0_off57 i v2 k0_t4) a + S1x32x128.size a ≤ S64x256x512.size a := fun i v2 k0_hw1 k0_t4 => k0_hw1.2.2.2.2.2.2.1.2.2.2.2.2.2.2.2.2.2.2.2.2.2.2.2.2.2.2.2.2.2.2.2.2.2.2.2.2.2.2 k0_t4
theorem k0_mult165_dvd : ∀ (i : grid0.Coords) (v2 : BitVec 32) (k0_hw1 : k0_chk1 i v2) (k0_t4 : Fin (k0_t4_loop i v2).trips), 128 ∣ (k0_mult165 i v2 k0_t4).toNat := fun i v2 k0_hw1 k0_t4 => k0_hw1.2.2.2.2.2.2.2.1.1 k0_t4
theorem k0_mult166_dvd : ∀ (i : grid0.Coords) (v2 : BitVec 32) (k0_hw1 : k0_chk1 i v2) (k0_t4 : Fin (k0_t4_loop i v2).trips), 128 ∣ (k0_mult166 i v2 k0_t4).toNat := fun i v2 k0_hw1 k0_t4 => k0_hw1.2.2.2.2.2.2.2.1.2.1 k0_t4
theorem k0_mult167_dvd : ∀ (i : grid0.Coords) (v2 : BitVec 32) (k0_hw1 : k0_chk1 i v2) (k0_t4 : Fin (k0_t4_loop i v2).trips), 128 ∣ (k0_mult167 i v2 k0_t4).toNat := fun i v2 k0_hw1 k0_t4 => k0_hw1.2.2.2.2.2.2.2.1.2.2.1 k0_t4
theorem k0_mult168_dvd : ∀ (i : grid0.Coords) (v2 : BitVec 32) (k0_hw1 : k0_chk1 i v2) (k0_t4 : Fin (k0_t4_loop i v2).trips), 128 ∣ (k0_mult168 i v2 k0_t4).toNat := fun i v2 k0_hw1 k0_t4 => k0_hw1.2.2.2.2.2.2.2.1.2.2.2.1 k0_t4
theorem k0_mult169_dvd : ∀ (i : grid0.Coords) (v2 : BitVec 32) (k0_hw1 : k0_chk1 i v2) (k0_t4 : Fin (k0_t4_loop i v2).trips), 128 ∣ (k0_mult169 i v2 k0_t4).toNat := fun i v2 k0_hw1 k0_t4 => k0_hw1.2.2.2.2.2.2.2.1.2.2.2.2.1 k0_t4
theorem k0_off58_inb : ∀ (i : grid0.Coords) (v2 : BitVec 32) (k0_hw1 : k0_chk1 i v2) (k0_t4 : Fin (k0_t4_loop i v2).trips), ∀ a, (k0_off58 i v2 k0_t4) a + S1x32x128.size a ≤ S64x256x512.size a := fun i v2 k0_hw1 k0_t4 => k0_hw1.2.2.2.2.2.2.2.1.2.2.2.2.2.1 k0_t4
theorem k0_mult170_dvd : ∀ (i : grid0.Coords) (v2 : BitVec 32) (k0_hw1 : k0_chk1 i v2) (k0_t4 : Fin (k0_t4_loop i v2).trips), 128 ∣ (k0_mult170 i v2 k0_t4).toNat := fun i v2 k0_hw1 k0_t4 => k0_hw1.2.2.2.2.2.2.2.1.2.2.2.2.2.2.1 k0_t4
theorem k0_off59_inb : ∀ (i : grid0.Coords) (v2 : BitVec 32) (k0_hw1 : k0_chk1 i v2) (k0_t4 : Fin (k0_t4_loop i v2).trips), ∀ a, (k0_off59 i v2 k0_t4) a + S1x32x128.size a ≤ S64x256x512.size a := fun i v2 k0_hw1 k0_t4 => k0_hw1.2.2.2.2.2.2.2.1.2.2.2.2.2.2.2.1 k0_t4
theorem k0_mult171_dvd : ∀ (i : grid0.Coords) (v2 : BitVec 32) (k0_hw1 : k0_chk1 i v2) (k0_t4 : Fin (k0_t4_loop i v2).trips), 128 ∣ (k0_mult171 i v2 k0_t4).toNat := fun i v2 k0_hw1 k0_t4 => k0_hw1.2.2.2.2.2.2.2.1.2.2.2.2.2.2.2.2.1 k0_t4
theorem k0_off60_inb : ∀ (i : grid0.Coords) (v2 : BitVec 32) (k0_hw1 : k0_chk1 i v2) (k0_t4 : Fin (k0_t4_loop i v2).trips), ∀ a, (k0_off60 i v2 k0_t4) a + S1x32x128.size a ≤ S64x256x512.size a := fun i v2 k0_hw1 k0_t4 => k0_hw1.2.2.2.2.2.2.2.1.2.2.2.2.2.2.2.2.2.1 k0_t4
theorem k0_mult172_dvd : ∀ (i : grid0.Coords) (v2 : BitVec 32) (k0_hw1 : k0_chk1 i v2) (k0_t4 : Fin (k0_t4_loop i v2).trips), 128 ∣ (k0_mult172 i v2 k0_t4).toNat := fun i v2 k0_hw1 k0_t4 => k0_hw1.2.2.2.2.2.2.2.1.2.2.2.2.2.2.2.2.2.2.1 k0_t4
theorem k0_off61_inb : ∀ (i : grid0.Coords) (v2 : BitVec 32) (k0_hw1 : k0_chk1 i v2) (k0_t4 : Fin (k0_t4_loop i v2).trips), ∀ a, (k0_off61 i v2 k0_t4) a + S1x32x128.size a ≤ S64x256x512.size a := fun i v2 k0_hw1 k0_t4 => k0_hw1.2.2.2.2.2.2.2.1.2.2.2.2.2.2.2.2.2.2.2.1 k0_t4
theorem k0_mult173_dvd : ∀ (i : grid0.Coords) (v2 : BitVec 32) (k0_hw1 : k0_chk1 i v2) (k0_t4 : Fin (k0_t4_loop i v2).trips), 128 ∣ (k0_mult173 i v2 k0_t4).toNat := fun i v2 k0_hw1 k0_t4 => k0_hw1.2.2.2.2.2.2.2.1.2.2.2.2.2.2.2.2.2.2.2.2.1 k0_t4
theorem k0_mult174_dvd : ∀ (i : grid0.Coords) (v2 : BitVec 32) (k0_hw1 : k0_chk1 i v2) (k0_t4 : Fin (k0_t4_loop i v2).trips), 128 ∣ (k0_mult174 i v2 k0_t4).toNat := fun i v2 k0_hw1 k0_t4 => k0_hw1.2.2.2.2.2.2.2.1.2.2.2.2.2.2.2.2.2.2.2.2.2.1 k0_t4
theorem k0_mult175_dvd : ∀ (i : grid0.Coords) (v2 : BitVec 32) (k0_hw1 : k0_chk1 i v2) (k0_t4 : Fin (k0_t4_loop i v2).trips), 128 ∣ (k0_mult175 i v2 k0_t4).toNat := fun i v2 k0_hw1 k0_t4 => k0_hw1.2.2.2.2.2.2.2.1.2.2.2.2.2.2.2.2.2.2.2.2.2.2.1 k0_t4
theorem k0_mult176_dvd : ∀ (i : grid0.Coords) (v2 : BitVec 32) (k0_hw1 : k0_chk1 i v2) (k0_t4 : Fin (k0_t4_loop i v2).trips), 128 ∣ (k0_mult176 i v2 k0_t4).toNat := fun i v2 k0_hw1 k0_t4 => k0_hw1.2.2.2.2.2.2.2.1.2.2.2.2.2.2.2.2.2.2.2.2.2.2.2.1 k0_t4
theorem k0_mult177_dvd : ∀ (i : grid0.Coords) (v2 : BitVec 32) (k0_hw1 : k0_chk1 i v2) (k0_t4 : Fin (k0_t4_loop i v2).trips), 128 ∣ (k0_mult177 i v2 k0_t4).toNat := fun i v2 k0_hw1 k0_t4 => k0_hw1.2.2.2.2.2.2.2.1.2.2.2.2.2.2.2.2.2.2.2.2.2.2.2.2.1 k0_t4
theorem k0_off62_inb : ∀ (i : grid0.Coords) (v2 : BitVec 32) (k0_hw1 : k0_chk1 i v2) (k0_t4 : Fin (k0_t4_loop i v2).trips), ∀ a, (k0_off62 i v2 k0_t4) a + S1x32x128.size a ≤ S64x256x512.size a := fun i v2 k0_hw1 k0_t4 => k0_hw1.2.2.2.2.2.2.2.1.2.2.2.2.2.2.2.2.2.2.2.2.2.2.2.2.2.1 k0_t4
theorem k0_mult178_dvd : ∀ (i : grid0.Coords) (v2 : BitVec 32) (k0_hw1 : k0_chk1 i v2) (k0_t4 : Fin (k0_t4_loop i v2).trips), 128 ∣ (k0_mult178 i v2 k0_t4).toNat := fun i v2 k0_hw1 k0_t4 => k0_hw1.2.2.2.2.2.2.2.1.2.2.2.2.2.2.2.2.2.2.2.2.2.2.2.2.2.2.1 k0_t4
theorem k0_off63_inb : ∀ (i : grid0.Coords) (v2 : BitVec 32) (k0_hw1 : k0_chk1 i v2) (k0_t4 : Fin (k0_t4_loop i v2).trips), ∀ a, (k0_off63 i v2 k0_t4) a + S1x32x128.size a ≤ S64x256x512.size a := fun i v2 k0_hw1 k0_t4 => k0_hw1.2.2.2.2.2.2.2.1.2.2.2.2.2.2.2.2.2.2.2.2.2.2.2.2.2.2.2.1 k0_t4
theorem k0_mult179_dvd : ∀ (i : grid0.Coords) (v2 : BitVec 32) (k0_hw1 : k0_chk1 i v2) (k0_t4 : Fin (k0_t4_loop i v2).trips), 128 ∣ (k0_mult179 i v2 k0_t4).toNat := fun i v2 k0_hw1 k0_t4 => k0_hw1.2.2.2.2.2.2.2.1.2.2.2.2.2.2.2.2.2.2.2.2.2.2.2.2.2.2.2.2.1 k0_t4
theorem k0_off64_inb : ∀ (i : grid0.Coords) (v2 : BitVec 32) (k0_hw1 : k0_chk1 i v2) (k0_t4 : Fin (k0_t4_loop i v2).trips), ∀ a, (k0_off64 i v2 k0_t4) a + S1x32x128.size a ≤ S64x256x512.size a := fun i v2 k0_hw1 k0_t4 => k0_hw1.2.2.2.2.2.2.2.1.2.2.2.2.2.2.2.2.2.2.2.2.2.2.2.2.2.2.2.2.2.1 k0_t4
theorem k0_mult180_dvd : ∀ (i : grid0.Coords) (v2 : BitVec 32) (k0_hw1 : k0_chk1 i v2) (k0_t4 : Fin (k0_t4_loop i v2).trips), 128 ∣ (k0_mult180 i v2 k0_t4).toNat := fun i v2 k0_hw1 k0_t4 => k0_hw1.2.2.2.2.2.2.2.1.2.2.2.2.2.2.2.2.2.2.2.2.2.2.2.2.2.2.2.2.2.2.1 k0_t4
theorem k0_off65_inb : ∀ (i : grid0.Coords) (v2 : BitVec 32) (k0_hw1 : k0_chk1 i v2) (k0_t4 : Fin (k0_t4_loop i v2).trips), ∀ a, (k0_off65 i v2 k0_t4) a + S1x32x128.size a ≤ S64x256x512.size a := fun i v2 k0_hw1 k0_t4 => k0_hw1.2.2.2.2.2.2.2.1.2.2.2.2.2.2.2.2.2.2.2.2.2.2.2.2.2.2.2.2.2.2.2.1 k0_t4
theorem k0_mult181_dvd : ∀ (i : grid0.Coords) (v2 : BitVec 32) (k0_hw1 : k0_chk1 i v2) (k0_t4 : Fin (k0_t4_loop i v2).trips), 128 ∣ (k0_mult181 i v2 k0_t4).toNat := fun i v2 k0_hw1 k0_t4 => k0_hw1.2.2.2.2.2.2.2.1.2.2.2.2.2.2.2.2.2.2.2.2.2.2.2.2.2.2.2.2.2.2.2.2.1 k0_t4
theorem k0_mult182_dvd : ∀ (i : grid0.Coords) (v2 : BitVec 32) (k0_hw1 : k0_chk1 i v2) (k0_t4 : Fin (k0_t4_loop i v2).trips), 128 ∣ (k0_mult182 i v2 k0_t4).toNat := fun i v2 k0_hw1 k0_t4 => k0_hw1.2.2.2.2.2.2.2.1.2.2.2.2.2.2.2.2.2.2.2.2.2.2.2.2.2.2.2.2.2.2.2.2.2.1 k0_t4
theorem k0_mult183_dvd : ∀ (i : grid0.Coords) (v2 : BitVec 32) (k0_hw1 : k0_chk1 i v2) (k0_t4 : Fin (k0_t4_loop i v2).trips), 128 ∣ (k0_mult183 i v2 k0_t4).toNat := fun i v2 k0_hw1 k0_t4 => k0_hw1.2.2.2.2.2.2.2.1.2.2.2.2.2.2.2.2.2.2.2.2.2.2.2.2.2.2.2.2.2.2.2.2.2.2.1 k0_t4
theorem k0_mult184_dvd : ∀ (i : grid0.Coords) (v2 : BitVec 32) (k0_hw1 : k0_chk1 i v2) (k0_t4 : Fin (k0_t4_loop i v2).trips), 128 ∣ (k0_mult184 i v2 k0_t4).toNat := fun i v2 k0_hw1 k0_t4 => k0_hw1.2.2.2.2.2.2.2.1.2.2.2.2.2.2.2.2.2.2.2.2.2.2.2.2.2.2.2.2.2.2.2.2.2.2.2.1 k0_t4
theorem k0_mult185_dvd : ∀ (i : grid0.Coords) (v2 : BitVec 32) (k0_hw1 : k0_chk1 i v2) (k0_t4 : Fin (k0_t4_loop i v2).trips), 128 ∣ (k0_mult185 i v2 k0_t4).toNat := fun i v2 k0_hw1 k0_t4 => k0_hw1.2.2.2.2.2.2.2.1.2.2.2.2.2.2.2.2.2.2.2.2.2.2.2.2.2.2.2.2.2.2.2.2.2.2.2.2.1 k0_t4
theorem k0_off66_inb : ∀ (i : grid0.Coords) (v2 : BitVec 32) (k0_hw1 : k0_chk1 i v2) (k0_t4 : Fin (k0_t4_loop i v2).trips), ∀ a, (k0_off66 i v2 k0_t4) a + S1x32x128.size a ≤ S64x256x512.size a := fun i v2 k0_hw1 k0_t4 => k0_hw1.2.2.2.2.2.2.2.1.2.2.2.2.2.2.2.2.2.2.2.2.2.2.2.2.2.2.2.2.2.2.2.2.2.2.2.2.2.1 k0_t4
theorem k0_mult186_dvd : ∀ (i : grid0.Coords) (v2 : BitVec 32) (k0_hw1 : k0_chk1 i v2) (k0_t4 : Fin (k0_t4_loop i v2).trips), 128 ∣ (k0_mult186 i v2 k0_t4).toNat := fun i v2 k0_hw1 k0_t4 => k0_hw1.2.2.2.2.2.2.2.1.2.2.2.2.2.2.2.2.2.2.2.2.2.2.2.2.2.2.2.2.2.2.2.2.2.2.2.2.2.2.1 k0_t4
theorem k0_off67_inb : ∀ (i : grid0.Coords) (v2 : BitVec 32) (k0_hw1 : k0_chk1 i v2) (k0_t4 : Fin (k0_t4_loop i v2).trips), ∀ a, (k0_off67 i v2 k0_t4) a + S1x32x128.size a ≤ S64x256x512.size a := fun i v2 k0_hw1 k0_t4 => k0_hw1.2.2.2.2.2.2.2.1.2.2.2.2.2.2.2.2.2.2.2.2.2.2.2.2.2.2.2.2.2.2.2.2.2.2.2.2.2.2.2 k0_t4
theorem k0_mult187_dvd : ∀ (i : grid0.Coords) (v2 : BitVec 32) (k0_hw1 : k0_chk1 i v2) (k0_t4 : Fin (k0_t4_loop i v2).trips), 128 ∣ (k0_mult187 i v2 k0_t4).toNat := fun i v2 k0_hw1 k0_t4 => k0_hw1.2.2.2.2.2.2.2.2.1.1 k0_t4
theorem k0_off68_inb : ∀ (i : grid0.Coords) (v2 : BitVec 32) (k0_hw1 : k0_chk1 i v2) (k0_t4 : Fin (k0_t4_loop i v2).trips), ∀ a, (k0_off68 i v2 k0_t4) a + S1x32x128.size a ≤ S64x256x512.size a := fun i v2 k0_hw1 k0_t4 => k0_hw1.2.2.2.2.2.2.2.2.1.2.1 k0_t4
theorem k0_mult188_dvd : ∀ (i : grid0.Coords) (v2 : BitVec 32) (k0_hw1 : k0_chk1 i v2) (k0_t4 : Fin (k0_t4_loop i v2).trips), 128 ∣ (k0_mult188 i v2 k0_t4).toNat := fun i v2 k0_hw1 k0_t4 => k0_hw1.2.2.2.2.2.2.2.2.1.2.2.1 k0_t4
theorem k0_off69_inb : ∀ (i : grid0.Coords) (v2 : BitVec 32) (k0_hw1 : k0_chk1 i v2) (k0_t4 : Fin (k0_t4_loop i v2).trips), ∀ a, (k0_off69 i v2 k0_t4) a + S1x32x128.size a ≤ S64x256x512.size a := fun i v2 k0_hw1 k0_t4 => k0_hw1.2.2.2.2.2.2.2.2.1.2.2.2.1 k0_t4
theorem k0_mult189_dvd : ∀ (i : grid0.Coords) (v2 : BitVec 32) (k0_hw1 : k0_chk1 i v2) (k0_t4 : Fin (k0_t4_loop i v2).trips), 128 ∣ (k0_mult189 i v2 k0_t4).toNat := fun i v2 k0_hw1 k0_t4 => k0_hw1.2.2.2.2.2.2.2.2.1.2.2.2.2.1 k0_t4
theorem k0_mult190_dvd : ∀ (i : grid0.Coords) (v2 : BitVec 32) (k0_hw1 : k0_chk1 i v2) (k0_t4 : Fin (k0_t4_loop i v2).trips), 128 ∣ (k0_mult190 i v2 k0_t4).toNat := fun i v2 k0_hw1 k0_t4 => k0_hw1.2.2.2.2.2.2.2.2.1.2.2.2.2.2.1 k0_t4
theorem k0_mult191_dvd : ∀ (i : grid0.Coords) (v2 : BitVec 32) (k0_hw1 : k0_chk1 i v2) (k0_t4 : Fin (k0_t4_loop i v2).trips), 128 ∣ (k0_mult191 i v2 k0_t4).toNat := fun i v2 k0_hw1 k0_t4 => k0_hw1.2.2.2.2.2.2.2.2.1.2.2.2.2.2.2.1 k0_t4
theorem k0_mult192_dvd : ∀ (i : grid0.Coords) (v2 : BitVec 32) (k0_hw1 : k0_chk1 i v2) (k0_t4 : Fin (k0_t4_loop i v2).trips), 128 ∣ (k0_mult192 i v2 k0_t4).toNat := fun i v2 k0_hw1 k0_t4 => k0_hw1.2.2.2.2.2.2.2.2.1.2.2.2.2.2.2.2.1 k0_t4
theorem k0_mult193_dvd : ∀ (i : grid0.Coords) (v2 : BitVec 32) (k0_hw1 : k0_chk1 i v2) (k0_t4 : Fin (k0_t4_loop i v2).trips), 128 ∣ (k0_mult193 i v2 k0_t4).toNat := fun i v2 k0_hw1 k0_t4 => k0_hw1.2.2.2.2.2.2.2.2.1.2.2.2.2.2.2.2.2.1 k0_t4
theorem k0_off70_inb : ∀ (i : grid0.Coords) (v2 : BitVec 32) (k0_hw1 : k0_chk1 i v2) (k0_t4 : Fin (k0_t4_loop i v2).trips), ∀ a, (k0_off70 i v2 k0_t4) a + S1x32x128.size a ≤ S64x256x512.size a := fun i v2 k0_hw1 k0_t4 => k0_hw1.2.2.2.2.2.2.2.2.1.2.2.2.2.2.2.2.2.2.1 k0_t4
theorem k0_mult194_dvd : ∀ (i : grid0.Coords) (v2 : BitVec 32) (k0_hw1 : k0_chk1 i v2) (k0_t4 : Fin (k0_t4_loop i v2).trips), 128 ∣ (k0_mult194 i v2 k0_t4).toNat := fun i v2 k0_hw1 k0_t4 => k0_hw1.2.2.2.2.2.2.2.2.1.2.2.2.2.2.2.2.2.2.2.1 k0_t4
theorem k0_off71_inb : ∀ (i : grid0.Coords) (v2 : BitVec 32) (k0_hw1 : k0_chk1 i v2) (k0_t4 : Fin (k0_t4_loop i v2).trips), ∀ a, (k0_off71 i v2 k0_t4) a + S1x32x128.size a ≤ S64x256x512.size a := fun i v2 k0_hw1 k0_t4 => k0_hw1.2.2.2.2.2.2.2.2.1.2.2.2.2.2.2.2.2.2.2.2.1 k0_t4
theorem k0_mult195_dvd : ∀ (i : grid0.Coords) (v2 : BitVec 32) (k0_hw1 : k0_chk1 i v2) (k0_t4 : Fin (k0_t4_loop i v2).trips), 128 ∣ (k0_mult195 i v2 k0_t4).toNat := fun i v2 k0_hw1 k0_t4 => k0_hw1.2.2.2.2.2.2.2.2.1.2.2.2.2.2.2.2.2.2.2.2.2.1 k0_t4
theorem k0_off72_inb : ∀ (i : grid0.Coords) (v2 : BitVec 32) (k0_hw1 : k0_chk1 i v2) (k0_t4 : Fin (k0_t4_loop i v2).trips), ∀ a, (k0_off72 i v2 k0_t4) a + S1x32x128.size a ≤ S64x256x512.size a := fun i v2 k0_hw1 k0_t4 => k0_hw1.2.2.2.2.2.2.2.2.1.2.2.2.2.2.2.2.2.2.2.2.2.2.1 k0_t4
theorem k0_mult196_dvd : ∀ (i : grid0.Coords) (v2 : BitVec 32) (k0_hw1 : k0_chk1 i v2) (k0_t4 : Fin (k0_t4_loop i v2).trips), 128 ∣ (k0_mult196 i v2 k0_t4).toNat := fun i v2 k0_hw1 k0_t4 => k0_hw1.2.2.2.2.2.2.2.2.1.2.2.2.2.2.2.2.2.2.2.2.2.2.2.1 k0_t4
theorem k0_off73_inb : ∀ (i : grid0.Coords) (v2 : BitVec 32) (k0_hw1 : k0_chk1 i v2) (k0_t4 : Fin (k0_t4_loop i v2).trips), ∀ a, (k0_off73 i v2 k0_t4) a + S1x32x128.size a ≤ S64x256x512.size a := fun i v2 k0_hw1 k0_t4 => k0_hw1.2.2.2.2.2.2.2.2.1.2.2.2.2.2.2.2.2.2.2.2.2.2.2.2.1 k0_t4
theorem k0_t5_ok : ∀ (i : grid0.Coords) (v2 : BitVec 32) (k0_hw1 : k0_chk1 i v2), (k0_t5_loop i v2).OK := fun i v2 k0_hw1 => k0_hw1.2.2.2.2.2.2.2.2.1.2.2.2.2.2.2.2.2.2.2.2.2.2.2.2.2.1
theorem k0_off74_inb : ∀ (i : grid0.Coords) (v2 : BitVec 32) (k0_hw1 : k0_chk1 i v2) (k0_t5 : Fin (k0_t5_loop i v2).trips), ∀ a, (k0_off74 i v2 k0_t5) a + S1x32x128.size a ≤ S64x256x512.size a := fun i v2 k0_hw1 k0_t5 => k0_hw1.2.2.2.2.2.2.2.2.1.2.2.2.2.2.2.2.2.2.2.2.2.2.2.2.2.2.1 k0_t5
theorem k0_off75_inb : ∀ (i : grid0.Coords) (v2 : BitVec 32) (k0_hw1 : k0_chk1 i v2) (k0_t5 : Fin (k0_t5_loop i v2).trips), ∀ a, (k0_off75 i v2 k0_t5) a + S1x32x128.size a ≤ S64x256x512.size a := fun i v2 k0_hw1 k0_t5 => k0_hw1.2.2.2.2.2.2.2.2.1.2.2.2.2.2.2.2.2.2.2.2.2.2.2.2.2.2.2.1 k0_t5
theorem k0_off76_inb : ∀ (i : grid0.Coords) (v2 : BitVec 32) (k0_hw1 : k0_chk1 i v2) (k0_t5 : Fin (k0_t5_loop i v2).trips), ∀ a, (k0_off76 i v2 k0_t5) a + S1x32x128.size a ≤ S64x256x512.size a := fun i v2 k0_hw1 k0_t5 => k0_hw1.2.2.2.2.2.2.2.2.1.2.2.2.2.2.2.2.2.2.2.2.2.2.2.2.2.2.2.2.1 k0_t5
theorem k0_off77_inb : ∀ (i : grid0.Coords) (v2 : BitVec 32) (k0_hw1 : k0_chk1 i v2) (k0_t5 : Fin (k0_t5_loop i v2).trips), ∀ a, (k0_off77 i v2 k0_t5) a + S1x32x128.size a ≤ S64x256x512.size a := fun i v2 k0_hw1 k0_t5 => k0_hw1.2.2.2.2.2.2.2.2.1.2.2.2.2.2.2.2.2.2.2.2.2.2.2.2.2.2.2.2.2.1 k0_t5
theorem k0_off78_inb : ∀ (i : grid0.Coords) (v2 : BitVec 32) (k0_hw1 : k0_chk1 i v2) (k0_t5 : Fin (k0_t5_loop i v2).trips), ∀ a, (k0_off78 i v2 k0_t5) a + S1x32x128.size a ≤ S64x256x512.size a := fun i v2 k0_hw1 k0_t5 => k0_hw1.2.2.2.2.2.2.2.2.1.2.2.2.2.2.2.2.2.2.2.2.2.2.2.2.2.2.2.2.2.2.1 k0_t5
theorem k0_off79_inb : ∀ (i : grid0.Coords) (v2 : BitVec 32) (k0_hw1 : k0_chk1 i v2) (k0_t5 : Fin (k0_t5_loop i v2).trips), ∀ a, (k0_off79 i v2 k0_t5) a + S1x32x128.size a ≤ S64x256x512.size a := fun i v2 k0_hw1 k0_t5 => k0_hw1.2.2.2.2.2.2.2.2.1.2.2.2.2.2.2.2.2.2.2.2.2.2.2.2.2.2.2.2.2.2.2.1 k0_t5
theorem k0_off80_inb : ∀ (i : grid0.Coords) (v2 : BitVec 32) (k0_hw1 : k0_chk1 i v2) (k0_t5 : Fin (k0_t5_loop i v2).trips), ∀ a, (k0_off80 i v2 k0_t5) a + S1x32x128.size a ≤ S64x256x512.size a := fun i v2 k0_hw1 k0_t5 => k0_hw1.2.2.2.2.2.2.2.2.1.2.2.2.2.2.2.2.2.2.2.2.2.2.2.2.2.2.2.2.2.2.2.2.1 k0_t5
theorem k0_off81_inb : ∀ (i : grid0.Coords) (v2 : BitVec 32) (k0_hw1 : k0_chk1 i v2) (k0_t5 : Fin (k0_t5_loop i v2).trips), ∀ a, (k0_off81 i v2 k0_t5) a + S1x32x128.size a ≤ S64x256x512.size a := fun i v2 k0_hw1 k0_t5 => k0_hw1.2.2.2.2.2.2.2.2.1.2.2.2.2.2.2.2.2.2.2.2.2.2.2.2.2.2.2.2.2.2.2.2.2.1 k0_t5
theorem k0_off82_inb : ∀ (i : grid0.Coords) (v2 : BitVec 32) (k0_hw1 : k0_chk1 i v2) (k0_t5 : Fin (k0_t5_loop i v2).trips), ∀ a, (k0_off82 i v2 k0_t5) a + S1x32x128.size a ≤ S64x256x512.size a := fun i v2 k0_hw1 k0_t5 => k0_hw1.2.2.2.2.2.2.2.2.1.2.2.2.2.2.2.2.2.2.2.2.2.2.2.2.2.2.2.2.2.2.2.2.2.2.1 k0_t5
theorem k0_off83_inb : ∀ (i : grid0.Coords) (v2 : BitVec 32) (k0_hw1 : k0_chk1 i v2) (k0_t5 : Fin (k0_t5_loop i v2).trips), ∀ a, (k0_off83 i v2 k0_t5) a + S1x32x128.size a ≤ S64x256x512.size a := fun i v2 k0_hw1 k0_t5 => k0_hw1.2.2.2.2.2.2.2.2.1.2.2.2.2.2.2.2.2.2.2.2.2.2.2.2.2.2.2.2.2.2.2.2.2.2.2.1 k0_t5
theorem k0_off84_inb : ∀ (i : grid0.Coords) (v2 : BitVec 32) (k0_hw1 : k0_chk1 i v2) (k0_t5 : Fin (k0_t5_loop i v2).trips), ∀ a, (k0_off84 i v2 k0_t5) a + S1x32x128.size a ≤ S64x256x512.size a := fun i v2 k0_hw1 k0_t5 => k0_hw1.2.2.2.2.2.2.2.2.1.2.2.2.2.2.2.2.2.2.2.2.2.2.2.2.2.2.2.2.2.2.2.2.2.2.2.2.1 k0_t5
theorem k0_off85_inb : ∀ (i : grid0.Coords) (v2 : BitVec 32) (k0_hw1 : k0_chk1 i v2) (k0_t5 : Fin (k0_t5_loop i v2).trips), ∀ a, (k0_off85 i v2 k0_t5) a + S1x32x128.size a ≤ S64x256x512.size a := fun i v2 k0_hw1 k0_t5 => k0_hw1.2.2.2.2.2.2.2.2.1.2.2.2.2.2.2.2.2.2.2.2.2.2.2.2.2.2.2.2.2.2.2.2.2.2.2.2.2.1 k0_t5
theorem k0_off86_inb : ∀ (i : grid0.Coords) (v2 : BitVec 32) (k0_hw1 : k0_chk1 i v2) (k0_t5 : Fin (k0_t5_loop i v2).trips), ∀ a, (k0_off86 i v2 k0_t5) a + S1x32x128.size a ≤ S64x256x512.size a := fun i v2 k0_hw1 k0_t5 => k0_hw1.2.2.2.2.2.2.2.2.1.2.2.2.2.2.2.2.2.2.2.2.2.2.2.2.2.2.2.2.2.2.2.2.2.2.2.2.2.2.1 k0_t5
theorem k0_off87_inb : ∀ (i : grid0.Coords) (v2 : BitVec 32) (k0_hw1 : k0_chk1 i v2) (k0_t5 : Fin (k0_t5_loop i v2).trips), ∀ a, (k0_off87 i v2 k0_t5) a + S1x32x128.size a ≤ S64x256x512.size a := fun i v2 k0_hw1 k0_t5 => k0_hw1.2.2.2.2.2.2.2.2.1.2.2.2.2.2.2.2.2.2.2.2.2.2.2.2.2.2.2.2.2.2.2.2.2.2.2.2.2.2.2.1 k0_t5
theorem k0_off88_inb : ∀ (i : grid0.Coords) (v2 : BitVec 32) (k0_hw1 : k0_chk1 i v2) (k0_t5 : Fin (k0_t5_loop i v2).trips), ∀ a, (k0_off88 i v2 k0_t5) a + S1x32x128.size a ≤ S64x256x512.size a := fun i v2 k0_hw1 k0_t5 => k0_hw1.2.2.2.2.2.2.2.2.1.2.2.2.2.2.2.2.2.2.2.2.2.2.2.2.2.2.2.2.2.2.2.2.2.2.2.2.2.2.2.2 k0_t5
theorem k0_off89_inb : ∀ (i : grid0.Coords) (v2 : BitVec 32) (k0_hw1 : k0_chk1 i v2) (k0_t5 : Fin (k0_t5_loop i v2).trips), ∀ a, (k0_off89 i v2 k0_t5) a + S1x32x128.size a ≤ S64x256x512.size a := fun i v2 k0_hw1 k0_t5 => k0_hw1.2.2.2.2.2.2.2.2.2.1.1 k0_t5
theorem k0_off90_inb : ∀ (i : grid0.Coords) (v2 : BitVec 32) (k0_hw1 : k0_chk1 i v2) (k0_t5 : Fin (k0_t5_loop i v2).trips), ∀ a, (k0_off90 i v2 k0_t5) a + S1x32x128.size a ≤ S64x256x512.size a := fun i v2 k0_hw1 k0_t5 => k0_hw1.2.2.2.2.2.2.2.2.2.1.2.1 k0_t5
theorem k0_off91_inb : ∀ (i : grid0.Coords) (v2 : BitVec 32) (k0_hw1 : k0_chk1 i v2) (k0_t5 : Fin (k0_t5_loop i v2).trips), ∀ a, (k0_off91 i v2 k0_t5) a + S1x32x128.size a ≤ S64x256x512.size a := fun i v2 k0_hw1 k0_t5 => k0_hw1.2.2.2.2.2.2.2.2.2.1.2.2.1 k0_t5
theorem k0_off92_inb : ∀ (i : grid0.Coords) (v2 : BitVec 32) (k0_hw1 : k0_chk1 i v2) (k0_t5 : Fin (k0_t5_loop i v2).trips), ∀ a, (k0_off92 i v2 k0_t5) a + S1x32x128.size a ≤ S64x256x512.size a := fun i v2 k0_hw1 k0_t5 => k0_hw1.2.2.2.2.2.2.2.2.2.1.2.2.2.1 k0_t5
theorem k0_off93_inb : ∀ (i : grid0.Coords) (v2 : BitVec 32) (k0_hw1 : k0_chk1 i v2) (k0_t5 : Fin (k0_t5_loop i v2).trips), ∀ a, (k0_off93 i v2 k0_t5) a + S1x32x128.size a ≤ S64x256x512.size a := fun i v2 k0_hw1 k0_t5 => k0_hw1.2.2.2.2.2.2.2.2.2.1.2.2.2.2.1 k0_t5
theorem k0_off94_inb : ∀ (i : grid0.Coords) (v2 : BitVec 32) (k0_hw1 : k0_chk1 i v2) (k0_t5 : Fin (k0_t5_loop i v2).trips), ∀ a, (k0_off94 i v2 k0_t5) a + S1x32x128.size a ≤ S64x256x512.size a := fun i v2 k0_hw1 k0_t5 => k0_hw1.2.2.2.2.2.2.2.2.2.1.2.2.2.2.2.1 k0_t5
theorem k0_off95_inb : ∀ (i : grid0.Coords) (v2 : BitVec 32) (k0_hw1 : k0_chk1 i v2) (k0_t5 : Fin (k0_t5_loop i v2).trips), ∀ a, (k0_off95 i v2 k0_t5) a + S1x32x128.size a ≤ S64x256x512.size a := fun i v2 k0_hw1 k0_t5 => k0_hw1.2.2.2.2.2.2.2.2.2.1.2.2.2.2.2.2.1 k0_t5
theorem k0_off96_inb : ∀ (i : grid0.Coords) (v2 : BitVec 32) (k0_hw1 : k0_chk1 i v2) (k0_t5 : Fin (k0_t5_loop i v2).trips), ∀ a, (k0_off96 i v2 k0_t5) a + S1x32x128.size a ≤ S64x256x512.size a := fun i v2 k0_hw1 k0_t5 => k0_hw1.2.2.2.2.2.2.2.2.2.1.2.2.2.2.2.2.2.1 k0_t5
theorem k0_off97_inb : ∀ (i : grid0.Coords) (v2 : BitVec 32) (k0_hw1 : k0_chk1 i v2) (k0_t5 : Fin (k0_t5_loop i v2).trips), ∀ a, (k0_off97 i v2 k0_t5) a + S1x32x128.size a ≤ S64x256x512.size a := fun i v2 k0_hw1 k0_t5 => k0_hw1.2.2.2.2.2.2.2.2.2.1.2.2.2.2.2.2.2.2.1 k0_t5
theorem k0_off98_inb : ∀ (i : grid0.Coords) (v2 : BitVec 32) (k0_hw1 : k0_chk1 i v2) (k0_t5 : Fin (k0_t5_loop i v2).trips), ∀ a, (k0_off98 i v2 k0_t5) a + S1x32x128.size a ≤ S64x256x512.size a := fun i v2 k0_hw1 k0_t5 => k0_hw1.2.2.2.2.2.2.2.2.2.1.2.2.2.2.2.2.2.2.2.1 k0_t5
theorem k0_off99_inb : ∀ (i : grid0.Coords) (v2 : BitVec 32) (k0_hw1 : k0_chk1 i v2) (k0_t5 : Fin (k0_t5_loop i v2).trips), ∀ a, (k0_off99 i v2 k0_t5) a + S1x32x128.size a ≤ S64x256x512.size a := fun i v2 k0_hw1 k0_t5 => k0_hw1.2.2.2.2.2.2.2.2.2.1.2.2.2.2.2.2.2.2.2.2.1 k0_t5
theorem k0_off100_inb : ∀ (i : grid0.Coords) (v2 : BitVec 32) (k0_hw1 : k0_chk1 i v2) (k0_t5 : Fin (k0_t5_loop i v2).trips), ∀ a, (k0_off100 i v2 k0_t5) a + S1x32x128.size a ≤ S64x256x512.size a := fun i v2 k0_hw1 k0_t5 => k0_hw1.2.2.2.2.2.2.2.2.2.1.2.2.2.2.2.2.2.2.2.2.2.1 k0_t5
theorem k0_off101_inb : ∀ (i : grid0.Coords) (v2 : BitVec 32) (k0_hw1 : k0_chk1 i v2) (k0_t5 : Fin (k0_t5_loop i v2).trips), ∀ a, (k0_off101 i v2 k0_t5) a + S1x32x128.size a ≤ S64x256x512.size a := fun i v2 k0_hw1 k0_t5 => k0_hw1.2.2.2.2.2.2.2.2.2.1.2.2.2.2.2.2.2.2.2.2.2.2.1 k0_t5
theorem k0_off102_inb : ∀ (i : grid0.Coords) (v2 : BitVec 32) (k0_hw1 : k0_chk1 i v2) (k0_t5 : Fin (k0_t5_loop i v2).trips), ∀ a, (k0_off102 i v2 k0_t5) a + S1x32x128.size a ≤ S64x256x512.size a := fun i v2 k0_hw1 k0_t5 => k0_hw1.2.2.2.2.2.2.2.2.2.1.2.2.2.2.2.2.2.2.2.2.2.2.2.1 k0_t5
theorem k0_off103_inb : ∀ (i : grid0.Coords) (v2 : BitVec 32) (k0_hw1 : k0_chk1 i v2) (k0_t5 : Fin (k0_t5_loop i v2).trips), ∀ a, (k0_off103 i v2 k0_t5) a + S1x32x128.size a ≤ S64x256x512.size a := fun i v2 k0_hw1 k0_t5 => k0_hw1.2.2.2.2.2.2.2.2.2.1.2.2.2.2.2.2.2.2.2.2.2.2.2.2.1 k0_t5
theorem k0_off104_inb : ∀ (i : grid0.Coords) (v2 : BitVec 32) (k0_hw1 : k0_chk1 i v2) (k0_t5 : Fin (k0_t5_loop i v2).trips), ∀ a, (k0_off104 i v2 k0_t5) a + S1x32x128.size a ≤ S64x256x512.size a := fun i v2 k0_hw1 k0_t5 => k0_hw1.2.2.2.2.2.2.2.2.2.1.2.2.2.2.2.2.2.2.2.2.2.2.2.2.2.1 k0_t5
theorem k0_off105_inb : ∀ (i : grid0.Coords) (v2 : BitVec 32) (k0_hw1 : k0_chk1 i v2) (k0_t5 : Fin (k0_t5_loop i v2).trips), ∀ a, (k0_off105 i v2 k0_t5) a + S1x32x128.size a ≤ S64x256x512.size a := fun i v2 k0_hw1 k0_t5 => k0_hw1.2.2.2.2.2.2.2.2.2.1.2.2.2.2.2.2.2.2.2.2.2.2.2.2.2.2.1 k0_t5
theorem k0_mult197_dvd : ∀ (i : grid0.Coords) (v2 : BitVec 32) (k0_hw1 : k0_chk1 i v2) (k0_t5 : Fin (k0_t5_loop i v2).trips), 128 ∣ (k0_mult197 i v2 k0_t5).toNat := fun i v2 k0_hw1 k0_t5 => k0_hw1.2.2.2.2.2.2.2.2.2.1.2.2.2.2.2.2.2.2.2.2.2.2.2.2.2.2.2.1 k0_t5
theorem k0_off106_inb : ∀ (i : grid0.Coords) (v2 : BitVec 32) (k0_hw1 : k0_chk1 i v2) (k0_t5 : Fin (k0_t5_loop i v2).trips), ∀ a, (k0_off106 i v2 k0_t5) a + S1x1x512x128.size a ≤ S1x1x33280x128.size a := fun i v2 k0_hw1 k0_t5 => k0_hw1.2.2.2.2.2.2.2.2.2.1.2.2.2.2.2.2.2.2.2.2.2.2.2.2.2.2.2.2.1 k0_t5
theorem k0_t6_ok : ∀ (i : grid0.Coords) (v2 : BitVec 32) (k0_hw1 : k0_chk1 i v2), (k0_t6_loop i v2).OK := fun i v2 k0_hw1 => k0_hw1.2.2.2.2.2.2.2.2.2.1.2.2.2.2.2.2.2.2.2.2.2.2.2.2.2.2.2.2.2.1
theorem k0_off107_inb : ∀ (i : grid0.Coords) (v2 : BitVec 32) (k0_hw1 : k0_chk1 i v2) (k0_t6 : Fin (k0_t6_loop i v2).trips), ∀ a, (k0_off107 i v2 k0_t6) a + S1x32x128.size a ≤ S64x256x512.size a := fun i v2 k0_hw1 k0_t6 => k0_hw1.2.2.2.2.2.2.2.2.2.1.2.2.2.2.2.2.2.2.2.2.2.2.2.2.2.2.2.2.2.2.1 k0_t6
theorem k0_off108_inb : ∀ (i : grid0.Coords) (v2 : BitVec 32) (k0_hw1 : k0_chk1 i v2) (k0_t6 : Fin (k0_t6_loop i v2).trips), ∀ a, (k0_off108 i v2 k0_t6) a + S1x32x128.size a ≤ S64x256x512.size a := fun i v2 k0_hw1 k0_t6 => k0_hw1.2.2.2.2.2.2.2.2.2.1.2.2.2.2.2.2.2.2.2.2.2.2.2.2.2.2.2.2.2.2.2.1 k0_t6
theorem k0_off109_inb : ∀ (i : grid0.Coords) (v2 : BitVec 32) (k0_hw1 : k0_chk1 i v2) (k0_t6 : Fin (k0_t6_loop i v2).trips), ∀ a, (k0_off109 i v2 k0_t6) a + S1x32x128.size a ≤ S64x256x512.size a := fun i v2 k0_hw1 k0_t6 => k0_hw1.2.2.2.2.2.2.2.2.2.1.2.2.2.2.2.2.2.2.2.2.2.2.2.2.2.2.2.2.2.2.2.2.1 k0_t6
theorem k0_off110_inb : ∀ (i : grid0.Coords) (v2 : BitVec 32) (k0_hw1 : k0_chk1 i v2) (k0_t6 : Fin (k0_t6_loop i v2).trips), ∀ a, (k0_off110 i v2 k0_t6) a + S1x32x128.size a ≤ S64x256x512.size a := fun i v2 k0_hw1 k0_t6 => k0_hw1.2.2.2.2.2.2.2.2.2.1.2.2.2.2.2.2.2.2.2.2.2.2.2.2.2.2.2.2.2.2.2.2.2.1 k0_t6
theorem k0_off111_inb : ∀ (i : grid0.Coords) (v2 : BitVec 32) (k0_hw1 : k0_chk1 i v2) (k0_t6 : Fin (k0_t6_loop i v2).trips), ∀ a, (k0_off111 i v2 k0_t6) a + S1x32x128.size a ≤ S64x256x512.size a := fun i v2 k0_hw1 k0_t6 => k0_hw1.2.2.2.2.2.2.2.2.2.1.2.2.2.2.2.2.2.2.2.2.2.2.2.2.2.2.2.2.2.2.2.2.2.2.1 k0_t6
theorem k0_off112_inb : ∀ (i : grid0.Coords) (v2 : BitVec 32) (k0_hw1 : k0_chk1 i v2) (k0_t6 : Fin (k0_t6_loop i v2).trips), ∀ a, (k0_off112 i v2 k0_t6) a + S1x32x128.size a ≤ S64x256x512.size a := fun i v2 k0_hw1 k0_t6 => k0_hw1.2.2.2.2.2.2.2.2.2.1.2.2.2.2.2.2.2.2.2.2.2.2.2.2.2.2.2.2.2.2.2.2.2.2.2.1 k0_t6
theorem k0_off113_inb : ∀ (i : grid0.Coords) (v2 : BitVec 32) (k0_hw1 : k0_chk1 i v2) (k0_t6 : Fin (k0_t6_loop i v2).trips), ∀ a, (k0_off113 i v2 k0_t6) a + S1x32x128.size a ≤ S64x256x512.size a := fun i v2 k0_hw1 k0_t6 => k0_hw1.2.2.2.2.2.2.2.2.2.1.2.2.2.2.2.2.2.2.2.2.2.2.2.2.2.2.2.2.2.2.2.2.2.2.2.2.1 k0_t6
theorem k0_off114_inb : ∀ (i : grid0.Coords) (v2 : BitVec 32) (k0_hw1 : k0_chk1 i v2) (k0_t6 : Fin (k0_t6_loop i v2).trips), ∀ a, (k0_off114 i v2 k0_t6) a + S1x32x128.size a ≤ S64x256x512.size a := fun i v2 k0_hw1 k0_t6 => k0_hw1.2.2.2.2.2.2.2.2.2.1.2.2.2.2.2.2.2.2.2.2.2.2.2.2.2.2.2.2.2.2.2.2.2.2.2.2.2.1 k0_t6
theorem k0_off115_inb : ∀ (i : grid0.Coords) (v2 : BitVec 32) (k0_hw1 : k0_chk1 i v2) (k0_t6 : Fin (k0_t6_loop i v2).trips), ∀ a, (k0_off115 i v2 k0_t6) a + S1x32x128.size a ≤ S64x256x512.size a := fun i v2 k0_hw1 k0_t6 => k0_hw1.2.2.2.2.2.2.2.2.2.1.2.2.2.2.2.2.2.2.2.2.2.2.2.2.2.2.2.2.2.2.2.2.2.2.2.2.2.2.1 k0_t6
theorem k0_off116_inb : ∀ (i : grid0.Coords) (v2 : BitVec 32) (k0_hw1 : k0_chk1 i v2) (k0_t6 : Fin (k0_t6_loop i v2).trips), ∀ a, (k0_off116 i v2 k0_t6) a + S1x32x128.size a ≤ S64x256x512.size a := fun i v2 k0_hw1 k0_t6 => k0_hw1.2.2.2.2.2.2.2.2.2.1.2.2.2.2.2.2.2.2.2.2.2.2.2.2.2.2.2.2.2.2.2.2.2.2.2.2.2.2.2.1 k0_t6
theorem k0_off117_inb : ∀ (i : grid0.Coords) (v2 : BitVec 32) (k0_hw1 : k0_chk1 i v2) (k0_t6 : Fin (k0_t6_loop i v2).trips), ∀ a, (k0_off117 i v2 k0_t6) a + S1x32x128.size a ≤ S64x256x512.size a := fun i v2 k0_hw1 k0_t6 => k0_hw1.2.2.2.2.2.2.2.2.2.1.2.2.2.2.2.2.2.2.2.2.2.2.2.2.2.2.2.2.2.2.2.2.2.2.2.2.2.2.2.2.1 k0_t6
theorem k0_off118_inb : ∀ (i : grid0.Coords) (v2 : BitVec 32) (k0_hw1 : k0_chk1 i v2) (k0_t6 : Fin (k0_t6_loop i v2).trips), ∀ a, (k0_off118 i v2 k0_t6) a + S1x32x128.size a ≤ S64x256x512.size a := fun i v2 k0_hw1 k0_t6 => k0_hw1.2.2.2.2.2.2.2.2.2.1.2.2.2.2.2.2.2.2.2.2.2.2.2.2.2.2.2.2.2.2.2.2.2.2.2.2.2.2.2.2.2 k0_t6
theorem k0_off119_inb : ∀ (i : grid0.Coords) (v2 : BitVec 32) (k0_hw1 : k0_chk1 i v2) (k0_t6 : Fin (k0_t6_loop i v2).trips), ∀ a, (k0_off119 i v2 k0_t6) a + S1x32x128.size a ≤ S64x256x512.size a := fun i v2 k0_hw1 k0_t6 => k0_hw1.2.2.2.2.2.2.2.2.2.2.1 k0_t6
theorem k0_off120_inb : ∀ (i : grid0.Coords) (v2 : BitVec 32) (k0_hw1 : k0_chk1 i v2) (k0_t6 : Fin (k0_t6_loop i v2).trips), ∀ a, (k0_off120 i v2 k0_t6) a + S1x32x128.size a ≤ S64x256x512.size a := fun i v2 k0_hw1 k0_t6 => k0_hw1.2.2.2.2.2.2.2.2.2.2.2.1 k0_t6
theorem k0_off121_inb : ∀ (i : grid0.Coords) (v2 : BitVec 32) (k0_hw1 : k0_chk1 i v2) (k0_t6 : Fin (k0_t6_loop i v2).trips), ∀ a, (k0_off121 i v2 k0_t6) a + S1x32x128.size a ≤ S64x256x512.size a := fun i v2 k0_hw1 k0_t6 => k0_hw1.2.2.2.2.2.2.2.2.2.2.2.2.1 k0_t6
theorem k0_off122_inb : ∀ (i : grid0.Coords) (v2 : BitVec 32) (k0_hw1 : k0_chk1 i v2) (k0_t6 : Fin (k0_t6_loop i v2).trips), ∀ a, (k0_off122 i v2 k0_t6) a + S1x32x128.size a ≤ S64x256x512.size a := fun i v2 k0_hw1 k0_t6 => k0_hw1.2.2.2.2.2.2.2.2.2.2.2.2.2.1 k0_t6
theorem k0_off123_inb : ∀ (i : grid0.Coords) (v2 : BitVec 32) (k0_hw1 : k0_chk1 i v2) (k0_t6 : Fin (k0_t6_loop i v2).trips), ∀ a, (k0_off123 i v2 k0_t6) a + S1x32x128.size a ≤ S64x256x512.size a := fun i v2 k0_hw1 k0_t6 => k0_hw1.2.2.2.2.2.2.2.2.2.2.2.2.2.2.1 k0_t6
theorem k0_off124_inb : ∀ (i : grid0.Coords) (v2 : BitVec 32) (k0_hw1 : k0_chk1 i v2) (k0_t6 : Fin (k0_t6_loop i v2).trips), ∀ a, (k0_off124 i v2 k0_t6) a + S1x32x128.size a ≤ S64x256x512.size a := fun i v2 k0_hw1 k0_t6 => k0_hw1.2.2.2.2.2.2.2.2.2.2.2.2.2.2.2.1 k0_t6
theorem k0_off125_inb : ∀ (i : grid0.Coords) (v2 : BitVec 32) (k0_hw1 : k0_chk1 i v2) (k0_t6 : Fin (k0_t6_loop i v2).trips), ∀ a, (k0_off125 i v2 k0_t6) a + S1x32x128.size a ≤ S64x256x512.size a := fun i v2 k0_hw1 k0_t6 => k0_hw1.2.2.2.2.2.2.2.2.2.2.2.2.2.2.2.2.1 k0_t6
theorem k0_off126_inb : ∀ (i : grid0.Coords) (v2 : BitVec 32) (k0_hw1 : k0_chk1 i v2) (k0_t6 : Fin (k0_t6_loop i v2).trips), ∀ a, (k0_off126 i v2 k0_t6) a + S1x32x128.size a ≤ S64x256x512.size a := fun i v2 k0_hw1 k0_t6 => k0_hw1.2.2.2.2.2.2.2.2.2.2.2.2.2.2.2.2.2.1 k0_t6
theorem k0_off127_inb : ∀ (i : grid0.Coords) (v2 : BitVec 32) (k0_hw1 : k0_chk1 i v2) (k0_t6 : Fin (k0_t6_loop i v2).trips), ∀ a, (k0_off127 i v2 k0_t6) a + S1x32x128.size a ≤ S64x256x512.size a := fun i v2 k0_hw1 k0_t6 => k0_hw1.2.2.2.2.2.2.2.2.2.2.2.2.2.2.2.2.2.2.1 k0_t6
theorem k0_off128_inb : ∀ (i : grid0.Coords) (v2 : BitVec 32) (k0_hw1 : k0_chk1 i v2) (k0_t6 : Fin (k0_t6_loop i v2).trips), ∀ a, (k0_off128 i v2 k0_t6) a + S1x32x128.size a ≤ S64x256x512.size a := fun i v2 k0_hw1 k0_t6 => k0_hw1.2.2.2.2.2.2.2.2.2.2.2.2.2.2.2.2.2.2.2.1 k0_t6
theorem k0_off129_inb : ∀ (i : grid0.Coords) (v2 : BitVec 32) (k0_hw1 : k0_chk1 i v2) (k0_t6 : Fin (k0_t6_loop i v2).trips), ∀ a, (k0_off129 i v2 k0_t6) a + S1x32x128.size a ≤ S64x256x512.size a := fun i v2 k0_hw1 k0_t6 => k0_hw1.2.2.2.2.2.2.2.2.2.2.2.2.2.2.2.2.2.2.2.2.1 k0_t6
theorem k0_off130_inb : ∀ (i : grid0.Coords) (v2 : BitVec 32) (k0_hw1 : k0_chk1 i v2) (k0_t6 : Fin (k0_t6_loop i v2).trips), ∀ a, (k0_off130 i v2 k0_t6) a + S1x32x128.size a ≤ S64x256x512.size a := fun i v2 k0_hw1 k0_t6 => k0_hw1.2.2.2.2.2.2.2.2.2.2.2.2.2.2.2.2.2.2.2.2.2.1 k0_t6
theorem k0_off131_inb : ∀ (i : grid0.Coords) (v2 : BitVec 32) (k0_hw1 : k0_chk1 i v2) (k0_t6 : Fin (k0_t6_loop i v2).trips), ∀ a, (k0_off131 i v2 k0_t6) a + S1x32x128.size a ≤ S64x256x512.size a := fun i v2 k0_hw1 k0_t6 => k0_hw1.2.2.2.2.2.2.2.2.2.2.2.2.2.2.2.2.2.2.2.2.2.2.1 k0_t6
theorem k0_off132_inb : ∀ (i : grid0.Coords) (v2 : BitVec 32) (k0_hw1 : k0_chk1 i v2) (k0_t6 : Fin (k0_t6_loop i v2).trips), ∀ a, (k0_off132 i v2 k0_t6) a + S1x32x128.size a ≤ S64x256x512.size a := fun i v2 k0_hw1 k0_t6 => k0_hw1.2.2.2.2.2.2.2.2.2.2.2.2.2.2.2.2.2.2.2.2.2.2.2.1 k0_t6
theorem k0_off133_inb : ∀ (i : grid0.Coords) (v2 : BitVec 32) (k0_hw1 : k0_chk1 i v2) (k0_t6 : Fin (k0_t6_loop i v2).trips), ∀ a, (k0_off133 i v2 k0_t6) a + S1x32x128.size a ≤ S64x256x512.size a := fun i v2 k0_hw1 k0_t6 => k0_hw1.2.2.2.2.2.2.2.2.2.2.2.2.2.2.2.2.2.2.2.2.2.2.2.2.1 k0_t6
theorem k0_off134_inb : ∀ (i : grid0.Coords) (v2 : BitVec 32) (k0_hw1 : k0_chk1 i v2) (k0_t6 : Fin (k0_t6_loop i v2).trips), ∀ a, (k0_off134 i v2 k0_t6) a + S1x32x128.size a ≤ S64x256x512.size a := fun i v2 k0_hw1 k0_t6 => k0_hw1.2.2.2.2.2.2.2.2.2.2.2.2.2.2.2.2.2.2.2.2.2.2.2.2.2.1 k0_t6
theorem k0_off135_inb : ∀ (i : grid0.Coords) (v2 : BitVec 32) (k0_hw1 : k0_chk1 i v2) (k0_t6 : Fin (k0_t6_loop i v2).trips), ∀ a, (k0_off135 i v2 k0_t6) a + S1x32x128.size a ≤ S64x256x512.size a := fun i v2 k0_hw1 k0_t6 => k0_hw1.2.2.2.2.2.2.2.2.2.2.2.2.2.2.2.2.2.2.2.2.2.2.2.2.2.2.1 k0_t6
theorem k0_off136_inb : ∀ (i : grid0.Coords) (v2 : BitVec 32) (k0_hw1 : k0_chk1 i v2) (k0_t6 : Fin (k0_t6_loop i v2).trips), ∀ a, (k0_off136 i v2 k0_t6) a + S1x32x128.size a ≤ S64x256x512.size a := fun i v2 k0_hw1 k0_t6 => k0_hw1.2.2.2.2.2.2.2.2.2.2.2.2.2.2.2.2.2.2.2.2.2.2.2.2.2.2.2.1 k0_t6
theorem k0_off137_inb : ∀ (i : grid0.Coords) (v2 : BitVec 32) (k0_hw1 : k0_chk1 i v2) (k0_t6 : Fin (k0_t6_loop i v2).trips), ∀ a, (k0_off137 i v2 k0_t6) a + S1x32x128.size a ≤ S64x256x512.size a := fun i v2 k0_hw1 k0_t6 => k0_hw1.2.2.2.2.2.2.2.2.2.2.2.2.2.2.2.2.2.2.2.2.2.2.2.2.2.2.2.2.1 k0_t6
theorem k0_off138_inb : ∀ (i : grid0.Coords) (v2 : BitVec 32) (k0_hw1 : k0_chk1 i v2) (k0_t6 : Fin (k0_t6_loop i v2).trips), ∀ a, (k0_off138 i v2 k0_t6) a + S1x32x128.size a ≤ S64x256x512.size a := fun i v2 k0_hw1 k0_t6 => k0_hw1.2.2.2.2.2.2.2.2.2.2.2.2.2.2.2.2.2.2.2.2.2.2.2.2.2.2.2.2.2.1 k0_t6
theorem k0_mult198_dvd : ∀ (i : grid0.Coords) (v2 : BitVec 32) (k0_hw1 : k0_chk1 i v2) (k0_t6 : Fin (k0_t6_loop i v2).trips), 128 ∣ (k0_mult198 i v2 k0_t6).toNat := fun i v2 k0_hw1 k0_t6 => k0_hw1.2.2.2.2.2.2.2.2.2.2.2.2.2.2.2.2.2.2.2.2.2.2.2.2.2.2.2.2.2.2.1 k0_t6
theorem k0_off139_inb : ∀ (i : grid0.Coords) (v2 : BitVec 32) (k0_hw1 : k0_chk1 i v2) (k0_t6 : Fin (k0_t6_loop i v2).trips), ∀ a, (k0_off139 i v2 k0_t6) a + S1x1x512x128.size a ≤ S1x1x33280x128.size a := fun i v2 k0_hw1 k0_t6 => k0_hw1.2.2.2.2.2.2.2.2.2.2.2.2.2.2.2.2.2.2.2.2.2.2.2.2.2.2.2.2.2.2.2 k0_t6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, arg3.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, arg3.toNat, v1.toNat]

abbrev stage0_0 : Fin 2 → Memref sig .tc .vmem S1x128x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, true]

abbrev stage0_2 : Fin 2 → Memref sig .tc .vmem S1x128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, true]

abbrev stage0_3 : Fin 2 → Memref sig .tc .vmem S1x1x128x33280 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

abbrev stage0_4 : Fin 2 → Memref sig .tc .vmem S1x1x33280x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x1x1x33280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S1x1x1x33280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, true]
-- ==== KernelIdeal.lean ====
variable {F : FTy → Type} [FloatOps F] [Named F]
def κ : String → Option EReal := fun
  | "log2e" => some (((Real.log 2)⁻¹ : ℝ) : EReal)
  | "masked" => some ⊥
  | "scaled_log2e" => some (((1 / 8) * (Real.log 2)⁻¹ : ℝ) : EReal)
  | _ => none
-- ==== ReferenceIdeal.lean ====
abbrev S2x32768x1024 : Shape := ⟨3, ![2, 32768, 1024]⟩
abbrev S2x32768x256 : Shape := ⟨3, ![2, 32768, 256]⟩
abbrev S2x32768x16 : Shape := ⟨3, ![2, 32768, 16]⟩
abbrev S2x32768x4 : Shape := ⟨3, ![2, 32768, 4]⟩
abbrev S2x32768 : Shape := ⟨2, ![2, 32768]⟩
abbrev S2x32768x4x4x64 : Shape := ⟨5, ![2, 32768, 4, 4, 64]⟩
abbrev S2x32768x4x64 : Shape := ⟨4, ![2, 32768, 4, 64]⟩
abbrev S2x32768x4x4 : Shape := ⟨4, ![2, 32768, 4, 4]⟩
abbrev S2x4x4x32768 : Shape := ⟨4, ![2, 4, 4, 32768]⟩
abbrev S2x4x4x32768x1 : Shape := ⟨5, ![2, 4, 4, 32768, 1]⟩
abbrev S2x4x32768 : Shape := ⟨3, ![2, 4, 32768]⟩
abbrev S2x4x1x1x32768 : Shape := ⟨5, ![2, 4, 1, 1, 32768]⟩
abbrev S1x4x4x1x1 : Shape := ⟨5, ![1, 4, 4, 1, 1]⟩
abbrev S32768x32768 : Shape := ⟨2, ![32768, 32768]⟩
abbrev S1x32768x32768 : Shape := ⟨3, ![1, 32768, 32768]⟩
abbrev S2x32768x1 : Shape := ⟨3, ![2, 32768, 1]⟩
abbrev S2x1x32768 : Shape := ⟨3, ![2, 1, 32768]⟩
abbrev S2x32768x32768 : Shape := ⟨3, ![2, 32768, 32768]⟩
abbrev S2x4x32768x32768x4 : Shape := ⟨5, ![2, 4, 32768, 32768, 4]⟩
abbrev S2x4x4x32768x32768 : Shape := ⟨5, ![2, 4, 4, 32768, 32768]⟩
abbrev S2x1x1x32768x32768 : Shape := ⟨5, ![2, 1, 1, 32768, 32768]⟩
abbrev S1x1x1x32768x32768 : Shape := ⟨5, ![1, 1, 1, 32768, 32768]⟩
abbrev S1x4x4x32768x32768 : Shape := ⟨5, ![1, 4, 4, 32768, 32768]⟩
abbrev S2x4x4x32768x64 : Shape := ⟨5, ![2, 4, 4, 32768, 64]⟩

abbrev nBuf : Space → Nat
  | .hbm => 8
  | .vmem => 8
  | .smem => 0
  | _ => 0

abbrev bufTy : (tb : Table) → Fin (tcTables nBuf tb) → BufTy
  | .hbm, ⟨0, _⟩ => ⟨S2x32768x1024, .fp8e4m3⟩
  | .hbm, ⟨1, _⟩ => ⟨S2x32768x256, .fp8e4m3⟩
  | .hbm, ⟨2, _⟩ => ⟨S2x32768x256, .fp8e4m3⟩
  | .hbm, ⟨3, _⟩ => ⟨S2x32768x16, .f32⟩
  | .hbm, ⟨4, _⟩ => ⟨S2x32768x4, .f32⟩
  | .hbm, ⟨5, _⟩ => ⟨S2x32768x4, .f32⟩
  | .hbm, ⟨6, _⟩ => ⟨S2x32768, .i32⟩
  | .hbm, ⟨7, _⟩ => ⟨S2x32768x1024, .bf16⟩
  | .local _ .vmem, ⟨0, _⟩ => ⟨S2x32768x1024, .fp8e4m3⟩
  | .local _ .vmem, ⟨1, _⟩ => ⟨S2x32768x256, .fp8e4m3⟩
  | .local _ .vmem, ⟨2, _⟩ => ⟨S2x32768x256, .fp8e4m3⟩
  | .local _ .vmem, ⟨3, _⟩ => ⟨S2x32768x16, .f32⟩
  | .local _ .vmem, ⟨4, _⟩ => ⟨S2x32768x4, .f32⟩
  | .local _ .vmem, ⟨5, _⟩ => ⟨S2x32768x4, .f32⟩
  | .local _ .vmem, ⟨6, _⟩ => ⟨S2x32768, .i32⟩
  | .local _ .vmem, ⟨7, _⟩ => ⟨S2x32768x1024, .bf16⟩
  | _, _ => ⟨S2x32768x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x32768x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32768x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32768x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32768x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32768x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x32768x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32768 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x32768x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.ChecksKernel.lean ====
/-
  What the kernel's bounds need: with the first visible position `v2` of the tile at most the tile's start, every loop
  bound, offset and alignment the kernel computes is in range.
-/
module

public import proofs.«01_k».proof.Kernel
public import Idealize.ShloMosaic.Lib.LoopRemainder
public import Idealize.ShloMosaic.Lib.WordArith

@[expose] public section

namespace Cert.Kernel

open Idealize.ShloMosaic

variable {i : grid0.Coords} {v2 : BitVec 32}

/-- The number of key chunks the tile at `i` visits. -/
def nChunks (i : grid0.Coords) (v2 : BitVec 32) : Nat := (128 * (i 3).val + 128 - v2.toNat + 511) / 512

theorem tile_lt (i : grid0.Coords) : (i 3).val < 256 := (i 3).isLt

/-- The words of the tile index are small. -/
private theorem tile_word (i : grid0.Coords) : (BitVec.ofNat 32 (i 3).val).toNat = (i 3).val := by
  have := tile_lt i
  rw [BitVec.toNat_ofNat, Nat.mod_eq_of_lt (by omega)]

theorem count_word (h : v2.toNat ≤ 128 * (i 3).val) :
    Scalar.addi 0#32 (Scalar.muli (Scalar.divsi (Scalar.subi (Scalar.shrui (Scalar.subi (Scalar.addi (Scalar.subi (Scalar.addi
      (Scalar.muli (BitVec.ofNat 32 (i 3).val) 128#32) 128#32) v2) 512#32) 1#32) 9#32) 0#32) 1#32) 1#32)
      = BitVec.ofNat 32 (nChunks i v2) := by
  have ht := tile_lt i
  rw [Scalar.muli_divsi_one]
  apply BitVec.eq_of_toNat_eq
  have hs : ∀ x : BitVec 32, Scalar.shrui x 9#32 = x >>> 9 := fun x => by
    simp [Scalar.shrui, IntOp.shrui]
  simp only [hs, Scalar.addi, Scalar.subi, Scalar.muli, IntOp.addi, IntOp.subi, IntOp.muli]
  rw [BitVec.toNat_add, BitVec.toNat_sub, BitVec.toNat_ushiftRight, BitVec.toNat_sub, BitVec.toNat_add, BitVec.toNat_sub,
    BitVec.toNat_add, BitVec.toNat_mul, tile_word, BitVec.toNat_ofNat, Nat.shiftRight_eq_div_pow]
  simp only [BitVec.toNat_ofNat, nChunks]
  omega

theorem nChunks_le (i : grid0.Coords) (v2 : BitVec 32) : 512 * nChunks i v2 ≤ 128 * (i 3).val + 639 := by
  unfold nChunks; omega

theorem trips_main (h : v2.toNat ≤ 128 * (i 3).val) : (k0_t1_loop i v2).trips = nChunks i v2 := by
  have ht := tile_lt i
  have hn := nChunks_le i v2
  show Scf.trips _ (Scalar.addi _ _) _ = _
  refine (congrArg (fun w => Scf.trips 0#32 w 1#32) (count_word h)).trans ?_
  show Scf.trips _ _ _ = _
  unfold Scf.trips
  rw [show (0#32 : BitVec 32).toInt = 0 by decide, show (1#32 : BitVec 32).toInt = 1 by decide, BitVec.toInt_eq_toNat_of_lt
    (by rw [BitVec.toNat_ofNat, Nat.mod_eq_of_lt (by omega)]; omega), BitVec.toNat_ofNat, Nat.mod_eq_of_lt (by omega)]
  omega

theorem trip_lt (h : v2.toNat ≤ 128 * (i 3).val) (k : Fin (k0_t1_loop i v2).trips) : k.val < nChunks i v2 :=
  lt_of_lt_of_eq k.isLt (trips_main h)

/-- The position of chunk `k` in the padded arrays, as the kernel's words give it. -/
theorem pos_word (h : v2.toNat ≤ 128 * (i 3).val) (k : Fin (k0_t1_loop i v2).trips) :
    (Scalar.addi (Scalar.subi (Scalar.addi (Scalar.muli (BitVec.ofNat 32 (i 3).val) 128#32) 128#32)
      (Scalar.muli 512#32 (Scalar.addi (Scf.iv 0#32 1#32 k.val) 1#32))) 512#32).toNat = 128 * (i 3).val + 128 - 512 * k.val := by
  have ht := tile_lt i
  have hk := trip_lt h k
  have hn := nChunks_le i v2
  simp only [Scf.iv, Scalar.addi, Scalar.subi, Scalar.muli, IntOp.addi, IntOp.subi, IntOp.muli]
  simp only [BitVec.toNat_add, BitVec.toNat_sub, BitVec.toNat_mul, BitVec.toNat_ofNat]
  omega

theorem iv_word (h : v2.toNat ≤ 128 * (i 3).val) (k : Fin (k0_t1_loop i v2).trips) :
    (Scf.iv 0#32 1#32 k.val : BitVec 32).toNat = k.val := by
  have ht := tile_lt i
  have hk := trip_lt h k
  have hn := nChunks_le i v2
  simp only [Scf.iv, BitVec.toNat_add, BitVec.toNat_mul, BitVec.toNat_ofNat]
  omega

private theorem okMain (h : v2.toNat ≤ 128 * (i 3).val) : (k0_t1_loop i v2).OK := by
  have ht := tile_lt i
  have hn := nChunks_le i v2
  have htr := trips_main h
  refine ⟨by show 0 < (1#32 : BitVec 32).toInt; decide, ?_⟩
  show (0#32 : BitVec 32).toInt + (k0_t1_loop i v2).trips * (1#32 : BitVec 32).toInt < _
  rw [htr, show (0#32 : BitVec 32).toInt = 0 by decide, show (1#32 : BitVec 32).toInt = 1 by decide]
  omega

private theorem dvdPos (h : v2.toNat ≤ 128 * (i 3).val) (k : Fin (k0_t1_loop i v2).trips) :
    128 ∣ (Scalar.addi (Scalar.subi (Scalar.addi (Scalar.muli (BitVec.ofNat 32 (i 3).val) 128#32) 128#32)
      (Scalar.muli 512#32 (Scalar.addi (Scf.iv 0#32 1#32 k.val) 1#32))) 512#32).toNat := by
  rw [pos_word h k]; omega

private theorem fitKey (h : v2.toNat ≤ 128 * (i 3).val) (k : Fin (k0_t1_loop i v2).trips) :
    ∀ a, (k0_off2 i v2 k) a + S1x1x128x512.size a ≤ S1x1x128x33280.size a := by
  have ht := tile_lt i
  have hp := pos_word h k
  intro a
  fin_cases a
  · exact Nat.le_refl _
  · exact Nat.le_refl _
  · exact Nat.le_refl _
  · show (Scalar.addi (Scalar.subi (Scalar.addi (Scalar.muli (BitVec.ofNat 32 (i 3).val) 128#32) 128#32)
      (Scalar.muli 512#32 (Scalar.addi (Scf.iv 0#32 1#32 k.val) 1#32))) 512#32).toNat + 512 ≤ 33280
    omega

private theorem fitScale (h : v2.toNat ≤ 128 * (i 3).val) (k : Fin (k0_t1_loop i v2).trips) (r : Fin 4) :
    ∀ a, (k0_off3 i v2 k (BitVec.ofNat 32 (128 * r.val))) a + S1x1x1x128.size a ≤ S1x1x1x33280.size a := by
  have ht := tile_lt i
  have hp := pos_word h k
  have hr := r.isLt
  intro a
  fin_cases a
  · exact Nat.le_refl _
  · exact Nat.le_refl _
  · exact Nat.le_refl _
  · show (Scalar.addi (Scalar.addi (Scalar.subi (Scalar.addi (Scalar.muli (BitVec.ofNat 32 (i 3).val) 128#32) 128#32)
      (Scalar.muli 512#32 (Scalar.addi (Scf.iv 0#32 1#32 k.val) 1#32))) 512#32) (BitVec.ofNat 32 (128 * r.val))).toNat + 128 ≤ 33280
    rw [show ∀ a b : BitVec 32, Scalar.addi a b = a + b from fun _ _ => rfl, BitVec.toNat_add, hp, BitVec.toNat_ofNat]
    omega

private theorem fitStore (h : v2.toNat ≤ 128 * (i 3).val) (k : Fin (k0_t1_loop i v2).trips) (r w : Nat) (hr : r + 32 ≤ 256)
    (hw : w + 128 ≤ 512) :
    ∀ a, (![(Scalar.indexCast (Scf.iv 0#32 1#32 k.val) : BitVec 32).toNat, r, w] : Fin 3 → Nat) a + S1x32x128.size a
      ≤ S64x256x512.size a := by
  have ht := tile_lt i
  have hk := trip_lt h k
  have hn := nChunks_le i v2
  have hv := iv_word h k
  intro a
  fin_cases a
  · show (Scf.iv 0#32 1#32 k.val : BitVec 32).toNat + 1 ≤ 64
    omega
  · exact hr
  · exact hw

private theorem fitValue (h : v2.toNat ≤ 128 * (i 3).val) (k : Fin (k0_t1_loop i v2).trips) :
    ∀ a, (![0, 0, (Scalar.indexCast (Scalar.addi (Scalar.subi (Scalar.addi (Scalar.muli (BitVec.ofNat 32 (i 3).val) 128#32) 128#32)
      (Scalar.muli 512#32 (Scalar.addi (Scf.iv 0#32 1#32 k.val) 1#32))) 512#32) : BitVec 32).toNat, 0] : Fin 4 → Nat) a
      + S1x1x512x128.size a ≤ S1x1x33280x128.size a := by
  have ht := tile_lt i
  have hp := pos_word h k
  intro a
  fin_cases a
  · exact Nat.le_refl _
  · exact Nat.le_refl _
  · show (Scalar.addi (Scalar.subi (Scalar.addi (Scalar.muli (BitVec.ofNat 32 (i 3).val) 128#32) 128#32)
      (Scalar.muli 512#32 (Scalar.addi (Scf.iv 0#32 1#32 k.val) 1#32))) 512#32).toNat + 512 ≤ 33280
    omega
  · exact Nat.le_refl _

private theorem chk0 (h : v2.toNat ≤ 128 * (i 3).val) : k0_chk1_0 i v2 :=
  ⟨okMain h,
   fun k => dvdPos h k,
   fun k => fitKey h k,
   fun k => dvdPos h k,
   fun k r => fitScale h k r,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k⟩

private theorem chk1 (h : v2.toNat ≤ 128 * (i 3).val) : k0_chk1_1 i v2 :=
  ⟨fun k => dvdPos h k,
   fun k => dvdPos h k,
   fun k => dvdPos h k,
   fun k => dvdPos h k,
   Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

private theorem chk2 (h : v2.toNat ≤ 128 * (i 3).val) : k0_chk1_2 i v2 :=
  ⟨fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   okMain h,
   fun k => dvdPos h k,
   fun k => fitKey h k,
   fun k => dvdPos h k,
   fun k r => fitScale h k r,
   fun k => dvdPos h k,
   fun k => dvdPos h k,
   fun k => dvdPos h k,
   fun k => dvdPos h k,
   fun k => fitStore h k 0 0 (by decide) (by decide),
   fun k => dvdPos h k,
   fun k => fitStore h k 0 128 (by decide) (by decide),
   fun k => dvdPos h k,
   fun k => fitStore h k 0 256 (by decide) (by decide),
   fun k => dvdPos h k,
   fun k => fitStore h k 0 384 (by decide) (by decide),
   fun k => dvdPos h k,
   fun k => dvdPos h k,
   fun k => dvdPos h k,
   fun k => dvdPos h k,
   fun k => dvdPos h k,
   fun k => fitStore h k 32 0 (by decide) (by decide),
   fun k => dvdPos h k,
   fun k => fitStore h k 32 128 (by decide) (by decide)⟩

private theorem chk3 (h : v2.toNat ≤ 128 * (i 3).val) : k0_chk1_3 i v2 :=
  ⟨fun k => dvdPos h k,
   fun k => fitStore h k 32 256 (by decide) (by decide),
   fun k => dvdPos h k,
   fun k => fitStore h k 32 384 (by decide) (by decide),
   fun k => dvdPos h k,
   fun k => dvdPos h k,
   fun k => dvdPos h k,
   fun k => dvdPos h k,
   fun k => dvdPos h k,
   fun k => fitStore h k 64 0 (by decide) (by decide),
   fun k => dvdPos h k,
   fun k => fitStore h k 64 128 (by decide) (by decide),
   fun k => dvdPos h k,
   fun k => fitStore h k 64 256 (by decide) (by decide),
   fun k => dvdPos h k,
   fun k => fitStore h k 64 384 (by decide) (by decide),
   fun k => dvdPos h k,
   fun k => dvdPos h k,
   fun k => dvdPos h k,
   fun k => dvdPos h k,
   fun k => dvdPos h k,
   fun k => fitStore h k 96 0 (by decide) (by decide),
   fun k => dvdPos h k,
   fun k => fitStore h k 96 128 (by decide) (by decide),
   fun k => dvdPos h k,
   fun k => fitStore h k 96 256 (by decide) (by decide),
   fun k => dvdPos h k,
   fun k => fitStore h k 96 384 (by decide) (by decide),
   fun k => dvdPos h k,
   fun k => dvdPos h k,
   fun k => dvdPos h k,
   fun k => dvdPos h k⟩

private theorem chk4 (h : v2.toNat ≤ 128 * (i 3).val) : k0_chk1_4 i v2 :=
  ⟨fun k => dvdPos h k,
   fun k => fitStore h k 128 0 (by decide) (by decide),
   fun k => dvdPos h k,
   fun k => fitStore h k 128 128 (by decide) (by decide),
   fun k => dvdPos h k,
   fun k => fitStore h k 128 256 (by decide) (by decide),
   fun k => dvdPos h k,
   fun k => fitStore h k 128 384 (by decide) (by decide),
   fun k => dvdPos h k,
   fun k => dvdPos h k,
   fun k => dvdPos h k,
   fun k => dvdPos h k,
   fun k => dvdPos h k,
   fun k => fitStore h k 160 0 (by decide) (by decide),
   fun k => dvdPos h k,
   fun k => fitStore h k 160 128 (by decide) (by decide),
   fun k => dvdPos h k,
   fun k => fitStore h k 160 256 (by decide) (by decide),
   fun k => dvdPos h k,
   fun k => fitStore h k 160 384 (by decide) (by decide),
   fun k => dvdPos h k,
   fun k => dvdPos h k,
   fun k => dvdPos h k,
   fun k => dvdPos h k,
   fun k => dvdPos h k,
   fun k => fitStore h k 192 0 (by decide) (by decide),
   fun k => dvdPos h k,
   fun k => fitStore h k 192 128 (by decide) (by decide),
   fun k => dvdPos h k,
   fun k => fitStore h k 192 256 (by decide) (by decide),
   fun k => dvdPos h k,
   fun k => fitStore h k 192 384 (by decide) (by decide)⟩

private theorem chk5 (h : v2.toNat ≤ 128 * (i 3).val) : k0_chk1_5 i v2 :=
  ⟨fun k => dvdPos h k,
   fun k => dvdPos h k,
   fun k => dvdPos h k,
   fun k => dvdPos h k,
   fun k => dvdPos h k,
   fun k => fitStore h k 224 0 (by decide) (by decide),
   fun k => dvdPos h k,
   fun k => fitStore h k 224 128 (by decide) (by decide),
   fun k => dvdPos h k,
   fun k => fitStore h k 224 256 (by decide) (by decide),
   fun k => dvdPos h k,
   fun k => fitStore h k 224 384 (by decide) (by decide),
   Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

private theorem chk6 (h : v2.toNat ≤ 128 * (i 3).val) : k0_chk1_6 i v2 :=
  ⟨fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

private theorem chk7 (h : v2.toNat ≤ 128 * (i 3).val) : k0_chk1_7 i v2 :=
  ⟨fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

private theorem chk8 (h : v2.toNat ≤ 128 * (i 3).val) : k0_chk1_8 i v2 :=
  ⟨fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   okMain h,
   fun k => fitStore h k 0 0 (by decide) (by decide),
   fun k => fitStore h k 0 128 (by decide) (by decide),
   fun k => fitStore h k 0 256 (by decide) (by decide),
   fun k => fitStore h k 0 384 (by decide) (by decide),
   fun k => fitStore h k 32 0 (by decide) (by decide),
   fun k => fitStore h k 32 128 (by decide) (by decide),
   fun k => fitStore h k 32 256 (by decide) (by decide),
   fun k => fitStore h k 32 384 (by decide) (by decide),
   fun k => fitStore h k 64 0 (by decide) (by decide),
   fun k => fitStore h k 64 128 (by decide) (by decide),
   fun k => fitStore h k 64 256 (by decide) (by decide),
   fun k => fitStore h k 64 384 (by decide) (by decide),
   fun k => fitStore h k 96 0 (by decide) (by decide),
   fun k => fitStore h k 96 128 (by decide) (by decide),
   fun k => fitStore h k 96 256 (by decide) (by decide)⟩

private theorem chk9 (h : v2.toNat ≤ 128 * (i 3).val) : k0_chk1_9 i v2 :=
  ⟨fun k => fitStore h k 96 384 (by decide) (by decide),
   fun k => fitStore h k 128 0 (by decide) (by decide),
   fun k => fitStore h k 128 128 (by decide) (by decide),
   fun k => fitStore h k 128 256 (by decide) (by decide),
   fun k => fitStore h k 128 384 (by decide) (by decide),
   fun k => fitStore h k 160 0 (by decide) (by decide),
   fun k => fitStore h k 160 128 (by decide) (by decide),
   fun k => fitStore h k 160 256 (by decide) (by decide),
   fun k => fitStore h k 160 384 (by decide) (by decide),
   fun k => fitStore h k 192 0 (by decide) (by decide),
   fun k => fitStore h k 192 128 (by decide) (by decide),
   fun k => fitStore h k 192 256 (by decide) (by decide),
   fun k => fitStore h k 192 384 (by decide) (by decide),
   fun k => fitStore h k 224 0 (by decide) (by decide),
   fun k => fitStore h k 224 128 (by decide) (by decide),
   fun k => fitStore h k 224 256 (by decide) (by decide),
   fun k => fitStore h k 224 384 (by decide) (by decide),
   fun k => dvdPos h k,
   fun k => fitValue h k,
   Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

private theorem chk10 (h : v2.toNat ≤ 128 * (i 3).val) : k0_chk1_10 i v2 :=
  ⟨fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

/-- All that the kernel checks about a tile whose first visible position is at most its start. -/
theorem chk (h : v2.toNat ≤ 128 * (i 3).val) : k0_chk1 i v2 :=
  ⟨chk0 h, chk1 h, chk2 h, chk3 h, chk4 h, chk5 h, chk6 h, chk7 h, chk8 h, chk9 h, chk10 h⟩

end Cert.Kernel
-- ==== Proof.BodyKernel.lean ====
/-
  One grid point of the kernel `cc0_attend`, run through the printed statements and through the
  invariants of its six counted loops: what the output block's buffer is written with, as a function
  of what the body finds in its scratch buffers.
-/
module

public import proofs.«01_k».proof.Proof.Gen.Kernel.Loops
public import proofs.«01_k».proof.Proof.ChecksKernel

@[expose] public section

set_option maxRecDepth 16384
set_option maxHeartbeats 4000000

noncomputable section

namespace Cert.Kernel

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The table's word the body reads at grid point `i`, from the table's contents. -/
abbrev tableWord (i : grid0.Coords) (arg4 : Memref sig .tc .smem S2x256 .i32) (X_arg4 : BufTy.Contents (Elt F) arg4.view.ty) : Elt F .i32 :=
  View.readAt (Elt F) arg4.view (Rect.unit (s := S2x256) (k0_off1 i) S1x1.size (k0_off1_inb i)).toLoadRect X_arg4 (Shape.Idx.first (numel1_S1x1.symm ▸ Nat.one_pos))

/-- The body at one grid point: from the inputs' buffers at contents `X`, the output's and the
    scratch buffers at any, it ends with the inputs' as they were and the output's written with the
    pieces this definition finds. -/
def bodyRun (c : Dev nD) (i : grid0.Coords) (arg4 : Memref sig .tc .smem S2x256 .i32) (harg4 : arg4.IsWhole) (arg5 : Memref sig .tc .vmem S1x128x128 .fp8e4m3) (harg5 : arg5.IsWhole) (arg6 : Memref sig .tc .vmem S1x128x16 .f32) (harg6 : arg6.IsWhole) (arg7 : Memref sig .tc .vmem S1x128x1 .i32) (harg7 : arg7.IsWhole) (arg8 : Memref sig .tc .vmem S1x1x128x33280 .fp8e4m3) (harg8 : arg8.IsWhole) (arg9 : Memref sig .tc .vmem S1x1x33280x128 .fp8e4m3) (harg9 : arg9.IsWhole) (arg10 : Memref sig .tc .vmem S1x1x1x33280 .f32) (harg10 : arg10.IsWhole) (arg11 : Memref sig .tc .vmem S1x1x1x33280 .f32) (harg11 : arg11.IsWhole) (arg12 : Memref sig .tc .vmem S1x128x128 .bf16) (harg12 : arg12.IsWhole) (arg13 : Memref sig .tc .vmem S64x256x512 .f32) (harg13 : arg13.IsWhole) (arg14 : Memref sig .tc .vmem S256x512 .f32) (harg14 : arg14.IsWhole) (arg15 : Memref sig .tc .vmem S256x512 .fp8e4m3) (harg15 : arg15.IsWhole) (arg16 : Memref sig .tc .vmem S256x128 .fp8e4m3) (harg16 : arg16.IsWhole) (arg17 : Memref sig .tc .vmem S256x128 .f32) (harg17 : arg17.IsWhole) (arg18 : Memref sig .tc .vmem S256x128 .i32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty)
    (hw : k0_chk1 i (tableWord (F := F) i arg4 X_arg4)) :
    { L : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg22.view.ty → BufTy.Contents (Elt F) arg23.view.ty → List (View.Piece (Elt F) S1x128x128 .bf16)) // ∀ (sh : PosShare TreeShare) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty),
      (iprop((arg4.view.loc (c : Thread nD τ) ↦[arg4.view.set]{sh} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21) ∗ (arg22.view.loc (c : Thread nD τ) ↦[arg22.view.set]{fullShare} f_arg22) ∗ (arg23.view.loc (c : Thread nD τ) ↦[arg23.view.set]{fullShare} f_arg23)) : sProp 𝕄)
      ⊢ wp frame (wpE (defs₀ (F := F)) Variants.none (c : Thread nD τ) none) Set.univ (cc0_attend i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => iprop((arg4.view.loc (c : Thread nD τ) ↦[arg4.view.set]{sh} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} (arg12.view.writes (Elt F) f_arg12 (L f_arg13 f_arg14 f_arg15 f_arg16 f_arg17 f_arg18 f_arg19 f_arg20 f_arg21 f_arg22 f_arg23))) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)) ∗ (∃ f : BufTy.Contents (Elt F) arg21.view.ty, (arg21.view.loc (c : Thread nD τ) ↦[arg21.view.set]{fullShare} f)) ∗ (∃ f : BufTy.Contents (Elt F) arg22.view.ty, (arg22.view.loc (c : Thread nD τ) ↦[arg22.view.set]{fullShare} f)) ∗ (∃ f : BufTy.Contents (Elt F) arg23.view.ty, (arg23.view.loc (c : Thread nD τ) ↦[arg23.view.set]{fullShare} f)))) } := by
  refine ⟨?_, fun sh f_arg12 f_arg13 f_arg14 f_arg15 f_arg16 f_arg17 f_arg18 f_arg19 f_arg20 f_arg21 f_arg22 f_arg23 => ?run⟩
  case run =>
    simp only [cc0_attend_eq_skeleton]; unfold cc0_attend_skel
    simp only [k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton]
    iintro ⟨H_arg4, H_arg5, H_arg6, H_arg7, H_arg8, H_arg9, H_arg10, H_arg11, H_arg12, H_arg13, H_arg14, H_arg15, H_arg16, H_arg17, H_arg18, H_arg19, H_arg20, H_arg21, H_arg22, H_arg23⟩
    sl_exec
    sl_step
    sl_close

end Cert.Kernel
-- ==== Proof.RunKernel.lean ====
/-
  The launch of the kernel `cc0_attend` over its whole grid: the buffers when the region is entered,
  the pipeline's proof data, the body obligation, and the run from the launch to the end.
-/
module

public import proofs.«01_k».proof.Proof.BodyKernel
public import proofs.«01_k».proof.Proof.Gen.Kernel.Launch
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.Kernel

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple, its buffers owned by what they read -/

/-- `Y` is what the body may leave in the output block: what its run writes, at some contents of the
    inputs' buffers that read `x…`, of the output's buffer and of the scratch buffers. -/
def OutOf (c : Dev nD) (i : grid0.Coords) (arg4 : Memref sig .tc .smem S2x256 .i32) (harg4 : arg4.IsWhole) (arg5 : Memref sig .tc .vmem S1x128x128 .fp8e4m3) (harg5 : arg5.IsWhole) (arg6 : Memref sig .tc .vmem S1x128x16 .f32) (harg6 : arg6.IsWhole) (arg7 : Memref sig .tc .vmem S1x128x1 .i32) (harg7 : arg7.IsWhole) (arg8 : Memref sig .tc .vmem S1x1x128x33280 .fp8e4m3) (harg8 : arg8.IsWhole) (arg9 : Memref sig .tc .vmem S1x1x33280x128 .fp8e4m3) (harg9 : arg9.IsWhole) (arg10 : Memref sig .tc .vmem S1x1x1x33280 .f32) (harg10 : arg10.IsWhole) (arg11 : Memref sig .tc .vmem S1x1x1x33280 .f32) (harg11 : arg11.IsWhole) (arg12 : Memref sig .tc .vmem S1x128x128 .bf16) (harg12 : arg12.IsWhole) (arg13 : Memref sig .tc .vmem S64x256x512 .f32) (harg13 : arg13.IsWhole) (arg14 : Memref sig .tc .vmem S256x512 .f32) (harg14 : arg14.IsWhole) (arg15 : Memref sig .tc .vmem S256x512 .fp8e4m3) (harg15 : arg15.IsWhole) (arg16 : Memref sig .tc .vmem S256x128 .fp8e4m3) (harg16 : arg16.IsWhole) (arg17 : Memref sig .tc .vmem S256x128 .f32) (harg17 : arg17.IsWhole) (arg18 : Memref sig .tc .vmem S256x128 .i32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (X4 : BufTy.Contents (Elt F) arg4.view.ty)
    (hw : k0_chk1 i (tableWord (F := F) i arg4 X4)) (x5 : Vec F S1x128x128 .fp8e4m3) (x6 : Vec F S1x128x16 .f32) (x7 : Vec F S1x128x1 .i32) (x8 : Vec F S1x1x128x33280 .fp8e4m3) (x9 : Vec F S1x1x33280x128 .fp8e4m3) (x10 : Vec F S1x1x1x33280 .f32) (x11 : Vec F S1x1x1x33280 .f32) (Y : Vec F S1x128x128 .bf16) : Prop :=
  ∃ (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty), arg5.view.read (Elt F) X5 = x5 ∧ arg6.view.read (Elt F) X6 = x6 ∧ arg7.view.read (Elt F) X7 = x7 ∧ arg8.view.read (Elt F) X8 = x8 ∧ arg9.view.read (Elt F) X9 = x9 ∧ arg10.view.read (Elt F) X10 = x10 ∧ arg11.view.read (Elt F) X11 = x11 ∧
    ∃ (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty), Y = arg12.view.read (Elt F) (arg12.view.writes (Elt F) f12 ((bodyRun (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X4 X5 X6 X7 X8 X9 X10 X11 hw).1 f13 f14 f15 f16 f17 f18 f19 f20 f21 f22 f23))

set_option maxHeartbeats 1000000 in
theorem sound_kernel (c : Dev nD) (i : grid0.Coords) (arg4 : Memref sig .tc .smem S2x256 .i32) (harg4 : arg4.IsWhole) (arg5 : Memref sig .tc .vmem S1x128x128 .fp8e4m3) (harg5 : arg5.IsWhole) (arg6 : Memref sig .tc .vmem S1x128x16 .f32) (harg6 : arg6.IsWhole) (arg7 : Memref sig .tc .vmem S1x128x1 .i32) (harg7 : arg7.IsWhole) (arg8 : Memref sig .tc .vmem S1x1x128x33280 .fp8e4m3) (harg8 : arg8.IsWhole) (arg9 : Memref sig .tc .vmem S1x1x33280x128 .fp8e4m3) (harg9 : arg9.IsWhole) (arg10 : Memref sig .tc .vmem S1x1x1x33280 .f32) (harg10 : arg10.IsWhole) (arg11 : Memref sig .tc .vmem S1x1x1x33280 .f32) (harg11 : arg11.IsWhole) (arg12 : Memref sig .tc .vmem S1x128x128 .bf16) (harg12 : arg12.IsWhole) (arg13 : Memref sig .tc .vmem S64x256x512 .f32) (harg13 : arg13.IsWhole) (arg14 : Memref sig .tc .vmem S256x512 .f32) (harg14 : arg14.IsWhole) (arg15 : Memref sig .tc .vmem S256x512 .fp8e4m3) (harg15 : arg15.IsWhole) (arg16 : Memref sig .tc .vmem S256x128 .fp8e4m3) (harg16 : arg16.IsWhole) (arg17 : Memref sig .tc .vmem S256x128 .f32) (harg17 : arg17.IsWhole) (arg18 : Memref sig .tc .vmem S256x128 .i32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (sh : PosShare TreeShare) (X4 : BufTy.Contents (Elt F) arg4.view.ty)
    (hw : k0_chk1 i (tableWord (F := F) i arg4 X4)) (x5 : Vec F S1x128x128 .fp8e4m3) (x6 : Vec F S1x128x16 .f32) (x7 : Vec F S1x128x1 .i32) (x8 : Vec F S1x1x128x33280 .fp8e4m3) (x9 : Vec F S1x1x33280x128 .fp8e4m3) (x10 : Vec F S1x1x1x33280 .f32) (x11 : Vec F S1x1x1x33280 .f32) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (arg4.view.loc (c : Thread nD τ) ↦[arg4.view.set]{sh} X4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ Y, ⌜OutOf (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X4 hw x5 x6 x7 x8 x9 x10 x11 Y⌝ ∗ owns (c : Thread nD τ) arg12 fullShare Y) ∗ (arg4.view.loc (c : Thread nD τ) ↦[arg4.view.set]{sh} X4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) Set.univ (cc0_attend i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  unfold owns
  iintro ⟨⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%d12, %f12, -, H12⟩, H4, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  iapply (wp_wand_r Idealize.ShloMosaic.frame (wpE (defs₀ (F := F)) Variants.none (c : Thread nD τ) none) Set.univ)
  isplitl [H4 H5 H6 H7 H8 H9 H10 H11 H12 H13 H14 H15 H16 H17 H18 H19 H20 H21 H22 H23]
  · iapply ((bodyRun (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X4 X5 X6 X7 X8 X9 X10 X11 hw).2 sh f12 f13 f14 f15 f16 f17 f18 f19 f20 f21 f22 f23)
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  · iintro %_ ⟨H4, H5, H6, H7, H8, H9, H10, H11, H12, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, ⟨%g22, H22⟩, ⟨%g23, H23⟩⟩
    iapply Hk
    isplitl [H5]
    · iexists X5; isplitr
      · ipureintro; exact h5
      iexact H5
    isplitl [H6]
    · iexists X6; isplitr
      · ipureintro; exact h6
      iexact H6
    isplitl [H7]
    · iexists X7; isplitr
      · ipureintro; exact h7
      iexact H7
    isplitl [H8]
    · iexists X8; isplitr
      · ipureintro; exact h8
      iexact H8
    isplitl [H9]
    · iexists X9; isplitr
      · ipureintro; exact h9
      iexact H9
    isplitl [H10]
    · iexists X10; isplitr
      · ipureintro; exact h10
      iexact H10
    isplitl [H11]
    · iexists X11; isplitr
      · ipureintro; exact h11
      iexact H11
    isplitl [H12]
    · iexists (arg12.view.read (Elt F) (arg12.view.writes (Elt F) f12 ((bodyRun (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X4 X5 X6 X7 X8 X9 X10 X11 hw).1 f13 f14 f15 f16 f17 f18 f19 f20 f21 f22 f23))); isplitr
      · ipureintro; exact ⟨X5, X6, X7, X8, X9, X10, X11, h5, h6, h7, h8, h9, h10, h11, f12, f13, f14, f15, f16, f17, f18, f19, f20, f21, f22, f23, rfl⟩
      · iexists _; isplitr; · ipureintro; rfl
        iexact H12
    isplitl [H4]; · iexact H4
    isplitl [H13]
    · iexists _; iexists g13; isplitr; · ipureintro; rfl
      iexact H13
    isplitl [H14]
    · iexists _; iexists g14; isplitr; · ipureintro; rfl
      iexact H14
    isplitl [H15]
    · iexists _; iexists g15; isplitr; · ipureintro; rfl
      iexact H15
    isplitl [H16]
    · iexists _; iexists g16; isplitr; · ipureintro; rfl
      iexact H16
    isplitl [H17]
    · iexists _; iexists g17; isplitr; · ipureintro; rfl
      iexact H17
    isplitl [H18]
    · iexists _; iexists g18; isplitr; · ipureintro; rfl
      iexact H18
    isplitl [H19]
    · iexists _; iexists g19; isplitr; · ipureintro; rfl
      iexact H19
    isplitl [H20]
    · iexists _; iexists g20; isplitr; · ipureintro; rfl
      iexact H20
    isplitl [H21]
    · iexists _; iexists g21; isplitr; · ipureintro; rfl
      iexact H21
    isplitl [H22]
    · iexists _; iexists g22; isplitr; · ipureintro; rfl
      iexact H22
    iexists _; iexists g23; isplitr; · ipureintro; rfl
    iexact H23

/-! ## @main up to the region -/

variable (m : (ℓ : Loc nD τ sig) → Buf (Elt F) ℓ) (ρ : Dev nD → PrngReg)

/-- Core `c`'s TensorCore buffers when the region is entered: after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7] (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

/-- The table's contents as the body's memref for it holds them. -/
abbrev tblX : BufTy.Contents (Elt F) (Memref.whole main_v17 : Memref sig .tc .smem S2x256 .i32).view.ty := tbl m 0

/-- Every word of the table is at most the first position of its block of rows. -/
def TableOk : Prop := ∀ i : grid0.Coords, (tableWord (F := F) i (Memref.whole main_v17) (tblX m)).toNat ≤ 128 * (i 3).val

/-! ## The pipeline's proof data -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- A choice of what each point leaves in the output block. -/
abbrev Out : Type := (c : Dev nD) → (t : Fin (cfgM m).N) → Vec F S1x128x128 .bf16

def dats (out : Out m) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out c t
  Φ _ := iprop(Pipeline.ΦA spec0 c ∗ Pipeline.ΦT pre0 (tbl m) c)
  q _ := fullShare
  owed _ := 0

theorem A_eq (out : Out m) (c : Dev nD) (w : Fin (cfgM m).W) : (dats m out 0 c).A w = V m c (Pipeline.arrRef spec0 w) := by
  dsimp only [dats]
theorem after0_0 (out : Out m) (c : Dev nD) (t : Fin (cfgM m).N) : (dats m out 0 c).after 0 t = iblk m c 0 t := by dsimp only [dats]; rfl
theorem after0_1 (out : Out m) (c : Dev nD) (t : Fin (cfgM m).N) : (dats m out 0 c).after 1 t = iblk m c 1 t := by dsimp only [dats]; rfl
theorem after0_2 (out : Out m) (c : Dev nD) (t : Fin (cfgM m).N) : (dats m out 0 c).after 2 t = iblk m c 2 t := by dsimp only [dats]; rfl
theorem after0_3 (out : Out m) (c : Dev nD) (t : Fin (cfgM m).N) : (dats m out 0 c).after 3 t = iblk m c 3 t := by dsimp only [dats]; rfl
theorem after0_4 (out : Out m) (c : Dev nD) (t : Fin (cfgM m).N) : (dats m out 0 c).after 4 t = iblk m c 4 t := by dsimp only [dats]; rfl
theorem after0_5 (out : Out m) (c : Dev nD) (t : Fin (cfgM m).N) : (dats m out 0 c).after 5 t = iblk m c 5 t := by dsimp only [dats]; rfl
theorem after0_6 (out : Out m) (c : Dev nD) (t : Fin (cfgM m).N) : (dats m out 0 c).after 6 t = iblk m c 6 t := by dsimp only [dats]; rfl
theorem after0_7 (out : Out m) (c : Dev nD) (t : Fin (cfgM m).N) : (dats m out 0 c).after 7 t = out c t := rfl
theorem before0_0 (out : Out m) (c : Dev nD) (t : Fin (cfgM m).N) (d) : (dats m out 0 c).before 0 t d = iblk m c 0 t :=
  ((dats m out 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (out : Out m) (c : Dev nD) (t : Fin (cfgM m).N) (d) : (dats m out 0 c).before 1 t d = iblk m c 1 t :=
  ((dats m out 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (out : Out m) (c : Dev nD) (t : Fin (cfgM m).N) (d) : (dats m out 0 c).before 2 t d = iblk m c 2 t :=
  ((dats m out 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (out : Out m) (c : Dev nD) (t : Fin (cfgM m).N) (d) : (dats m out 0 c).before 3 t d = iblk m c 3 t :=
  ((dats m out 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (out : Out m) (c : Dev nD) (t : Fin (cfgM m).N) (d) : (dats m out 0 c).before 4 t d = iblk m c 4 t :=
  ((dats m out 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (out : Out m) (c : Dev nD) (t : Fin (cfgM m).N) (d) : (dats m out 0 c).before 5 t d = iblk m c 5 t :=
  ((dats m out 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (out : Out m) (c : Dev nD) (t : Fin (cfgM m).N) (d) : (dats m out 0 c).before 6 t d = iblk m c 6 t :=
  ((dats m out 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

abbrev st0_0 (t : Fin (cfgM m).N) := ((cfgM m).win 0).stage ((cfgM m).slots t 0)
abbrev st0_1 (t : Fin (cfgM m).N) := ((cfgM m).win 1).stage ((cfgM m).slots t 1)
abbrev st0_2 (t : Fin (cfgM m).N) := ((cfgM m).win 2).stage ((cfgM m).slots t 2)
abbrev st0_3 (t : Fin (cfgM m).N) := ((cfgM m).win 3).stage ((cfgM m).slots t 3)
abbrev st0_4 (t : Fin (cfgM m).N) := ((cfgM m).win 4).stage ((cfgM m).slots t 4)
abbrev st0_5 (t : Fin (cfgM m).N) := ((cfgM m).win 5).stage ((cfgM m).slots t 5)
abbrev st0_6 (t : Fin (cfgM m).N) := ((cfgM m).win 6).stage ((cfgM m).slots t 6)
abbrev st0_7 (t : Fin (cfgM m).N) := ((cfgM m).win 7).stage ((cfgM m).slots t 7)
abbrev scM0_0 : Memref sig .tc .vmem S64x256x512 .f32 := Memref.whole cc0_scratch0
abbrev scM0_1 : Memref sig .tc .vmem S256x512 .f32 := Memref.whole cc0_scratch1
abbrev scM0_2 : Memref sig .tc .vmem S256x512 .fp8e4m3 := Memref.whole cc0_scratch2
abbrev scM0_3 : Memref sig .tc .vmem S256x128 .fp8e4m3 := Memref.whole cc0_scratch3
abbrev scM0_4 : Memref sig .tc .vmem S256x128 .f32 := Memref.whole cc0_scratch4
abbrev scM0_5 : Memref sig .tc .vmem S256x128 .i32 := Memref.whole cc0_scratch5
abbrev scM0_6 : Memref sig .tc .vmem S256x128 .f32 := Memref.whole cc0_scratch6
abbrev scM0_7 : Memref sig .tc .vmem S256x128 .f32 := Memref.whole cc0_scratch7
abbrev scM0_8 : Memref sig .tc .vmem S256x128 .f32 := Memref.whole cc0_scratch8
abbrev scM0_9 : Memref sig .tc .vmem S256x128 .f32 := Memref.whole cc0_scratch9
abbrev scM0_10 : Memref sig .tc .vmem S256x128 .f32 := Memref.whole cc0_scratch10

theorem PhiA0_eq (c : Dev nD) : (Pipeline.ΦA spec0 c : sProp 𝕄) = iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ ∃ r, prngReg c r) := by
  unfold Pipeline.ΦA; rw [scopedRest0_eq]; simp only [scM0_0, scM0_1, scM0_2, scM0_3, scM0_4, scM0_5, scM0_6, scM0_7, scM0_8, scM0_9, scM0_10, owns_whole]; try rfl

theorem PhiT0_eq (c : Dev nD) : (Pipeline.ΦT pre0 (tbl m) c : sProp 𝕄)
    = iprop(((Memref.whole main_v17 : Memref sig .tc .smem S2x256 .i32).view.loc (c : Thread nD τ)) ↦[(Memref.whole main_v17 : Memref sig .tc .smem S2x256 .i32).view.set]{fullShare.right} tblX m) := by
  unfold Pipeline.ΦT Pipeline.prefHeld
  rw [show (Finset.univ : Finset (Fin 1)) = {(0 : Fin 1)} from by decide, bigSep_singleton]
  simp only [View.set_whole, Memref.view_whole]
  try rfl

/-- The kernel body at point `t`, on what the pipeline calls it with. -/
abbrev bodyAt0 (t : Fin (cfgM m).N) : Prog (TpuEff nD τ sig (Elt F) Λ₀ .tc) PUnit :=
  cc0_attend (grid0.coords t) (Memref.whole main_v17) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _)

/-- What point `t` may leave in the output block (`OutOf` at the point's blocks). -/
def PointOut (hT : TableOk m) (c : Dev nD) (t : Fin (cfgM m).N) (Y : Vec F S1x128x128 .bf16) : Prop :=
  OutOf (F := F) c (grid0.coords t) (Memref.whole main_v17) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (tblX m) (chk (hT (grid0.coords t))) (iblk m c 0 t) (iblk m c 1 t) (iblk m c 2 t) (iblk m c 3 t) (iblk m c 4 t) (iblk m c 5 t) (iblk m c 6 t) Y

set_option maxHeartbeats 1000000 in
/-- The body at any point: the inputs' memrefs hold their blocks, so `sound_kernel` applies. -/
theorem sound_body (out : Out m) (hT : TableOk m) (c : Dev nD) (t : Fin (cfgM m).N) :
    iprop((dats m out 0 c).Φ t.castSucc ∗ (dats m out 0 c).owesAt () t.castSucc
    ∗ (∃ d, owns (c : Thread nD τ) (st0_0 m t) fullShare ((dats m out 0 c).before 0 t d))
    ∗ (∃ d, owns (c : Thread nD τ) (st0_1 m t) fullShare ((dats m out 0 c).before 1 t d))
    ∗ (∃ d, owns (c : Thread nD τ) (st0_2 m t) fullShare ((dats m out 0 c).before 2 t d))
    ∗ (∃ d, owns (c : Thread nD τ) (st0_3 m t) fullShare ((dats m out 0 c).before 3 t d))
    ∗ (∃ d, owns (c : Thread nD τ) (st0_4 m t) fullShare ((dats m out 0 c).before 4 t d))
    ∗ (∃ d, owns (c : Thread nD τ) (st0_5 m t) fullShare ((dats m out 0 c).before 5 t d))
    ∗ (∃ d, owns (c : Thread nD τ) (st0_6 m t) fullShare ((dats m out 0 c).before 6 t d))
    ∗ (∃ d, owns (c : Thread nD τ) (st0_7 m t) fullShare d))
    ⊢ wp frame (wpE (defs₀ (F := F)) Variants.none c none) Set.univ (bodyAt0 m t) (fun _ =>
    iprop((dats m out 0 c).Φ t.succ ∗ (dats m out 0 c).owesAt () t.succ
    ∗ owns (c : Thread nD τ) (st0_0 m t) fullShare ((dats m out 0 c).after 0 t)
    ∗ owns (c : Thread nD τ) (st0_1 m t) fullShare ((dats m out 0 c).after 1 t)
    ∗ owns (c : Thread nD τ) (st0_2 m t) fullShare ((dats m out 0 c).after 2 t)
    ∗ owns (c : Thread nD τ) (st0_3 m t) fullShare ((dats m out 0 c).after 3 t)
    ∗ owns (c : Thread nD τ) (st0_4 m t) fullShare ((dats m out 0 c).after 4 t)
    ∗ owns (c : Thread nD τ) (st0_5 m t) fullShare ((dats m out 0 c).after 5 t)
    ∗ owns (c : Thread nD τ) (st0_6 m t) fullShare ((dats m out 0 c).after 6 t)
    ∗ (∃ Y, ⌜PointOut m hT c t Y⌝ ∗ owns (c : Thread nD τ) (st0_7 m t) fullShare Y))) := by
  unfold bodyAt0
  simp only [before0_0, before0_1, before0_2, before0_3, before0_4, before0_5, before0_6]
  rw [show (dats m out 0 c).Φ t.succ = (dats m out 0 c).Φ t.castSucc from rfl,
    show (dats m out 0 c).owesAt () t.succ = (dats m out 0 c).owesAt () t.castSucc from rfl,
    after0_0, after0_1, after0_2, after0_3, after0_4, after0_5, after0_6]
  rw [show (dats m out 0 c).Φ t.castSucc = iprop(Pipeline.ΦA spec0 c ∗ Pipeline.ΦT pre0 (tbl m) c) from rfl, PhiA0_eq, PhiT0_eq]
  iintro ⟨⟨⟨⟨HS0, HS1, HS2, HS3, HS4, HS5, HS6, HS7, HS8, HS9, HS10⟩, Hp⟩, HT⟩, Ho, ⟨%d0, H0⟩, ⟨%d1, H1⟩, ⟨%d2, H2⟩, ⟨%d3, H3⟩, ⟨%d4, H4⟩, ⟨%d5, H5⟩, ⟨%d6, H6⟩, H7⟩
  iapply (sound_kernel (F := F) c (grid0.coords t) (Memref.whole main_v17) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) fullShare.right (tblX m) (chk (hT (grid0.coords t))) (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HT]; · iexact HT
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  iintro ⟨H0, H1, H2, H3, H4, H5, H6, H7, HT, HS0, HS1, HS2, HS3, HS4, HS5, HS6, HS7, HS8, HS9, HS10⟩
  isplitl [HS0 HS1 HS2 HS3 HS4 HS5 HS6 HS7 HS8 HS9 HS10 Hp HT]
  · isplitl [HS0 HS1 HS2 HS3 HS4 HS5 HS6 HS7 HS8 HS9 HS10 Hp]
    · isplitl [HS0 HS1 HS2 HS3 HS4 HS5 HS6 HS7 HS8 HS9 HS10]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        iexact HS10
      · iexact Hp
    · iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfgM m).N) :
    defs₀ (F := F) .tc (cfgM m).body ((cfgM m).bodyArgs t ((cfgM m).slots t)) = bodyAt0 m t := by
  unfold defs₀; rw [Defs.onTc_tc]

/-- The output window alone is forgotten by the frame. -/
def fgt : Fin (cfgM m).W → Bool := fun w => decide (w.val = 7)

set_option maxHeartbeats 1000000 in
theorem post_forget (out : Out m) (hT : TableOk m) (c : Dev nD) (t : Fin (cfgM m).N) :
    (iprop((dats m out 0 c).Φ t.succ ∗ (dats m out 0 c).owesAt () t.succ
    ∗ owns (c : Thread nD τ) (st0_0 m t) fullShare ((dats m out 0 c).after 0 t)
    ∗ owns (c : Thread nD τ) (st0_1 m t) fullShare ((dats m out 0 c).after 1 t)
    ∗ owns (c : Thread nD τ) (st0_2 m t) fullShare ((dats m out 0 c).after 2 t)
    ∗ owns (c : Thread nD τ) (st0_3 m t) fullShare ((dats m out 0 c).after 3 t)
    ∗ owns (c : Thread nD τ) (st0_4 m t) fullShare ((dats m out 0 c).after 4 t)
    ∗ owns (c : Thread nD τ) (st0_5 m t) fullShare ((dats m out 0 c).after 5 t)
    ∗ owns (c : Thread nD τ) (st0_6 m t) fullShare ((dats m out 0 c).after 6 t)
    ∗ (∃ Y, ⌜PointOut m hT c t Y⌝ ∗ owns (c : Thread nD τ) (st0_7 m t) fullShare Y)) : sProp 𝕄)
    ⊢ iprop((dats m out 0 c).Φ t.succ ∗ (dats m out 0 c).owesAt () t.succ
    ∗ owns (c : Thread nD τ) (st0_0 m t) fullShare ((dats m out 0 c).after 0 t)
    ∗ owns (c : Thread nD τ) (st0_1 m t) fullShare ((dats m out 0 c).after 1 t)
    ∗ owns (c : Thread nD τ) (st0_2 m t) fullShare ((dats m out 0 c).after 2 t)
    ∗ owns (c : Thread nD τ) (st0_3 m t) fullShare ((dats m out 0 c).after 3 t)
    ∗ owns (c : Thread nD τ) (st0_4 m t) fullShare ((dats m out 0 c).after 4 t)
    ∗ owns (c : Thread nD τ) (st0_5 m t) fullShare ((dats m out 0 c).after 5 t)
    ∗ owns (c : Thread nD τ) (st0_6 m t) fullShare ((dats m out 0 c).after 6 t)
    ∗ (∃ Y, owns (c : Thread nD τ) (st0_7 m t) fullShare Y)) := by
  iintro ⟨HΦ, Ho, H0, H1, H2, H3, H4, H5, H6, ⟨%Y, -, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists Y; iexact H7

set_option maxHeartbeats 1000000 in
theorem post_exact (out : Out m) (hT : TableOk m) (c : Dev nD) (t : Fin (cfgM m).N) (hout : ∀ Y, PointOut m hT c t Y → Y = out c t) :
    (iprop((dats m out 0 c).Φ t.succ ∗ (dats m out 0 c).owesAt () t.succ
    ∗ owns (c : Thread nD τ) (st0_0 m t) fullShare ((dats m out 0 c).after 0 t)
    ∗ owns (c : Thread nD τ) (st0_1 m t) fullShare ((dats m out 0 c).after 1 t)
    ∗ owns (c : Thread nD τ) (st0_2 m t) fullShare ((dats m out 0 c).after 2 t)
    ∗ owns (c : Thread nD τ) (st0_3 m t) fullShare ((dats m out 0 c).after 3 t)
    ∗ owns (c : Thread nD τ) (st0_4 m t) fullShare ((dats m out 0 c).after 4 t)
    ∗ owns (c : Thread nD τ) (st0_5 m t) fullShare ((dats m out 0 c).after 5 t)
    ∗ owns (c : Thread nD τ) (st0_6 m t) fullShare ((dats m out 0 c).after 6 t)
    ∗ (∃ Y, ⌜PointOut m hT c t Y⌝ ∗ owns (c : Thread nD τ) (st0_7 m t) fullShare Y)) : sProp 𝕄)
    ⊢ iprop((dats m out 0 c).Φ t.succ ∗ (dats m out 0 c).owesAt () t.succ
    ∗ owns (c : Thread nD τ) (st0_0 m t) fullShare ((dats m out 0 c).after 0 t)
    ∗ owns (c : Thread nD τ) (st0_1 m t) fullShare ((dats m out 0 c).after 1 t)
    ∗ owns (c : Thread nD τ) (st0_2 m t) fullShare ((dats m out 0 c).after 2 t)
    ∗ owns (c : Thread nD τ) (st0_3 m t) fullShare ((dats m out 0 c).after 3 t)
    ∗ owns (c : Thread nD τ) (st0_4 m t) fullShare ((dats m out 0 c).after 4 t)
    ∗ owns (c : Thread nD τ) (st0_5 m t) fullShare ((dats m out 0 c).after 5 t)
    ∗ owns (c : Thread nD τ) (st0_6 m t) fullShare ((dats m out 0 c).after 6 t)
    ∗ owns (c : Thread nD τ) (st0_7 m t) fullShare (out c t)) := by
  iintro ⟨HΦ, Ho, H0, H1, H2, H3, H4, H5, H6, ⟨%Y, %hY, H7⟩⟩
  obtain rfl := hout Y hY
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1000000 in
theorem pre_exact (out : Out m) (c : Dev nD) (t : Fin (cfgM m).N) :
    (iprop((dats m out 0 c).Φ t.castSucc ∗ (dats m out 0 c).owesAt () t.castSucc
    ∗ (∃ d, owns (c : Thread nD τ) (st0_0 m t) fullShare ((dats m out 0 c).before 0 t d))
    ∗ (∃ d, owns (c : Thread nD τ) (st0_1 m t) fullShare ((dats m out 0 c).before 1 t d))
    ∗ (∃ d, owns (c : Thread nD τ) (st0_2 m t) fullShare ((dats m out 0 c).before 2 t d))
    ∗ (∃ d, owns (c : Thread nD τ) (st0_3 m t) fullShare ((dats m out 0 c).before 3 t d))
    ∗ (∃ d, owns (c : Thread nD τ) (st0_4 m t) fullShare ((dats m out 0 c).before 4 t d))
    ∗ (∃ d, owns (c : Thread nD τ) (st0_5 m t) fullShare ((dats m out 0 c).before 5 t d))
    ∗ (∃ d, owns (c : Thread nD τ) (st0_6 m t) fullShare ((dats m out 0 c).before 6 t d))
    ∗ (∃ d, owns (c : Thread nD τ) (st0_7 m t) fullShare ((dats m out 0 c).before 7 t d))) : sProp 𝕄)
    ⊢ iprop((dats m out 0 c).Φ t.castSucc ∗ (dats m out 0 c).owesAt () t.castSucc
    ∗ (∃ d, owns (c : Thread nD τ) (st0_0 m t) fullShare ((dats m out 0 c).before 0 t d))
    ∗ (∃ d, owns (c : Thread nD τ) (st0_1 m t) fullShare ((dats m out 0 c).before 1 t d))
    ∗ (∃ d, owns (c : Thread nD τ) (st0_2 m t) fullShare ((dats m out 0 c).before 2 t d))
    ∗ (∃ d, owns (c : Thread nD τ) (st0_3 m t) fullShare ((dats m out 0 c).before 3 t d))
    ∗ (∃ d, owns (c : Thread nD τ) (st0_4 m t) fullShare ((dats m out 0 c).before 4 t d))
    ∗ (∃ d, owns (c : Thread nD τ) (st0_5 m t) fullShare ((dats m out 0 c).before 5 t d))
    ∗ (∃ d, owns (c : Thread nD τ) (st0_6 m t) fullShare ((dats m out 0 c).before 6 t d))
    ∗ (∃ d, owns (c : Thread nD τ) (st0_7 m t) fullShare d)) := by
  iintro ⟨HΦ, Ho, H0, H1, H2, H3, H4, H5, H6, ⟨%d, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 1000000 in
theorem body_forget (out : Out m) (hT : TableOk m) (c : Dev nD) :
    BodyObligationLoose (dats m out 0 c) (defs₀ (F := F)) Variants.none () Set.univ (fgt m) := fun t => by
  rw [bigSep_W0, bigSep_W0, defs₀_row]
  exact triple_restated (sound_body m out hT c t) rfl .rfl fun _ => post_forget m out hT c t

set_option maxHeartbeats 1000000 in
/-- The exact obligation, when every possible output of each point is the chosen one. -/
theorem body_exact (out : Out m) (hT : TableOk m) (c : Dev nD) (hout : ∀ t Y, PointOut m hT c t Y → Y = out c t) :
    BodyObligation (dats m out 0 c) (defs₀ (F := F)) Variants.none () Set.univ := fun t => by
  rw [bigSep_W0, bigSep_W0, defs₀_row]
  exact triple_restated (sound_body m out hT c t) rfl (pre_exact m out c t) fun _ => post_exact m out hT c t (hout t)

/-! ## The run and the frame -/

set_option backward.isDefEq.respectTransparency.types false in
set_option maxHeartbeats 800000 in
theorem run_forget (out : Out m) (hT : TableOk m) : θ_run defs (onTc (τ := τ) (main (F := F))) (s₀ m ρ)
    (fun r => (Pipeline.RDat.FramePost (cfgM m) (fun c => (dats m out 0 c).toRForget (fgt m)) (V m)) r ∧ r.2.sem = fun _ => 0) :=
  Pipeline.θ_run_frameP_forget (Q' := _) pcfgs (fun _ => adm m) (dats m out) (0 : Fin 1) launch0 defs₀ Variants.none (fgt m) m ρ main
    (hbody := body_forget m out hT) (hshare := fun c => (dats m out 0 c).share_full fun _ => rfl)
    (howed := fun _ _ => rfl) (V := V m) (hmain := hmain m Variants.none) (hA := A_eq m out) (hpf := V_pre m) (hΦ := fun _ _ => rfl)

set_option backward.isDefEq.respectTransparency.types false in
set_option maxHeartbeats 800000 in
theorem run_exact (out : Out m) (hT : TableOk m) (hout : ∀ c t Y, PointOut m hT c t Y → Y = out c t) :
    θ_run defs (onTc (τ := τ) (main (F := F))) (s₀ m ρ)
    (fun r => (Pipeline.FramePost (Pipeline.pin pcfgs (fun _ => adm m)) (dats m out) 0 (V m)) r ∧ r.2.sem = fun _ => 0) :=
  Pipeline.θ_run_frameP (Q' := _) pcfgs (fun _ => adm m) (dats m out) (0 : Fin 1) launch0 defs₀ Variants.none m ρ main
    (hbody := fun c => (body_exact m out hT c (hout c)).loose) (hshare := fun c => (dats m out 0 c).share_full fun _ => rfl)
    (howed := fun _ _ => rfl) (V := V m) (hmain := hmain m Variants.none) (hA := A_eq m out) (hpf := V_pre m) (hΦ := fun _ _ => rfl)

/-- THE FRAME: the run ends, the arguments unchanged, every counter at zero. -/
theorem frame_of (out : Out m) (hT : TableOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h' => ⟨fun c => by
    have h := h'.1
    exact ⟨(Pipeline.RDat.FramePost.arr_in h c 0 rfl).trans ((A_eq m out c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 1 rfl).trans ((A_eq m out c 1).trans (V_main_arg3 m c)),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩, h'.2⟩) (run_forget m ρ out hT)

/-- The exact run read at the result and the arguments. -/
theorem value_of (out : Out m) (hT : TableOk m) (hout : ∀ c t Y, PointOut m hT c t Y → Y = out c t) :
    θ_run defs (onTc (τ := τ) (main (F := F))) ⟨m, fun _ => 0, ρ⟩ (fun r => ∀ c : Dev nD,
      r.2.mem ((c.tc : Thread nD τ).loc main_v25) = (dats m out 0 c).arrAt 7 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h' c => by
    have h := h'.1
    exact ⟨(h c).1 7, ((h c).1 0).trans (((dats m out 0 c).arrAt_in 0 rfl _).trans ((A_eq m out c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats m out 0 c).arrAt_in 1 rfl _).trans ((A_eq m out c 1).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) (run_exact m ρ out hT hout)

end Cert.Kernel
-- ==== Proof.Cummax.lean ====
/-
  The running maximum of a row of words, as the host computes it (a window of the whole row, padded low), and what it says
  when the row holds `i` at the positions where a segment begins and `0` elsewhere.
-/
module

public import Idealize.ShloMosaic.Lib.Routing.Ops

@[expose] public section

namespace Cert.Cummax

open Idealize.ShloMosaic Idealize.ShloMosaic.ValueIdx Idealize.ShloMosaic.Routing

/-- A left fold of the signed maximum is one of the values folded, or the first, and is at least each of them. -/
theorem foldl_maxsi {α : Type} (g : α → BitVec 32) (l : List α) (v : BitVec 32) :
    (l.foldl (fun r n => IntOp.maxsi r (g n)) v = v ∨ ∃ n ∈ l, l.foldl (fun r n => IntOp.maxsi r (g n)) v = g n)
      ∧ v.toInt ≤ (l.foldl (fun r n => IntOp.maxsi r (g n)) v).toInt
      ∧ ∀ n ∈ l, (g n).toInt ≤ (l.foldl (fun r n => IntOp.maxsi r (g n)) v).toInt := by
  induction l generalizing v with
  | nil => exact ⟨Or.inl rfl, le_refl _, fun n h => absurd h List.not_mem_nil⟩
  | cons a l ih =>
    obtain ⟨h1, h2, h3⟩ := ih (IntOp.maxsi v (g a))
    have hm : (IntOp.maxsi v (g a) = v ∨ IntOp.maxsi v (g a) = g a) ∧ v.toInt ≤ (IntOp.maxsi v (g a)).toInt
        ∧ (g a).toInt ≤ (IntOp.maxsi v (g a)).toInt := by
      unfold IntOp.maxsi
      split
      · next h => exact ⟨Or.inl rfl, le_refl _, le_of_lt (BitVec.slt_iff_toInt_lt.mp h)⟩
      · next h => exact ⟨Or.inr rfl, not_lt.mp fun hc => h (BitVec.slt_iff_toInt_lt.mpr hc), le_refl _⟩
    simp only [List.foldl_cons]
    refine ⟨?_, hm.2.1.trans h2, fun n hn => ?_⟩
    · rcases h1 with h1 | ⟨n, hn, h1⟩
      · rcases hm.1 with e | e
        · exact Or.inl (h1.trans e)
        · exact Or.inr ⟨a, List.mem_cons_self, h1.trans e⟩
      · exact Or.inr ⟨n, List.mem_cons_of_mem _ hn, h1⟩
    · rcases List.mem_cons.mp hn with rfl | hn
      · exact hm.2.2.trans h2
      · exact h3 n hn

/-- Entry `(b, j)` of the running maximum along the rows is at least every entry of its row up to `j`, and is one of them. -/
theorem cummax_word {A N Nm1 : Nat} (hN : Nm1 + 1 = N) (x : IVec (shape2 A N) 32) (init : IVec shape0 32) (hinit : init ix0 = 2147483648#32)
    (h : (shape2 A N).ReduceWindows (![1, N] : Fin 2 → Nat) ![1, 1] ![0, Nm1] ![0, 0] (shape2 A N)) (hu : 0 < shape0.numel)
    (b : Fin A) (j : Fin N) :
    (∃ i : Fin N, i ≤ j ∧ Host.reduceWindow IntOp.maxsi ![1, N] ![1, 1] ![0, Nm1] ![0, 0] x init h hu (ix2 b j) = x (ix2 b i))
      ∧ ∀ i : Fin N, i ≤ j → (x (ix2 b i)).toInt
        ≤ (Host.reduceWindow IntOp.maxsi ![1, N] ![1, 1] ![0, Nm1] ![0, 0] x init h hu (ix2 b j)).toInt := by
  subst hN
  have hv : init (Shape.Idx.first hu) = 2147483648#32 := (congrArg init (eq_ix0 _)).trans hinit
  have hj := j.isLt
  unfold Host.reduceWindow
  dsimp only
  rw [hv]
  set g : Fin (shape2 1 (Nm1 + 1)).numel → BitVec 32 := fun n => _ with hg
  change (∃ i : Fin (Nm1 + 1), i ≤ j ∧ List.foldl (fun r n => IntOp.maxsi r (g n)) _ _ = _) ∧ ∀ i : Fin (Nm1 + 1), i ≤ j → _ ≤ (List.foldl (fun r n => IntOp.maxsi r (g n)) _ _).toInt
  have hg1 : ∀ n : Fin (shape2 1 (Nm1 + 1)).numel, Nm1 ≤ j.val + n.val → ∀ hlt : j.val + n.val - Nm1 < Nm1 + 1,
      g n = x (ix2 b ⟨j.val + n.val - Nm1, hlt⟩) := fun n hn hlt => by
    have hw0 : ((shape2 1 (Nm1 + 1)).rowMajor.symm n 0).val = 0 := by rw [symm2]; rfl
    have hw : ((shape2 1 (Nm1 + 1)).rowMajor.symm n 1).val = n.val := by rw [symm2]; rfl
    have hb := b.isLt
    refine (dif_pos fun a => ?_).trans (congrArg x (funext fun a => Fin.ext ?_))
    · match a with
      | ⟨0, _⟩ =>
        show 0 ≤ b.val * 1 + ((shape2 1 (Nm1 + 1)).rowMajor.symm n 0).val ∧ b.val * 1 + ((shape2 1 (Nm1 + 1)).rowMajor.symm n 0).val - 0 < A
        rw [hw0]; omega
      | ⟨1, _⟩ =>
        show Nm1 ≤ j.val * 1 + ((shape2 1 (Nm1 + 1)).rowMajor.symm n 1).val ∧ j.val * 1 + ((shape2 1 (Nm1 + 1)).rowMajor.symm n 1).val - Nm1 < Nm1 + 1
        rw [hw]; omega
    · match a with
      | ⟨0, _⟩ => show b.val * 1 + ((shape2 1 (Nm1 + 1)).rowMajor.symm n 0).val - 0 = b.val; rw [hw0]; omega
      | ⟨1, _⟩ => show j.val * 1 + ((shape2 1 (Nm1 + 1)).rowMajor.symm n 1).val - Nm1 = j.val + n.val - Nm1; rw [hw]; omega
  have hg2 : ∀ n : Fin (shape2 1 (Nm1 + 1)).numel, ¬ Nm1 ≤ j.val + n.val → g n = 2147483648#32 := fun n hn => by
    have hw : ((shape2 1 (Nm1 + 1)).rowMajor.symm n 1).val = n.val := by rw [symm2]; rfl
    refine dif_neg fun ha => hn ?_
    have h1 := (ha 1).1
    change Nm1 ≤ j.val * 1 + ((shape2 1 (Nm1 + 1)).rowMajor.symm n 1).val at h1
    rw [hw] at h1; omega
  have hmin : ∀ y : BitVec 32, (2147483648#32 : BitVec 32).toInt ≤ y.toInt := fun y => by
    rw [show (2147483648#32 : BitVec 32).toInt = -2147483648 by decide]
    have := BitVec.le_toInt y; omega
  obtain ⟨h1, h2, h3⟩ := foldl_maxsi g (List.finRange _) (2147483648#32)
  have hnum : (shape2 1 (Nm1 + 1)).numel = Nm1 + 1 := numel2 _
  have hall : ∀ i : Fin (Nm1 + 1), i ≤ j → (x (ix2 b i)).toInt ≤ (List.foldl (fun r n => IntOp.maxsi r (g n)) (2147483648#32) (List.finRange _)).toInt := fun i hi => by
    have hi' : i.val ≤ j.val := hi
    have := h3 ⟨i.val + Nm1 - j.val, by rw [hnum]; omega⟩ (List.mem_finRange _)
    rw [hg1 _ (by show Nm1 ≤ j.val + (i.val + Nm1 - j.val); omega) (by show j.val + (i.val + Nm1 - j.val) - Nm1 < _; omega)] at this
    refine le_of_eq_of_le ?_ this
    exact congrArg (fun k => (x (ix2 b k)).toInt) (Fin.ext (by show i.val = j.val + (i.val + Nm1 - j.val) - Nm1; omega))
  refine ⟨?_, hall⟩
  have hex : ∀ D : BitVec 32, D = 2147483648#32 → (x (ix2 b j)).toInt ≤ D.toInt → D = x (ix2 b j) := fun D hD hle => by
    apply BitVec.eq_of_toInt_eq
    exact le_antisymm (by rw [hD]; exact hmin _) hle
  rcases h1 with h1 | ⟨n, -, h1⟩
  · exact ⟨j, le_refl _, hex _ h1 (hall j (le_refl _))⟩
  · by_cases hn : Nm1 ≤ j.val + n.val
    · have hlt : n.val < Nm1 + 1 := lt_of_lt_of_eq n.isLt hnum
      exact ⟨⟨j.val + n.val - Nm1, by omega⟩, by show j.val + n.val - Nm1 ≤ j.val; omega, h1.trans (hg1 n hn (by omega))⟩
    · exact ⟨j, le_refl _, hex _ (h1.trans (hg2 n hn)) (hall j (le_refl _))⟩

/-- The first position `≤ j` from which a row `seg` is constant up to `j`: what `d` says of `seg` and `j`. -/
structure Starts {N : Nat} (seg : Fin N → BitVec 32) (j : Fin N) (d : Nat) : Prop where
  le : d ≤ j.val
  change : ∀ h : 0 < d, seg ⟨d - 1, by omega⟩ ≠ seg ⟨d, by omega⟩
  same : ∀ i : Fin N, d < i.val → i ≤ j → seg ⟨i.val - 1, by omega⟩ = seg i

/-- Where the row `x` holds `i` at the positions `i` at which `seg` changes, and `0` elsewhere, its running maximum at `j` is the
    word of the position at which the segment of `j` begins. -/
theorem cummax_starts {N : Nat} (hN : N < 2 ^ 31) (seg x : Fin N → BitVec 32) (j : Fin N) (D : BitVec 32)
    (hx : ∀ i : Fin N, x i = if (∃ h : 0 < i.val, seg ⟨i.val - 1, by omega⟩ ≠ seg i) then BitVec.ofNat 32 i.val else 0#32)
    (h1 : ∃ i : Fin N, i ≤ j ∧ D = x i) (h2 : ∀ i : Fin N, i ≤ j → (x i).toInt ≤ D.toInt) :
    Starts seg j D.toNat := by
  have hword : ∀ n : Nat, n < N → (BitVec.ofNat 32 n).toNat = n := fun n hn => by
    rw [BitVec.toNat_ofNat, Nat.mod_eq_of_lt (by omega)]
  have hint : ∀ n : Nat, n < N → (BitVec.ofNat 32 n).toInt = n := fun n hn => by
    rw [BitVec.toInt_eq_toNat_of_lt (by rw [hword n hn]; omega), hword n hn]
  obtain ⟨i, hij, hD⟩ := h1
  have hij' : i.val ≤ j.val := hij
  have hjl := j.isLt
  have key : D.toNat ≤ j.val ∧ D.toInt = D.toNat ∧ ((h : 0 < D.toNat) → D.toNat = i.val ∧ ∃ h : 0 < i.val, seg ⟨i.val - 1, by omega⟩ ≠ seg i) := by
    rw [hx i] at hD
    split at hD
    · next hc =>
      rw [hD, hword _ i.isLt, hint _ i.isLt]
      exact ⟨hij', rfl, fun _ => ⟨rfl, hc⟩⟩
    · rw [hD]
      exact ⟨Nat.zero_le _, rfl, fun h => absurd h (by decide)⟩
  refine ⟨key.1, fun h => ?_, fun k hk hkj => ?_⟩
  · obtain ⟨e, _, hc⟩ := key.2.2 h
    have : ∀ (n : Nat) (hn : n = i.val), seg ⟨n - 1, by omega⟩ ≠ seg ⟨n, by omega⟩ := by
      rintro n rfl; exact hc
    exact this _ e
  · by_contra hne
    have h := h2 k hkj
    rw [hx k, if_pos ⟨by omega, hne⟩, hint _ k.isLt, key.2.1] at h
    omega

/-- In a non-decreasing row, the positions `≤ j` of `j`'s segment are those from its beginning on. -/
theorem Starts.mem_iff {N : Nat} {seg : Fin N → BitVec 32} {j : Fin N} {d : Nat} (H : Starts seg j d)
    (hs : ∀ a b : Fin N, a ≤ b → (seg a).toInt ≤ (seg b).toInt) (i : Fin N) (hij : i ≤ j) : d ≤ i.val ↔ seg j = seg i := by
  have hij' : i.val ≤ j.val := hij
  have hjl := j.isLt
  have hd := H.le
  have back : ∀ n : Nat, ∀ hn : d + n ≤ j.val, seg ⟨d + n, by omega⟩ = seg ⟨d, by omega⟩ := by
    intro n
    induction n with
    | zero => intro _; rfl
    | succ n ih =>
      intro hn
      rw [← ih (by omega)]
      exact (H.same ⟨d + (n + 1), by omega⟩ (by show d < d + (n + 1); omega) hn).symm
  constructor
  · intro h
    have e1 := back (j.val - d) (by omega)
    have e2 := back (i.val - d) (by omega)
    rw [show (⟨d + (j.val - d), by omega⟩ : Fin N) = j from Fin.ext (by show d + (j.val - d) = j.val; omega)] at e1
    rw [show (⟨d + (i.val - d), by omega⟩ : Fin N) = i from Fin.ext (by show d + (i.val - d) = i.val; omega)] at e2
    rw [e1, e2]
  · intro h
    by_contra hlt
    have hc := H.change (by omega)
    have e1 := back (j.val - d) (by omega)
    rw [show (⟨d + (j.val - d), by omega⟩ : Fin N) = j from Fin.ext (by show d + (j.val - d) = j.val; omega)] at e1
    have l1 := hs i ⟨d - 1, by omega⟩ (by show i.val ≤ d - 1; omega)
    have l2 := hs ⟨d - 1, by omega⟩ ⟨d, by omega⟩ (by show d - 1 ≤ d; omega)
    rw [← h, e1] at l1
    exact hc (BitVec.eq_of_toInt_eq (le_antisymm l2 l1))

end Cert.Cummax
-- ==== Proof.TableKernel.lean ====
/-
  The rows of segment starts that the host computes before the region, and the table that the kernel reads: every entry is the position
  at which the segment of its own position begins, so every word of the table is at most the first position of its block of rows.
-/
module

public import proofs.«01_k».proof.Proof.RunKernel
public import proofs.«01_k».proof.Proof.Cummax
public import Idealize.ShloMosaic.Lib.KernelVsHost

@[expose] public section

set_option maxRecDepth 16384

noncomputable section

namespace Cert.Kernel

open Gen
open Idealize.ShloMosaic Idealize.ShloMosaic.TcCoe Idealize.ShloMosaic.Tactic Idealize.ShloMosaic.ValueIdx

variable {F : FTy → Type} [FloatOps F]  (m : (ℓ : Loc nD τ sig) → Buf (Elt F) ℓ)

/-- The segment identifiers, as launched. -/
abbrev segs (c : Dev nD) : IVec S2x32768 32 := m ((c : Thread nD τ).loc main_arg6)

/-- Where a segment begins: at position 0, and where an identifier differs from the one before it. -/
abbrev begins (c : Dev nD) : IVec S2x32768 1 :=
  concatenate S2x32768 1 [⟨S2x1, broadcastInDim S2x1 ![] bcast_S_S2x1 (constantI S_ 1 1#1)⟩,
    ⟨S2x32767, cmpi CmpIPredicate.ne (extractStridedSlice S2x32767 ![0, 1] (segs m c) slices_S2x32768_S2x32767_0_1)
      (extractStridedSlice S2x32767 ![0, 0] (segs m c) slices_S2x32768_S2x32767_0_0)⟩] concatenates_S2x1_S2x32767_S2x32768_d1

/-- The position itself where a segment begins, 0 elsewhere. -/
abbrev marks (c : Dev nD) : IVec S2x32768 32 :=
  select (begins m c) (iotaInDim S2x32768 32 1) (broadcastInDim S2x32768 ![] bcast_S_S2x32768 (constantI S_ 32 0#32))

/-- The running maximum of the marks. -/
abbrev starts (c : Dev nD) : IVec S2x32768 32 :=
  Host.reduceWindow IntOp.maxsi ![1, 32768] ![1, 1] ![0, 32767] ![0, 0] (marks m c)
    (broadcastInDim S_ ![] bcast_S_S_ (constantI S_ 32 2147483648#32)) reduceWindows_S2x32768_S2x32768_w1s1p0_0_w32768s1p32767_0 h_S_

theorem V_main_v9 (c : Dev nD) : V m c main_v9 = starts m c := by
  unfold_abbrev_sides
  simp only [List.flatten_cons, List.flatten_nil, List.append_nil, List.cons_append, List.nil_append]
  after_results
  simp only [StableHlo.TRef.toBuf, StableHlo.TRef.ofBuf, cast_cast, cast_eq, id_eq]

theorem V_main_v17 (c : Dev nD) : V m c main_v17 = Host.slice S2x256 ![0, 0] ![1, 128] (starts m c) slicesBy_S2x32768_S2x256_0s1_0s128 := by
  unfold_abbrev_sides
  simp only [List.flatten_cons, List.flatten_nil, List.append_nil, List.cons_append, List.nil_append]
  after_results
  simp only [StableHlo.TRef.toBuf, StableHlo.TRef.ofBuf, cast_cast, cast_eq, id_eq]

/-- One row of the identifiers. -/
abbrev segRow (c : Dev nD) (b : Fin 2) : Fin 32768 → BitVec 32 := fun i => segs m c (ix2 b i)

theorem begins_zero (c : Dev nD) (b : Fin 2) (i : Fin 32768) (hi : i.val = 0) : begins m c (ix2 b i) = 1#1 :=
  concatenate_pair_apply_left (t := S2x32768) (s₁ := S2x1) (s₂ := S2x32767) 1 _ _ concatenates_S2x1_S2x32767_S2x32768_d1 (ix2 b i) rfl
    (ix2 b (0 : Fin 1)) (fun a => by match a with
      | ⟨0, _⟩ => rfl
      | ⟨1, _⟩ => exact hi.symm)

theorem begins_pos (c : Dev nD) (b : Fin 2) (i : Fin 32768) (hi : 0 < i.val) :
    begins m c (ix2 b i) = IntOp.cmpi .ne (segRow m c b i) (segRow m c b ⟨i.val - 1, by omega⟩) := by
  refine (concatenate_pair_apply_right (t := S2x32768) (s₁ := S2x1) (s₂ := S2x32767) 1 _ _ concatenates_S2x1_S2x32767_S2x32768_d1 (ix2 b i) rfl rfl
    (ix2 b (⟨i.val - 1, by omega⟩ : Fin 32767)) (fun a ha => by match a with
      | ⟨0, _⟩ => rfl
      | ⟨1, _⟩ => exact absurd rfl ha) (by show i.val - 1 + 1 = i.val; omega)).trans ?_
  refine congrArg₂ (IntOp.cmpi .ne) ?_ ?_
  · refine congrArg (segs m c) (funext fun a => Fin.ext ?_)
    match a with
    | ⟨0, _⟩ => show 0 + b.val = b.val; omega
    | ⟨1, _⟩ => show 1 + (i.val - 1) = i.val; omega
  · refine congrArg (segs m c) (funext fun a => Fin.ext ?_)
    match a with
    | ⟨0, _⟩ => show 0 + b.val = b.val; omega
    | ⟨1, _⟩ => show 0 + (i.val - 1) = i.val - 1; omega

theorem marks_apply (c : Dev nD) (b : Fin 2) (i : Fin 32768) : marks m c (ix2 b i)
    = if (∃ h : 0 < i.val, segRow m c b ⟨i.val - 1, by omega⟩ ≠ segRow m c b i) then BitVec.ofNat 32 i.val else 0#32 := by
  show Scalar.select (begins m c (ix2 b i)) (BitVec.ofNat 32 i.val) 0#32 = _
  by_cases hi : 0 < i.val
  · rw [begins_pos m c b i hi]
    by_cases hc : segRow m c b ⟨i.val - 1, by omega⟩ = segRow m c b i
    · rw [if_neg (fun h => h.2 hc), hc]
      unfold Scalar.select IntOp.cmpi; simp
    · rw [if_pos ⟨hi, hc⟩]
      unfold Scalar.select IntOp.cmpi
      rw [show (segRow m c b i != segRow m c b ⟨i.val - 1, by omega⟩) = true from bne_iff_ne.mpr (Ne.symm hc)]
      rfl
  · have h0 : i.val = 0 := by omega
    rw [begins_zero m c b i h0, if_neg (fun h => hi h.1), h0]
    rfl

/-- THE STARTS: entry `(b, j)` is the position at which the segment of `j` begins in row `b`. -/
theorem starts_spec (c : Dev nD) (b : Fin 2) (j : Fin 32768) : Cummax.Starts (segRow m c b) j (starts m c (ix2 b j)).toNat := by
  obtain ⟨h1, h2⟩ := Cummax.cummax_word (A := 2) (N := 32768) (Nm1 := 32767) rfl (marks m c) (broadcastInDim S_ ![] bcast_S_S_ (constantI S_ 32 2147483648#32))
    rfl reduceWindows_S2x32768_S2x32768_w1s1p0_0_w32768s1p32767_0 h_S_ b j
  exact Cummax.cummax_starts (by norm_num) (segRow m c b) (fun i => marks m c (ix2 b i)) j _ (marks_apply m c b) h1 h2

theorem tableWord_read (i : grid0.Coords) (X : IVec S2x256 32) : tableWord (F := F) i (Memref.whole main_v17) X
    = X (ix2 (⟨(i 0).val, (i 0).isLt⟩ : Fin 2) (⟨(i 3).val, (i 3).isLt⟩ : Fin 256)) := by
  have h3 : (i 3).val < 256 := (i 3).isLt
  have h0 : (i 0).val < 2 := (i 0).isLt
  have hf : ∀ a, (Shape.Idx.first (numel1_S1x1.symm ▸ Nat.one_pos : 0 < S1x1.numel) a).val = 0 := fun a => by
    have := (Shape.Idx.first (numel1_S1x1.symm ▸ Nat.one_pos : 0 < S1x1.numel) a).isLt
    match a with
    | ⟨0, _⟩ => exact Nat.lt_one_iff.mp this
    | ⟨1, _⟩ => exact Nat.lt_one_iff.mp this
  unfold tableWord
  refine congrArg X (funext fun a => Fin.ext ?_)
  match a with
  | ⟨0, _⟩ =>
    show (BitVec.ofNat 32 (i 0).val).toNat + 1 * (Shape.Idx.first (s := S1x1) _ (0 : Fin 2)).val = (i 0).val
    rw [hf, BitVec.toNat_ofNat, Nat.mod_eq_of_lt (by omega)]; rfl
  | ⟨1, _⟩ =>
    show (BitVec.ofNat 32 (i 3).val).toNat + 1 * (Shape.Idx.first (s := S1x1) _ (1 : Fin 2)).val = (i 3).val
    rw [hf, BitVec.toNat_ofNat, Nat.mod_eq_of_lt (by omega)]; rfl

theorem everyRow (x : IVec S2x32768 32) (b : Fin 2) (t : Fin 256) (h : 128 * t.val < 32768) :
    Host.slice S2x256 ![0, 0] ![1, 128] x slicesBy_S2x32768_S2x256_0s1_0s128 (ix2 b t) = x (ix2 b ⟨128 * t.val, h⟩) := by
  unfold Host.slice
  refine congrArg x (funext fun a => Fin.ext ?_)
  match a with
  | ⟨0, _⟩ => show 0 + 1 * b.val = b.val; omega
  | ⟨1, _⟩ => show 0 + 128 * t.val = 128 * t.val; omega

/-- The word of the table that a grid point reads is the start of its first row's segment. -/
theorem tableWord_eq (i : grid0.Coords) : tableWord (F := F) i (Memref.whole main_v17) (tblX m)
    = starts m 0 (ix2 (⟨(i 0).val, (i 0).isLt⟩ : Fin 2) (⟨128 * (i 3).val, by have : (i 3).val < 256 := (i 3).isLt; omega⟩ : Fin 32768)) := by
  have h3 : (i 3).val < 256 := (i 3).isLt
  have h0 : (i 0).val < 2 := (i 0).isLt
  have e : tblX m = Host.slice S2x256 ![0, 0] ![1, 128] (starts m 0) slicesBy_S2x32768_S2x256_0s1_0s128 := V_main_v17 m 0
  rw [e, tableWord_read]
  exact everyRow (starts m 0) _ _ _

theorem tableOk : TableOk m := fun i => by
  rw [tableWord_eq]
  exact (starts_spec m 0 _ _).le

end Cert.Kernel
-- ==== Proof.ChecksKernelIdeal.lean ====
/-
  What the kernel's bounds need: with the first visible position `v2` of the tile at most the tile's start, every loop
  bound, offset and alignment the kernel computes is in range.
-/
module

public import proofs.«01_k».proof.KernelIdeal
public import Idealize.ShloMosaic.Lib.LoopRemainder
public import Idealize.ShloMosaic.Lib.WordArith

@[expose] public section

namespace Cert.KernelIdeal

open Idealize.ShloMosaic

variable {i : grid0.Coords} {v2 : BitVec 32}

/-- The number of key chunks the tile at `i` visits. -/
def nChunks (i : grid0.Coords) (v2 : BitVec 32) : Nat := (128 * (i 3).val + 128 - v2.toNat + 511) / 512

theorem tile_lt (i : grid0.Coords) : (i 3).val < 256 := (i 3).isLt

/-- The words of the tile index are small. -/
private theorem tile_word (i : grid0.Coords) : (BitVec.ofNat 32 (i 3).val).toNat = (i 3).val := by
  have := tile_lt i
  rw [BitVec.toNat_ofNat, Nat.mod_eq_of_lt (by omega)]

theorem count_word (h : v2.toNat ≤ 128 * (i 3).val) :
    Scalar.addi 0#32 (Scalar.muli (Scalar.divsi (Scalar.subi (Scalar.shrui (Scalar.subi (Scalar.addi (Scalar.subi (Scalar.addi
      (Scalar.muli (BitVec.ofNat 32 (i 3).val) 128#32) 128#32) v2) 512#32) 1#32) 9#32) 0#32) 1#32) 1#32)
      = BitVec.ofNat 32 (nChunks i v2) := by
  have ht := tile_lt i
  rw [Scalar.muli_divsi_one]
  apply BitVec.eq_of_toNat_eq
  have hs : ∀ x : BitVec 32, Scalar.shrui x 9#32 = x >>> 9 := fun x => by
    simp [Scalar.shrui, IntOp.shrui]
  simp only [hs, Scalar.addi, Scalar.subi, Scalar.muli, IntOp.addi, IntOp.subi, IntOp.muli]
  rw [BitVec.toNat_add, BitVec.toNat_sub, BitVec.toNat_ushiftRight, BitVec.toNat_sub, BitVec.toNat_add, BitVec.toNat_sub,
    BitVec.toNat_add, BitVec.toNat_mul, tile_word, BitVec.toNat_ofNat, Nat.shiftRight_eq_div_pow]
  simp only [BitVec.toNat_ofNat, nChunks]
  omega

theorem nChunks_le (i : grid0.Coords) (v2 : BitVec 32) : 512 * nChunks i v2 ≤ 128 * (i 3).val + 639 := by
  unfold nChunks; omega

theorem trips_main (h : v2.toNat ≤ 128 * (i 3).val) : (k0_t1_loop i v2).trips = nChunks i v2 := by
  have ht := tile_lt i
  have hn := nChunks_le i v2
  show Scf.trips _ (Scalar.addi _ _) _ = _
  refine (congrArg (fun w => Scf.trips 0#32 w 1#32) (count_word h)).trans ?_
  show Scf.trips _ _ _ = _
  unfold Scf.trips
  rw [show (0#32 : BitVec 32).toInt = 0 by decide, show (1#32 : BitVec 32).toInt = 1 by decide, BitVec.toInt_eq_toNat_of_lt
    (by rw [BitVec.toNat_ofNat, Nat.mod_eq_of_lt (by omega)]; omega), BitVec.toNat_ofNat, Nat.mod_eq_of_lt (by omega)]
  omega

theorem trip_lt (h : v2.toNat ≤ 128 * (i 3).val) (k : Fin (k0_t1_loop i v2).trips) : k.val < nChunks i v2 :=
  lt_of_lt_of_eq k.isLt (trips_main h)

/-- The position of chunk `k` in the padded arrays, as the kernel's words give it. -/
theorem pos_word (h : v2.toNat ≤ 128 * (i 3).val) (k : Fin (k0_t1_loop i v2).trips) :
    (Scalar.addi (Scalar.subi (Scalar.addi (Scalar.muli (BitVec.ofNat 32 (i 3).val) 128#32) 128#32)
      (Scalar.muli 512#32 (Scalar.addi (Scf.iv 0#32 1#32 k.val) 1#32))) 512#32).toNat = 128 * (i 3).val + 128 - 512 * k.val := by
  have ht := tile_lt i
  have hk := trip_lt h k
  have hn := nChunks_le i v2
  simp only [Scf.iv, Scalar.addi, Scalar.subi, Scalar.muli, IntOp.addi, IntOp.subi, IntOp.muli]
  simp only [BitVec.toNat_add, BitVec.toNat_sub, BitVec.toNat_mul, BitVec.toNat_ofNat]
  omega

theorem iv_word (h : v2.toNat ≤ 128 * (i 3).val) (k : Fin (k0_t1_loop i v2).trips) :
    (Scf.iv 0#32 1#32 k.val : BitVec 32).toNat = k.val := by
  have ht := tile_lt i
  have hk := trip_lt h k
  have hn := nChunks_le i v2
  simp only [Scf.iv, BitVec.toNat_add, BitVec.toNat_mul, BitVec.toNat_ofNat]
  omega

private theorem okMain (h : v2.toNat ≤ 128 * (i 3).val) : (k0_t1_loop i v2).OK := by
  have ht := tile_lt i
  have hn := nChunks_le i v2
  have htr := trips_main h
  refine ⟨by show 0 < (1#32 : BitVec 32).toInt; decide, ?_⟩
  show (0#32 : BitVec 32).toInt + (k0_t1_loop i v2).trips * (1#32 : BitVec 32).toInt < _
  rw [htr, show (0#32 : BitVec 32).toInt = 0 by decide, show (1#32 : BitVec 32).toInt = 1 by decide]
  omega

private theorem dvdPos (h : v2.toNat ≤ 128 * (i 3).val) (k : Fin (k0_t1_loop i v2).trips) :
    128 ∣ (Scalar.addi (Scalar.subi (Scalar.addi (Scalar.muli (BitVec.ofNat 32 (i 3).val) 128#32) 128#32)
      (Scalar.muli 512#32 (Scalar.addi (Scf.iv 0#32 1#32 k.val) 1#32))) 512#32).toNat := by
  rw [pos_word h k]; omega

private theorem fitKey (h : v2.toNat ≤ 128 * (i 3).val) (k : Fin (k0_t1_loop i v2).trips) :
    ∀ a, (k0_off2 i v2 k) a + S1x1x128x512.size a ≤ S1x1x128x33280.size a := by
  have ht := tile_lt i
  have hp := pos_word h k
  intro a
  fin_cases a
  · exact Nat.le_refl _
  · exact Nat.le_refl _
  · exact Nat.le_refl _
  · show (Scalar.addi (Scalar.subi (Scalar.addi (Scalar.muli (BitVec.ofNat 32 (i 3).val) 128#32) 128#32)
      (Scalar.muli 512#32 (Scalar.addi (Scf.iv 0#32 1#32 k.val) 1#32))) 512#32).toNat + 512 ≤ 33280
    omega

private theorem fitScale (h : v2.toNat ≤ 128 * (i 3).val) (k : Fin (k0_t1_loop i v2).trips) (r : Fin 4) :
    ∀ a, (k0_off3 i v2 k (BitVec.ofNat 32 (128 * r.val))) a + S1x1x1x128.size a ≤ S1x1x1x33280.size a := by
  have ht := tile_lt i
  have hp := pos_word h k
  have hr := r.isLt
  intro a
  fin_cases a
  · exact Nat.le_refl _
  · exact Nat.le_refl _
  · exact Nat.le_refl _
  · show (Scalar.addi (Scalar.addi (Scalar.subi (Scalar.addi (Scalar.muli (BitVec.ofNat 32 (i 3).val) 128#32) 128#32)
      (Scalar.muli 512#32 (Scalar.addi (Scf.iv 0#32 1#32 k.val) 1#32))) 512#32) (BitVec.ofNat 32 (128 * r.val))).toNat + 128 ≤ 33280
    rw [show ∀ a b : BitVec 32, Scalar.addi a b = a + b from fun _ _ => rfl, BitVec.toNat_add, hp, BitVec.toNat_ofNat]
    omega

private theorem fitStore (h : v2.toNat ≤ 128 * (i 3).val) (k : Fin (k0_t1_loop i v2).trips) (r w : Nat) (hr : r + 32 ≤ 256)
    (hw : w + 128 ≤ 512) :
    ∀ a, (![(Scalar.indexCast (Scf.iv 0#32 1#32 k.val) : BitVec 32).toNat, r, w] : Fin 3 → Nat) a + S1x32x128.size a
      ≤ S64x256x512.size a := by
  have ht := tile_lt i
  have hk := trip_lt h k
  have hn := nChunks_le i v2
  have hv := iv_word h k
  intro a
  fin_cases a
  · show (Scf.iv 0#32 1#32 k.val : BitVec 32).toNat + 1 ≤ 64
    omega
  · exact hr
  · exact hw

private theorem fitValue (h : v2.toNat ≤ 128 * (i 3).val) (k : Fin (k0_t1_loop i v2).trips) :
    ∀ a, (![0, 0, (Scalar.indexCast (Scalar.addi (Scalar.subi (Scalar.addi (Scalar.muli (BitVec.ofNat 32 (i 3).val) 128#32) 128#32)
      (Scalar.muli 512#32 (Scalar.addi (Scf.iv 0#32 1#32 k.val) 1#32))) 512#32) : BitVec 32).toNat, 0] : Fin 4 → Nat) a
      + S1x1x512x128.size a ≤ S1x1x33280x128.size a := by
  have ht := tile_lt i
  have hp := pos_word h k
  intro a
  fin_cases a
  · exact Nat.le_refl _
  · exact Nat.le_refl _
  · show (Scalar.addi (Scalar.subi (Scalar.addi (Scalar.muli (BitVec.ofNat 32 (i 3).val) 128#32) 128#32)
      (Scalar.muli 512#32 (Scalar.addi (Scf.iv 0#32 1#32 k.val) 1#32))) 512#32).toNat + 512 ≤ 33280
    omega
  · exact Nat.le_refl _

private theorem chk0 (h : v2.toNat ≤ 128 * (i 3).val) : k0_chk1_0 i v2 :=
  ⟨okMain h,
   fun k => dvdPos h k,
   fun k => fitKey h k,
   fun k => dvdPos h k,
   fun k r => fitScale h k r,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k,
   fun k => dvdPos h k⟩

private theorem chk1 (h : v2.toNat ≤ 128 * (i 3).val) : k0_chk1_1 i v2 :=
  ⟨fun k => dvdPos h k,
   fun k => dvdPos h k,
   fun k => dvdPos h k,
   fun k => dvdPos h k,
   Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

private theorem chk2 (h : v2.toNat ≤ 128 * (i 3).val) : k0_chk1_2 i v2 :=
  ⟨fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   okMain h,
   fun k => dvdPos h k,
   fun k => fitKey h k,
   fun k => dvdPos h k,
   fun k r => fitScale h k r,
   fun k => dvdPos h k,
   fun k => dvdPos h k,
   fun k => dvdPos h k,
   fun k => dvdPos h k,
   fun k => fitStore h k 0 0 (by decide) (by decide),
   fun k => dvdPos h k,
   fun k => fitStore h k 0 128 (by decide) (by decide),
   fun k => dvdPos h k,
   fun k => fitStore h k 0 256 (by decide) (by decide),
   fun k => dvdPos h k,
   fun k => fitStore h k 0 384 (by decide) (by decide),
   fun k => dvdPos h k,
   fun k => dvdPos h k,
   fun k => dvdPos h k,
   fun k => dvdPos h k,
   fun k => dvdPos h k,
   fun k => fitStore h k 32 0 (by decide) (by decide),
   fun k => dvdPos h k,
   fun k => fitStore h k 32 128 (by decide) (by decide)⟩

private theorem chk3 (h : v2.toNat ≤ 128 * (i 3).val) : k0_chk1_3 i v2 :=
  ⟨fun k => dvdPos h k,
   fun k => fitStore h k 32 256 (by decide) (by decide),
   fun k => dvdPos h k,
   fun k => fitStore h k 32 384 (by decide) (by decide),
   fun k => dvdPos h k,
   fun k => dvdPos h k,
   fun k => dvdPos h k,
   fun k => dvdPos h k,
   fun k => dvdPos h k,
   fun k => fitStore h k 64 0 (by decide) (by decide),
   fun k => dvdPos h k,
   fun k => fitStore h k 64 128 (by decide) (by decide),
   fun k => dvdPos h k,
   fun k => fitStore h k 64 256 (by decide) (by decide),
   fun k => dvdPos h k,
   fun k => fitStore h k 64 384 (by decide) (by decide),
   fun k => dvdPos h k,
   fun k => dvdPos h k,
   fun k => dvdPos h k,
   fun k => dvdPos h k,
   fun k => dvdPos h k,
   fun k => fitStore h k 96 0 (by decide) (by decide),
   fun k => dvdPos h k,
   fun k => fitStore h k 96 128 (by decide) (by decide),
   fun k => dvdPos h k,
   fun k => fitStore h k 96 256 (by decide) (by decide),
   fun k => dvdPos h k,
   fun k => fitStore h k 96 384 (by decide) (by decide),
   fun k => dvdPos h k,
   fun k => dvdPos h k,
   fun k => dvdPos h k,
   fun k => dvdPos h k⟩

private theorem chk4 (h : v2.toNat ≤ 128 * (i 3).val) : k0_chk1_4 i v2 :=
  ⟨fun k => dvdPos h k,
   fun k => fitStore h k 128 0 (by decide) (by decide),
   fun k => dvdPos h k,
   fun k => fitStore h k 128 128 (by decide) (by decide),
   fun k => dvdPos h k,
   fun k => fitStore h k 128 256 (by decide) (by decide),
   fun k => dvdPos h k,
   fun k => fitStore h k 128 384 (by decide) (by decide),
   fun k => dvdPos h k,
   fun k => dvdPos h k,
   fun k => dvdPos h k,
   fun k => dvdPos h k,
   fun k => dvdPos h k,
   fun k => fitStore h k 160 0 (by decide) (by decide),
   fun k => dvdPos h k,
   fun k => fitStore h k 160 128 (by decide) (by decide),
   fun k => dvdPos h k,
   fun k => fitStore h k 160 256 (by decide) (by decide),
   fun k => dvdPos h k,
   fun k => fitStore h k 160 384 (by decide) (by decide),
   fun k => dvdPos h k,
   fun k => dvdPos h k,
   fun k => dvdPos h k,
   fun k => dvdPos h k,
   fun k => dvdPos h k,
   fun k => fitStore h k 192 0 (by decide) (by decide),
   fun k => dvdPos h k,
   fun k => fitStore h k 192 128 (by decide) (by decide),
   fun k => dvdPos h k,
   fun k => fitStore h k 192 256 (by decide) (by decide),
   fun k => dvdPos h k,
   fun k => fitStore h k 192 384 (by decide) (by decide)⟩

private theorem chk5 (h : v2.toNat ≤ 128 * (i 3).val) : k0_chk1_5 i v2 :=
  ⟨fun k => dvdPos h k,
   fun k => dvdPos h k,
   fun k => dvdPos h k,
   fun k => dvdPos h k,
   fun k => dvdPos h k,
   fun k => fitStore h k 224 0 (by decide) (by decide),
   fun k => dvdPos h k,
   fun k => fitStore h k 224 128 (by decide) (by decide),
   fun k => dvdPos h k,
   fun k => fitStore h k 224 256 (by decide) (by decide),
   fun k => dvdPos h k,
   fun k => fitStore h k 224 384 (by decide) (by decide),
   Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

private theorem chk6 (h : v2.toNat ≤ 128 * (i 3).val) : k0_chk1_6 i v2 :=
  ⟨fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

private theorem chk7 (h : v2.toNat ≤ 128 * (i 3).val) : k0_chk1_7 i v2 :=
  ⟨fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

private theorem chk8 (h : v2.toNat ≤ 128 * (i 3).val) : k0_chk1_8 i v2 :=
  ⟨fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   okMain h,
   fun k => fitStore h k 0 0 (by decide) (by decide),
   fun k => fitStore h k 0 128 (by decide) (by decide),
   fun k => fitStore h k 0 256 (by decide) (by decide),
   fun k => fitStore h k 0 384 (by decide) (by decide),
   fun k => fitStore h k 32 0 (by decide) (by decide),
   fun k => fitStore h k 32 128 (by decide) (by decide),
   fun k => fitStore h k 32 256 (by decide) (by decide),
   fun k => fitStore h k 32 384 (by decide) (by decide),
   fun k => fitStore h k 64 0 (by decide) (by decide),
   fun k => fitStore h k 64 128 (by decide) (by decide),
   fun k => fitStore h k 64 256 (by decide) (by decide),
   fun k => fitStore h k 64 384 (by decide) (by decide),
   fun k => fitStore h k 96 0 (by decide) (by decide),
   fun k => fitStore h k 96 128 (by decide) (by decide),
   fun k => fitStore h k 96 256 (by decide) (by decide)⟩

private theorem chk9 (h : v2.toNat ≤ 128 * (i 3).val) : k0_chk1_9 i v2 :=
  ⟨fun k => fitStore h k 96 384 (by decide) (by decide),
   fun k => fitStore h k 128 0 (by decide) (by decide),
   fun k => fitStore h k 128 128 (by decide) (by decide),
   fun k => fitStore h k 128 256 (by decide) (by decide),
   fun k => fitStore h k 128 384 (by decide) (by decide),
   fun k => fitStore h k 160 0 (by decide) (by decide),
   fun k => fitStore h k 160 128 (by decide) (by decide),
   fun k => fitStore h k 160 256 (by decide) (by decide),
   fun k => fitStore h k 160 384 (by decide) (by decide),
   fun k => fitStore h k 192 0 (by decide) (by decide),
   fun k => fitStore h k 192 128 (by decide) (by decide),
   fun k => fitStore h k 192 256 (by decide) (by decide),
   fun k => fitStore h k 192 384 (by decide) (by decide),
   fun k => fitStore h k 224 0 (by decide) (by decide),
   fun k => fitStore h k 224 128 (by decide) (by decide),
   fun k => fitStore h k 224 256 (by decide) (by decide),
   fun k => fitStore h k 224 384 (by decide) (by decide),
   fun k => dvdPos h k,
   fun k => fitValue h k,
   Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

private theorem chk10 (h : v2.toNat ≤ 128 * (i 3).val) : k0_chk1_10 i v2 :=
  ⟨fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

/-- All that the kernel checks about a tile whose first visible position is at most its start. -/
theorem chk (h : v2.toNat ≤ 128 * (i 3).val) : k0_chk1 i v2 :=
  ⟨chk0 h, chk1 h, chk2 h, chk3 h, chk4 h, chk5 h, chk6 h, chk7 h, chk8 h, chk9 h, chk10 h⟩

end Cert.KernelIdeal
-- ==== Proof.BodyKernelIdeal.lean ====
/-
  One grid point of the kernel `cc0_attend`, run through the printed statements and through the
  invariants of its six counted loops: what the output block's buffer is written with, as a function
  of what the body finds in its scratch buffers.
-/
module

public import proofs.«01_k».proof.Proof.Gen.KernelIdeal.Loops
public import proofs.«01_k».proof.Proof.ChecksKernelIdeal

@[expose] public section

set_option maxRecDepth 16384
set_option maxHeartbeats 4000000

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The table's word the body reads at grid point `i`, from the table's contents. -/
abbrev tableWord (i : grid0.Coords) (arg4 : Memref sig .tc .smem S2x256 .i32) (X_arg4 : BufTy.Contents (Elt F) arg4.view.ty) : Elt F .i32 :=
  View.readAt (Elt F) arg4.view (Rect.unit (s := S2x256) (k0_off1 i) S1x1.size (k0_off1_inb i)).toLoadRect X_arg4 (Shape.Idx.first (numel1_S1x1.symm ▸ Nat.one_pos))

/-- The body at one grid point: from the inputs' buffers at contents `X`, the output's and the
    scratch buffers at any, it ends with the inputs' as they were and the output's written with the
    pieces this definition finds. -/
def bodyRun (c : Dev nD) (i : grid0.Coords) (arg4 : Memref sig .tc .smem S2x256 .i32) (harg4 : arg4.IsWhole) (arg5 : Memref sig .tc .vmem S1x128x128 .fp8e4m3) (harg5 : arg5.IsWhole) (arg6 : Memref sig .tc .vmem S1x128x16 .f32) (harg6 : arg6.IsWhole) (arg7 : Memref sig .tc .vmem S1x128x1 .i32) (harg7 : arg7.IsWhole) (arg8 : Memref sig .tc .vmem S1x1x128x33280 .fp8e4m3) (harg8 : arg8.IsWhole) (arg9 : Memref sig .tc .vmem S1x1x33280x128 .fp8e4m3) (harg9 : arg9.IsWhole) (arg10 : Memref sig .tc .vmem S1x1x1x33280 .f32) (harg10 : arg10.IsWhole) (arg11 : Memref sig .tc .vmem S1x1x1x33280 .f32) (harg11 : arg11.IsWhole) (arg12 : Memref sig .tc .vmem S1x128x128 .bf16) (harg12 : arg12.IsWhole) (arg13 : Memref sig .tc .vmem S64x256x512 .f32) (harg13 : arg13.IsWhole) (arg14 : Memref sig .tc .vmem S256x512 .f32) (harg14 : arg14.IsWhole) (arg15 : Memref sig .tc .vmem S256x512 .fp8e4m3) (harg15 : arg15.IsWhole) (arg16 : Memref sig .tc .vmem S256x128 .fp8e4m3) (harg16 : arg16.IsWhole) (arg17 : Memref sig .tc .vmem S256x128 .f32) (harg17 : arg17.IsWhole) (arg18 : Memref sig .tc .vmem S256x128 .i32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty)
    (hw : k0_chk1 i (tableWord (F := F) i arg4 X_arg4)) :
    { L : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → BufTy.Contents (Elt F) arg21.view.ty → BufTy.Contents (Elt F) arg22.view.ty → BufTy.Contents (Elt F) arg23.view.ty → List (View.Piece (Elt F) S1x128x128 .bf16)) // ∀ (sh : PosShare TreeShare) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty),
      (iprop((arg4.view.loc (c : Thread nD τ) ↦[arg4.view.set]{sh} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21) ∗ (arg22.view.loc (c : Thread nD τ) ↦[arg22.view.set]{fullShare} f_arg22) ∗ (arg23.view.loc (c : Thread nD τ) ↦[arg23.view.set]{fullShare} f_arg23)) : sProp 𝕄)
      ⊢ wp frame (wpE (defs₀ (F := F)) Variants.none (c : Thread nD τ) none) Set.univ (cc0_attend i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => iprop((arg4.view.loc (c : Thread nD τ) ↦[arg4.view.set]{sh} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} (arg12.view.writes (Elt F) f_arg12 (L f_arg13 f_arg14 f_arg15 f_arg16 f_arg17 f_arg18 f_arg19 f_arg20 f_arg21 f_arg22 f_arg23))) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)) ∗ (∃ f : BufTy.Contents (Elt F) arg21.view.ty, (arg21.view.loc (c : Thread nD τ) ↦[arg21.view.set]{fullShare} f)) ∗ (∃ f : BufTy.Contents (Elt F) arg22.view.ty, (arg22.view.loc (c : Thread nD τ) ↦[arg22.view.set]{fullShare} f)) ∗ (∃ f : BufTy.Contents (Elt F) arg23.view.ty, (arg23.view.loc (c : Thread nD τ) ↦[arg23.view.set]{fullShare} f)))) } := by
  refine ⟨?_, fun sh f_arg12 f_arg13 f_arg14 f_arg15 f_arg16 f_arg17 f_arg18 f_arg19 f_arg20 f_arg21 f_arg22 f_arg23 => ?run⟩
  case run =>
    simp only [cc0_attend_eq_skeleton]; unfold cc0_attend_skel
    simp only [k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton]
    iintro ⟨H_arg4, H_arg5, H_arg6, H_arg7, H_arg8, H_arg9, H_arg10, H_arg11, H_arg12, H_arg13, H_arg14, H_arg15, H_arg16, H_arg17, H_arg18, H_arg19, H_arg20, H_arg21, H_arg22, H_arg23⟩
    sl_exec
    sl_step
    sl_close

end Cert.KernelIdeal
-- ==== Proof.RunKernelIdeal.lean ====
/-
  The launch of the kernel `cc0_attend` over its whole grid: the buffers when the region is entered,
  the pipeline's proof data, the body obligation, and the run from the launch to the end.
-/
module

public import proofs.«01_k».proof.Proof.BodyKernelIdeal
public import proofs.«01_k».proof.Proof.Gen.KernelIdeal.Launch
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.KernelIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The body's triple, its buffers owned by what they read -/

/-- `Y` is what the body may leave in the output block: what its run writes, at some contents of the
    inputs' buffers that read `x…`, of the output's buffer and of the scratch buffers. -/
def OutOf (c : Dev nD) (i : grid0.Coords) (arg4 : Memref sig .tc .smem S2x256 .i32) (harg4 : arg4.IsWhole) (arg5 : Memref sig .tc .vmem S1x128x128 .fp8e4m3) (harg5 : arg5.IsWhole) (arg6 : Memref sig .tc .vmem S1x128x16 .f32) (harg6 : arg6.IsWhole) (arg7 : Memref sig .tc .vmem S1x128x1 .i32) (harg7 : arg7.IsWhole) (arg8 : Memref sig .tc .vmem S1x1x128x33280 .fp8e4m3) (harg8 : arg8.IsWhole) (arg9 : Memref sig .tc .vmem S1x1x33280x128 .fp8e4m3) (harg9 : arg9.IsWhole) (arg10 : Memref sig .tc .vmem S1x1x1x33280 .f32) (harg10 : arg10.IsWhole) (arg11 : Memref sig .tc .vmem S1x1x1x33280 .f32) (harg11 : arg11.IsWhole) (arg12 : Memref sig .tc .vmem S1x128x128 .bf16) (harg12 : arg12.IsWhole) (arg13 : Memref sig .tc .vmem S64x256x512 .f32) (harg13 : arg13.IsWhole) (arg14 : Memref sig .tc .vmem S256x512 .f32) (harg14 : arg14.IsWhole) (arg15 : Memref sig .tc .vmem S256x512 .fp8e4m3) (harg15 : arg15.IsWhole) (arg16 : Memref sig .tc .vmem S256x128 .fp8e4m3) (harg16 : arg16.IsWhole) (arg17 : Memref sig .tc .vmem S256x128 .f32) (harg17 : arg17.IsWhole) (arg18 : Memref sig .tc .vmem S256x128 .i32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (X4 : BufTy.Contents (Elt F) arg4.view.ty)
    (hw : k0_chk1 i (tableWord (F := F) i arg4 X4)) (x5 : Vec F S1x128x128 .fp8e4m3) (x6 : Vec F S1x128x16 .f32) (x7 : Vec F S1x128x1 .i32) (x8 : Vec F S1x1x128x33280 .fp8e4m3) (x9 : Vec F S1x1x33280x128 .fp8e4m3) (x10 : Vec F S1x1x1x33280 .f32) (x11 : Vec F S1x1x1x33280 .f32) (Y : Vec F S1x128x128 .bf16) : Prop :=
  ∃ (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty), arg5.view.read (Elt F) X5 = x5 ∧ arg6.view.read (Elt F) X6 = x6 ∧ arg7.view.read (Elt F) X7 = x7 ∧ arg8.view.read (Elt F) X8 = x8 ∧ arg9.view.read (Elt F) X9 = x9 ∧ arg10.view.read (Elt F) X10 = x10 ∧ arg11.view.read (Elt F) X11 = x11 ∧
    ∃ (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty), Y = arg12.view.read (Elt F) (arg12.view.writes (Elt F) f12 ((bodyRun (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X4 X5 X6 X7 X8 X9 X10 X11 hw).1 f13 f14 f15 f16 f17 f18 f19 f20 f21 f22 f23))

set_option maxHeartbeats 1000000 in
theorem sound_kernel (c : Dev nD) (i : grid0.Coords) (arg4 : Memref sig .tc .smem S2x256 .i32) (harg4 : arg4.IsWhole) (arg5 : Memref sig .tc .vmem S1x128x128 .fp8e4m3) (harg5 : arg5.IsWhole) (arg6 : Memref sig .tc .vmem S1x128x16 .f32) (harg6 : arg6.IsWhole) (arg7 : Memref sig .tc .vmem S1x128x1 .i32) (harg7 : arg7.IsWhole) (arg8 : Memref sig .tc .vmem S1x1x128x33280 .fp8e4m3) (harg8 : arg8.IsWhole) (arg9 : Memref sig .tc .vmem S1x1x33280x128 .fp8e4m3) (harg9 : arg9.IsWhole) (arg10 : Memref sig .tc .vmem S1x1x1x33280 .f32) (harg10 : arg10.IsWhole) (arg11 : Memref sig .tc .vmem S1x1x1x33280 .f32) (harg11 : arg11.IsWhole) (arg12 : Memref sig .tc .vmem S1x128x128 .bf16) (harg12 : arg12.IsWhole) (arg13 : Memref sig .tc .vmem S64x256x512 .f32) (harg13 : arg13.IsWhole) (arg14 : Memref sig .tc .vmem S256x512 .f32) (harg14 : arg14.IsWhole) (arg15 : Memref sig .tc .vmem S256x512 .fp8e4m3) (harg15 : arg15.IsWhole) (arg16 : Memref sig .tc .vmem S256x128 .fp8e4m3) (harg16 : arg16.IsWhole) (arg17 : Memref sig .tc .vmem S256x128 .f32) (harg17 : arg17.IsWhole) (arg18 : Memref sig .tc .vmem S256x128 .i32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (sh : PosShare TreeShare) (X4 : BufTy.Contents (Elt F) arg4.view.ty)
    (hw : k0_chk1 i (tableWord (F := F) i arg4 X4)) (x5 : Vec F S1x128x128 .fp8e4m3) (x6 : Vec F S1x128x16 .f32) (x7 : Vec F S1x128x1 .i32) (x8 : Vec F S1x1x128x33280 .fp8e4m3) (x9 : Vec F S1x1x33280x128 .fp8e4m3) (x10 : Vec F S1x1x1x33280 .f32) (x11 : Vec F S1x1x1x33280 .f32) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (arg4.view.loc (c : Thread nD τ) ↦[arg4.view.set]{sh} X4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ Y, ⌜OutOf (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X4 hw x5 x6 x7 x8 x9 x10 x11 Y⌝ ∗ owns (c : Thread nD τ) arg12 fullShare Y) ∗ (arg4.view.loc (c : Thread nD τ) ↦[arg4.view.set]{sh} X4) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) Set.univ (cc0_attend i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  unfold owns
  iintro ⟨⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%d12, %f12, -, H12⟩, H4, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  iapply (wp_wand_r Idealize.ShloMosaic.frame (wpE (defs₀ (F := F)) Variants.none (c : Thread nD τ) none) Set.univ)
  isplitl [H4 H5 H6 H7 H8 H9 H10 H11 H12 H13 H14 H15 H16 H17 H18 H19 H20 H21 H22 H23]
  · iapply ((bodyRun (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X4 X5 X6 X7 X8 X9 X10 X11 hw).2 sh f12 f13 f14 f15 f16 f17 f18 f19 f20 f21 f22 f23)
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  · iintro %_ ⟨H4, H5, H6, H7, H8, H9, H10, H11, H12, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, ⟨%g22, H22⟩, ⟨%g23, H23⟩⟩
    iapply Hk
    isplitl [H5]
    · iexists X5; isplitr
      · ipureintro; exact h5
      iexact H5
    isplitl [H6]
    · iexists X6; isplitr
      · ipureintro; exact h6
      iexact H6
    isplitl [H7]
    · iexists X7; isplitr
      · ipureintro; exact h7
      iexact H7
    isplitl [H8]
    · iexists X8; isplitr
      · ipureintro; exact h8
      iexact H8
    isplitl [H9]
    · iexists X9; isplitr
      · ipureintro; exact h9
      iexact H9
    isplitl [H10]
    · iexists X10; isplitr
      · ipureintro; exact h10
      iexact H10
    isplitl [H11]
    · iexists X11; isplitr
      · ipureintro; exact h11
      iexact H11
    isplitl [H12]
    · iexists (arg12.view.read (Elt F) (arg12.view.writes (Elt F) f12 ((bodyRun (F := F) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X4 X5 X6 X7 X8 X9 X10 X11 hw).1 f13 f14 f15 f16 f17 f18 f19 f20 f21 f22 f23))); isplitr
      · ipureintro; exact ⟨X5, X6, X7, X8, X9, X10, X11, h5, h6, h7, h8, h9, h10, h11, f12, f13, f14, f15, f16, f17, f18, f19, f20, f21, f22, f23, rfl⟩
      · iexists _; isplitr; · ipureintro; rfl
        iexact H12
    isplitl [H4]; · iexact H4
    isplitl [H13]
    · iexists _; iexists g13; isplitr; · ipureintro; rfl
      iexact H13
    isplitl [H14]
    · iexists _; iexists g14; isplitr; · ipureintro; rfl
      iexact H14
    isplitl [H15]
    · iexists _; iexists g15; isplitr; · ipureintro; rfl
      iexact H15
    isplitl [H16]
    · iexists _; iexists g16; isplitr; · ipureintro; rfl
      iexact H16
    isplitl [H17]
    · iexists _; iexists g17; isplitr; · ipureintro; rfl
      iexact H17
    isplitl [H18]
    · iexists _; iexists g18; isplitr; · ipureintro; rfl
      iexact H18
    isplitl [H19]
    · iexists _; iexists g19; isplitr; · ipureintro; rfl
      iexact H19
    isplitl [H20]
    · iexists _; iexists g20; isplitr; · ipureintro; rfl
      iexact H20
    isplitl [H21]
    · iexists _; iexists g21; isplitr; · ipureintro; rfl
      iexact H21
    isplitl [H22]
    · iexists _; iexists g22; isplitr; · ipureintro; rfl
      iexact H22
    iexists _; iexists g23; isplitr; · ipureintro; rfl
    iexact H23

/-! ## @main up to the region -/

variable (m : (ℓ : Loc nD τ sig) → Buf (Elt F) ℓ) (ρ : Dev nD → PrngReg)

/-- Core `c`'s TensorCore buffers when the region is entered: after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7] (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

/-- The table's contents as the body's memref for it holds them. -/
abbrev tblX : BufTy.Contents (Elt F) (Memref.whole main_v17 : Memref sig .tc .smem S2x256 .i32).view.ty := tbl m 0

/-- Every word of the table is at most the first position of its block of rows. -/
def TableOk : Prop := ∀ i : grid0.Coords, (tableWord (F := F) i (Memref.whole main_v17) (tblX m)).toNat ≤ 128 * (i 3).val

/-! ## The pipeline's proof data -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- A choice of what each point leaves in the output block. -/
abbrev Out : Type := (c : Dev nD) → (t : Fin (cfgM m).N) → Vec F S1x128x128 .bf16

def dats (out : Out m) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out c t
  Φ _ := iprop(Pipeline.ΦA spec0 c ∗ Pipeline.ΦT pre0 (tbl m) c)
  q _ := fullShare
  owed _ := 0

theorem A_eq (out : Out m) (c : Dev nD) (w : Fin (cfgM m).W) : (dats m out 0 c).A w = V m c (Pipeline.arrRef spec0 w) := by
  dsimp only [dats]
theorem after0_0 (out : Out m) (c : Dev nD) (t : Fin (cfgM m).N) : (dats m out 0 c).after 0 t = iblk m c 0 t := by dsimp only [dats]; rfl
theorem after0_1 (out : Out m) (c : Dev nD) (t : Fin (cfgM m).N) : (dats m out 0 c).after 1 t = iblk m c 1 t := by dsimp only [dats]; rfl
theorem after0_2 (out : Out m) (c : Dev nD) (t : Fin (cfgM m).N) : (dats m out 0 c).after 2 t = iblk m c 2 t := by dsimp only [dats]; rfl
theorem after0_3 (out : Out m) (c : Dev nD) (t : Fin (cfgM m).N) : (dats m out 0 c).after 3 t = iblk m c 3 t := by dsimp only [dats]; rfl
theorem after0_4 (out : Out m) (c : Dev nD) (t : Fin (cfgM m).N) : (dats m out 0 c).after 4 t = iblk m c 4 t := by dsimp only [dats]; rfl
theorem after0_5 (out : Out m) (c : Dev nD) (t : Fin (cfgM m).N) : (dats m out 0 c).after 5 t = iblk m c 5 t := by dsimp only [dats]; rfl
theorem after0_6 (out : Out m) (c : Dev nD) (t : Fin (cfgM m).N) : (dats m out 0 c).after 6 t = iblk m c 6 t := by dsimp only [dats]; rfl
theorem after0_7 (out : Out m) (c : Dev nD) (t : Fin (cfgM m).N) : (dats m out 0 c).after 7 t = out c t := rfl
theorem before0_0 (out : Out m) (c : Dev nD) (t : Fin (cfgM m).N) (d) : (dats m out 0 c).before 0 t d = iblk m c 0 t :=
  ((dats m out 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (out : Out m) (c : Dev nD) (t : Fin (cfgM m).N) (d) : (dats m out 0 c).before 1 t d = iblk m c 1 t :=
  ((dats m out 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (out : Out m) (c : Dev nD) (t : Fin (cfgM m).N) (d) : (dats m out 0 c).before 2 t d = iblk m c 2 t :=
  ((dats m out 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (out : Out m) (c : Dev nD) (t : Fin (cfgM m).N) (d) : (dats m out 0 c).before 3 t d = iblk m c 3 t :=
  ((dats m out 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (out : Out m) (c : Dev nD) (t : Fin (cfgM m).N) (d) : (dats m out 0 c).before 4 t d = iblk m c 4 t :=
  ((dats m out 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (out : Out m) (c : Dev nD) (t : Fin (cfgM m).N) (d) : (dats m out 0 c).before 5 t d = iblk m c 5 t :=
  ((dats m out 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (out : Out m) (c : Dev nD) (t : Fin (cfgM m).N) (d) : (dats m out 0 c).before 6 t d = iblk m c 6 t :=
  ((dats m out 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

abbrev st0_0 (t : Fin (cfgM m).N) := ((cfgM m).win 0).stage ((cfgM m).slots t 0)
abbrev st0_1 (t : Fin (cfgM m).N) := ((cfgM m).win 1).stage ((cfgM m).slots t 1)
abbrev st0_2 (t : Fin (cfgM m).N) := ((cfgM m).win 2).stage ((cfgM m).slots t 2)
abbrev st0_3 (t : Fin (cfgM m).N) := ((cfgM m).win 3).stage ((cfgM m).slots t 3)
abbrev st0_4 (t : Fin (cfgM m).N) := ((cfgM m).win 4).stage ((cfgM m).slots t 4)
abbrev st0_5 (t : Fin (cfgM m).N) := ((cfgM m).win 5).stage ((cfgM m).slots t 5)
abbrev st0_6 (t : Fin (cfgM m).N) := ((cfgM m).win 6).stage ((cfgM m).slots t 6)
abbrev st0_7 (t : Fin (cfgM m).N) := ((cfgM m).win 7).stage ((cfgM m).slots t 7)
abbrev scM0_0 : Memref sig .tc .vmem S64x256x512 .f32 := Memref.whole cc0_scratch0
abbrev scM0_1 : Memref sig .tc .vmem S256x512 .f32 := Memref.whole cc0_scratch1
abbrev scM0_2 : Memref sig .tc .vmem S256x512 .fp8e4m3 := Memref.whole cc0_scratch2
abbrev scM0_3 : Memref sig .tc .vmem S256x128 .fp8e4m3 := Memref.whole cc0_scratch3
abbrev scM0_4 : Memref sig .tc .vmem S256x128 .f32 := Memref.whole cc0_scratch4
abbrev scM0_5 : Memref sig .tc .vmem S256x128 .i32 := Memref.whole cc0_scratch5
abbrev scM0_6 : Memref sig .tc .vmem S256x128 .f32 := Memref.whole cc0_scratch6
abbrev scM0_7 : Memref sig .tc .vmem S256x128 .f32 := Memref.whole cc0_scratch7
abbrev scM0_8 : Memref sig .tc .vmem S256x128 .f32 := Memref.whole cc0_scratch8
abbrev scM0_9 : Memref sig .tc .vmem S256x128 .f32 := Memref.whole cc0_scratch9
abbrev scM0_10 : Memref sig .tc .vmem S256x128 .f32 := Memref.whole cc0_scratch10

theorem PhiA0_eq (c : Dev nD) : (Pipeline.ΦA spec0 c : sProp 𝕄) = iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ ∃ r, prngReg c r) := by
  unfold Pipeline.ΦA; rw [scopedRest0_eq]; simp only [scM0_0, scM0_1, scM0_2, scM0_3, scM0_4, scM0_5, scM0_6, scM0_7, scM0_8, scM0_9, scM0_10, owns_whole]; try rfl

theorem PhiT0_eq (c : Dev nD) : (Pipeline.ΦT pre0 (tbl m) c : sProp 𝕄)
    = iprop(((Memref.whole main_v17 : Memref sig .tc .smem S2x256 .i32).view.loc (c : Thread nD τ)) ↦[(Memref.whole main_v17 : Memref sig .tc .smem S2x256 .i32).view.set]{fullShare.right} tblX m) := by
  unfold Pipeline.ΦT Pipeline.prefHeld
  rw [show (Finset.univ : Finset (Fin 1)) = {(0 : Fin 1)} from by decide, bigSep_singleton]
  simp only [View.set_whole, Memref.view_whole]
  try rfl

/-- The kernel body at point `t`, on what the pipeline calls it with. -/
abbrev bodyAt0 (t : Fin (cfgM m).N) : Prog (TpuEff nD τ sig (Elt F) Λ₀ .tc) PUnit :=
  cc0_attend (grid0.coords t) (Memref.whole main_v17) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _)

/-- What point `t` may leave in the output block (`OutOf` at the point's blocks). -/
def PointOut (hT : TableOk m) (c : Dev nD) (t : Fin (cfgM m).N) (Y : Vec F S1x128x128 .bf16) : Prop :=
  OutOf (F := F) c (grid0.coords t) (Memref.whole main_v17) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (tblX m) (chk (hT (grid0.coords t))) (iblk m c 0 t) (iblk m c 1 t) (iblk m c 2 t) (iblk m c 3 t) (iblk m c 4 t) (iblk m c 5 t) (iblk m c 6 t) Y

set_option maxHeartbeats 1000000 in
/-- The body at any point: the inputs' memrefs hold their blocks, so `sound_kernel` applies. -/
theorem sound_body (out : Out m) (hT : TableOk m) (c : Dev nD) (t : Fin (cfgM m).N) :
    iprop((dats m out 0 c).Φ t.castSucc ∗ (dats m out 0 c).owesAt () t.castSucc
    ∗ (∃ d, owns (c : Thread nD τ) (st0_0 m t) fullShare ((dats m out 0 c).before 0 t d))
    ∗ (∃ d, owns (c : Thread nD τ) (st0_1 m t) fullShare ((dats m out 0 c).before 1 t d))
    ∗ (∃ d, owns (c : Thread nD τ) (st0_2 m t) fullShare ((dats m out 0 c).before 2 t d))
    ∗ (∃ d, owns (c : Thread nD τ) (st0_3 m t) fullShare ((dats m out 0 c).before 3 t d))
    ∗ (∃ d, owns (c : Thread nD τ) (st0_4 m t) fullShare ((dats m out 0 c).before 4 t d))
    ∗ (∃ d, owns (c : Thread nD τ) (st0_5 m t) fullShare ((dats m out 0 c).before 5 t d))
    ∗ (∃ d, owns (c : Thread nD τ) (st0_6 m t) fullShare ((dats m out 0 c).before 6 t d))
    ∗ (∃ d, owns (c : Thread nD τ) (st0_7 m t) fullShare d))
    ⊢ wp frame (wpE (defs₀ (F := F)) Variants.none c none) Set.univ (bodyAt0 m t) (fun _ =>
    iprop((dats m out 0 c).Φ t.succ ∗ (dats m out 0 c).owesAt () t.succ
    ∗ owns (c : Thread nD τ) (st0_0 m t) fullShare ((dats m out 0 c).after 0 t)
    ∗ owns (c : Thread nD τ) (st0_1 m t) fullShare ((dats m out 0 c).after 1 t)
    ∗ owns (c : Thread nD τ) (st0_2 m t) fullShare ((dats m out 0 c).after 2 t)
    ∗ owns (c : Thread nD τ) (st0_3 m t) fullShare ((dats m out 0 c).after 3 t)
    ∗ owns (c : Thread nD τ) (st0_4 m t) fullShare ((dats m out 0 c).after 4 t)
    ∗ owns (c : Thread nD τ) (st0_5 m t) fullShare ((dats m out 0 c).after 5 t)
    ∗ owns (c : Thread nD τ) (st0_6 m t) fullShare ((dats m out 0 c).after 6 t)
    ∗ (∃ Y, ⌜PointOut m hT c t Y⌝ ∗ owns (c : Thread nD τ) (st0_7 m t) fullShare Y))) := by
  unfold bodyAt0
  simp only [before0_0, before0_1, before0_2, before0_3, before0_4, before0_5, before0_6]
  rw [show (dats m out 0 c).Φ t.succ = (dats m out 0 c).Φ t.castSucc from rfl,
    show (dats m out 0 c).owesAt () t.succ = (dats m out 0 c).owesAt () t.castSucc from rfl,
    after0_0, after0_1, after0_2, after0_3, after0_4, after0_5, after0_6]
  rw [show (dats m out 0 c).Φ t.castSucc = iprop(Pipeline.ΦA spec0 c ∗ Pipeline.ΦT pre0 (tbl m) c) from rfl, PhiA0_eq, PhiT0_eq]
  iintro ⟨⟨⟨⟨HS0, HS1, HS2, HS3, HS4, HS5, HS6, HS7, HS8, HS9, HS10⟩, Hp⟩, HT⟩, Ho, ⟨%d0, H0⟩, ⟨%d1, H1⟩, ⟨%d2, H2⟩, ⟨%d3, H3⟩, ⟨%d4, H4⟩, ⟨%d5, H5⟩, ⟨%d6, H6⟩, H7⟩
  iapply (sound_kernel (F := F) c (grid0.coords t) (Memref.whole main_v17) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) fullShare.right (tblX m) (chk (hT (grid0.coords t))) (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HT]; · iexact HT
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  iintro ⟨H0, H1, H2, H3, H4, H5, H6, H7, HT, HS0, HS1, HS2, HS3, HS4, HS5, HS6, HS7, HS8, HS9, HS10⟩
  isplitl [HS0 HS1 HS2 HS3 HS4 HS5 HS6 HS7 HS8 HS9 HS10 Hp HT]
  · isplitl [HS0 HS1 HS2 HS3 HS4 HS5 HS6 HS7 HS8 HS9 HS10 Hp]
    · isplitl [HS0 HS1 HS2 HS3 HS4 HS5 HS6 HS7 HS8 HS9 HS10]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        iexact HS10
      · iexact Hp
    · iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfgM m).N) :
    defs₀ (F := F) .tc (cfgM m).body ((cfgM m).bodyArgs t ((cfgM m).slots t)) = bodyAt0 m t := by
  unfold defs₀; rw [Defs.onTc_tc]

/-- The output window alone is forgotten by the frame. -/
def fgt : Fin (cfgM m).W → Bool := fun w => decide (w.val = 7)

set_option maxHeartbeats 1000000 in
theorem post_forget (out : Out m) (hT : TableOk m) (c : Dev nD) (t : Fin (cfgM m).N) :
    (iprop((dats m out 0 c).Φ t.succ ∗ (dats m out 0 c).owesAt () t.succ
    ∗ owns (c : Thread nD τ) (st0_0 m t) fullShare ((dats m out 0 c).after 0 t)
    ∗ owns (c : Thread nD τ) (st0_1 m t) fullShare ((dats m out 0 c).after 1 t)
    ∗ owns (c : Thread nD τ) (st0_2 m t) fullShare ((dats m out 0 c).after 2 t)
    ∗ owns (c : Thread nD τ) (st0_3 m t) fullShare ((dats m out 0 c).after 3 t)
    ∗ owns (c : Thread nD τ) (st0_4 m t) fullShare ((dats m out 0 c).after 4 t)
    ∗ owns (c : Thread nD τ) (st0_5 m t) fullShare ((dats m out 0 c).after 5 t)
    ∗ owns (c : Thread nD τ) (st0_6 m t) fullShare ((dats m out 0 c).after 6 t)
    ∗ (∃ Y, ⌜PointOut m hT c t Y⌝ ∗ owns (c : Thread nD τ) (st0_7 m t) fullShare Y)) : sProp 𝕄)
    ⊢ iprop((dats m out 0 c).Φ t.succ ∗ (dats m out 0 c).owesAt () t.succ
    ∗ owns (c : Thread nD τ) (st0_0 m t) fullShare ((dats m out 0 c).after 0 t)
    ∗ owns (c : Thread nD τ) (st0_1 m t) fullShare ((dats m out 0 c).after 1 t)
    ∗ owns (c : Thread nD τ) (st0_2 m t) fullShare ((dats m out 0 c).after 2 t)
    ∗ owns (c : Thread nD τ) (st0_3 m t) fullShare ((dats m out 0 c).after 3 t)
    ∗ owns (c : Thread nD τ) (st0_4 m t) fullShare ((dats m out 0 c).after 4 t)
    ∗ owns (c : Thread nD τ) (st0_5 m t) fullShare ((dats m out 0 c).after 5 t)
    ∗ owns (c : Thread nD τ) (st0_6 m t) fullShare ((dats m out 0 c).after 6 t)
    ∗ (∃ Y, owns (c : Thread nD τ) (st0_7 m t) fullShare Y)) := by
  iintro ⟨HΦ, Ho, H0, H1, H2, H3, H4, H5, H6, ⟨%Y, -, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists Y; iexact H7

set_option maxHeartbeats 1000000 in
theorem post_exact (out : Out m) (hT : TableOk m) (c : Dev nD) (t : Fin (cfgM m).N) (hout : ∀ Y, PointOut m hT c t Y → Y = out c t) :
    (iprop((dats m out 0 c).Φ t.succ ∗ (dats m out 0 c).owesAt () t.succ
    ∗ owns (c : Thread nD τ) (st0_0 m t) fullShare ((dats m out 0 c).after 0 t)
    ∗ owns (c : Thread nD τ) (st0_1 m t) fullShare ((dats m out 0 c).after 1 t)
    ∗ owns (c : Thread nD τ) (st0_2 m t) fullShare ((dats m out 0 c).after 2 t)
    ∗ owns (c : Thread nD τ) (st0_3 m t) fullShare ((dats m out 0 c).after 3 t)
    ∗ owns (c : Thread nD τ) (st0_4 m t) fullShare ((dats m out 0 c).after 4 t)
    ∗ owns (c : Thread nD τ) (st0_5 m t) fullShare ((dats m out 0 c).after 5 t)
    ∗ owns (c : Thread nD τ) (st0_6 m t) fullShare ((dats m out 0 c).after 6 t)
    ∗ (∃ Y, ⌜PointOut m hT c t Y⌝ ∗ owns (c : Thread nD τ) (st0_7 m t) fullShare Y)) : sProp 𝕄)
    ⊢ iprop((dats m out 0 c).Φ t.succ ∗ (dats m out 0 c).owesAt () t.succ
    ∗ owns (c : Thread nD τ) (st0_0 m t) fullShare ((dats m out 0 c).after 0 t)
    ∗ owns (c : Thread nD τ) (st0_1 m t) fullShare ((dats m out 0 c).after 1 t)
    ∗ owns (c : Thread nD τ) (st0_2 m t) fullShare ((dats m out 0 c).after 2 t)
    ∗ owns (c : Thread nD τ) (st0_3 m t) fullShare ((dats m out 0 c).after 3 t)
    ∗ owns (c : Thread nD τ) (st0_4 m t) fullShare ((dats m out 0 c).after 4 t)
    ∗ owns (c : Thread nD τ) (st0_5 m t) fullShare ((dats m out 0 c).after 5 t)
    ∗ owns (c : Thread nD τ) (st0_6 m t) fullShare ((dats m out 0 c).after 6 t)
    ∗ owns (c : Thread nD τ) (st0_7 m t) fullShare (out c t)) := by
  iintro ⟨HΦ, Ho, H0, H1, H2, H3, H4, H5, H6, ⟨%Y, %hY, H7⟩⟩
  obtain rfl := hout Y hY
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1000000 in
theorem pre_exact (out : Out m) (c : Dev nD) (t : Fin (cfgM m).N) :
    (iprop((dats m out 0 c).Φ t.castSucc ∗ (dats m out 0 c).owesAt () t.castSucc
    ∗ (∃ d, owns (c : Thread nD τ) (st0_0 m t) fullShare ((dats m out 0 c).before 0 t d))
    ∗ (∃ d, owns (c : Thread nD τ) (st0_1 m t) fullShare ((dats m out 0 c).before 1 t d))
    ∗ (∃ d, owns (c : Thread nD τ) (st0_2 m t) fullShare ((dats m out 0 c).before 2 t d))
    ∗ (∃ d, owns (c : Thread nD τ) (st0_3 m t) fullShare ((dats m out 0 c).before 3 t d))
    ∗ (∃ d, owns (c : Thread nD τ) (st0_4 m t) fullShare ((dats m out 0 c).before 4 t d))
    ∗ (∃ d, owns (c : Thread nD τ) (st0_5 m t) fullShare ((dats m out 0 c).before 5 t d))
    ∗ (∃ d, owns (c : Thread nD τ) (st0_6 m t) fullShare ((dats m out 0 c).before 6 t d))
    ∗ (∃ d, owns (c : Thread nD τ) (st0_7 m t) fullShare ((dats m out 0 c).before 7 t d))) : sProp 𝕄)
    ⊢ iprop((dats m out 0 c).Φ t.castSucc ∗ (dats m out 0 c).owesAt () t.castSucc
    ∗ (∃ d, owns (c : Thread nD τ) (st0_0 m t) fullShare ((dats m out 0 c).before 0 t d))
    ∗ (∃ d, owns (c : Thread nD τ) (st0_1 m t) fullShare ((dats m out 0 c).before 1 t d))
    ∗ (∃ d, owns (c : Thread nD τ) (st0_2 m t) fullShare ((dats m out 0 c).before 2 t d))
    ∗ (∃ d, owns (c : Thread nD τ) (st0_3 m t) fullShare ((dats m out 0 c).before 3 t d))
    ∗ (∃ d, owns (c : Thread nD τ) (st0_4 m t) fullShare ((dats m out 0 c).before 4 t d))
    ∗ (∃ d, owns (c : Thread nD τ) (st0_5 m t) fullShare ((dats m out 0 c).before 5 t d))
    ∗ (∃ d, owns (c : Thread nD τ) (st0_6 m t) fullShare ((dats m out 0 c).before 6 t d))
    ∗ (∃ d, owns (c : Thread nD τ) (st0_7 m t) fullShare d)) := by
  iintro ⟨HΦ, Ho, H0, H1, H2, H3, H4, H5, H6, ⟨%d, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 1000000 in
theorem body_forget (out : Out m) (hT : TableOk m) (c : Dev nD) :
    BodyObligationLoose (dats m out 0 c) (defs₀ (F := F)) Variants.none () Set.univ (fgt m) := fun t => by
  rw [bigSep_W0, bigSep_W0, defs₀_row]
  exact triple_restated (sound_body m out hT c t) rfl .rfl fun _ => post_forget m out hT c t

set_option maxHeartbeats 1000000 in
/-- The exact obligation, when every possible output of each point is the chosen one. -/
theorem body_exact (out : Out m) (hT : TableOk m) (c : Dev nD) (hout : ∀ t Y, PointOut m hT c t Y → Y = out c t) :
    BodyObligation (dats m out 0 c) (defs₀ (F := F)) Variants.none () Set.univ := fun t => by
  rw [bigSep_W0, bigSep_W0, defs₀_row]
  exact triple_restated (sound_body m out hT c t) rfl (pre_exact m out c t) fun _ => post_exact m out hT c t (hout t)

/-! ## The run and the frame -/

set_option backward.isDefEq.respectTransparency.types false in
set_option maxHeartbeats 800000 in
theorem run_forget (out : Out m) (hT : TableOk m) : θ_run defs (onTc (τ := τ) (main (F := F))) (s₀ m ρ)
    (fun r => (Pipeline.RDat.FramePost (cfgM m) (fun c => (dats m out 0 c).toRForget (fgt m)) (V m)) r ∧ r.2.sem = fun _ => 0) :=
  Pipeline.θ_run_frameP_forget (Q' := _) pcfgs (fun _ => adm m) (dats m out) (0 : Fin 1) launch0 defs₀ Variants.none (fgt m) m ρ main
    (hbody := body_forget m out hT) (hshare := fun c => (dats m out 0 c).share_full fun _ => rfl)
    (howed := fun _ _ => rfl) (V := V m) (hmain := hmain m Variants.none) (hA := A_eq m out) (hpf := V_pre m) (hΦ := fun _ _ => rfl)

set_option backward.isDefEq.respectTransparency.types false in
set_option maxHeartbeats 800000 in
theorem run_exact (out : Out m) (hT : TableOk m) (hout : ∀ c t Y, PointOut m hT c t Y → Y = out c t) :
    θ_run defs (onTc (τ := τ) (main (F := F))) (s₀ m ρ)
    (fun r => (Pipeline.FramePost (Pipeline.pin pcfgs (fun _ => adm m)) (dats m out) 0 (V m)) r ∧ r.2.sem = fun _ => 0) :=
  Pipeline.θ_run_frameP (Q' := _) pcfgs (fun _ => adm m) (dats m out) (0 : Fin 1) launch0 defs₀ Variants.none m ρ main
    (hbody := fun c => (body_exact m out hT c (hout c)).loose) (hshare := fun c => (dats m out 0 c).share_full fun _ => rfl)
    (howed := fun _ _ => rfl) (V := V m) (hmain := hmain m Variants.none) (hA := A_eq m out) (hpf := V_pre m) (hΦ := fun _ _ => rfl)

/-- THE FRAME: the run ends, the arguments unchanged, every counter at zero. -/
theorem frame_of (out : Out m) (hT : TableOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h' => ⟨fun c => by
    have h := h'.1
    exact ⟨(Pipeline.RDat.FramePost.arr_in h c 0 rfl).trans ((A_eq m out c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 1 rfl).trans ((A_eq m out c 1).trans (V_main_arg3 m c)),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩, h'.2⟩) (run_forget m ρ out hT)

/-- The exact run read at the result and the arguments. -/
theorem value_of (out : Out m) (hT : TableOk m) (hout : ∀ c t Y, PointOut m hT c t Y → Y = out c t) :
    θ_run defs (onTc (τ := τ) (main (F := F))) ⟨m, fun _ => 0, ρ⟩ (fun r => ∀ c : Dev nD,
      r.2.mem ((c.tc : Thread nD τ).loc main_v25) = (dats m out 0 c).arrAt 7 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h' c => by
    have h := h'.1
    exact ⟨(h c).1 7, ((h c).1 0).trans (((dats m out 0 c).arrAt_in 0 rfl _).trans ((A_eq m out c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats m out 0 c).arrAt_in 1 rfl _).trans ((A_eq m out c 1).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) (run_exact m ρ out hT hout)

end Cert.KernelIdeal
-- ==== Proof.TableKernelIdeal.lean ====
/-
  The rows of segment starts that the host computes before the region, and the table that the kernel reads: every entry is the position
  at which the segment of its own position begins, so every word of the table is at most the first position of its block of rows.
-/
module

public import proofs.«01_k».proof.Proof.RunKernelIdeal
public import proofs.«01_k».proof.Proof.Cummax
public import Idealize.ShloMosaic.Lib.KernelVsHost

@[expose] public section

set_option maxRecDepth 16384

noncomputable section

namespace Cert.KernelIdeal

open Gen
open Idealize.ShloMosaic Idealize.ShloMosaic.TcCoe Idealize.ShloMosaic.Tactic Idealize.ShloMosaic.ValueIdx

variable {F : FTy → Type} [FloatOps F] [Named F] (m : (ℓ : Loc nD τ sig) → Buf (Elt F) ℓ)

/-- The segment identifiers, as launched. -/
abbrev segs (c : Dev nD) : IVec S2x32768 32 := m ((c : Thread nD τ).loc main_arg6)

/-- Where a segment begins: at position 0, and where an identifier differs from the one before it. -/
abbrev begins (c : Dev nD) : IVec S2x32768 1 :=
  concatenate S2x32768 1 [⟨S2x1, broadcastInDim S2x1 ![] bcast_S_S2x1 (constantI S_ 1 1#1)⟩,
    ⟨S2x32767, cmpi CmpIPredicate.ne (extractStridedSlice S2x32767 ![0, 1] (segs m c) slices_S2x32768_S2x32767_0_1)
      (extractStridedSlice S2x32767 ![0, 0] (segs m c) slices_S2x32768_S2x32767_0_0)⟩] concatenates_S2x1_S2x32767_S2x32768_d1

/-- The position itself where a segment begins, 0 elsewhere. -/
abbrev marks (c : Dev nD) : IVec S2x32768 32 :=
  select (begins m c) (iotaInDim S2x32768 32 1) (broadcastInDim S2x32768 ![] bcast_S_S2x32768 (constantI S_ 32 0#32))

/-- The running maximum of the marks. -/
abbrev starts (c : Dev nD) : IVec S2x32768 32 :=
  Host.reduceWindow IntOp.maxsi ![1, 32768] ![1, 1] ![0, 32767] ![0, 0] (marks m c)
    (broadcastInDim S_ ![] bcast_S_S_ (constantI S_ 32 2147483648#32)) reduceWindows_S2x32768_S2x32768_w1s1p0_0_w32768s1p32767_0 h_S_

theorem V_main_v9 (c : Dev nD) : V m c main_v9 = starts m c := by
  unfold_abbrev_sides
  simp only [List.flatten_cons, List.flatten_nil, List.append_nil, List.cons_append, List.nil_append]
  after_results
  simp only [StableHlo.TRef.toBuf, StableHlo.TRef.ofBuf, cast_cast, cast_eq, id_eq]

theorem V_main_v17 (c : Dev nD) : V m c main_v17 = Host.slice S2x256 ![0, 0] ![1, 128] (starts m c) slicesBy_S2x32768_S2x256_0s1_0s128 := by
  unfold_abbrev_sides
  simp only [List.flatten_cons, List.flatten_nil, List.append_nil, List.cons_append, List.nil_append]
  after_results
  simp only [StableHlo.TRef.toBuf, StableHlo.TRef.ofBuf, cast_cast, cast_eq, id_eq]

/-- One row of the identifiers. -/
abbrev segRow (c : Dev nD) (b : Fin 2) : Fin 32768 → BitVec 32 := fun i => segs m c (ix2 b i)

theorem begins_zero (c : Dev nD) (b : Fin 2) (i : Fin 32768) (hi : i.val = 0) : begins m c (ix2 b i) = 1#1 :=
  concatenate_pair_apply_left (t := S2x32768) (s₁ := S2x1) (s₂ := S2x32767) 1 _ _ concatenates_S2x1_S2x32767_S2x32768_d1 (ix2 b i) rfl
    (ix2 b (0 : Fin 1)) (fun a => by match a with
      | ⟨0, _⟩ => rfl
      | ⟨1, _⟩ => exact hi.symm)

theorem begins_pos (c : Dev nD) (b : Fin 2) (i : Fin 32768) (hi : 0 < i.val) :
    begins m c (ix2 b i) = IntOp.cmpi .ne (segRow m c b i) (segRow m c b ⟨i.val - 1, by omega⟩) := by
  refine (concatenate_pair_apply_right (t := S2x32768) (s₁ := S2x1) (s₂ := S2x32767) 1 _ _ concatenates_S2x1_S2x32767_S2x32768_d1 (ix2 b i) rfl rfl
    (ix2 b (⟨i.val - 1, by omega⟩ : Fin 32767)) (fun a ha => by match a with
      | ⟨0, _⟩ => rfl
      | ⟨1, _⟩ => exact absurd rfl ha) (by show i.val - 1 + 1 = i.val; omega)).trans ?_
  refine congrArg₂ (IntOp.cmpi .ne) ?_ ?_
  · refine congrArg (segs m c) (funext fun a => Fin.ext ?_)
    match a with
    | ⟨0, _⟩ => show 0 + b.val = b.val; omega
    | ⟨1, _⟩ => show 1 + (i.val - 1) = i.val; omega
  · refine congrArg (segs m c) (funext fun a => Fin.ext ?_)
    match a with
    | ⟨0, _⟩ => show 0 + b.val = b.val; omega
    | ⟨1, _⟩ => show 0 + (i.val - 1) = i.val - 1; omega

theorem marks_apply (c : Dev nD) (b : Fin 2) (i : Fin 32768) : marks m c (ix2 b i)
    = if (∃ h : 0 < i.val, segRow m c b ⟨i.val - 1, by omega⟩ ≠ segRow m c b i) then BitVec.ofNat 32 i.val else 0#32 := by
  show Scalar.select (begins m c (ix2 b i)) (BitVec.ofNat 32 i.val) 0#32 = _
  by_cases hi : 0 < i.val
  · rw [begins_pos m c b i hi]
    by_cases hc : segRow m c b ⟨i.val - 1, by omega⟩ = segRow m c b i
    · rw [if_neg (fun h => h.2 hc), hc]
      unfold Scalar.select IntOp.cmpi; simp
    · rw [if_pos ⟨hi, hc⟩]
      unfold Scalar.select IntOp.cmpi
      rw [show (segRow m c b i != segRow m c b ⟨i.val - 1, by omega⟩) = true from bne_iff_ne.mpr (Ne.symm hc)]
      rfl
  · have h0 : i.val = 0 := by omega
    rw [begins_zero m c b i h0, if_neg (fun h => hi h.1), h0]
    rfl

/-- THE STARTS: entry `(b, j)` is the position at which the segment of `j` begins in row `b`. -/
theorem starts_spec (c : Dev nD) (b : Fin 2) (j : Fin 32768) : Cummax.Starts (segRow m c b) j (starts m c (ix2 b j)).toNat := by
  obtain ⟨h1, h2⟩ := Cummax.cummax_word (A := 2) (N := 32768) (Nm1 := 32767) rfl (marks m c) (broadcastInDim S_ ![] bcast_S_S_ (constantI S_ 32 2147483648#32))
    rfl reduceWindows_S2x32768_S2x32768_w1s1p0_0_w32768s1p32767_0 h_S_ b j
  exact Cummax.cummax_starts (by norm_num) (segRow m c b) (fun i => marks m c (ix2 b i)) j _ (marks_apply m c b) h1 h2

theorem tableWord_read (i : grid0.Coords) (X : IVec S2x256 32) : tableWord (F := F) i (Memref.whole main_v17) X
    = X (ix2 (⟨(i 0).val, (i 0).isLt⟩ : Fin 2) (⟨(i 3).val, (i 3).isLt⟩ : Fin 256)) := by
  have h3 : (i 3).val < 256 := (i 3).isLt
  have h0 : (i 0).val < 2 := (i 0).isLt
  have hf : ∀ a, (Shape.Idx.first (numel1_S1x1.symm ▸ Nat.one_pos : 0 < S1x1.numel) a).val = 0 := fun a => by
    have := (Shape.Idx.first (numel1_S1x1.symm ▸ Nat.one_pos : 0 < S1x1.numel) a).isLt
    match a with
    | ⟨0, _⟩ => exact Nat.lt_one_iff.mp this
    | ⟨1, _⟩ => exact Nat.lt_one_iff.mp this
  unfold tableWord
  refine congrArg X (funext fun a => Fin.ext ?_)
  match a with
  | ⟨0, _⟩ =>
    show (BitVec.ofNat 32 (i 0).val).toNat + 1 * (Shape.Idx.first (s := S1x1) _ (0 : Fin 2)).val = (i 0).val
    rw [hf, BitVec.toNat_ofNat, Nat.mod_eq_of_lt (by omega)]; rfl
  | ⟨1, _⟩ =>
    show (BitVec.ofNat 32 (i 3).val).toNat + 1 * (Shape.Idx.first (s := S1x1) _ (1 : Fin 2)).val = (i 3).val
    rw [hf, BitVec.toNat_ofNat, Nat.mod_eq_of_lt (by omega)]; rfl

theorem everyRow (x : IVec S2x32768 32) (b : Fin 2) (t : Fin 256) (h : 128 * t.val < 32768) :
    Host.slice S2x256 ![0, 0] ![1, 128] x slicesBy_S2x32768_S2x256_0s1_0s128 (ix2 b t) = x (ix2 b ⟨128 * t.val, h⟩) := by
  unfold Host.slice
  refine congrArg x (funext fun a => Fin.ext ?_)
  match a with
  | ⟨0, _⟩ => show 0 + 1 * b.val = b.val; omega
  | ⟨1, _⟩ => show 0 + 128 * t.val = 128 * t.val; omega

/-- The word of the table that a grid point reads is the start of its first row's segment. -/
theorem tableWord_eq (i : grid0.Coords) : tableWord (F := F) i (Memref.whole main_v17) (tblX m)
    = starts m 0 (ix2 (⟨(i 0).val, (i 0).isLt⟩ : Fin 2) (⟨128 * (i 3).val, by have : (i 3).val < 256 := (i 3).isLt; omega⟩ : Fin 32768)) := by
  have h3 : (i 3).val < 256 := (i 3).isLt
  have h0 : (i 0).val < 2 := (i 0).isLt
  have e : tblX m = Host.slice S2x256 ![0, 0] ![1, 128] (starts m 0) slicesBy_S2x32768_S2x256_0s1_0s128 := V_main_v17 m 0
  rw [e, tableWord_read]
  exact everyRow (starts m 0) _ _ _

theorem tableOk : TableOk m := fun i => by
  rw [tableWord_eq]
  exact (starts_spec m 0 _ _).le

end Cert.KernelIdeal
-- ==== Proof.Trips.lean ====
/-
  What one trip of each of the kernel's three passes leaves in the buffers it writes, as arrays: the
  stores of a trip are strips of 32 rows, and each strip is one vector expression of the strip's inputs.
-/
module

public import proofs.«01_k».proof.Proof.RunKernelIdeal

@[expose] public section
set_option maxRecDepth 16384
set_option maxHeartbeats 4000000
noncomputable section
namespace Cert.KernelIdeal
open Gen
open Idealize.ShloMosaic Idealize.ShloMosaic.TcCoe Idealize.ShloMosaic.Tactic

/-- One grid point: its buffers, the words and vectors the body computes before its loops, and the
    contents the loops find. -/
structure Ctx where
  c : Dev nD
  i : grid0.Coords
  a4 : Memref sig .tc .smem S2x256 .i32
  h4 : a4.IsWhole
  a5 : Memref sig .tc .vmem S1x128x128 .fp8e4m3
  h5 : a5.IsWhole
  a6 : Memref sig .tc .vmem S1x128x16 .f32
  h6 : a6.IsWhole
  a7 : Memref sig .tc .vmem S1x128x1 .i32
  h7 : a7.IsWhole
  a8 : Memref sig .tc .vmem S1x1x128x33280 .fp8e4m3
  h8 : a8.IsWhole
  a9 : Memref sig .tc .vmem S1x1x33280x128 .fp8e4m3
  h9 : a9.IsWhole
  a10 : Memref sig .tc .vmem S1x1x1x33280 .f32
  h10 : a10.IsWhole
  a11 : Memref sig .tc .vmem S1x1x1x33280 .f32
  h11 : a11.IsWhole
  a12 : Memref sig .tc .vmem S1x128x128 .bf16
  h12 : a12.IsWhole
  a13 : Memref sig .tc .vmem S64x256x512 .f32
  h13 : a13.IsWhole
  a14 : Memref sig .tc .vmem S256x512 .f32
  h14 : a14.IsWhole
  a15 : Memref sig .tc .vmem S256x512 .fp8e4m3
  h15 : a15.IsWhole
  a16 : Memref sig .tc .vmem S256x128 .fp8e4m3
  h16 : a16.IsWhole
  a17 : Memref sig .tc .vmem S256x128 .f32
  h17 : a17.IsWhole
  a18 : Memref sig .tc .vmem S256x128 .i32
  h18 : a18.IsWhole
  a19 : Memref sig .tc .vmem S256x128 .f32
  h19 : a19.IsWhole
  a20 : Memref sig .tc .vmem S256x128 .f32
  h20 : a20.IsWhole
  a21 : Memref sig .tc .vmem S256x128 .f32
  h21 : a21.IsWhole
  a22 : Memref sig .tc .vmem S256x128 .f32
  h22 : a22.IsWhole
  a23 : Memref sig .tc .vmem S256x128 .f32
  h23 : a23.IsWhole
  v2 : Elt Ideal .i32
  hw : k0_chk1 i v2
  v3 : BitVec 32
  v8 : BitVec 32
  v9 : IVec S1x128 32
  v16 : IVec S128x128 32
  v18 : FVec Ideal S128x16 .f32
  v19 : IVec S128x16 32
  v57 : Ideal .f32
  v61 : BitVec 32
  v71 : FVec Ideal S128x128 .fp8e4m3
  x8 : BufTy.Contents (Elt Ideal) a8.view.ty
  x10 : BufTy.Contents (Elt Ideal) a10.view.ty
  x16 : BufTy.Contents (Elt Ideal) a16.view.ty
  x17 : BufTy.Contents (Elt Ideal) a17.view.ty
  x18 : BufTy.Contents (Elt Ideal) a18.view.ty
  v95 : Ideal .f32
  v173 : FVec Ideal S256x128 .f32
  x11 : BufTy.Contents (Elt Ideal) a11.view.ty
  x19 : BufTy.Contents (Elt Ideal) a19.view.ty
  v522 : FVec Ideal S32x1 .f32
  v528 : FVec Ideal S32x1 .f32
  v539 : FVec Ideal S32x1 .f32
  x9 : BufTy.Contents (Elt Ideal) a9.view.ty
  x13 : BufTy.Contents (Elt Ideal) a13.view.ty
  x22 : BufTy.Contents (Elt Ideal) a22.view.ty

/-- The logits of one strip of 32 rows against 128 keys, as the kernel computes them: `S` the products,
    `ks` the keys' scales, `qr` the rows' scales, `lo` the rows' first positions, `lane` the lane numbers,
    `sl` the head's slope, `q` the strip's first position and `k0` the keys' first position. -/
def xw (S : Vec Ideal S32x128 .f32) (ks : Vec Ideal S1x1x1x128 .f32) (qr : Vec Ideal S32x128 .f32) (lo : Vec Ideal S32x128 .i32) (lane : IVec S1x128 32) (sl : Ideal .f32) (q k0 : BitVec 32) : FVec Ideal S32x128 .f32 :=
  select (andi (cmpi .sle (broadcastTo S32x128 (addi (broadcast S1x128 k0) lane) broadcasts_S1x128_S32x128) (addi (broadcast S32x128 q) (iota .tc S32x128 32 [0] iota_S32x128_d0_w32)))
      (cmpi .sge (broadcastTo S32x128 (addi (broadcast S1x128 k0) lane) broadcasts_S1x128_S32x128) lo))
    (subf (mulf (mulf S (broadcastTo S32x128 (shapeCast S1x128 ks shapeCasts_S1x1x1x128_S1x128) broadcasts_S1x128_S32x128)) qr)
      (mulf (broadcast S32x128 sl) (sitofp .f32 (subi (addi (broadcast S32x128 q) (iota .tc S32x128 32 [0] iota_S32x128_d0_w32)) (broadcastTo S32x128 (addi (broadcast S1x128 k0) lane) broadcasts_S1x128_S32x128)))))
    (broadcast S32x128 (Named.named κ "masked" 0xF149F2CA#32))

/-- The scores of all rows against the 512 keys of a chunk. -/
def scoresV (q : FVec Ideal S256x128 .fp8e4m3) (kt : Vec Ideal S1x1x128x512 .fp8e4m3) : FVec Ideal S256x512 .f32 :=
  shapeCast S256x512 (matmul (φ₁ := .fp8e4m3) (φ₂ := .fp8e4m3) dot_S256x128_S128x512_S256x512_1_0_0_1_n_n none q (shapeCast S128x512 kt shapeCasts_S1x1x128x512_S128x512 : FVec Ideal S128x512 .fp8e4m3) (constant S256x512 .f32 0x00000000#32)) shapeCasts_S256x512_S256x512

/-- The slope of the head numbered `h`. -/
def slopeV (h : BitVec 32) : Ideal .f32 :=
  Scalar.mulf (Scalar.exp2 (Scalar.mulf (Scalar.ofBits .f32 0xBF000000#32) (Scalar.addf (Scalar.sitofp .f32 h) (Scalar.ofBits .f32 0x3F800000#32)))) (Named.named κ "log2e" 0x3FB8AA3B#32)

/-- The first position of chunk `k`, counted back from the end of the tile at `v3`. -/
def k0w (v3 : BitVec 32) (k : ℕ) : BitVec 32 := (v3 + 128#32) - 512#32 * (Scf.iv 0#32 1#32 k + 1#32)

theorem inb8 (r : Fin 8) : ∀ a, (![32 * r.val, 0] : Fin 2 → ℕ) a + S32x128.size a ≤ S256x128.size a := by
  intro a; fin_cases a <;> simp [S32x128, S256x128] <;> omega
theorem inb84 (r : Fin 8) (w : Fin 4) : ∀ a, (![32 * r.val, 128 * w.val] : Fin 2 → ℕ) a + S32x128.size a ≤ S256x512.size a := by
  intro a; fin_cases a <;> simp [S32x128, S256x512] <;> omega

/-- Strip `r` of a buffer of 256 rows. -/
def strip {e : EltTy} (m : Memref sig .tc .vmem S256x128 e) (X : BufTy.Contents (Elt Ideal) m.view.ty) (r : Fin 8) : Vec Ideal S32x128 e :=
  m.view.readAt (Elt Ideal) (Rect.unit (s := S256x128) ![32 * r.val, 0] S32x128.size (inb8 r)).toLoadRect X

variable (P : Ctx)

/-- Trip `k` of the max pass. -/
abbrev tr1 (k : Fin (k0_t1_loop P.i P.v2).trips) := trip_k0_t1 (F := Ideal) Variants.none P.c none P.i P.a4 P.h4 P.a5 P.h5 P.a6 P.h6 P.a7 P.h7 P.a8 P.h8 P.a9 P.h9 P.a10 P.h10 P.a11 P.h11 P.a12 P.h12 P.a13 P.h13 P.a14 P.h14 P.a15 P.h15 P.a16 P.h16 P.a17 P.h17 P.a18 P.h18 P.a19 P.h19 P.a20 P.h20 P.a21 P.h21 P.a22 P.h22 P.a23 P.h23 P.v2 P.hw P.v3 P.v8 P.v9 P.v16 P.v18 P.v19 P.v57 P.v61 P.v71 P.x8 P.x10 P.x16 P.x17 P.x18 k

/-- The scores a trip of the max pass computes. -/
def t1s (k : Fin (k0_t1_loop P.i P.v2).trips) : FVec Ideal S256x512 .f32 :=
  scoresV (P.a16.view.readAt (Elt Ideal) (Rect.unit (s := S256x128) ![0, 0] S256x128.size inb_S256x128_S256x128_0_0).toLoadRect P.x16) (P.a8.view.readAt (Elt Ideal) (Rect.unit (s := S1x1x128x33280) (k0_off2 P.i P.v2 k) S1x1x128x512.size (k0_off2_inb P.i P.v2 P.hw k)).toLoadRect P.x8)

/-- The logits of strip `r` against keys `128 w …` of the chunk, in the max pass. -/
def t1x (k : Fin (k0_t1_loop P.i P.v2).trips) (r : Fin 8) (w : Fin 4) : FVec Ideal S32x128 .f32 :=
  xw (P.a14.view.readCov [⟨Rect.unit ![0, 0] S256x512.size inb_S256x512_S256x512_0_0, t1s P k⟩]
       (Rect.unit (s := S256x512) ![32 * r.val, 128 * w.val] S32x128.size (inb84 r w)).toLoadRect)
    (P.a10.view.readAt (Elt Ideal) (Rect.unit (s := S1x1x1x33280) (k0_off3 P.i P.v2 k (BitVec.ofNat 32 (128 * w.val))) S1x1x1x128.size (k0_off3_inb P.i P.v2 P.hw k w)).toLoadRect P.x10)
    (strip P.a17 P.x17 r) (strip P.a18 P.x18 r) P.v9 (if r.val < 4 then P.v57 else slopeV P.v61) (P.v3 + BitVec.ofNat 32 (32 * (r.val % 4))) (k0w P.v3 k.val + BitVec.ofNat 32 (128 * w.val))

/-- The maxima of strip `r` after a trip, from those before it. -/
def t1m (k : Fin (k0_t1_loop P.i P.v2).trips) (f19 : BufTy.Contents (Elt Ideal) P.a19.view.ty) (r : Fin 8) : FVec Ideal S32x128 .f32 :=
  shapeCast S32x128 (maximumf (maximumf (maximumf (maximumf (strip P.a19 f19 r) (t1x P k r 0)) (t1x P k r 1)) (t1x P k r 2)) (t1x P k r 3)) shapeCasts_S32x128_S32x128

/-- Eight strips, the last first. -/
def strips8 {e : EltTy} (w : Fin 8 → Vec Ideal S32x128 e) : List (View.Piece (Elt Ideal) S256x128 e) :=
  [⟨Rect.unit ![32 * (7 : Fin 8).val, 0] S32x128.size (inb8 7), w 7⟩, ⟨Rect.unit ![32 * (6 : Fin 8).val, 0] S32x128.size (inb8 6), w 6⟩, ⟨Rect.unit ![32 * (5 : Fin 8).val, 0] S32x128.size (inb8 5), w 5⟩, ⟨Rect.unit ![32 * (4 : Fin 8).val, 0] S32x128.size (inb8 4), w 4⟩, ⟨Rect.unit ![32 * (3 : Fin 8).val, 0] S32x128.size (inb8 3), w 3⟩, ⟨Rect.unit ![32 * (2 : Fin 8).val, 0] S32x128.size (inb8 2), w 2⟩, ⟨Rect.unit ![32 * (1 : Fin 8).val, 0] S32x128.size (inb8 1), w 1⟩, ⟨Rect.unit ![32 * (0 : Fin 8).val, 0] S32x128.size (inb8 0), w 0⟩]

theorem t1_pieces (k) (f14 f19) : (tr1 P k).2.1 f14 f19 = strips8 (t1m P k f19) := by
  unfold tr1 trip_k0_t1
  rfl

/-- Trip `k` of the exponential pass, and of the value pass. -/
abbrev tr3 (k : Fin (k0_t3_loop P.i P.v2).trips) := trip_k0_t3 (F := Ideal) Variants.none P.c none P.i P.a4 P.h4 P.a5 P.h5 P.a6 P.h6 P.a7 P.h7 P.a8 P.h8 P.a9 P.h9 P.a10 P.h10 P.a11 P.h11 P.a12 P.h12 P.a13 P.h13 P.a14 P.h14 P.a15 P.h15 P.a16 P.h16 P.a17 P.h17 P.a18 P.h18 P.a19 P.h19 P.a20 P.h20 P.a21 P.h21 P.a22 P.h22 P.a23 P.h23 P.v2 P.hw P.v3 P.v8 P.v9 P.v57 P.v95 P.v173 P.x8 P.x10 P.x11 P.x16 P.x17 P.x18 P.x19 k
abbrev tr5 (k : Fin (k0_t5_loop P.i P.v2).trips) := trip_k0_t5 (F := Ideal) Variants.none P.c none P.i P.a4 P.h4 P.a5 P.h5 P.a6 P.h6 P.a7 P.h7 P.a8 P.h8 P.a9 P.h9 P.a10 P.h10 P.a11 P.h11 P.a12 P.h12 P.a13 P.h13 P.a14 P.h14 P.a15 P.h15 P.a16 P.h16 P.a17 P.h17 P.a18 P.h18 P.a19 P.h19 P.a20 P.h20 P.a21 P.h21 P.a22 P.h22 P.a23 P.h23 P.v2 P.hw P.v3 P.v8 P.v522 P.v528 P.v539 P.x9 P.x13 P.x22 k

/-- The scores a trip of the exponential pass computes. -/
def t3s (k : Fin (k0_t3_loop P.i P.v2).trips) : FVec Ideal S256x512 .f32 :=
  scoresV (P.a16.view.readAt (Elt Ideal) (Rect.unit (s := S256x128) ![0, 0] S256x128.size inb_S256x128_S256x128_0_0).toLoadRect P.x16) (P.a8.view.readAt (Elt Ideal) (Rect.unit (s := S1x1x128x33280) (k0_off6 P.i P.v2 k) S1x1x128x512.size (k0_off6_inb P.i P.v2 P.hw k)).toLoadRect P.x8)

/-- The exponentials of strip `r` against keys `128 w …` of the chunk. -/
def t3e (k : Fin (k0_t3_loop P.i P.v2).trips) (r : Fin 8) (w : Fin 4) : FVec Ideal S32x128 .f32 :=
  exp2 (subf (xw (P.a14.view.readCov [⟨Rect.unit ![0, 0] S256x512.size inb_S256x512_S256x512_0_0, t3s P k⟩]
       (Rect.unit (s := S256x512) ![32 * r.val, 128 * w.val] S32x128.size (inb84 r w)).toLoadRect)
    (P.a10.view.readAt (Elt Ideal) (Rect.unit (s := S1x1x1x33280) (k0_off7 P.i P.v2 k (BitVec.ofNat 32 (128 * w.val))) S1x1x1x128.size (k0_off7_inb P.i P.v2 P.hw k w)).toLoadRect P.x10)
    (strip P.a17 P.x17 r) (strip P.a18 P.x18 r) P.v9 (if r.val < 4 then P.v57 else P.v95) (P.v3 + BitVec.ofNat 32 (32 * (r.val % 4))) (k0w P.v3 k.val + BitVec.ofNat 32 (128 * w.val))) (strip P.a19 P.x19 r))

/-- The exponentials times the values' scales. -/
def t3v (k : Fin (k0_t3_loop P.i P.v2).trips) (r : Fin 8) (w : Fin 4) : FVec Ideal S32x128 .f32 :=
  mulf (t3e P k r w) (broadcastTo S32x128 (shapeCast S1x128 (P.a11.view.readAt (Elt Ideal) (Rect.unit (s := S1x1x1x33280) (k0_off7 P.i P.v2 k (BitVec.ofNat 32 (128 * w.val))) S1x1x1x128.size (k0_off7_inb P.i P.v2 P.hw k w)).toLoadRect P.x11) shapeCasts_S1x1x1x128_S1x128) broadcasts_S1x128_S32x128)

/-- The sums of strip `r` after a trip, and its maxima. -/
def t3l (k : Fin (k0_t3_loop P.i P.v2).trips) (f20 : BufTy.Contents (Elt Ideal) P.a20.view.ty) (r : Fin 8) : FVec Ideal S32x128 .f32 :=
  shapeCast S32x128 (addf (addf (addf (addf (strip P.a20 f20 r) (t3e P k r 0)) (t3e P k r 1)) (t3e P k r 2)) (t3e P k r 3)) shapeCasts_S32x128_S32x128
def t3m (k : Fin (k0_t3_loop P.i P.v2).trips) (f21 : BufTy.Contents (Elt Ideal) P.a21.view.ty) (r : Fin 8) : FVec Ideal S32x128 .f32 :=
  shapeCast S32x128 (maximumf (maximumf (maximumf (maximumf (strip P.a21 f21 r) (t3v P k r 0)) (t3v P k r 1)) (t3v P k r 2)) (t3v P k r 3)) shapeCasts_S32x128_S32x128

theorem inbSlot {s : ℕ} (hs : s < 64) (r : Fin 8) (w : Fin 4) : ∀ a, (![s, 32 * r.val, 128 * w.val] : Fin 3 → ℕ) a + S1x32x128.size a ≤ S64x256x512.size a := by
  intro a; fin_cases a <;> simp [S1x32x128, S64x256x512] <;> omega

/-- The 32 stores of a trip into slot `s` of the exponentials' buffer, the last first. -/
def slots32 (s : ℕ) (hs : s < 64) (x : Fin 8 → Fin 4 → Vec Ideal S1x32x128 .f32) : List (View.Piece (Elt Ideal) S64x256x512 .f32) :=
  [⟨Rect.unit ![s, 32 * (7 : Fin 8).val, 128 * (3 : Fin 4).val] S1x32x128.size (inbSlot hs 7 3), x 7 3⟩, ⟨Rect.unit ![s, 32 * (7 : Fin 8).val, 128 * (2 : Fin 4).val] S1x32x128.size (inbSlot hs 7 2), x 7 2⟩, ⟨Rect.unit ![s, 32 * (7 : Fin 8).val, 128 * (1 : Fin 4).val] S1x32x128.size (inbSlot hs 7 1), x 7 1⟩, ⟨Rect.unit ![s, 32 * (7 : Fin 8).val, 128 * (0 : Fin 4).val] S1x32x128.size (inbSlot hs 7 0), x 7 0⟩, ⟨Rect.unit ![s, 32 * (6 : Fin 8).val, 128 * (3 : Fin 4).val] S1x32x128.size (inbSlot hs 6 3), x 6 3⟩, ⟨Rect.unit ![s, 32 * (6 : Fin 8).val, 128 * (2 : Fin 4).val] S1x32x128.size (inbSlot hs 6 2), x 6 2⟩, ⟨Rect.unit ![s, 32 * (6 : Fin 8).val, 128 * (1 : Fin 4).val] S1x32x128.size (inbSlot hs 6 1), x 6 1⟩, ⟨Rect.unit ![s, 32 * (6 : Fin 8).val, 128 * (0 : Fin 4).val] S1x32x128.size (inbSlot hs 6 0), x 6 0⟩, ⟨Rect.unit ![s, 32 * (5 : Fin 8).val, 128 * (3 : Fin 4).val] S1x32x128.size (inbSlot hs 5 3), x 5 3⟩, ⟨Rect.unit ![s, 32 * (5 : Fin 8).val, 128 * (2 : Fin 4).val] S1x32x128.size (inbSlot hs 5 2), x 5 2⟩, ⟨Rect.unit ![s, 32 * (5 : Fin 8).val, 128 * (1 : Fin 4).val] S1x32x128.size (inbSlot hs 5 1), x 5 1⟩, ⟨Rect.unit ![s, 32 * (5 : Fin 8).val, 128 * (0 : Fin 4).val] S1x32x128.size (inbSlot hs 5 0), x 5 0⟩, ⟨Rect.unit ![s, 32 * (4 : Fin 8).val, 128 * (3 : Fin 4).val] S1x32x128.size (inbSlot hs 4 3), x 4 3⟩, ⟨Rect.unit ![s, 32 * (4 : Fin 8).val, 128 * (2 : Fin 4).val] S1x32x128.size (inbSlot hs 4 2), x 4 2⟩, ⟨Rect.unit ![s, 32 * (4 : Fin 8).val, 128 * (1 : Fin 4).val] S1x32x128.size (inbSlot hs 4 1), x 4 1⟩, ⟨Rect.unit ![s, 32 * (4 : Fin 8).val, 128 * (0 : Fin 4).val] S1x32x128.size (inbSlot hs 4 0), x 4 0⟩, ⟨Rect.unit ![s, 32 * (3 : Fin 8).val, 128 * (3 : Fin 4).val] S1x32x128.size (inbSlot hs 3 3), x 3 3⟩, ⟨Rect.unit ![s, 32 * (3 : Fin 8).val, 128 * (2 : Fin 4).val] S1x32x128.size (inbSlot hs 3 2), x 3 2⟩, ⟨Rect.unit ![s, 32 * (3 : Fin 8).val, 128 * (1 : Fin 4).val] S1x32x128.size (inbSlot hs 3 1), x 3 1⟩, ⟨Rect.unit ![s, 32 * (3 : Fin 8).val, 128 * (0 : Fin 4).val] S1x32x128.size (inbSlot hs 3 0), x 3 0⟩, ⟨Rect.unit ![s, 32 * (2 : Fin 8).val, 128 * (3 : Fin 4).val] S1x32x128.size (inbSlot hs 2 3), x 2 3⟩, ⟨Rect.unit ![s, 32 * (2 : Fin 8).val, 128 * (2 : Fin 4).val] S1x32x128.size (inbSlot hs 2 2), x 2 2⟩, ⟨Rect.unit ![s, 32 * (2 : Fin 8).val, 128 * (1 : Fin 4).val] S1x32x128.size (inbSlot hs 2 1), x 2 1⟩, ⟨Rect.unit ![s, 32 * (2 : Fin 8).val, 128 * (0 : Fin 4).val] S1x32x128.size (inbSlot hs 2 0), x 2 0⟩, ⟨Rect.unit ![s, 32 * (1 : Fin 8).val, 128 * (3 : Fin 4).val] S1x32x128.size (inbSlot hs 1 3), x 1 3⟩, ⟨Rect.unit ![s, 32 * (1 : Fin 8).val, 128 * (2 : Fin 4).val] S1x32x128.size (inbSlot hs 1 2), x 1 2⟩, ⟨Rect.unit ![s, 32 * (1 : Fin 8).val, 128 * (1 : Fin 4).val] S1x32x128.size (inbSlot hs 1 1), x 1 1⟩, ⟨Rect.unit ![s, 32 * (1 : Fin 8).val, 128 * (0 : Fin 4).val] S1x32x128.size (inbSlot hs 1 0), x 1 0⟩, ⟨Rect.unit ![s, 32 * (0 : Fin 8).val, 128 * (3 : Fin 4).val] S1x32x128.size (inbSlot hs 0 3), x 0 3⟩, ⟨Rect.unit ![s, 32 * (0 : Fin 8).val, 128 * (2 : Fin 4).val] S1x32x128.size (inbSlot hs 0 2), x 0 2⟩, ⟨Rect.unit ![s, 32 * (0 : Fin 8).val, 128 * (1 : Fin 4).val] S1x32x128.size (inbSlot hs 0 1), x 0 1⟩, ⟨Rect.unit ![s, 32 * (0 : Fin 8).val, 128 * (0 : Fin 4).val] S1x32x128.size (inbSlot hs 0 0), x 0 0⟩]

/-- The 32 stores of a trip into the codes' buffer, the last first. -/
def tiles32 (x : Fin 8 → Fin 4 → Vec Ideal S32x128 .fp8e4m3) : List (View.Piece (Elt Ideal) S256x512 .fp8e4m3) :=
  [⟨Rect.unit ![32 * (7 : Fin 8).val, 128 * (3 : Fin 4).val] S32x128.size (inb84 7 3), x 7 3⟩, ⟨Rect.unit ![32 * (7 : Fin 8).val, 128 * (2 : Fin 4).val] S32x128.size (inb84 7 2), x 7 2⟩, ⟨Rect.unit ![32 * (7 : Fin 8).val, 128 * (1 : Fin 4).val] S32x128.size (inb84 7 1), x 7 1⟩, ⟨Rect.unit ![32 * (7 : Fin 8).val, 128 * (0 : Fin 4).val] S32x128.size (inb84 7 0), x 7 0⟩, ⟨Rect.unit ![32 * (6 : Fin 8).val, 128 * (3 : Fin 4).val] S32x128.size (inb84 6 3), x 6 3⟩, ⟨Rect.unit ![32 * (6 : Fin 8).val, 128 * (2 : Fin 4).val] S32x128.size (inb84 6 2), x 6 2⟩, ⟨Rect.unit ![32 * (6 : Fin 8).val, 128 * (1 : Fin 4).val] S32x128.size (inb84 6 1), x 6 1⟩, ⟨Rect.unit ![32 * (6 : Fin 8).val, 128 * (0 : Fin 4).val] S32x128.size (inb84 6 0), x 6 0⟩, ⟨Rect.unit ![32 * (5 : Fin 8).val, 128 * (3 : Fin 4).val] S32x128.size (inb84 5 3), x 5 3⟩, ⟨Rect.unit ![32 * (5 : Fin 8).val, 128 * (2 : Fin 4).val] S32x128.size (inb84 5 2), x 5 2⟩, ⟨Rect.unit ![32 * (5 : Fin 8).val, 128 * (1 : Fin 4).val] S32x128.size (inb84 5 1), x 5 1⟩, ⟨Rect.unit ![32 * (5 : Fin 8).val, 128 * (0 : Fin 4).val] S32x128.size (inb84 5 0), x 5 0⟩, ⟨Rect.unit ![32 * (4 : Fin 8).val, 128 * (3 : Fin 4).val] S32x128.size (inb84 4 3), x 4 3⟩, ⟨Rect.unit ![32 * (4 : Fin 8).val, 128 * (2 : Fin 4).val] S32x128.size (inb84 4 2), x 4 2⟩, ⟨Rect.unit ![32 * (4 : Fin 8).val, 128 * (1 : Fin 4).val] S32x128.size (inb84 4 1), x 4 1⟩, ⟨Rect.unit ![32 * (4 : Fin 8).val, 128 * (0 : Fin 4).val] S32x128.size (inb84 4 0), x 4 0⟩, ⟨Rect.unit ![32 * (3 : Fin 8).val, 128 * (3 : Fin 4).val] S32x128.size (inb84 3 3), x 3 3⟩, ⟨Rect.unit ![32 * (3 : Fin 8).val, 128 * (2 : Fin 4).val] S32x128.size (inb84 3 2), x 3 2⟩, ⟨Rect.unit ![32 * (3 : Fin 8).val, 128 * (1 : Fin 4).val] S32x128.size (inb84 3 1), x 3 1⟩, ⟨Rect.unit ![32 * (3 : Fin 8).val, 128 * (0 : Fin 4).val] S32x128.size (inb84 3 0), x 3 0⟩, ⟨Rect.unit ![32 * (2 : Fin 8).val, 128 * (3 : Fin 4).val] S32x128.size (inb84 2 3), x 2 3⟩, ⟨Rect.unit ![32 * (2 : Fin 8).val, 128 * (2 : Fin 4).val] S32x128.size (inb84 2 2), x 2 2⟩, ⟨Rect.unit ![32 * (2 : Fin 8).val, 128 * (1 : Fin 4).val] S32x128.size (inb84 2 1), x 2 1⟩, ⟨Rect.unit ![32 * (2 : Fin 8).val, 128 * (0 : Fin 4).val] S32x128.size (inb84 2 0), x 2 0⟩, ⟨Rect.unit ![32 * (1 : Fin 8).val, 128 * (3 : Fin 4).val] S32x128.size (inb84 1 3), x 1 3⟩, ⟨Rect.unit ![32 * (1 : Fin 8).val, 128 * (2 : Fin 4).val] S32x128.size (inb84 1 2), x 1 2⟩, ⟨Rect.unit ![32 * (1 : Fin 8).val, 128 * (1 : Fin 4).val] S32x128.size (inb84 1 1), x 1 1⟩, ⟨Rect.unit ![32 * (1 : Fin 8).val, 128 * (0 : Fin 4).val] S32x128.size (inb84 1 0), x 1 0⟩, ⟨Rect.unit ![32 * (0 : Fin 8).val, 128 * (3 : Fin 4).val] S32x128.size (inb84 0 3), x 0 3⟩, ⟨Rect.unit ![32 * (0 : Fin 8).val, 128 * (2 : Fin 4).val] S32x128.size (inb84 0 2), x 0 2⟩, ⟨Rect.unit ![32 * (0 : Fin 8).val, 128 * (1 : Fin 4).val] S32x128.size (inb84 0 1), x 0 1⟩, ⟨Rect.unit ![32 * (0 : Fin 8).val, 128 * (0 : Fin 4).val] S32x128.size (inb84 0 0), x 0 0⟩]

theorem slot_lt3 (k : Fin (k0_t3_loop P.i P.v2).trips) : (Scf.iv 0#32 1#32 k.val).toNat < 64 := by
  have h : (Scf.iv 0#32 1#32 k.val).toNat + 1 ≤ 64 := k0_off8_inb P.i P.v2 P.hw k 0
  omega
theorem slot_lt5 (k : Fin (k0_t5_loop P.i P.v2).trips) : (Scf.iv 0#32 1#32 k.val).toNat < 64 := by
  have h : (Scf.iv 0#32 1#32 k.val).toNat + 1 ≤ 64 := k0_off74_inb P.i P.v2 P.hw k 0
  omega

theorem t3_slots (k) (f13 f14 f20 f21) : (tr3 P k).1 f13 f14 f20 f21
    = slots32 (Scf.iv 0#32 1#32 k.val).toNat (slot_lt3 P k) (fun r w => shapeCast S1x32x128 (t3v P k r w) shapeCasts_S32x128_S1x32x128) := by
  unfold tr3 trip_k0_t3
  rfl
theorem t3_sums (k) (f13 f14 f20 f21) : (tr3 P k).2.2.1 f13 f14 f20 f21 = strips8 (t3l P k f20) := by
  unfold tr3 trip_k0_t3
  rfl
theorem t3_maxima (k) (f13 f14 f20 f21) : (tr3 P k).2.2.2.1 f13 f14 f20 f21 = strips8 (t3m P k f21) := by
  unfold tr3 trip_k0_t3
  rfl

/-- The codes of strip `r` against keys `128 w …` of the chunk. -/
def t5p (k : Fin (k0_t5_loop P.i P.v2).trips) (r : Fin 8) (w : Fin 4) : FVec Ideal S32x128 .fp8e4m3 :=
  shapeCast S32x128 (truncf .fp8e4m3 (minimumf (broadcast S32x128 (Scalar.ofBits .f32 0x43E00000#32)) (maximumf (broadcast S32x128 (Scalar.ofBits .f32 0xC3E00000#32))
    (mulf (shapeCast S32x128 (P.a13.view.readAt (Elt Ideal) (Rect.unit (s := S64x256x512) ![(Scf.iv 0#32 1#32 k.val).toNat, 32 * r.val, 128 * w.val] S1x32x128.size (inbSlot (slot_lt5 P k) r w)).toLoadRect P.x13) shapeCasts_S1x32x128_S32x128) (strip P.a22 P.x22 r)))) bitsLt_fp8e4m3_f32) shapeCasts_S32x128_S32x128

theorem t5_codes (k) (f15 f23) : (tr5 P k).1 f15 f23 = tiles32 (t5p P k) := by
  unfold tr5 trip_k0_t5
  rfl

/-- The accumulator after a trip. -/
def t5a (k : Fin (k0_t5_loop P.i P.v2).trips) (f23 : BufTy.Contents (Elt Ideal) P.a23.view.ty) : FVec Ideal S256x128 .f32 :=
  shapeCast S256x128 (addf (P.a23.view.readAt (Elt Ideal) (Rect.unit (s := S256x128) ![0, 0] S256x128.size inb_S256x128_S256x128_0_0).toLoadRect f23)
    (matmul (φ₁ := .fp8e4m3) (φ₂ := .fp8e4m3) dot_S256x512_S512x128_S256x128_1_0_0_1_n_n none (P.a15.view.readCov (tiles32 (t5p P k)) (Rect.unit (s := S256x512) ![0, 0] S256x512.size inb_S256x512_S256x512_0_0).toLoadRect)
      (shapeCast S512x128 (P.a9.view.readAt (Elt Ideal) (Rect.unit (s := S1x1x33280x128) (k0_off106 P.i P.v2 k) S1x1x512x128.size (k0_off106_inb P.i P.v2 P.hw k)).toLoadRect P.x9) shapeCasts_S1x1x512x128_S512x128 : FVec Ideal S512x128 .fp8e4m3) (constant S256x128 .f32 0x00000000#32))) shapeCasts_S256x128_S256x128

theorem t5_acc (k) (f15 f23) : (tr5 P k).2.1 f15 f23 = [⟨Rect.unit ![0, 0] S256x128.size inb_S256x128_S256x128_0_0, t5a P k f23⟩] := by
  unfold tr5 trip_k0_t5
  rfl

end Cert.KernelIdeal
-- ==== Proof.TripValues.lean ====
/-
  The arrays one trip of each pass leaves, element by element.
-/
module

public import proofs.«01_k».proof.Proof.Trips
public import proofs.«01_k».proof.Proof.ChecksKernelIdeal
public import Idealize.ShloMosaic.Lib.Pointwise
public import Idealize.ShloMosaic.Lib.VecWindow
public import Idealize.ShloMosaic.Lib.WritesUnit

@[expose] public section
set_option maxRecDepth 16384
set_option maxHeartbeats 4000000
noncomputable section
namespace Cert.KernelIdeal
open Gen
open Idealize.ShloMosaic Idealize.ShloMosaic.TcCoe Idealize.ShloMosaic.Tactic

/-! ## Rows and columns by strips -/

/-- Row `a` of strip `r`, and column `b` of group `w`. -/
def row (r : Fin 8) (a : Fin 32) : Fin 256 := ⟨32 * r.val + a.val, by omega⟩
def col (w : Fin 4) (b : Fin 128) : Fin 512 := ⟨128 * w.val + b.val, by omega⟩

def rowS (x : Fin 256) : Fin 8 := ⟨x.val / 32, by omega⟩
def rowR (x : Fin 256) : Fin 32 := ⟨x.val % 32, by omega⟩
def colS (x : Fin 512) : Fin 4 := ⟨x.val / 128, by omega⟩
def colR (x : Fin 512) : Fin 128 := ⟨x.val % 128, by omega⟩

theorem row_split (x : Fin 256) : row (rowS x) (rowR x) = x := Fin.ext (Nat.div_add_mod _ _)
theorem col_split (x : Fin 512) : col (colS x) (colR x) = x := Fin.ext (Nat.div_add_mod _ _)
theorem rowS_row (r a) : rowS (row r a) = r := Fin.ext (by show (32 * r.val + a.val) / 32 = r.val; omega)
theorem rowR_row (r a) : rowR (row r a) = a := Fin.ext (by show (32 * r.val + a.val) % 32 = a.val; omega)
theorem colS_col (r a) : colS (col r a) = r := Fin.ext (by show (128 * r.val + a.val) / 128 = r.val; omega)
theorem colR_col (r a) : colR (col r a) = a := Fin.ext (by show (128 * r.val + a.val) % 128 = a.val; omega)

section Reads
variable {sig : RefSig} {κ : Kind} {sp : Space} {e : EltTy}

theorem strips8_mem (w : Fin 8 → Vec Ideal S32x128 e) (p : View.Piece (Elt Ideal) S256x128 e) (hp : p ∈ strips8 w) :
    ∃ r, p = ⟨Rect.unit ![32 * (r : Fin 8).val, 0] S32x128.size (inb8 r), w r⟩ := by
  simp only [strips8, List.mem_cons, List.not_mem_nil, or_false] at hp
  rcases hp with h | h | h | h | h | h | h | h <;> exact ⟨_, h⟩

theorem mem_strips8 (w : Fin 8 → Vec Ideal S32x128 e) (r : Fin 8) :
    (⟨Rect.unit ![32 * (r : Fin 8).val, 0] S32x128.size (inb8 r), w r⟩ : View.Piece (Elt Ideal) S256x128 e) ∈ strips8 w := by
  unfold strips8
  fin_cases r <;> simp

theorem emb8 (r : Fin 8) (x : (Rect.unit (s := S256x128) ![32 * r.val, 0] S32x128.size (inb8 r)).shape.Idx) :
    (Rect.unit (s := S256x128) ![32 * r.val, 0] S32x128.size (inb8 r)).emb x = ix2 (row r (x 0)) (x 1) := by
  funext a
  fin_cases a
  · exact Fin.ext (by show 32 * r.val + 1 * (x 0).val = 32 * r.val + (x 0).val; omega)
  · exact Fin.ext (by show 0 + 1 * (x 1).val = (x 1).val; omega)

theorem emb84 (r : Fin 8) (w : Fin 4) (x : (Rect.unit (s := S256x512) ![32 * r.val, 128 * w.val] S32x128.size (inb84 r w)).shape.Idx) :
    (Rect.unit (s := S256x512) ![32 * r.val, 128 * w.val] S32x128.size (inb84 r w)).emb x = ix2 (row r (x 0)) (col w (x 1)) := by
  funext a
  fin_cases a
  · exact Fin.ext (by show 32 * r.val + 1 * (x 0).val = 32 * r.val + (x 0).val; omega)
  · exact Fin.ext (by show 128 * w.val + 1 * (x 1).val = 128 * w.val + (x 1).val; omega)

theorem embSlot {s : ℕ} (hs : s < 64) (r : Fin 8) (w : Fin 4)
    (x : (Rect.unit (s := S64x256x512) ![s, 32 * r.val, 128 * w.val] S1x32x128.size (inbSlot hs r w)).shape.Idx) :
    (Rect.unit (s := S64x256x512) ![s, 32 * r.val, 128 * w.val] S1x32x128.size (inbSlot hs r w)).emb x
      = ix3 ⟨s, hs⟩ (row r (x 1)) (col w (x 2)) := by
  funext a
  fin_cases a
  · refine Fin.ext ?_
    have h : (x 0).val < 1 := (x 0).isLt
    show s + 1 * (x 0).val = s; omega
  · exact Fin.ext (by show 32 * r.val + 1 * (x 1).val = 32 * r.val + (x 1).val; omega)
  · exact Fin.ext (by show 128 * w.val + 1 * (x 2).val = 128 * w.val + (x 2).val; omega)

theorem mem_emb {s : Shape} (R : Rect s) (x : R.shape.Idx) (y : s.Idx) (h : R.emb x = y) : y ∈ R.set := by
  rw [← h, ← Rect.map_emb_univ]
  exact Finset.mem_map_of_mem _ (Finset.mem_univ _)

theorem idx2 {n m : ℕ} (x : (⟨2, ![n, m]⟩ : Shape).Idx) : ix2 (x 0) (x 1) = x := by
  funext a; fin_cases a <;> rfl
theorem idx3 {n m l : ℕ} (x : (⟨3, ![n, m, l]⟩ : Shape).Idx) : ix3 (x 0) (x 1) (x 2) = x := by
  funext a; fin_cases a <;> rfl

/-- After a trip's strips, an element reads the strip it lies in. -/
theorem read_strips8 (v : View sig κ sp S256x128 e) (f : v.ty.Contents (Elt Ideal)) (w : Fin 8 → Vec Ideal S32x128 e)
    (L : List (View.Piece (Elt Ideal) S256x128 e)) (r : Fin 8) (a : Fin 32) (b : Fin 128) :
    v.read (Elt Ideal) (v.writes (Elt Ideal) f (strips8 w ++ L)) (ix2 (row r a) b) = w r (ix2 a b) := by
  rw [View.writes_append]
  refine (View.read_writes_apply_of_pieces v _ (fun y => w (rowS (y 0)) (ix2 (rowR (y 0)) (y 1))) _ ?_ _ ?_).trans ?_
  · intro p hp x
    obtain ⟨r', rfl⟩ := strips8_mem w p hp
    show w r' x = w (rowS _) (ix2 (rowR _) _)
    rw [emb8]
    show w r' x = w (rowS (row r' (x 0))) (ix2 (rowR (row r' (x 0))) (x 1))
    rw [show rowS (row r' (x 0)) = r' from rowS_row _ _, show rowR (row r' (x 0)) = x 0 from rowR_row _ _]
    exact congrArg (w r') (idx2 x).symm
  · exact ⟨_, mem_strips8 w r, mem_emb _ _ _ (emb8 r (ix2 a b))⟩
  · simp only [ix2_0, ix2_1, rowS_row, rowR_row]

theorem tiles32_mem (w : Fin 8 → Fin 4 → Vec Ideal S32x128 .fp8e4m3) (p : View.Piece (Elt Ideal) S256x512 .fp8e4m3) (hp : p ∈ tiles32 w) :
    ∃ r k, p = ⟨Rect.unit ![32 * (r : Fin 8).val, 128 * (k : Fin 4).val] S32x128.size (inb84 r k), w r k⟩ := by
  simp only [tiles32, List.mem_cons, List.not_mem_nil, or_false] at hp
  repeat' (rcases hp with h | hp; exact ⟨_, _, h⟩)
  exact ⟨_, _, hp⟩

theorem mem_tiles32 (w : Fin 8 → Fin 4 → Vec Ideal S32x128 .fp8e4m3) (r : Fin 8) (k : Fin 4) :
    (⟨Rect.unit ![32 * (r : Fin 8).val, 128 * (k : Fin 4).val] S32x128.size (inb84 r k), w r k⟩ : View.Piece (Elt Ideal) S256x512 .fp8e4m3) ∈ tiles32 w := by
  unfold tiles32
  fin_cases r <;> fin_cases k <;> simp

theorem read_tiles32 (v : View sig κ sp S256x512 .fp8e4m3) (f : v.ty.Contents (Elt Ideal)) (w : Fin 8 → Fin 4 → Vec Ideal S32x128 .fp8e4m3)
    (r : Fin 8) (k : Fin 4) (a : Fin 32) (b : Fin 128) :
    v.read (Elt Ideal) (v.writes (Elt Ideal) f (tiles32 w)) (ix2 (row r a) (col k b)) = w r k (ix2 a b) := by
  refine (View.read_writes_apply_of_pieces v _ (fun y => w (rowS (y 0)) (colS (y 1)) (ix2 (rowR (y 0)) (colR (y 1)))) _ ?_ _ ?_).trans ?_
  · intro p hp x
    obtain ⟨r', k', rfl⟩ := tiles32_mem w p hp
    show w r' k' x = w (rowS _) (colS _) (ix2 (rowR _) (colR _))
    rw [emb84]
    show w r' k' x = w (rowS (row r' (x 0))) (colS (col k' (x 1))) (ix2 (rowR (row r' (x 0))) (colR (col k' (x 1))))
    rw [show rowS (row r' (x 0)) = r' from rowS_row _ _, show rowR (row r' (x 0)) = x 0 from rowR_row _ _,
      show colS (col k' (x 1)) = k' from colS_col _ _, show colR (col k' (x 1)) = x 1 from colR_col _ _]
    exact congrArg (w r' k') (idx2 x).symm
  · exact ⟨_, mem_tiles32 w r k, mem_emb _ _ _ (emb84 r k (ix2 a b))⟩
  · simp only [ix2_0, ix2_1, rowS_row, rowR_row, colS_col, colR_col]

theorem slots32_mem {s : ℕ} (hs : s < 64) (w : Fin 8 → Fin 4 → Vec Ideal S1x32x128 .f32) (p : View.Piece (Elt Ideal) S64x256x512 .f32) (hp : p ∈ slots32 s hs w) :
    ∃ r k, p = ⟨Rect.unit ![s, 32 * (r : Fin 8).val, 128 * (k : Fin 4).val] S1x32x128.size (inbSlot hs r k), w r k⟩ := by
  simp only [slots32, List.mem_cons, List.not_mem_nil, or_false] at hp
  repeat' (rcases hp with h | hp; exact ⟨_, _, h⟩)
  exact ⟨_, _, hp⟩

theorem mem_slots32 {s : ℕ} (hs : s < 64) (w : Fin 8 → Fin 4 → Vec Ideal S1x32x128 .f32) (r : Fin 8) (k : Fin 4) :
    (⟨Rect.unit ![s, 32 * (r : Fin 8).val, 128 * (k : Fin 4).val] S1x32x128.size (inbSlot hs r k), w r k⟩ : View.Piece (Elt Ideal) S64x256x512 .f32) ∈ slots32 s hs w := by
  unfold slots32
  fin_cases r <;> fin_cases k <;> simp

/-- After a trip's stores into slot `s`, an element of that slot reads the strip it lies in; -/
theorem read_slots32 (v : View sig κ sp S64x256x512 .f32) (f : v.ty.Contents (Elt Ideal)) {s : ℕ} (hs : s < 64)
    (w : Fin 8 → Fin 4 → Vec Ideal S1x32x128 .f32) (L : List (View.Piece (Elt Ideal) S64x256x512 .f32))
    (r : Fin 8) (k : Fin 4) (a : Fin 32) (b : Fin 128) :
    v.read (Elt Ideal) (v.writes (Elt Ideal) f (slots32 s hs w ++ L)) (ix3 ⟨s, hs⟩ (row r a) (col k b)) = w r k (ix3 0 a b) := by
  rw [View.writes_append]
  refine (View.read_writes_apply_of_pieces v _ (fun y => w (rowS (y 1)) (colS (y 2)) (ix3 0 (rowR (y 1)) (colR (y 2)))) _ ?_ _ ?_).trans ?_
  · intro p hp x
    obtain ⟨r', k', rfl⟩ := slots32_mem hs w p hp
    show w r' k' x = w (rowS _) (colS _) (ix3 0 (rowR _) (colR _))
    rw [embSlot hs]
    show w r' k' x = w (rowS (row r' (x 1))) (colS (col k' (x 2))) (ix3 0 (rowR (row r' (x 1))) (colR (col k' (x 2))))
    rw [show rowS (row r' (x 1)) = r' from rowS_row _ _, show rowR (row r' (x 1)) = x 1 from rowR_row _ _,
      show colS (col k' (x 2)) = k' from colS_col _ _, show colR (col k' (x 2)) = x 2 from colR_col _ _]
    have h0 : x 0 = (0 : Fin 1) := Subsingleton.elim (α := Fin 1) _ _
    exact congrArg (w r' k') ((idx3 x).symm.trans (by rw [h0]; rfl))
  · exact ⟨_, mem_slots32 hs w r k, mem_emb _ _ _ (embSlot hs r k (ix3 0 a b))⟩
  · simp only [ix3_0, ix3_1, ix3_2, rowS_row, rowR_row, colS_col, colR_col]

/-- one of another slot is left alone. -/
theorem read_slots32_ne (v : View sig κ sp S64x256x512 .f32) (f : v.ty.Contents (Elt Ideal)) {s : ℕ} (hs : s < 64)
    (w : Fin 8 → Fin 4 → Vec Ideal S1x32x128 .f32) (L : List (View.Piece (Elt Ideal) S64x256x512 .f32))
    (s' : Fin 64) (hne : s'.val ≠ s) (a : Fin 256) (b : Fin 512) :
    v.read (Elt Ideal) (v.writes (Elt Ideal) f (slots32 s hs w ++ L)) (ix3 s' a b) = v.read (Elt Ideal) (v.writes (Elt Ideal) f L) (ix3 s' a b) := by
  rw [View.writes_append]
  refine View.read_writes_apply_of_forall_not_mem v _ _ _ fun p hp hm => ?_
  obtain ⟨r', k', rfl⟩ := slots32_mem hs w p hp
  rw [← Rect.map_emb_univ] at hm
  obtain ⟨x, -, hx⟩ := Finset.mem_map.mp hm
  have := congrFun ((embSlot hs r' k' x).symm.trans hx) 0
  exact hne (congrArg Fin.val this).symm

end Reads
end Cert.KernelIdeal
-- ==== Proof.Passes.lean ====
/-
  The three passes, element by element: after each trip the running maxima, the running sums, the
  exponentials kept and the accumulator, as functions of the arrays the point was given.
-/
module

public import proofs.«01_k».proof.Proof.TripValues

@[expose] public section
set_option maxRecDepth 16384
set_option maxHeartbeats 4000000
noncomputable section
namespace Cert.KernelIdeal
open Gen
open Idealize.ShloMosaic Idealize.ShloMosaic.TcCoe Idealize.ShloMosaic.Tactic
variable (P : Ctx)

/-- The pieces the trips before the `n`-th leave, pass by pass. -/
abbrev lp1 (f14 : BufTy.Contents (Elt Ideal) P.a14.view.ty) (f19 : BufTy.Contents (Elt Ideal) P.a19.view.ty) (n : ℕ) := pb_k0_t1 (F := Ideal) Variants.none P.c none P.i P.a4 P.h4 P.a5 P.h5 P.a6 P.h6 P.a7 P.h7 P.a8 P.h8 P.a9 P.h9 P.a10 P.h10 P.a11 P.h11 P.a12 P.h12 P.a13 P.h13 P.a14 P.h14 P.a15 P.h15 P.a16 P.h16 P.a17 P.h17 P.a18 P.h18 P.a19 P.h19 P.a20 P.h20 P.a21 P.h21 P.a22 P.h22 P.a23 P.h23 P.v2 P.hw P.v3 P.v8 P.v9 P.v16 P.v18 P.v19 P.v57 P.v61 P.v71 P.x8 P.x10 P.x16 P.x17 P.x18 f14 f19 n
abbrev lp3 (f13 : BufTy.Contents (Elt Ideal) P.a13.view.ty) (f14 : BufTy.Contents (Elt Ideal) P.a14.view.ty) (f20 : BufTy.Contents (Elt Ideal) P.a20.view.ty) (f21 : BufTy.Contents (Elt Ideal) P.a21.view.ty) (n : ℕ) := pb_k0_t3 (F := Ideal) Variants.none P.c none P.i P.a4 P.h4 P.a5 P.h5 P.a6 P.h6 P.a7 P.h7 P.a8 P.h8 P.a9 P.h9 P.a10 P.h10 P.a11 P.h11 P.a12 P.h12 P.a13 P.h13 P.a14 P.h14 P.a15 P.h15 P.a16 P.h16 P.a17 P.h17 P.a18 P.h18 P.a19 P.h19 P.a20 P.h20 P.a21 P.h21 P.a22 P.h22 P.a23 P.h23 P.v2 P.hw P.v3 P.v8 P.v9 P.v57 P.v95 P.v173 P.x8 P.x10 P.x11 P.x16 P.x17 P.x18 P.x19 f13 f14 f20 f21 n
abbrev lp5 (f15 : BufTy.Contents (Elt Ideal) P.a15.view.ty) (f23 : BufTy.Contents (Elt Ideal) P.a23.view.ty) (n : ℕ) := pb_k0_t5 (F := Ideal) Variants.none P.c none P.i P.a4 P.h4 P.a5 P.h5 P.a6 P.h6 P.a7 P.h7 P.a8 P.h8 P.a9 P.h9 P.a10 P.h10 P.a11 P.h11 P.a12 P.h12 P.a13 P.h13 P.a14 P.h14 P.a15 P.h15 P.a16 P.h16 P.a17 P.h17 P.a18 P.h18 P.a19 P.h19 P.a20 P.h20 P.a21 P.h21 P.a22 P.h22 P.a23 P.h23 P.v2 P.hw P.v3 P.v8 P.v522 P.v528 P.v539 P.x9 P.x13 P.x22 f15 f23 n

theorem lp1_succ (f14 f19) (k : Fin (k0_t1_loop P.i P.v2).trips) : (lp1 P f14 f19 (k.val + 1)).2
    = strips8 (t1m P k (P.a19.view.writes (Elt Ideal) f19 (lp1 P f14 f19 k.val).2)) ++ (lp1 P f14 f19 k.val).2 :=
  (congrArg Prod.snd (pb_k0_t1_succ (F := Ideal) Variants.none P.c none P.i P.a4 P.h4 P.a5 P.h5 P.a6 P.h6 P.a7 P.h7 P.a8 P.h8 P.a9 P.h9 P.a10 P.h10 P.a11 P.h11 P.a12 P.h12 P.a13 P.h13 P.a14 P.h14 P.a15 P.h15 P.a16 P.h16 P.a17 P.h17 P.a18 P.h18 P.a19 P.h19 P.a20 P.h20 P.a21 P.h21 P.a22 P.h22 P.a23 P.h23 P.v2 P.hw P.v3 P.v8 P.v9 P.v16 P.v18 P.v19 P.v57 P.v61 P.v71 P.x8 P.x10 P.x16 P.x17 P.x18 f14 f19 k)).trans (congrArg (· ++ (lp1 P f14 f19 k.val).2) (t1_pieces P k _ _))

theorem lp3_succ (f13 f14 f20 f21) (k : Fin (k0_t3_loop P.i P.v2).trips) :
    (lp3 P f13 f14 f20 f21 (k.val + 1)).1 = slots32 (Scf.iv 0#32 1#32 k.val).toNat (slot_lt3 P k) (fun r w => shapeCast S1x32x128 (t3v P k r w) shapeCasts_S32x128_S1x32x128) ++ (lp3 P f13 f14 f20 f21 k.val).1
    ∧ (lp3 P f13 f14 f20 f21 (k.val + 1)).2.2.1 = strips8 (t3l P k (P.a20.view.writes (Elt Ideal) f20 (lp3 P f13 f14 f20 f21 k.val).2.2.1)) ++ (lp3 P f13 f14 f20 f21 k.val).2.2.1
    ∧ (lp3 P f13 f14 f20 f21 (k.val + 1)).2.2.2 = strips8 (t3m P k (P.a21.view.writes (Elt Ideal) f21 (lp3 P f13 f14 f20 f21 k.val).2.2.2)) ++ (lp3 P f13 f14 f20 f21 k.val).2.2.2 := by
  have h := pb_k0_t3_succ (F := Ideal) Variants.none P.c none P.i P.a4 P.h4 P.a5 P.h5 P.a6 P.h6 P.a7 P.h7 P.a8 P.h8 P.a9 P.h9 P.a10 P.h10 P.a11 P.h11 P.a12 P.h12 P.a13 P.h13 P.a14 P.h14 P.a15 P.h15 P.a16 P.h16 P.a17 P.h17 P.a18 P.h18 P.a19 P.h19 P.a20 P.h20 P.a21 P.h21 P.a22 P.h22 P.a23 P.h23 P.v2 P.hw P.v3 P.v8 P.v9 P.v57 P.v95 P.v173 P.x8 P.x10 P.x11 P.x16 P.x17 P.x18 P.x19 f13 f14 f20 f21 k
  exact ⟨(congrArg Prod.fst h).trans (congrArg (· ++ (lp3 P f13 f14 f20 f21 k.val).1) (t3_slots P k _ _ _ _)),
    (congrArg (fun x => x.2.2.1) h).trans (congrArg (· ++ (lp3 P f13 f14 f20 f21 k.val).2.2.1) (t3_sums P k _ _ _ _)),
    (congrArg (fun x => x.2.2.2) h).trans (congrArg (· ++ (lp3 P f13 f14 f20 f21 k.val).2.2.2) (t3_maxima P k _ _ _ _))⟩

theorem lp5_succ (f15 f23) (k : Fin (k0_t5_loop P.i P.v2).trips) : (lp5 P f15 f23 (k.val + 1)).2
    = [⟨Rect.unit ![0, 0] S256x128.size inb_S256x128_S256x128_0_0, t5a P k (P.a23.view.writes (Elt Ideal) f23 (lp5 P f15 f23 k.val).2)⟩] ++ (lp5 P f15 f23 k.val).2 :=
  (congrArg Prod.snd (pb_k0_t5_succ (F := Ideal) Variants.none P.c none P.i P.a4 P.h4 P.a5 P.h5 P.a6 P.h6 P.a7 P.h7 P.a8 P.h8 P.a9 P.h9 P.a10 P.h10 P.a11 P.h11 P.a12 P.h12 P.a13 P.h13 P.a14 P.h14 P.a15 P.h15 P.a16 P.h16 P.a17 P.h17 P.a18 P.h18 P.a19 P.h19 P.a20 P.h20 P.a21 P.h21 P.a22 P.h22 P.a23 P.h23 P.v2 P.hw P.v3 P.v8 P.v522 P.v528 P.v539 P.x9 P.x13 P.x22 f15 f23 k)).trans (congrArg (· ++ (lp5 P f15 f23 k.val).2) (t5_acc P k _ _))

/-! ## One logit -/

/-- One logit: `s` the product of the codes, `ks`, `qr` the scales, `lo` the row's first position, `sl`
    the slope, `iw` and `jw` the words of the row's and the key's positions. -/
def cell (s ks qr : EReal) (lo : BitVec 32) (sl : EReal) (iw jw : BitVec 32) : EReal :=
  Scalar.select (IntOp.andi (IntOp.cmpi .sle jw iw) (IntOp.cmpi .sge jw lo))
    (s * ks * qr - sl * FloatOps.sitofp (F := Ideal) FTy.f32 (iw - jw)) (Named.named κ "masked" (0xF149F2CA#32 : BitVec (FTy.bits .f32)) : Ideal .f32)

/-- The word of row `x`'s position, and of the key at padded position `p`. -/
def iw (v3 : BitVec 32) (x : Fin 256) : BitVec 32 := v3 + BitVec.ofNat 32 (x.val % 128)
def jw (p : ℕ) : BitVec 32 := BitVec.ofNat 32 p - 512#32

/-- The padded position of key `b` of chunk `k`. -/
def pp (v3 : BitVec 32) (k : ℕ) (b : Fin 512) : ℕ := v3.toNat + 128 - 512 * k + b.val

def fin33 (p : ℕ) : Fin 33280 := ⟨p % 33280, Nat.mod_lt _ (by norm_num)⟩

/-- What a point's words and lane numbers are. -/
structure Ctx.Good : Prop where
  hb : P.v2.toNat ≤ 128 * (P.i 3).val
  h3 : P.v3.toNat = 128 * (P.i 3).val
  h9 : ∀ b : Fin 128, P.v9 (ix2 0 b) = BitVec.ofNat 32 b.val

variable {P}

theorem readAt_at {sig : RefSig} {κ : Kind} {sp : Space} {s : Shape} {e : EltTy} (v : View sig κ sp s e) (X : v.ty.Contents (Elt Ideal)) {off size : Fin s.rank → ℕ}
    (inb : ∀ a, off a + size a ≤ s.size a) (y : (Rect.unit off size inb).shape.Idx) (z : s.Idx)
    (h : ∀ a, (z a).val = off a + (y a).val) : v.readAt (Elt Ideal) (Rect.unit off size inb).toLoadRect X y = v.read (Elt Ideal) X z :=
  congrArg (v.read (Elt Ideal) X) (funext fun a => Fin.ext (by rw [h a]; show off a + 1 * (y a).val = _; omega))

theorem strip_apply {e : EltTy} (m : Memref sig .tc .vmem S256x128 e) (X : BufTy.Contents (Elt Ideal) m.view.ty) (r : Fin 8) (a : Fin 32) (b : Fin 128) :
    strip m X r (ix2 a b) = m.view.read (Elt Ideal) X (ix2 (row r a) b) :=
  readAt_at m.view X (inb8 r) (ix2 a b) _ fun x => by
    fin_cases x
    · rfl
    · exact (Nat.zero_add _).symm

theorem full256 {e : EltTy} (m : Memref sig .tc .vmem S256x128 e) (X : BufTy.Contents (Elt Ideal) m.view.ty) :
    m.view.readAt (Elt Ideal) (Rect.unit (s := S256x128) ![0, 0] S256x128.size inb_S256x128_S256x128_0_0).toLoadRect X = m.view.read (Elt Ideal) X :=
  View.readAt_full _ _ _

theorem cov512 (m : Memref sig .tc .vmem S256x512 .f32) (x : Vec Ideal S256x512 .f32) (r : Fin 8) (w : Fin 4) (a : Fin 32) (b : Fin 128) :
    m.view.readCov [⟨Rect.unit ![0, 0] S256x512.size inb_S256x512_S256x512_0_0, x⟩]
       (Rect.unit (s := S256x512) ![32 * r.val, 128 * w.val] S32x128.size (inb84 r w)).toLoadRect (ix2 a b) = x (ix2 (row r a) (col w b)) :=
  (readAt_at m.view _ (inb84 r w) (ix2 a b) (ix2 (row r a) (col w b)) fun x => by fin_cases x <;> rfl).trans
    (congrFun (View.read_writes_full m.view _ inb_S256x512_S256x512_0_0 x []) _)

theorem xw_apply (S ks qr lo lane sl q k0) (a : Fin 32) (b : Fin 128) : xw S ks qr lo lane sl q k0 (ix2 a b)
    = cell (S (ix2 a b)) (ks (ix4 0 0 0 b)) (qr (ix2 a b)) (lo (ix2 a b)) sl (q + BitVec.ofNat 32 a.val) (k0 + lane (ix2 0 b)) := by
  unfold xw
  pointwise
  rfl

theorem scores_apply (q kt) (a : Fin 256) (b : Fin 512) : scoresV q kt (ix2 a b) = ∑ x : Fin 128, q (ix2 a x) * kt (ix4 0 0 x b) := by
  unfold scoresV
  pointwise

theorem word_i (v3 : BitVec 32) (r : Fin 8) (a : Fin 32) : v3 + BitVec.ofNat 32 (32 * (r.val % 4)) + BitVec.ofNat 32 a.val = iw v3 (row r a) := by
  have ha := a.isLt
  have hr := r.isLt
  unfold iw
  rw [BitVec.add_assoc, ← BitVec.ofNat_add]
  congr 2
  show _ = (32 * r.val + a.val) % 128
  omega

theorem small (g : P.Good) (k : Fin (k0_t1_loop P.i P.v2).trips) : 512 * k.val ≤ 128 * (P.i 3).val + 127 ∧ k.val < 64 ∧ (P.i 3).val < 256 := by
  have ht := tile_lt P.i
  have hk := trip_lt g.hb k
  have hn := nChunks_le P.i P.v2
  omega

theorem word_j (g : P.Good) (k : Fin (k0_t1_loop P.i P.v2).trips) (w : Fin 4) (b : Fin 128) :
    k0w P.v3 k.val + BitVec.ofNat 32 (128 * w.val) + P.v9 (ix2 0 b) = jw (pp P.v3 k.val (col w b)) := by
  obtain ⟨h1, h2, h4⟩ := small g k
  have hw := w.isLt
  have hb := b.isLt
  have hv := iv_word g.hb k
  rw [g.h9]
  apply BitVec.eq_of_toNat_eq
  unfold k0w jw pp col
  simp only [BitVec.toNat_add, BitVec.toNat_sub, BitVec.toNat_mul, BitVec.toNat_ofNat, hv, g.h3]
  omega

theorem pos_lt (g : P.Good) (k : Fin (k0_t1_loop P.i P.v2).trips) (b : Fin 512) : pp P.v3 k.val b < 33280 := by
  obtain ⟨h1, h2, h4⟩ := small g k
  have hb := b.isLt
  unfold pp
  rw [g.h3]
  omega

theorem fin33_val (g : P.Good) (k : Fin (k0_t1_loop P.i P.v2).trips) (b : Fin 512) : (fin33 (pp P.v3 k.val b)).val = pp P.v3 k.val b :=
  Nat.mod_eq_of_lt (pos_lt g k b)

variable (P)

/-- The arrays the logits are computed from, and the logit of row `x` (in lane `b`) with the key at padded position `p`. -/
def logitOf (sl : Fin 256 → EReal) (x : Fin 256) (b : Fin 128) (p : ℕ) : EReal :=
  cell (∑ l : Fin 128, (P.a16.view.read (Elt Ideal) P.x16 (ix2 x l) : EReal) * (P.a8.view.read (Elt Ideal) P.x8 (ix4 0 0 l (fin33 p)) : EReal)) (P.a10.view.read (Elt Ideal) P.x10 (ix4 0 0 0 (fin33 p)))
    (P.a17.view.read (Elt Ideal) P.x17 (ix2 x b)) (P.a18.view.read (Elt Ideal) P.x18 (ix2 x b)) (sl x) (iw P.v3 x) (jw p)

variable {P}

theorem t1s_apply (g : P.Good) (k : Fin (k0_t1_loop P.i P.v2).trips) (x : Fin 256) (b : Fin 512) :
    t1s P k (ix2 x b) = ∑ l : Fin 128, (P.a16.view.read (Elt Ideal) P.x16 (ix2 x l) : EReal) * (P.a8.view.read (Elt Ideal) P.x8 (ix4 0 0 l (fin33 (pp P.v3 k.val b))) : EReal) := by
  unfold t1s
  rw [scores_apply, full256]
  refine Finset.sum_congr rfl fun l _ => congrArg _ ?_
  refine readAt_at P.a8.view P.x8 _ (ix4 0 0 l b) _ fun a => ?_
  fin_cases a
  · rfl
  · rfl
  · exact (Nat.zero_add _).symm
  · refine (fin33_val g k b).trans ?_
    rw [pp, g.h3]
    exact congrArg (· + b.val) (pos_word g.hb k).symm

theorem t3s_apply (g : P.Good) (k : Fin (k0_t3_loop P.i P.v2).trips) (x : Fin 256) (b : Fin 512) :
    t3s P k (ix2 x b) = ∑ l : Fin 128, (P.a16.view.read (Elt Ideal) P.x16 (ix2 x l) : EReal) * (P.a8.view.read (Elt Ideal) P.x8 (ix4 0 0 l (fin33 (pp P.v3 k.val b))) : EReal) := by
  unfold t3s
  rw [scores_apply, full256]
  refine Finset.sum_congr rfl fun l _ => congrArg _ ?_
  refine readAt_at P.a8.view P.x8 _ (ix4 0 0 l b) _ fun a => ?_
  fin_cases a
  · rfl
  · rfl
  · exact (Nat.zero_add _).symm
  · refine (fin33_val g k b).trans ?_
    rw [pp, g.h3]
    exact congrArg (· + b.val) (pos_word g.hb k).symm

theorem pos_scale (g : P.Good) (k : Fin (k0_t1_loop P.i P.v2).trips) (w : Fin 4) (b : Fin 128) : (fin33 (pp P.v3 k.val (col w b))).val
    = (k0_off3 P.i P.v2 k (BitVec.ofNat 32 (128 * w.val))) 3 + b.val := by
  obtain ⟨h1, h2, h4⟩ := small g k
  have hw := w.isLt
  have hp := pos_word g.hb k
  rw [fin33_val g]
  show _ = (Scalar.addi (Scalar.addi (Scalar.subi (Scalar.addi (Scalar.muli (BitVec.ofNat 32 (P.i 3).val) 128#32) 128#32)
      (Scalar.muli 512#32 (Scalar.addi (Scf.iv 0#32 1#32 k.val) 1#32))) 512#32) (BitVec.ofNat 32 (128 * w.val))).toNat + b.val
  rw [show ∀ a b : BitVec 32, Scalar.addi a b = a + b from fun _ _ => rfl, BitVec.toNat_add, hp, BitVec.toNat_ofNat, pp, g.h3]
  show _ + (128 * w.val + b.val) = _
  omega

theorem t1x_apply (g : P.Good) (k : Fin (k0_t1_loop P.i P.v2).trips) (r : Fin 8) (w : Fin 4) (a : Fin 32) (b : Fin 128) :
    t1x P k r w (ix2 a b) = logitOf P (fun x => if x.val < 128 then P.v57 else slopeV P.v61) (row r a) b (pp P.v3 k.val (col w b)) := by
  unfold t1x logitOf
  rw [xw_apply, word_i, word_j g, strip_apply, strip_apply, cov512, t1s_apply g]
  congr 1
  · refine readAt_at P.a10.view P.x10 _ (ix4 0 0 0 b) _ fun a => ?_
    fin_cases a
    · rfl
    · rfl
    · rfl
    · exact pos_scale g k w b
  · have hr := r.isLt
    have ha := a.isLt
    show _ = if 32 * r.val + a.val < 128 then _ else _
    by_cases h : r.val < 4
    · rw [if_pos h, if_pos (by omega)]
    · rw [if_neg h, if_neg (by omega)]

theorem exp2_sub_apply (A B : FVec Ideal S32x128 .f32) (i) : exp2 (subf A B) i = Scalar.exp2 (F := Ideal) (φ := .f32) ((A i : EReal) - B i : EReal) := rfl

theorem mul_scale_apply (A : FVec Ideal S32x128 .f32) (B : FVec Ideal S1x1x1x128 .f32) (h h') (a : Fin 32) (b : Fin 128) :
    mulf A (broadcastTo S32x128 (shapeCast S1x128 B h) h') (ix2 a b) = (A (ix2 a b) : EReal) * B (ix4 0 0 0 b) := by
  pointwise

/-- The exponential of row `x` (in lane `b`) with the key at padded position `p`. -/
def expOf (P : Ctx) (x : Fin 256) (b : Fin 128) (p : ℕ) : EReal :=
  Scalar.exp2 (F := Ideal) (φ := .f32) (logitOf P (fun x => if x.val < 128 then P.v57 else P.v95) x b p - P.a19.view.read (Elt Ideal) P.x19 (ix2 x b))

theorem t3e_apply (g : P.Good) (k : Fin (k0_t3_loop P.i P.v2).trips) (r : Fin 8) (w : Fin 4) (a : Fin 32) (b : Fin 128) :
    t3e P k r w (ix2 a b) = expOf P (row r a) b (pp P.v3 k.val (col w b)) := by
  unfold t3e expOf logitOf
  rw [exp2_sub_apply, xw_apply, word_i, word_j (k := k) g, strip_apply, strip_apply, strip_apply, cov512, t3s_apply g]
  congr 3
  · refine readAt_at P.a10.view P.x10 _ (ix4 0 0 0 b) _ fun a => ?_
    fin_cases a
    · rfl
    · rfl
    · rfl
    · exact pos_scale (k := k) g w b
  · have hr := r.isLt
    have ha := a.isLt
    show _ = if 32 * r.val + a.val < 128 then _ else _
    by_cases h : r.val < 4
    · rw [if_pos h, if_pos (by omega)]
    · rw [if_neg h, if_neg (by omega)]

theorem t3v_apply (g : P.Good) (k : Fin (k0_t3_loop P.i P.v2).trips) (r : Fin 8) (w : Fin 4) (a : Fin 32) (b : Fin 128) :
    t3v P k r w (ix2 a b) = expOf P (row r a) b (pp P.v3 k.val (col w b)) * (P.a11.view.read (Elt Ideal) P.x11 (ix4 0 0 0 (fin33 (pp P.v3 k.val (col w b))))) := by
  unfold t3v
  rw [mul_scale_apply, t3e_apply g]
  congr 1
  refine readAt_at P.a11.view P.x11 _ (ix4 0 0 0 b) _ fun a => ?_
  fin_cases a
  · rfl
  · rfl
  · rfl
  · exact pos_scale (k := k) g w b

theorem t1m_apply (g : P.Good) (k : Fin (k0_t1_loop P.i P.v2).trips) (f19) (r : Fin 8) (a : Fin 32) (b : Fin 128) (u : EReal) :
    (t1m P k f19 r (ix2 a b) : EReal) ≤ u ↔ (P.a19.view.read (Elt Ideal) f19 (ix2 (row r a) b) : EReal) ≤ u
      ∧ ∀ w : Fin 4, logitOf P (fun x => if x.val < 128 then P.v57 else slopeV P.v61) (row r a) b (pp P.v3 k.val (col w b)) ≤ u := by
  have h : (t1m P k f19 r (ix2 a b) : EReal) = max (max (max (max (strip P.a19 f19 r (ix2 a b)) (t1x P k r 0 (ix2 a b))) (t1x P k r 1 (ix2 a b))) (t1x P k r 2 (ix2 a b))) (t1x P k r 3 (ix2 a b)) := by
    unfold t1m
    pointwise
  rw [h, strip_apply, t1x_apply g, t1x_apply g, t1x_apply g, t1x_apply g]
  simp only [max_le_iff, Fin.forall_fin_succ, and_assoc, IsEmpty.forall_iff, and_true]
  rfl

/-- The maxima after `n` trips of the max pass. -/
theorem lp1_max (g : P.Good) (f14 f19) (n : ℕ) (hn : n ≤ (k0_t1_loop P.i P.v2).trips) (x : Fin 256) (b : Fin 128) (u : EReal) :
    (P.a19.view.read (Elt Ideal) (P.a19.view.writes (Elt Ideal) f19 (lp1 P f14 f19 n).2) (ix2 x b) : EReal) ≤ u
    ↔ (P.a19.view.read (Elt Ideal) f19 (ix2 x b) : EReal) ≤ u
      ∧ ∀ k < n, ∀ w : Fin 4, logitOf P (fun x => if x.val < 128 then P.v57 else slopeV P.v61) x b (pp P.v3 k (col w b)) ≤ u := by
  induction n with
  | zero =>
    refine ⟨fun h => ⟨h, fun k hk => absurd hk (Nat.not_lt_zero k)⟩, fun h => h.1⟩
  | succ n ih =>
    have e := lp1_succ P f14 f19 ⟨n, hn⟩
    have e' : (lp1 P f14 f19 (n + 1)).2 = strips8 (t1m P ⟨n, hn⟩ (P.a19.view.writes (Elt Ideal) f19 (lp1 P f14 f19 n).2)) ++ (lp1 P f14 f19 n).2 := e
    rw [e', ← row_split x, read_strips8, t1m_apply g, row_split, ih (by omega)]
    constructor
    · rintro ⟨⟨h1, h2⟩, h3⟩
      refine ⟨h1, fun k hk => ?_⟩
      rcases Nat.lt_succ_iff_lt_or_eq.mp hk with h | rfl
      · exact h2 k h
      · exact h3
    · rintro ⟨h1, h2⟩
      exact ⟨⟨h1, fun k hk => h2 k (by omega)⟩, h2 n (by omega)⟩

theorem t3m_apply (g : P.Good) (k : Fin (k0_t3_loop P.i P.v2).trips) (f21) (r : Fin 8) (a : Fin 32) (b : Fin 128) (u : EReal) :
    (t3m P k f21 r (ix2 a b) : EReal) ≤ u ↔ (P.a21.view.read (Elt Ideal) f21 (ix2 (row r a) b) : EReal) ≤ u
      ∧ ∀ w : Fin 4, expOf P (row r a) b (pp P.v3 k.val (col w b)) * (P.a11.view.read (Elt Ideal) P.x11 (ix4 0 0 0 (fin33 (pp P.v3 k.val (col w b))))) ≤ u := by
  have h : (t3m P k f21 r (ix2 a b) : EReal) = max (max (max (max (strip P.a21 f21 r (ix2 a b)) (t3v P k r 0 (ix2 a b))) (t3v P k r 1 (ix2 a b))) (t3v P k r 2 (ix2 a b))) (t3v P k r 3 (ix2 a b)) := by
    unfold t3m
    pointwise
  rw [h, strip_apply, t3v_apply g, t3v_apply g, t3v_apply g, t3v_apply g]
  simp only [max_le_iff, Fin.forall_fin_succ, and_assoc, IsEmpty.forall_iff, and_true]
  rfl

theorem t3l_apply (g : P.Good) (k : Fin (k0_t3_loop P.i P.v2).trips) (f20) (r : Fin 8) (a : Fin 32) (b : Fin 128) :
    (t3l P k f20 r (ix2 a b) : EReal) = (P.a20.view.read (Elt Ideal) f20 (ix2 (row r a) b) : EReal)
      + ∑ w : Fin 4, expOf P (row r a) b (pp P.v3 k.val (col w b)) := by
  have h : (t3l P k f20 r (ix2 a b) : EReal) = (strip P.a20 f20 r (ix2 a b) : EReal) + t3e P k r 0 (ix2 a b) + t3e P k r 1 (ix2 a b) + t3e P k r 2 (ix2 a b) + t3e P k r 3 (ix2 a b) := by
    unfold t3l
    pointwise
  rw [h, strip_apply, t3e_apply g, t3e_apply g, t3e_apply g, t3e_apply g, Fin.sum_univ_four]
  simp only [add_assoc]

/-- The sums, the maxima and the kept exponentials after `n` trips of the exponential pass. -/
theorem lp3_sum (g : P.Good) (f13 f14 f20 f21) (n : ℕ) (hn : n ≤ (k0_t3_loop P.i P.v2).trips) (x : Fin 256) (b : Fin 128) :
    (P.a20.view.read (Elt Ideal) (P.a20.view.writes (Elt Ideal) f20 (lp3 P f13 f14 f20 f21 n).2.2.1) (ix2 x b) : EReal)
    = (P.a20.view.read (Elt Ideal) f20 (ix2 x b) : EReal) + ∑ k ∈ Finset.range n, ∑ w : Fin 4, expOf P x b (pp P.v3 k (col w b)) := by
  induction n with
  | zero =>
    rw [Finset.range_zero, Finset.sum_empty, add_zero]
    rfl
  | succ n ih =>
    have e' : (lp3 P f13 f14 f20 f21 (n + 1)).2.2.1 = strips8 (t3l P ⟨n, hn⟩ (P.a20.view.writes (Elt Ideal) f20 (lp3 P f13 f14 f20 f21 n).2.2.1)) ++ (lp3 P f13 f14 f20 f21 n).2.2.1 :=
      (lp3_succ P f13 f14 f20 f21 ⟨n, hn⟩).2.1
    rw [e', ← row_split x, read_strips8, t3l_apply g, row_split, ih (by omega), Finset.sum_range_succ, add_assoc]

theorem lp3_max (g : P.Good) (f13 f14 f20 f21) (n : ℕ) (hn : n ≤ (k0_t3_loop P.i P.v2).trips) (x : Fin 256) (b : Fin 128) (u : EReal) :
    (P.a21.view.read (Elt Ideal) (P.a21.view.writes (Elt Ideal) f21 (lp3 P f13 f14 f20 f21 n).2.2.2) (ix2 x b) : EReal) ≤ u
    ↔ (P.a21.view.read (Elt Ideal) f21 (ix2 x b) : EReal) ≤ u
      ∧ ∀ k < n, ∀ w : Fin 4, expOf P x b (pp P.v3 k (col w b)) * (P.a11.view.read (Elt Ideal) P.x11 (ix4 0 0 0 (fin33 (pp P.v3 k (col w b))))) ≤ u := by
  induction n with
  | zero =>
    refine ⟨fun h => ⟨h, fun k hk => absurd hk (Nat.not_lt_zero k)⟩, fun h => h.1⟩
  | succ n ih =>
    have e' : (lp3 P f13 f14 f20 f21 (n + 1)).2.2.2 = strips8 (t3m P ⟨n, hn⟩ (P.a21.view.writes (Elt Ideal) f21 (lp3 P f13 f14 f20 f21 n).2.2.2)) ++ (lp3 P f13 f14 f20 f21 n).2.2.2 :=
      (lp3_succ P f13 f14 f20 f21 ⟨n, hn⟩).2.2
    rw [e', ← row_split x, read_strips8, t3m_apply g, row_split, ih (by omega)]
    constructor
    · rintro ⟨⟨h1, h2⟩, h3⟩
      refine ⟨h1, fun k hk => ?_⟩
      rcases Nat.lt_succ_iff_lt_or_eq.mp hk with h | rfl
      · exact h2 k h
      · exact h3
    · rintro ⟨h1, h2⟩
      exact ⟨⟨h1, fun k hk => h2 k (by omega)⟩, h2 n (by omega)⟩

theorem cast1_apply (x : FVec Ideal S32x128 .f32) (h) (a : Fin 32) (b : Fin 128) : shapeCast S1x32x128 x h (ix3 0 a b) = x (ix2 a b) := by
  pointwise

theorem lp3_kept (g : P.Good) (f13 f14 f20 f21) (n : ℕ) (hn : n ≤ (k0_t3_loop P.i P.v2).trips) (k : Fin 64) (hk : k.val < n) (x : Fin 256) (c : Fin 512) :
    (P.a13.view.read (Elt Ideal) (P.a13.view.writes (Elt Ideal) f13 (lp3 P f13 f14 f20 f21 n).1) (ix3 k x c) : EReal)
    = expOf P x (colR c) (pp P.v3 k.val c) * (P.a11.view.read (Elt Ideal) P.x11 (ix4 0 0 0 (fin33 (pp P.v3 k.val c)))) := by
  induction n with
  | zero => exact absurd hk (Nat.not_lt_zero _)
  | succ n ih =>
    have e' : (lp3 P f13 f14 f20 f21 (n + 1)).1 = slots32 (Scf.iv 0#32 1#32 n).toNat (slot_lt3 P ⟨n, hn⟩) (fun r w => shapeCast S1x32x128 (t3v P ⟨n, hn⟩ r w) shapeCasts_S32x128_S1x32x128) ++ (lp3 P f13 f14 f20 f21 n).1 :=
      (lp3_succ P f13 f14 f20 f21 ⟨n, hn⟩).1
    have hv : (Scf.iv 0#32 1#32 n : BitVec 32).toNat = n := iv_word g.hb ⟨n, hn⟩
    rw [e']
    rcases Nat.lt_succ_iff_lt_or_eq.mp hk with h | h
    · rw [read_slots32_ne _ _ _ _ _ _ (by rw [hv]; omega), ih (by omega) h]
    · have hke : k = ⟨(Scf.iv 0#32 1#32 n : BitVec 32).toNat, slot_lt3 P ⟨n, hn⟩⟩ := Fin.ext (h.trans hv.symm)
      rw [show (ix3 k x c) = ix3 ⟨(Scf.iv 0#32 1#32 n : BitVec 32).toNat, slot_lt3 P ⟨n, hn⟩⟩ (row (rowS x) (rowR x)) (col (colS c) (colR c)) by
        rw [row_split, col_split, ← hke], read_slots32, cast1_apply, t3v_apply g, row_split, col_split, h]

/-- The clipped code of the kept value of row `x` and key `c` of chunk `k`. -/
def codeOf (P : Ctx) (k : Fin 64) (x : Fin 256) (c : Fin 512) : EReal :=
  min (Ideal.ofBits .f32 0x43E00000#32) (max (Ideal.ofBits .f32 0xC3E00000#32)
    ((P.a13.view.read (Elt Ideal) P.x13 (ix3 k x c) : EReal) * P.a22.view.read (Elt Ideal) P.x22 (ix2 x (colR c))))

def fin64 (k : ℕ) : Fin 64 := ⟨k % 64, Nat.mod_lt _ (by norm_num)⟩

theorem code_apply (A : FVec Ideal S1x32x128 .f32) (B : FVec Ideal S32x128 .f32) (h h') (a : Fin 32) (b : Fin 128) :
    (shapeCast S32x128 (truncf .fp8e4m3 (minimumf (broadcast S32x128 (Scalar.ofBits .f32 0x43E00000#32)) (maximumf (broadcast S32x128 (Scalar.ofBits .f32 0xC3E00000#32))
    (mulf (shapeCast S32x128 A h) B))) (by decide) : FVec Ideal S32x128 .fp8e4m3) h' (ix2 a b) : EReal)
      = min (Ideal.ofBits .f32 0x43E00000#32) (max (Ideal.ofBits .f32 0xC3E00000#32) ((A (ix3 0 a b) : EReal) * B (ix2 a b))) := by
  pointwise

theorem t5p_apply (g : P.Good) (k : Fin (k0_t5_loop P.i P.v2).trips) (r : Fin 8) (w : Fin 4) (a : Fin 32) (b : Fin 128) :
    (t5p P k r w (ix2 a b) : EReal) = codeOf P (fin64 k.val) (row r a) (col w b) := by
  unfold t5p codeOf
  rw [code_apply, colR_col]
  have hv : (Scf.iv 0#32 1#32 k.val : BitVec 32).toNat = k.val := iv_word (k := k) g.hb
  have hk := (small (k := k) g).2.1
  congr 3
  · refine readAt_at P.a13.view P.x13 _ (ix3 0 a b) _ fun a => ?_
    fin_cases a
    · show k.val % 64 = _ + 0
      rw [hv, Nat.mod_eq_of_lt hk]; rfl
    · rfl
    · rfl
  · exact strip_apply P.a22 P.x22 r a b

theorem acc_apply (A : FVec Ideal S256x128 .f32) (p : FVec Ideal S256x512 .fp8e4m3) (v : FVec Ideal S1x1x512x128 .fp8e4m3) (h h') (x : Fin 256) (d : Fin 128) :
    (shapeCast S256x128 (addf A (matmul (φ₁ := .fp8e4m3) (φ₂ := .fp8e4m3) dot_S256x512_S512x128_S256x128_1_0_0_1_n_n none p
      (shapeCast S512x128 v h : FVec Ideal S512x128 .fp8e4m3) (constant S256x128 .f32 (0#32 : BitVec (FTy.bits .f32)))) : FVec Ideal S256x128 .f32) h' (ix2 x d) : EReal)
      = (A (ix2 x d) : EReal) + ∑ c : Fin 512, (p (ix2 x c) : EReal) * v (ix4 0 0 c d) := by
  pointwise

theorem t5a_apply (g : P.Good) (k : Fin (k0_t5_loop P.i P.v2).trips) (f23) (x : Fin 256) (d : Fin 128) :
    (t5a P k f23 (ix2 x d) : EReal) = (P.a23.view.read (Elt Ideal) f23 (ix2 x d) : EReal)
      + ∑ c : Fin 512, codeOf P (fin64 k.val) x c * (P.a9.view.read (Elt Ideal) P.x9 (ix4 0 0 (fin33 (pp P.v3 k.val c)) d) : EReal) := by
  unfold t5a
  rw [acc_apply, full256]
  congr 1
  refine Finset.sum_congr rfl fun c _ => ?_
  congr 1
  · refine Eq.trans ?_ ((t5p_apply g k (rowS x) (colS c) (rowR x) (colR c)).trans (by rw [row_split, col_split]))
    rw [← read_tiles32 P.a15.view P.a15.view.junk (t5p P k), row_split, col_split]
    exact readAt_at P.a15.view _ _ (ix2 x c) _ fun a => by fin_cases a <;> exact (Nat.zero_add _).symm
  · refine readAt_at P.a9.view P.x9 _ (ix4 0 0 c d) _ fun a => ?_
    fin_cases a
    · rfl
    · rfl
    · refine (fin33_val (k := k) g c).trans ?_
      rw [pp, g.h3]
      exact congrArg (· + c.val) (pos_word (k := k) g.hb).symm
    · exact (Nat.zero_add _).symm

/-- The accumulator after `n` trips of the value pass. -/
theorem lp5_acc (g : P.Good) (f15 f23) (n : ℕ) (hn : n ≤ (k0_t5_loop P.i P.v2).trips) (x : Fin 256) (d : Fin 128) :
    (P.a23.view.read (Elt Ideal) (P.a23.view.writes (Elt Ideal) f23 (lp5 P f15 f23 n).2) (ix2 x d) : EReal)
    = (P.a23.view.read (Elt Ideal) f23 (ix2 x d) : EReal)
      + ∑ k ∈ Finset.range n, ∑ c : Fin 512, codeOf P (fin64 k) x c * (P.a9.view.read (Elt Ideal) P.x9 (ix4 0 0 (fin33 (pp P.v3 k c)) d) : EReal) := by
  induction n with
  | zero =>
    rw [Finset.range_zero, Finset.sum_empty, add_zero]
    rfl
  | succ n ih =>
    have e' : (lp5 P f15 f23 (n + 1)).2 = [⟨Rect.unit ![0, 0] S256x128.size inb_S256x128_S256x128_0_0, t5a P ⟨n, hn⟩ (P.a23.view.writes (Elt Ideal) f23 (lp5 P f15 f23 n).2)⟩] ++ (lp5 P f15 f23 n).2 :=
      lp5_succ P f15 f23 ⟨n, hn⟩
    rw [e', List.singleton_append, View.read_writes_full, t5a_apply g, ih (by omega), Finset.sum_range_succ, add_assoc]

end Cert.KernelIdeal
-- ==== Proof.Whole.lean ====
/-
  The whole body at one grid point: what it leaves in the output block, as the three passes and the
  vector operations between them.
-/
module

public import proofs.«01_k».proof.Proof.Passes

@[expose] public section
set_option maxRecDepth 16384
set_option maxHeartbeats 400000
noncomputable section
namespace Cert.KernelIdeal
open Gen
open Idealize.ShloMosaic Idealize.ShloMosaic.TcCoe Idealize.ShloMosaic.Tactic

/-- One grid point: its buffers and what they hold when the body starts. -/
structure Buf where
  c : Dev nD
  i : grid0.Coords
  a4 : Memref sig .tc .smem S2x256 .i32
  h4 : a4.IsWhole
  a5 : Memref sig .tc .vmem S1x128x128 .fp8e4m3
  h5 : a5.IsWhole
  a6 : Memref sig .tc .vmem S1x128x16 .f32
  h6 : a6.IsWhole
  a7 : Memref sig .tc .vmem S1x128x1 .i32
  h7 : a7.IsWhole
  a8 : Memref sig .tc .vmem S1x1x128x33280 .fp8e4m3
  h8 : a8.IsWhole
  a9 : Memref sig .tc .vmem S1x1x33280x128 .fp8e4m3
  h9 : a9.IsWhole
  a10 : Memref sig .tc .vmem S1x1x1x33280 .f32
  h10 : a10.IsWhole
  a11 : Memref sig .tc .vmem S1x1x1x33280 .f32
  h11 : a11.IsWhole
  a12 : Memref sig .tc .vmem S1x128x128 .bf16
  h12 : a12.IsWhole
  a13 : Memref sig .tc .vmem S64x256x512 .f32
  h13 : a13.IsWhole
  a14 : Memref sig .tc .vmem S256x512 .f32
  h14 : a14.IsWhole
  a15 : Memref sig .tc .vmem S256x512 .fp8e4m3
  h15 : a15.IsWhole
  a16 : Memref sig .tc .vmem S256x128 .fp8e4m3
  h16 : a16.IsWhole
  a17 : Memref sig .tc .vmem S256x128 .f32
  h17 : a17.IsWhole
  a18 : Memref sig .tc .vmem S256x128 .i32
  h18 : a18.IsWhole
  a19 : Memref sig .tc .vmem S256x128 .f32
  h19 : a19.IsWhole
  a20 : Memref sig .tc .vmem S256x128 .f32
  h20 : a20.IsWhole
  a21 : Memref sig .tc .vmem S256x128 .f32
  h21 : a21.IsWhole
  a22 : Memref sig .tc .vmem S256x128 .f32
  h22 : a22.IsWhole
  a23 : Memref sig .tc .vmem S256x128 .f32
  h23 : a23.IsWhole
  x4 : BufTy.Contents (Elt Ideal) a4.view.ty
  x5 : BufTy.Contents (Elt Ideal) a5.view.ty
  x6 : BufTy.Contents (Elt Ideal) a6.view.ty
  x7 : BufTy.Contents (Elt Ideal) a7.view.ty
  x8 : BufTy.Contents (Elt Ideal) a8.view.ty
  x9 : BufTy.Contents (Elt Ideal) a9.view.ty
  x10 : BufTy.Contents (Elt Ideal) a10.view.ty
  x11 : BufTy.Contents (Elt Ideal) a11.view.ty
  hw : k0_chk1 i (tableWord (F := Ideal) i a4 x4)
  f12 : BufTy.Contents (Elt Ideal) a12.view.ty
  f13 : BufTy.Contents (Elt Ideal) a13.view.ty
  f14 : BufTy.Contents (Elt Ideal) a14.view.ty
  f15 : BufTy.Contents (Elt Ideal) a15.view.ty
  f16 : BufTy.Contents (Elt Ideal) a16.view.ty
  f17 : BufTy.Contents (Elt Ideal) a17.view.ty
  f18 : BufTy.Contents (Elt Ideal) a18.view.ty
  f19 : BufTy.Contents (Elt Ideal) a19.view.ty
  f20 : BufTy.Contents (Elt Ideal) a20.view.ty
  f21 : BufTy.Contents (Elt Ideal) a21.view.ty
  f22 : BufTy.Contents (Elt Ideal) a22.view.ty
  f23 : BufTy.Contents (Elt Ideal) a23.view.ty

theorem strip_miss {e : EltTy} (m : Memref sig .tc .vmem S256x128 e) (r r' : Fin 8) (h : r ≠ r') (w : Vec Ideal S32x128 e)
    (L : List (View.Piece (Elt Ideal) S256x128 e)) :
    m.view.readCov ((⟨Rect.unit ![32 * r'.val, 0] S32x128.size (inb8 r'), w⟩ : View.Piece (Elt Ideal) S256x128 e) :: L) (Rect.unit (s := S256x128) ![32 * r.val, 0] S32x128.size (inb8 r)).toLoadRect
      = m.view.readCov L (Rect.unit (s := S256x128) ![32 * r.val, 0] S32x128.size (inb8 r)).toLoadRect := by
  funext x
  have hne : r.val ≠ r'.val := fun e => h (Fin.ext e)
  have hx : (x 0).val < 32 := (x 0).isLt
  exact View.read_writes_cons_unit_of_not_mem m.view m.view.junk (inb8 r') w L _ rfl 0 (by
    show 32 * r.val + 1 * (x 0).val < 32 * r'.val ∨ 32 * r'.val + 32 ≤ 32 * r.val + 1 * (x 0).val
    omega)

variable (B : Buf)

/-- What the body has when it enters the max pass. -/
def cx1 : Ctx where
  c := B.c
  i := B.i
  hw := B.hw
  v2 := tableWord (F := Ideal) B.i B.a4 B.x4
  a4 := B.a4
  h4 := B.h4
  a5 := B.a5
  h5 := B.h5
  a6 := B.a6
  h6 := B.h6
  a7 := B.a7
  h7 := B.h7
  a8 := B.a8
  h8 := B.h8
  a9 := B.a9
  h9 := B.h9
  a10 := B.a10
  h10 := B.h10
  a11 := B.a11
  h11 := B.h11
  a12 := B.a12
  h12 := B.h12
  a13 := B.a13
  h13 := B.h13
  a14 := B.a14
  h14 := B.h14
  a15 := B.a15
  h15 := B.h15
  a16 := B.a16
  h16 := B.h16
  a17 := B.a17
  h17 := B.h17
  a18 := B.a18
  h18 := B.h18
  a19 := B.a19
  h19 := B.h19
  a20 := B.a20
  h20 := B.h20
  a21 := B.a21
  h21 := B.h21
  a22 := B.a22
  h22 := B.h22
  a23 := B.a23
  h23 := B.h23
  v3 := (bodyRun.sl.v3 B.i)
  v8 := (bodyRun.sl.v8 (F := Ideal) B.i B.a4 B.x4)
  v9 := (bodyRun.sl.v9)
  v16 := (bodyRun.sl.r_2 (F := Ideal) B.a7 B.x7)
  v18 := (bodyRun.sl.r_3 (F := Ideal) B.a6 B.x6)
  v19 := (bodyRun.sl.v19)
  v57 := (bodyRun.sl.r_5 (F := Ideal) B.i)
  v61 := (bodyRun.sl.v61 B.i)
  v71 := (bodyRun.sl.r_6 (F := Ideal) B.a5 B.x5)
  v95 := (bodyRun.sl.r_7 (F := Ideal) B.i)
  v173 := k0_pay668 (F := Ideal)
  x8 := B.x8
  x10 := B.x10
  x11 := B.x11
  x9 := B.x9
  x16 := B.a16.view.writes (Elt Ideal) B.a16.view.junk ((bodyRun.sl.H_arg16_2 (F := Ideal) B.a5 B.x5))
  x17 := B.a17.view.writes (Elt Ideal) B.a17.view.junk ((bodyRun.sl.H_arg17_2 (F := Ideal) B.i B.a6 B.x6))
  x18 := B.a18.view.writes (Elt Ideal) B.a18.view.junk ((bodyRun.sl.H_arg18_2 (F := Ideal) B.a7 B.x7))
  x19 := B.a19.view.junk
  x13 := B.a13.view.junk
  x22 := B.a22.view.junk
  v522 := fun _ => (0 : EReal)
  v528 := fun _ => (0 : EReal)
  v539 := fun _ => (0 : EReal)

/-- The stores to the maxima's buffer up to the end of the max pass. -/
def L19 : List (View.Piece (Elt Ideal) S256x128 .f32) :=
  (lp1 (cx1 B) B.f14 (B.a19.view.writes (Elt Ideal) B.a19.view.junk ([⟨Rect.unit ![0, 0] S256x128.size inb_S256x128_S256x128_0_0, (k0_pay655 (F := Ideal))⟩])) (k0_t1_loop B.i (tableWord (F := Ideal) B.i B.a4 B.x4)).trips).2 ++ [⟨Rect.unit ![0, 0] S256x128.size inb_S256x128_S256x128_0_0, (k0_pay655 (F := Ideal))⟩]

/-- Strip `r` of the running maxima. -/
def sc (r : Fin 8) : Vec Ideal S32x128 .f32 := B.a19.view.readCov (L19 B) (Rect.unit (s := S256x128) ![32 * r.val, 0] S32x128.size (inb8 r)).toLoadRect

def L19' : List (View.Piece (Elt Ideal) S256x128 .f32) := strips8 (fun r => k0_pay658 (sc B r)) ++ L19 B

/-- What the body has when it enters the exponential pass. -/
def cx3g (L : List (View.Piece (Elt Ideal) S256x128 .f32)) : Ctx where
  c := B.c
  i := B.i
  hw := B.hw
  v2 := tableWord (F := Ideal) B.i B.a4 B.x4
  a4 := B.a4
  h4 := B.h4
  a5 := B.a5
  h5 := B.h5
  a6 := B.a6
  h6 := B.h6
  a7 := B.a7
  h7 := B.h7
  a8 := B.a8
  h8 := B.h8
  a9 := B.a9
  h9 := B.h9
  a10 := B.a10
  h10 := B.h10
  a11 := B.a11
  h11 := B.h11
  a12 := B.a12
  h12 := B.h12
  a13 := B.a13
  h13 := B.h13
  a14 := B.a14
  h14 := B.h14
  a15 := B.a15
  h15 := B.h15
  a16 := B.a16
  h16 := B.h16
  a17 := B.a17
  h17 := B.h17
  a18 := B.a18
  h18 := B.h18
  a19 := B.a19
  h19 := B.h19
  a20 := B.a20
  h20 := B.h20
  a21 := B.a21
  h21 := B.h21
  a22 := B.a22
  h22 := B.h22
  a23 := B.a23
  h23 := B.h23
  v3 := (bodyRun.sl.v3 B.i)
  v8 := (bodyRun.sl.v8 (F := Ideal) B.i B.a4 B.x4)
  v9 := (bodyRun.sl.v9)
  v16 := (bodyRun.sl.r_2 (F := Ideal) B.a7 B.x7)
  v18 := (bodyRun.sl.r_3 (F := Ideal) B.a6 B.x6)
  v19 := (bodyRun.sl.v19)
  v57 := (bodyRun.sl.r_5 (F := Ideal) B.i)
  v61 := (bodyRun.sl.v61 B.i)
  v71 := (bodyRun.sl.r_6 (F := Ideal) B.a5 B.x5)
  v95 := (bodyRun.sl.r_7 (F := Ideal) B.i)
  v173 := k0_pay668 (F := Ideal)
  x8 := B.x8
  x10 := B.x10
  x11 := B.x11
  x9 := B.x9
  x16 := B.a16.view.writes (Elt Ideal) B.a16.view.junk ((bodyRun.sl.H_arg16_2 (F := Ideal) B.a5 B.x5))
  x17 := B.a17.view.writes (Elt Ideal) B.a17.view.junk ((bodyRun.sl.H_arg17_2 (F := Ideal) B.i B.a6 B.x6))
  x18 := B.a18.view.writes (Elt Ideal) B.a18.view.junk ((bodyRun.sl.H_arg18_2 (F := Ideal) B.a7 B.x7))
  x19 := B.a19.view.writes (Elt Ideal) B.a19.view.junk (L)
  x13 := B.a13.view.junk
  x22 := B.a22.view.junk
  v522 := fun _ => (0 : EReal)
  v528 := fun _ => (0 : EReal)
  v539 := fun _ => (0 : EReal)
abbrev cx3 := cx3g B (L19' B)

def F14 : BufTy.Contents (Elt Ideal) B.a14.view.ty := B.a14.view.writes (Elt Ideal) B.f14 (lp1 (cx1 B) B.f14 (B.a19.view.writes (Elt Ideal) B.a19.view.junk ([⟨Rect.unit ![0, 0] S256x128.size inb_S256x128_S256x128_0_0, (k0_pay655 (F := Ideal))⟩])) (k0_t1_loop B.i (tableWord (F := Ideal) B.i B.a4 B.x4)).trips).1

abbrev H20 : List (View.Piece (Elt Ideal) S256x128 .f32) := [⟨Rect.unit ![0, 0] S256x128.size inb_S256x128_S256x128_0_0, (k0_pay667 (F := Ideal))⟩]
abbrev H21 : List (View.Piece (Elt Ideal) S256x128 .f32) := [⟨Rect.unit ![0, 0] S256x128.size inb_S256x128_S256x128_0_0, (k0_pay669 (k0_pay668 (F := Ideal)))⟩]
abbrev H23 : List (View.Piece (Elt Ideal) S256x128 .f32) := [⟨Rect.unit ![0, 0] S256x128.size inb_S256x128_S256x128_0_0, (k0_pay719 (F := Ideal))⟩]

/-- The stores of the exponential pass. -/
abbrev pass3 := lp3 (cx3 B) B.f13 (F14 B) (B.a20.view.writes (Elt Ideal) B.a20.view.junk (H20)) (B.a21.view.writes (Elt Ideal) B.a21.view.junk (H21)) (k0_t3_loop B.i (tableWord (F := Ideal) B.i B.a4 B.x4)).trips

/-- Strip `r` of the running sums and of the maxima of the weighted exponentials. -/
def sl (r : Fin 8) : Vec Ideal S32x128 .f32 := B.a20.view.readCov ((pass3 B).2.2.1 ++ H20) (Rect.unit (s := S256x128) ![32 * r.val, 0] S32x128.size (inb8 r)).toLoadRect
def sm (r : Fin 8) : Vec Ideal S32x128 .f32 := B.a21.view.readCov ((pass3 B).2.2.2 ++ H21) (Rect.unit (s := S256x128) ![32 * r.val, 0] S32x128.size (inb8 r)).toLoadRect

/-- The factor and the scale of a strip, from its sums and maxima. -/
def fV (l m : Vec Ideal S32x128 .f32) : FVec Ideal S32x128 .f32 := k0_pay678 (k0_pay674 l) (k0_pay675 l m) (k0_pay676 l m) (Scalar.ofBits .f32 0x00000000#32)
def cV (l m : Vec Ideal S32x128 .f32) : FVec Ideal S32x128 .f32 := k0_pay679 (k0_pay675 l m) (k0_pay676 l m) (Scalar.ofBits .f32 0x00000000#32)

/-- What the body has when it enters the value pass. -/
def cx5 : Ctx := { cx3 B with
  x13 := B.a13.view.writes (Elt Ideal) B.f13 (pass3 B).1
  x22 := B.a22.view.writes (Elt Ideal) B.a22.view.junk (strips8 (fun r => fV (sl B r) (sm B r)))
  v522 := k0_pay713 (sl B 7)
  v528 := k0_pay714 (sl B 7) (sm B 7)
  v539 := k0_pay715 (sl B 7) (sm B 7) }

/-- The accumulator and the scales the body ends with. -/
def accW : Vec Ideal S256x128 .f32 := B.a23.view.readCov ((lp5 (cx5 B) B.f15 (B.a23.view.writes (Elt Ideal) B.a23.view.junk (H23)) (k0_t5_loop B.i (tableWord (F := Ideal) B.i B.a4 B.x4)).trips).2 ++ H23) (Rect.unit ![0, 0] S256x128.size inb_S256x128_S256x128_0_0).toLoadRect
def sclW : Vec Ideal S256x128 .f32 := B.a19.view.readCov (strips8 (fun r => cV (sl B r) (sm B r)) ++ L19' B) (Rect.unit ![0, 0] S256x128.size inb_S256x128_S256x128_0_0).toLoadRect

/-! ## The body's own terms are these -/

theorem sc_0 : (bodyRun.sl.v105 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = sc B 0 := rfl
theorem hist_1 : (bodyRun.sl.H_arg19_1_1 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = ⟨Rect.unit ![32 * (0 : Fin 8).val, 0] S32x128.size (inb8 0), k0_pay658 (sc B 0)⟩ :: L19 B := by
  refine Eq.trans (show _ = ⟨Rect.unit ![32 * (0 : Fin 8).val, 0] S32x128.size (inb8 0), k0_pay658 (bodyRun.sl.v105 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14)⟩ :: L19 B from rfl) ?_
  rw [sc_0]
theorem sc_1 : (bodyRun.sl.v113 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = sc B 1 := by
  refine Eq.trans (show _ = B.a19.view.readCov (bodyRun.sl.H_arg19_1_1 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) (Rect.unit (s := S256x128) ![32 * (1 : Fin 8).val, 0] S32x128.size (inb8 1)).toLoadRect from rfl) ?_
  rw [hist_1]
  rw [strip_miss B.a19 1 0 (by decide)]
  rfl
theorem hist_2 : (bodyRun.sl.H_arg19_2 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = ⟨Rect.unit ![32 * (1 : Fin 8).val, 0] S32x128.size (inb8 1), k0_pay658 (sc B 1)⟩ :: ⟨Rect.unit ![32 * (0 : Fin 8).val, 0] S32x128.size (inb8 0), k0_pay658 (sc B 0)⟩ :: L19 B := by
  refine Eq.trans (show _ = ⟨Rect.unit ![32 * (1 : Fin 8).val, 0] S32x128.size (inb8 1), k0_pay658 (bodyRun.sl.v113 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14)⟩ :: (bodyRun.sl.H_arg19_1_1 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) from rfl) ?_
  rw [sc_1, hist_1]
theorem sc_2 : (bodyRun.sl.v121 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = sc B 2 := by
  refine Eq.trans (show _ = B.a19.view.readCov (bodyRun.sl.H_arg19_2 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) (Rect.unit (s := S256x128) ![32 * (2 : Fin 8).val, 0] S32x128.size (inb8 2)).toLoadRect from rfl) ?_
  rw [hist_2]
  rw [strip_miss B.a19 2 1 (by decide)]
  rw [strip_miss B.a19 2 0 (by decide)]
  rfl
theorem hist_3 : (bodyRun.sl.H_arg19_3 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = ⟨Rect.unit ![32 * (2 : Fin 8).val, 0] S32x128.size (inb8 2), k0_pay658 (sc B 2)⟩ :: ⟨Rect.unit ![32 * (1 : Fin 8).val, 0] S32x128.size (inb8 1), k0_pay658 (sc B 1)⟩ :: ⟨Rect.unit ![32 * (0 : Fin 8).val, 0] S32x128.size (inb8 0), k0_pay658 (sc B 0)⟩ :: L19 B := by
  refine Eq.trans (show _ = ⟨Rect.unit ![32 * (2 : Fin 8).val, 0] S32x128.size (inb8 2), k0_pay658 (bodyRun.sl.v121 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14)⟩ :: (bodyRun.sl.H_arg19_2 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) from rfl) ?_
  rw [sc_2, hist_2]
theorem sc_3 : (bodyRun.sl.v129 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = sc B 3 := by
  refine Eq.trans (show _ = B.a19.view.readCov (bodyRun.sl.H_arg19_3 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) (Rect.unit (s := S256x128) ![32 * (3 : Fin 8).val, 0] S32x128.size (inb8 3)).toLoadRect from rfl) ?_
  rw [hist_3]
  rw [strip_miss B.a19 3 2 (by decide)]
  rw [strip_miss B.a19 3 1 (by decide)]
  rw [strip_miss B.a19 3 0 (by decide)]
  rfl
theorem hist_4 : (bodyRun.sl.H_arg19_4 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = ⟨Rect.unit ![32 * (3 : Fin 8).val, 0] S32x128.size (inb8 3), k0_pay658 (sc B 3)⟩ :: ⟨Rect.unit ![32 * (2 : Fin 8).val, 0] S32x128.size (inb8 2), k0_pay658 (sc B 2)⟩ :: ⟨Rect.unit ![32 * (1 : Fin 8).val, 0] S32x128.size (inb8 1), k0_pay658 (sc B 1)⟩ :: ⟨Rect.unit ![32 * (0 : Fin 8).val, 0] S32x128.size (inb8 0), k0_pay658 (sc B 0)⟩ :: L19 B := by
  refine Eq.trans (show _ = ⟨Rect.unit ![32 * (3 : Fin 8).val, 0] S32x128.size (inb8 3), k0_pay658 (bodyRun.sl.v129 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14)⟩ :: (bodyRun.sl.H_arg19_3 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) from rfl) ?_
  rw [sc_3, hist_3]
theorem sc_4 : (bodyRun.sl.v137 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = sc B 4 := by
  refine Eq.trans (show _ = B.a19.view.readCov (bodyRun.sl.H_arg19_4 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) (Rect.unit (s := S256x128) ![32 * (4 : Fin 8).val, 0] S32x128.size (inb8 4)).toLoadRect from rfl) ?_
  rw [hist_4]
  rw [strip_miss B.a19 4 3 (by decide)]
  rw [strip_miss B.a19 4 2 (by decide)]
  rw [strip_miss B.a19 4 1 (by decide)]
  rw [strip_miss B.a19 4 0 (by decide)]
  rfl
theorem hist_5 : (bodyRun.sl.H_arg19_5 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = ⟨Rect.unit ![32 * (4 : Fin 8).val, 0] S32x128.size (inb8 4), k0_pay658 (sc B 4)⟩ :: ⟨Rect.unit ![32 * (3 : Fin 8).val, 0] S32x128.size (inb8 3), k0_pay658 (sc B 3)⟩ :: ⟨Rect.unit ![32 * (2 : Fin 8).val, 0] S32x128.size (inb8 2), k0_pay658 (sc B 2)⟩ :: ⟨Rect.unit ![32 * (1 : Fin 8).val, 0] S32x128.size (inb8 1), k0_pay658 (sc B 1)⟩ :: ⟨Rect.unit ![32 * (0 : Fin 8).val, 0] S32x128.size (inb8 0), k0_pay658 (sc B 0)⟩ :: L19 B := by
  refine Eq.trans (show _ = ⟨Rect.unit ![32 * (4 : Fin 8).val, 0] S32x128.size (inb8 4), k0_pay658 (bodyRun.sl.v137 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14)⟩ :: (bodyRun.sl.H_arg19_4 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) from rfl) ?_
  rw [sc_4, hist_4]
theorem sc_5 : (bodyRun.sl.v145 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = sc B 5 := by
  refine Eq.trans (show _ = B.a19.view.readCov (bodyRun.sl.H_arg19_5 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) (Rect.unit (s := S256x128) ![32 * (5 : Fin 8).val, 0] S32x128.size (inb8 5)).toLoadRect from rfl) ?_
  rw [hist_5]
  rw [strip_miss B.a19 5 4 (by decide)]
  rw [strip_miss B.a19 5 3 (by decide)]
  rw [strip_miss B.a19 5 2 (by decide)]
  rw [strip_miss B.a19 5 1 (by decide)]
  rw [strip_miss B.a19 5 0 (by decide)]
  rfl
theorem hist_6 : (bodyRun.sl.H_arg19_6 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = ⟨Rect.unit ![32 * (5 : Fin 8).val, 0] S32x128.size (inb8 5), k0_pay658 (sc B 5)⟩ :: ⟨Rect.unit ![32 * (4 : Fin 8).val, 0] S32x128.size (inb8 4), k0_pay658 (sc B 4)⟩ :: ⟨Rect.unit ![32 * (3 : Fin 8).val, 0] S32x128.size (inb8 3), k0_pay658 (sc B 3)⟩ :: ⟨Rect.unit ![32 * (2 : Fin 8).val, 0] S32x128.size (inb8 2), k0_pay658 (sc B 2)⟩ :: ⟨Rect.unit ![32 * (1 : Fin 8).val, 0] S32x128.size (inb8 1), k0_pay658 (sc B 1)⟩ :: ⟨Rect.unit ![32 * (0 : Fin 8).val, 0] S32x128.size (inb8 0), k0_pay658 (sc B 0)⟩ :: L19 B := by
  refine Eq.trans (show _ = ⟨Rect.unit ![32 * (5 : Fin 8).val, 0] S32x128.size (inb8 5), k0_pay658 (bodyRun.sl.v145 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14)⟩ :: (bodyRun.sl.H_arg19_5 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) from rfl) ?_
  rw [sc_5, hist_5]
theorem sc_6 : (bodyRun.sl.v153 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = sc B 6 := by
  refine Eq.trans (show _ = B.a19.view.readCov (bodyRun.sl.H_arg19_6 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) (Rect.unit (s := S256x128) ![32 * (6 : Fin 8).val, 0] S32x128.size (inb8 6)).toLoadRect from rfl) ?_
  rw [hist_6]
  rw [strip_miss B.a19 6 5 (by decide)]
  rw [strip_miss B.a19 6 4 (by decide)]
  rw [strip_miss B.a19 6 3 (by decide)]
  rw [strip_miss B.a19 6 2 (by decide)]
  rw [strip_miss B.a19 6 1 (by decide)]
  rw [strip_miss B.a19 6 0 (by decide)]
  rfl
theorem hist_7 : (bodyRun.sl.H_arg19_7 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = ⟨Rect.unit ![32 * (6 : Fin 8).val, 0] S32x128.size (inb8 6), k0_pay658 (sc B 6)⟩ :: ⟨Rect.unit ![32 * (5 : Fin 8).val, 0] S32x128.size (inb8 5), k0_pay658 (sc B 5)⟩ :: ⟨Rect.unit ![32 * (4 : Fin 8).val, 0] S32x128.size (inb8 4), k0_pay658 (sc B 4)⟩ :: ⟨Rect.unit ![32 * (3 : Fin 8).val, 0] S32x128.size (inb8 3), k0_pay658 (sc B 3)⟩ :: ⟨Rect.unit ![32 * (2 : Fin 8).val, 0] S32x128.size (inb8 2), k0_pay658 (sc B 2)⟩ :: ⟨Rect.unit ![32 * (1 : Fin 8).val, 0] S32x128.size (inb8 1), k0_pay658 (sc B 1)⟩ :: ⟨Rect.unit ![32 * (0 : Fin 8).val, 0] S32x128.size (inb8 0), k0_pay658 (sc B 0)⟩ :: L19 B := by
  refine Eq.trans (show _ = ⟨Rect.unit ![32 * (6 : Fin 8).val, 0] S32x128.size (inb8 6), k0_pay658 (bodyRun.sl.v153 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14)⟩ :: (bodyRun.sl.H_arg19_6 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) from rfl) ?_
  rw [sc_6, hist_6]
theorem sc_7 : (bodyRun.sl.v161 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = sc B 7 := by
  refine Eq.trans (show _ = B.a19.view.readCov (bodyRun.sl.H_arg19_7 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) (Rect.unit (s := S256x128) ![32 * (7 : Fin 8).val, 0] S32x128.size (inb8 7)).toLoadRect from rfl) ?_
  rw [hist_7]
  rw [strip_miss B.a19 7 6 (by decide)]
  rw [strip_miss B.a19 7 5 (by decide)]
  rw [strip_miss B.a19 7 4 (by decide)]
  rw [strip_miss B.a19 7 3 (by decide)]
  rw [strip_miss B.a19 7 2 (by decide)]
  rw [strip_miss B.a19 7 1 (by decide)]
  rw [strip_miss B.a19 7 0 (by decide)]
  rfl
theorem hist_8 : (⟨Rect.unit ![224, 0] S32x128.size inb_S256x128_S32x128_224_0, k0_pay666 (bodyRun.sl.v161 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14)⟩ : View.Piece (Elt Ideal) S256x128 .f32) :: (bodyRun.sl.H_arg19_7 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.hw B.f14) = L19' B := by
  rw [hist_7, sc_7]
  rfl

end Cert.KernelIdeal
-- ==== Proof.Ends.lean ====
/-
  What the body stores at one grid point, from the three passes.
-/
module

public import proofs.«01_k».proof.Proof.Whole

@[expose] public section
set_option maxRecDepth 16384
set_option maxHeartbeats 400000
noncomputable section
namespace Cert.KernelIdeal
open Gen
open Idealize.ShloMosaic Idealize.ShloMosaic.TcCoe Idealize.ShloMosaic.Tactic

variable (B : Buf)

/-- The exponential pass of the body is the one above. -/
theorem pass3_eq : pb_k0_t3 (F := Ideal) Variants.none B.c none B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 (bodyRun.sl.r (F := Ideal) B.i B.a4 B.x4) B.hw (bodyRun.sl.v3 B.i) (bodyRun.sl.v8 (F := Ideal) B.i B.a4 B.x4) (bodyRun.sl.v9) (bodyRun.sl.r_5 (F := Ideal) B.i) (bodyRun.sl.r_7 (F := Ideal) B.i) (k0_pay668 (F := Ideal)) B.x8 B.x10 B.x11 (B.a16.view.writes (Elt Ideal) B.a16.view.junk ((bodyRun.sl.H_arg16_2 (F := Ideal) B.a5 B.x5))) (B.a17.view.writes (Elt Ideal) B.a17.view.junk ((bodyRun.sl.H_arg17_2 (F := Ideal) B.i B.a6 B.x6))) (B.a18.view.writes (Elt Ideal) B.a18.view.junk ((bodyRun.sl.H_arg18_2 (F := Ideal) B.a7 B.x7))) (B.a19.view.writes (Elt Ideal) B.a19.view.junk (L19' B)) B.f13 (B.a14.view.writes (Elt Ideal) B.f14 (pb_k0_t1 (F := Ideal) Variants.none B.c none B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 (bodyRun.sl.r (F := Ideal) B.i B.a4 B.x4) B.hw (bodyRun.sl.v3 B.i) (bodyRun.sl.v8 (F := Ideal) B.i B.a4 B.x4) (bodyRun.sl.v9) (bodyRun.sl.r_2 (F := Ideal) B.a7 B.x7) (bodyRun.sl.r_3 (F := Ideal) B.a6 B.x6) (bodyRun.sl.v19) (bodyRun.sl.r_5 (F := Ideal) B.i) (bodyRun.sl.v61 B.i) (bodyRun.sl.r_6 (F := Ideal) B.a5 B.x5) B.x8 B.x10 (B.a16.view.writes (Elt Ideal) B.a16.view.junk ((bodyRun.sl.H_arg16_2 (F := Ideal) B.a5 B.x5))) (B.a17.view.writes (Elt Ideal) B.a17.view.junk ((bodyRun.sl.H_arg17_2 (F := Ideal) B.i B.a6 B.x6))) (B.a18.view.writes (Elt Ideal) B.a18.view.junk ((bodyRun.sl.H_arg18_2 (F := Ideal) B.a7 B.x7))) B.f14 (B.a19.view.writes (Elt Ideal) B.a19.view.junk ((bodyRun.sl.H_arg19_1 (F := Ideal)))) (Scf.trips (k0_t1_loop B.i (bodyRun.sl.r (F := Ideal) B.i B.a4 B.x4)).lb (k0_t1_loop B.i (bodyRun.sl.r (F := Ideal) B.i B.a4 B.x4)).ub (k0_t1_loop B.i (bodyRun.sl.r (F := Ideal) B.i B.a4 B.x4)).st)).1) (B.a20.view.writes (Elt Ideal) B.a20.view.junk ((bodyRun.sl.H_arg20_1 (F := Ideal)))) (B.a21.view.writes (Elt Ideal) B.a21.view.junk ((bodyRun.sl.H_arg21_1 (F := Ideal)))) (Scf.trips (k0_t3_loop B.i (bodyRun.sl.r (F := Ideal) B.i B.a4 B.x4)).lb (k0_t3_loop B.i (bodyRun.sl.r (F := Ideal) B.i B.a4 B.x4)).ub (k0_t3_loop B.i (bodyRun.sl.r (F := Ideal) B.i B.a4 B.x4)).st) = pass3 B := by
  unfold pass3 lp3 F14 lp1
  dsimp only [cx3, cx3g, cx1, k0_t1_loop, k0_t3_loop, bodyRun.sl.r, H20, H21, bodyRun.sl.H_arg19_1, bodyRun.sl.H_arg20_1, bodyRun.sl.H_arg21_1]

theorem sl_0 : (bodyRun.sl.v182 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sl B 0 := by
  unfold bodyRun.sl.v182
  rw [hist_8, pass3_eq]
  rfl
theorem sm_0 : (bodyRun.sl.v187 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sm B 0 := by
  unfold bodyRun.sl.v187
  rw [hist_8, pass3_eq]
  rfl
theorem sl_1 : (bodyRun.sl.v230 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sl B 1 := by
  unfold bodyRun.sl.v230
  rw [hist_8, pass3_eq]
  rfl
theorem sm_1 : (bodyRun.sl.v235 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sm B 1 := by
  unfold bodyRun.sl.v235
  rw [hist_8, pass3_eq]
  rfl
theorem sl_2 : (bodyRun.sl.v278 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sl B 2 := by
  unfold bodyRun.sl.v278
  rw [hist_8, pass3_eq]
  rfl
theorem sm_2 : (bodyRun.sl.v283 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sm B 2 := by
  unfold bodyRun.sl.v283
  rw [hist_8, pass3_eq]
  rfl
theorem sl_3 : (bodyRun.sl.v326 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sl B 3 := by
  unfold bodyRun.sl.v326
  rw [hist_8, pass3_eq]
  rfl
theorem sm_3 : (bodyRun.sl.v331 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sm B 3 := by
  unfold bodyRun.sl.v331
  rw [hist_8, pass3_eq]
  rfl
theorem sl_4 : (bodyRun.sl.v (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sl B 4 := by
  unfold bodyRun.sl.v
  rw [hist_8, pass3_eq]
  rfl
theorem sm_4 : (bodyRun.sl.v379 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sm B 4 := by
  unfold bodyRun.sl.v379
  rw [hist_8, pass3_eq]
  rfl
theorem sl_5 : (bodyRun.sl.v422 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sl B 5 := by
  unfold bodyRun.sl.v422
  rw [hist_8, pass3_eq]
  rfl
theorem sm_5 : (bodyRun.sl.v427 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sm B 5 := by
  unfold bodyRun.sl.v427
  rw [hist_8, pass3_eq]
  rfl
theorem sl_6 : (bodyRun.sl.v470 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sl B 6 := by
  unfold bodyRun.sl.v470
  rw [hist_8, pass3_eq]
  rfl
theorem sm_6 : (bodyRun.sl.v475 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sm B 6 := by
  unfold bodyRun.sl.v475
  rw [hist_8, pass3_eq]
  rfl
theorem sl_7 : (bodyRun.sl.v518 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sl B 7 := by
  unfold bodyRun.sl.v518
  rw [hist_8, pass3_eq]
  rfl
theorem sm_7 : (bodyRun.sl.v523 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sm B 7 := by
  unfold bodyRun.sl.v523
  rw [hist_8, pass3_eq]
  rfl

/-- The factors the body keeps are those of the strips' sums and maxima. -/
theorem factors_eq : (bodyRun.sl.H_arg22_8 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = strips8 (fun r => fV (sl B r) (sm B r)) := by
  dsimp only [bodyRun.sl.H_arg22_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28]
  rw [sl_0, sm_0, sl_1, sm_1, sl_2, sm_2, sl_3, sm_3, sl_4, sm_4, sl_5, sm_5, sl_6, sm_6, sl_7, sm_7]
  rfl

theorem pass5_eq : pb_k0_t5 (F := Ideal) Variants.none B.c none B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 (bodyRun.sl.r (F := Ideal) B.i B.a4 B.x4) B.hw (bodyRun.sl.v3 B.i) (bodyRun.sl.v8 (F := Ideal) B.i B.a4 B.x4) (bodyRun.sl.r_26 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) (bodyRun.sl.r_27 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) (bodyRun.sl.r_28 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) B.x9 (B.a13.view.writes (Elt Ideal) B.f13 (pass3 B).1) (B.a22.view.writes (Elt Ideal) B.a22.view.junk ((bodyRun.sl.H_arg22_8 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14))) B.f15 (B.a23.view.writes (Elt Ideal) B.a23.view.junk ((bodyRun.sl.H_arg23_1 (F := Ideal)))) (Scf.trips (k0_t5_loop B.i (bodyRun.sl.r (F := Ideal) B.i B.a4 B.x4)).lb (k0_t5_loop B.i (bodyRun.sl.r (F := Ideal) B.i B.a4 B.x4)).ub (k0_t5_loop B.i (bodyRun.sl.r (F := Ideal) B.i B.a4 B.x4)).st) = lp5 (cx5 B) B.f15 (B.a23.view.writes (Elt Ideal) B.a23.view.junk (H23)) (k0_t5_loop B.i (tableWord (F := Ideal) B.i B.a4 B.x4)).trips := by
  rw [factors_eq]
  unfold bodyRun.sl.r_26 bodyRun.sl.r_27 bodyRun.sl.r_28
  rw [sl_7, sm_7]
  unfold lp5
  dsimp only [cx5, cx3, cx3g, cx1, k0_t5_loop, bodyRun.sl.r, H23, bodyRun.sl.H_arg23_1]

theorem acc_eq : (bodyRun.sl.v_1 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x9 B.x10 B.x11 B.hw B.f13 B.f14 B.f15) = accW B := by
  unfold bodyRun.sl.v_1
  rw [hist_8, pass3_eq, pass5_eq]
  rfl

theorem scl_eq : (bodyRun.sl.v576 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14) = sclW B := by
  unfold bodyRun.sl.v576
  rw [hist_8]
  dsimp only [bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28]
  rw [sl_0, sm_0, sl_1, sm_1, sl_2, sm_2, sl_3, sm_3, sl_4, sm_4, sl_5, sm_5, sl_6, sm_6, sl_7, sm_7]
  rfl

theorem body_pieces : (bodyRun (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x9 B.x10 B.x11 B.hw).1 B.f13 B.f14 B.f15 B.f16 B.f17 B.f18 B.f19 B.f20 B.f21 B.f22 B.f23
    = [⟨Rect.unit ![0, 0, 0] S1x128x128.size inb_S1x128x128_S1x128x128_0_0_0, k0_pay1 (iota .tc S1x128 32 [1] iota_S1x128_d1_w32) (accW B) (sclW B)⟩] := by
  refine Eq.trans (show _ = [⟨Rect.unit ![0, 0, 0] S1x128x128.size inb_S1x128x128_S1x128x128_0_0_0, k0_pay1 (bodyRun.sl.v9) (bodyRun.sl.v_1 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x9 B.x10 B.x11 B.hw B.f13 B.f14 B.f15) (bodyRun.sl.v576 (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x10 B.x11 B.hw B.f13 B.f14)⟩] from rfl) ?_
  rw [acc_eq, scl_eq]
  rfl

end Cert.KernelIdeal
-- ==== Proof.Math.lean ====
/-
  One row of the attention, on extended reals: the row as the reference writes it (softmax, times the
  values' scales, put on a power-of-two grid, cast and multiplied with the values' codes) and the row as
  the kernel writes it (exponentials to base two, one reciprocal at the end) are the same number.
-/
module

public import Idealize.ShloMosaic.Lib.Pointwise
public import Idealize.ShloMosaic.Lib.IdealHost

@[expose] public section
noncomputable section
namespace Cert.Row
open Idealize.ShloMosaic

variable {ι : Type} [Fintype ι] [Nonempty ι]

/-- A 448th. -/
abbrev c448 : EReal := Ideal.ofBits .f32 0x3B124925#32
abbrev minusInf : EReal := Ideal.ofBits .f32 0xFF800000#32

/-- The exponent of the power of two just above `y`, and the kernel's, with its two corrections. -/
def expo (y : EReal) : EReal :=
  Ideal.liftRound Int.floor (Ideal.div (Ideal.log y) (Ideal.log (Ideal.ofBits .f32 0x40000000#32))) + 1
def corr1 (L y : EReal) : EReal :=
  let e0 := Ideal.liftRound Int.floor (Ideal.log y * L) + 1
  Scalar.select (Ideal.cmp .oge y (Ideal.exp2 e0)) (e0 + 1) e0
def corr (L y : EReal) : EReal :=
  Scalar.select (Ideal.cmp .olt y (Ideal.exp2 (corr1 L y - 1))) (corr1 L y - 1) (corr1 L y)

/-- The code of `x`: clipped to the format's range. -/
def clip (x : EReal) : EReal := min (Ideal.ofBits .f32 0x43E00000#32) (max (Ideal.ofBits .f32 0xC3E00000#32) x)

def rowMax (Y : ι → EReal) : EReal := Finset.univ.fold max minusInf Y
def weight (Y vs : ι → EReal) (j : ι) : EReal :=
  Ideal.div (Ideal.exp (Y j - rowMax Y)) (∑ x, Ideal.exp (Y x - rowMax Y)) * vs j
def gridExp (Y vs : ι → EReal) : EReal :=
  Scalar.select (Ideal.cmp .oeq (rowMax fun j => FloatOps.absf (F := Ideal) (φ := .f32) (weight Y vs j)) (Ideal.ofBits .f32 0x00000000#32)) 0
    (expo ((rowMax fun j => FloatOps.absf (F := Ideal) (φ := .f32) (weight Y vs j)) * c448))
/-- The row as the reference writes it. -/
def refOut (Y vs V : ι → EReal) : EReal :=
  (∑ j, clip (weight Y vs j * Ideal.exp2 (0 - gridExp Y vs)) * V j) * Ideal.exp2 (gridExp Y vs)

def kerExp (L s m : EReal) : EReal :=
  Scalar.select (Ideal.cmp .oeq (m * Ideal.div 1 s * c448) 0) 0 (corr L (m * Ideal.div 1 s * c448))
/-- The row as the kernel writes it. -/
def kerOut (L s m : EReal) (e vs V : ι → EReal) : EReal :=
  (∑ j, clip (e j * vs j * (Ideal.div 1 s * Ideal.exp2 (0 - kerExp L s m))) * V j) * Ideal.exp2 (kerExp L s m)

theorem minusInf_eq : minusInf = ⊥ := by
  simp [minusInf, Ideal.ofBits, Ideal.ieee]
theorem two_eq : Ideal.ofBits .f32 0x40000000#32 = ((2 : ℝ) : EReal) := by
  simp [Ideal.ofBits, Ideal.ieee, -EReal.coe_mul]; norm_num
theorem c448_pos : ∃ c : ℝ, 0 < c ∧ c448 = (c : EReal) := by
  refine ⟨9586981 * 2 ^ (-32 : ℤ), by positivity, ?_⟩
  simp [c448, Ideal.ofBits, Ideal.ieee, -EReal.coe_mul]; try norm_num
theorem lo_nonpos : Ideal.ofBits .f32 0xC3E00000#32 ≤ 0 := by
  have : Ideal.ofBits .f32 0xC3E00000#32 = ((-448 : ℝ) : EReal) := by
    simp [Ideal.ofBits, Ideal.ieee, -EReal.coe_mul, -EReal.coe_neg]; norm_num
  rw [this]; exact_mod_cast (by norm_num : (-448 : ℝ) ≤ 0)
theorem hi_nonneg : 0 ≤ Ideal.ofBits .f32 0x43E00000#32 := by
  have : Ideal.ofBits .f32 0x43E00000#32 = ((448 : ℝ) : EReal) := by
    simp [Ideal.ofBits, Ideal.ieee, -EReal.coe_mul, -EReal.coe_neg]; norm_num
  rw [this]; exact_mod_cast (by norm_num : (0 : ℝ) ≤ 448)
theorem clip_zero : clip 0 = 0 := by
  unfold clip
  rw [max_eq_right lo_nonpos, min_eq_right hi_nonneg]

theorem select_true {α : Type} (x y : α) : Scalar.select (BitVec.ofBool true) x y = x := rfl
theorem select_false {α : Type} (x y : α) : Scalar.select (BitVec.ofBool false) x y = y := rfl

theorem select_one {α : Type} (x y : α) : Scalar.select 1#1 x y = x := rfl
theorem select_zero {α : Type} (x y : α) : Scalar.select 0#1 x y = y := rfl

theorem rowMax_le (Y : ι → EReal) (u : EReal) : rowMax Y ≤ u ↔ ∀ j, Y j ≤ u := by
  unfold rowMax
  rw [Finset.fold_max_le, minusInf_eq]
  simp
theorem le_rowMax (Y : ι → EReal) (j : ι) : Y j ≤ rowMax Y := (rowMax_le Y _).1 le_rfl j
theorem rowMax_mem (Y : ι → EReal) : ∃ j, rowMax Y = Y j := by
  obtain ⟨j, hj, h⟩ := Finset.exists_max_image Finset.univ Y Finset.univ_nonempty
  exact ⟨j, le_antisymm ((rowMax_le Y _).2 fun k => h k (Finset.mem_univ k)) (le_rowMax Y j)⟩

/-- Changing the base of the exponential. -/
theorem exp_base (y M : EReal) (L : ℝ) (hL : L = (Real.log 2)⁻¹) :
    Ideal.exp2 ((L : EReal) * y - (L : EReal) * M) = Ideal.exp (y - M) := by
  have hp : 0 < Real.log 2 := Real.log_pos (by norm_num)
  have hL0 : 0 < L := hL ▸ inv_pos.2 hp
  have key (r : ℝ) : Ideal.exp2 ((L * r : ℝ) : EReal) = Ideal.exp (r : EReal) := by
    rw [Ideal.exp2_coe, Ideal.exp_coe]
    congr 1
    show (2 : ℝ) ^ (L * r) = _
    rw [Real.rpow_def_of_pos (by norm_num), hL, ← mul_assoc, mul_inv_cancel₀ hp.ne', one_mul]
  induction y using EReal.rec <;> induction M using EReal.rec <;>
    try simp only [EReal.coe_mul_bot_of_pos hL0, EReal.coe_mul_top_of_pos hL0]
  all_goals first
    | rfl
    | (rw [← EReal.coe_mul, ← EReal.coe_mul, ← EReal.coe_sub, ← EReal.coe_sub, ← mul_sub]; exact key _)
    | simp [sub_eq_add_neg, ← EReal.coe_mul]

theorem weight_small (y M : EReal) (h : y ≤ M) : ∃ r : ℝ, 0 ≤ r ∧ Ideal.exp (y - M) = (r : EReal) := by
  induction y using EReal.rec <;> induction M using EReal.rec
  · exact ⟨0, le_rfl, rfl⟩
  · exact ⟨0, le_rfl, rfl⟩
  · exact ⟨0, le_rfl, rfl⟩
  · exact absurd h (by simp)
  · rename_i a b
    exact ⟨Real.exp (a - b), (Real.exp_pos _).le, by rw [← EReal.coe_sub, Ideal.exp_coe]⟩
  · exact ⟨0, le_rfl, rfl⟩
  · exact absurd h (by simp)
  · exact absurd h (by simp)
  · exact ⟨0, le_rfl, rfl⟩

theorem corr_eq (L : ℝ) (hL : L = (Real.log 2)⁻¹) (y : EReal) (hy : 0 < y) : corr L y = expo y := by
  have hp : 0 < Real.log 2 := Real.log_pos (by norm_num)
  have hL0 : 0 < L := hL ▸ inv_pos.2 hp
  have h2 : Ideal.log (Ideal.ofBits .f32 0x40000000#32) = (Real.log 2 : EReal) := by
    rw [two_eq, Ideal.log_coe, if_neg (by norm_num)]
  have hdiv (x : EReal) : Ideal.div x (Real.log 2 : EReal) = x * (L : EReal) := by
    unfold Ideal.div
    rw [if_neg (by exact_mod_cast hp.ne'), hL, EReal.coe_inv]
  have he : expo y = Ideal.liftRound Int.floor (Ideal.log y * L) + 1 := by
    unfold expo
    rw [h2, hdiv]
  induction y using EReal.rec with
  | bot => exact absurd hy (by simp)
  | top =>
    rw [he]
    have h1 : Ideal.liftRound Int.floor (Ideal.log ⊤ * (L : EReal)) + 1 = ⊤ := by
      rw [Ideal.log_top, EReal.top_mul_coe_of_pos hL0, Ideal.liftRound_top]; rfl
    have h3 : corr1 L ⊤ = ⊤ := by
      unfold corr1
      rw [h1]
      simp [Ideal.cmp, select_true, select_one, Ideal.exp2_top]
      rfl
    unfold corr
    rw [h1, h3]
    simp [Ideal.cmp, select_false, select_zero, Ideal.exp2_top]
  | coe r =>
    have hr : 0 < r := by exact_mod_cast hy
    have hlog : Ideal.log (r : EReal) * (L : EReal) = ((Real.log r * L : ℝ) : EReal) := by
      rw [Ideal.log_coe, if_neg (not_le.2 hr), EReal.coe_mul]
    have h1 : Ideal.liftRound Int.floor (Ideal.log (r : EReal) * (L : EReal)) + 1 = (((⌊Real.log r * L⌋ : ℝ) + 1 : ℝ) : EReal) := by
      rw [hlog, Ideal.liftRound_coe]; norm_cast
    have hr2 : r = (2 : ℝ) ^ (Real.log r * L) := by
      rw [Real.rpow_def_of_pos (by norm_num), hL, mul_comm (Real.log r), ← mul_assoc, mul_inv_cancel₀ hp.ne', one_mul, Real.exp_log hr]
    have h3 : corr1 L r = (((⌊Real.log r * L⌋ : ℝ) + 1 : ℝ) : EReal) := by
      unfold corr1
      rw [h1]
      dsimp only
      rw [Ideal.exp2_coe]
      have : ¬ ((Real.rpow 2 ((⌊Real.log r * L⌋ : ℝ) + 1) : ℝ) : EReal) ≤ (r : EReal) := by
        rw [EReal.coe_le_coe_iff, not_le]
        conv_lhs => rw [hr2]
        exact Real.rpow_lt_rpow_of_exponent_lt (by norm_num) (Int.lt_floor_add_one _)
      simp only [Ideal.cmp, this, decide_false, select_false]
    unfold corr
    rw [he, h1, h3]
    have h4 : (((⌊Real.log r * L⌋ : ℝ) + 1 : ℝ) : EReal) - 1 = ((⌊Real.log r * L⌋ : ℝ) : EReal) := by
      rw [← EReal.coe_one, ← EReal.coe_sub, add_sub_cancel_right]
    rw [h4, Ideal.exp2_coe]
    have : ¬ (r : EReal) < ((Real.rpow 2 (⌊Real.log r * L⌋ : ℝ) : ℝ) : EReal) := by
      rw [EReal.coe_lt_coe_iff, not_lt]
      conv_rhs => rw [hr2]
      exact Real.rpow_le_rpow_of_exponent_le (by norm_num) (Int.floor_le _)
    simp only [Ideal.cmp, this, decide_false, select_false]

theorem absf_nonneg (x : EReal) (h : 0 ≤ x) : FloatOps.absf (F := Ideal) (φ := .f32) x = x := by
  show max x (-x) = x
  exact max_eq_left (le_trans (le_trans (EReal.neg_le_neg_iff.2 h) (by simp)) h)

theorem coe_total (S : Finset ι) (r : ι → ℝ) : ((∑ j ∈ S, r j : ℝ) : EReal) = ∑ j ∈ S, (r j : EReal) := by
  classical
  induction S using Finset.induction_on with
  | empty => rfl
  | insert a S ha ih => rw [Finset.sum_insert ha, Finset.sum_insert ha, EReal.coe_add, ih]

/-- The two rows are one. -/
theorem out_eq (L : ℝ) (hL : L = (Real.log 2)⁻¹) (Y vs V : ι → EReal) (hvs : ∀ j, 0 ≤ vs j) (s m : EReal)
    (hs : s = ∑ j, Ideal.exp (Y j - rowMax Y))
    (hm : ∀ u, m ≤ u ↔ 0 ≤ u ∧ ∀ j, Ideal.exp (Y j - rowMax Y) * vs j ≤ u) :
    kerOut L s m (fun j => Ideal.exp (Y j - rowMax Y)) vs V = refOut Y vs V := by
  obtain ⟨c, hc, hc'⟩ := c448_pos
  choose r hr hre using fun j => weight_small (Y j) (rowMax Y) (le_rowMax Y j)
  have hsr : s = ((∑ j, r j : ℝ) : EReal) := by
    rw [hs, coe_total]
    exact Finset.sum_congr rfl fun j _ => hre j
  rcases (Finset.sum_nonneg fun j _ => hr j : 0 ≤ ∑ j, r j).eq_or_lt with h0 | h0
  · -- nothing is seen: both are zero
    have hz (j : ι) : Ideal.exp (Y j - rowMax Y) = 0 := by
      rw [hre, (Finset.sum_eq_zero_iff_of_nonneg fun j _ => hr j).1 h0.symm j (Finset.mem_univ j)]; rfl
    have hs0 : s = 0 := by rw [hsr, ← h0]; rfl
    have hm0 : m = 0 := by
      refine le_antisymm ((hm 0).2 ⟨le_rfl, fun j => by rw [hz, zero_mul]⟩) ((hm m).1 le_rfl).1
    have hk : kerOut L s m (fun j => Ideal.exp (Y j - rowMax Y)) vs V = 0 := by
      unfold kerOut
      simp only [hz, zero_mul, clip_zero, Finset.sum_const_zero]
    have hw (j : ι) : weight Y vs j = ⊥ * vs j := by
      unfold weight
      rw [hz, ← hs, hs0]
      unfold Ideal.div
      rw [if_pos rfl, if_neg (lt_irrefl _)]
    rw [hk]
    unfold refOut
    by_cases hall : ∀ j, vs j = 0
    · simp only [hw, hall, mul_zero, zero_mul, clip_zero, Finset.sum_const_zero]
    · rw [not_forall] at hall
      obtain ⟨j, hj⟩ := hall
      have hjp : 0 < vs j := lt_of_le_of_ne (hvs j) (Ne.symm hj)
      have hA : (rowMax fun j => FloatOps.absf (F := Ideal) (φ := .f32) (weight Y vs j)) = ⊤ := by
        refine top_le_iff.1 (le_trans ?_ (le_rowMax _ j))
        rw [hw, EReal.bot_mul_of_pos hjp]
        show ⊤ ≤ max ⊥ (-⊥)
        simp
      have hE : gridExp Y vs = ⊤ := by
        unfold gridExp
        rw [hA, hc', EReal.top_mul_coe_of_pos hc]
        have : expo ⊤ = ⊤ := by
          unfold expo
          have hp : 0 < Real.log 2 := Real.log_pos (by norm_num)
          rw [two_eq, Ideal.log_coe, if_neg (by norm_num), Ideal.log_top]
          unfold Ideal.div
          rw [if_neg (by exact_mod_cast hp.ne'), ← EReal.coe_inv, EReal.top_mul_coe_of_pos (inv_pos.2 hp), Ideal.liftRound_top]
          rfl
        rw [this]
        simp [Ideal.cmp, select_zero]
      rw [hE]
      have : Ideal.exp2 (0 - ⊤) = 0 := by rw [zero_sub]; rfl
      simp only [this, mul_zero, clip_zero, zero_mul, Finset.sum_const_zero]
  · -- the ordinary case
    have hs1 (x : EReal) : Ideal.div x s = x * (((∑ j, r j)⁻¹ : ℝ) : EReal) := by
      unfold Ideal.div
      rw [hsr, if_neg (by exact_mod_cast h0.ne'), EReal.coe_inv]
    have ht : 0 < (∑ j, r j)⁻¹ := inv_pos.2 h0
    generalize (∑ j, r j)⁻¹ = t at ht hs1
    have ht' : (0 : EReal) ≤ (t : EReal) := by exact_mod_cast ht.le
    have he0 (j : ι) : 0 ≤ Ideal.exp (Y j - rowMax Y) := by rw [hre]; exact_mod_cast hr j
    have hw (j : ι) : weight Y vs j = Ideal.exp (Y j - rowMax Y) * vs j * t := by
      unfold weight
      rw [← hs, hs1, mul_right_comm]
    have hw0 (j : ι) : 0 ≤ weight Y vs j := by
      rw [hw]
      exact mul_nonneg (mul_nonneg (he0 j) (hvs j)) ht'
    have hA : (rowMax fun j => FloatOps.absf (F := Ideal) (φ := .f32) (weight Y vs j)) = m * t := by
      simp only [absf_nonneg _ (hw0 _)]
      obtain ⟨j0, hj0⟩ := rowMax_mem fun j => Ideal.exp (Y j - rowMax Y) * vs j
      have hmj : m = Ideal.exp (Y j0 - rowMax Y) * vs j0 := by
        refine le_antisymm ((hm _).2 ⟨mul_nonneg (he0 j0) (hvs j0), fun j => ?_⟩) (((hm m).1 le_rfl).2 j0)
        have := le_rowMax (fun j => Ideal.exp (Y j - rowMax Y) * vs j) j
        rwa [hj0] at this
      refine le_antisymm ((rowMax_le _ _).2 fun j => ?_) ?_
      · rw [hw]
        exact mul_le_mul_of_nonneg_right (((hm m).1 le_rfl).2 j) ht'
      · rw [hmj, ← hw]
        exact le_rowMax _ j0
    have hm0 : 0 ≤ m := ((hm m).1 le_rfl).1
    have hE : kerExp L s m = gridExp Y vs := by
      unfold kerExp gridExp
      rw [hA, hs1, one_mul, hc', Ideal.ofBits_zero_f32]
      by_cases hz : m * (t : EReal) = 0
      · rw [hz, zero_mul]
        simp [Ideal.cmp, select_one]
      · have hpos : 0 < m * (t : EReal) := lt_of_le_of_ne (mul_nonneg hm0 ht') (Ne.symm hz)
        have hcp : (0 : EReal) < (c : EReal) := by exact_mod_cast hc
        have hyp : 0 < m * (t : EReal) * (c : EReal) := EReal.mul_pos hpos hcp
        rw [corr_eq L hL _ hyp]
        simp only [Ideal.cmp, hz, hyp.ne', decide_false, select_false]
    unfold kerOut refOut
    rw [hE]
    refine congrArg (· * _) (Finset.sum_congr rfl fun j _ => ?_)
    rw [hw, hs1, one_mul, mul_assoc (_ * _) (t : EReal)]

end Cert.Row
-- ==== Proof.Window.lean ====
module

public import proofs.«01_k».proof.Proof.TripValues
public import proofs.«01_k».proof.Proof.Math

/-! # Sums over the chunks of a point, as sums over the keys

A point reads the padded keys in chunks of 512, backwards from the end of its tile. What the keys
outside these chunks would add is zero, so a sum over chunks and columns is a sum over all keys. -/

@[expose] public section
set_option maxRecDepth 16384
noncomputable section
namespace Cert.KernelIdeal
open Gen
open Idealize.ShloMosaic

/-- A sum over the 512 columns of a chunk, lane by lane. -/
theorem lanes_sum (f : Fin 512 → EReal) : ∑ b : Fin 128, ∑ w : Fin 4, f (col w b) = ∑ c, f c := by
  rw [← Finset.sum_product']
  refine Finset.sum_bij' (fun z _ => col z.2 z.1) (fun c _ => (colR c, colS c)) ?_ ?_ ?_ ?_ ?_
  · intro a _; exact Finset.mem_univ _
  · intro a _; exact Finset.mem_univ _
  · intro a _; exact Prod.ext (colR_col _ _) (colS_col _ _)
  · intro a _; exact col_split a
  · intro a _; rfl

theorem lanes_all (n : ℕ) (f : ℕ → Fin 512 → EReal) :
    ∑ b : Fin 128, ∑ k ∈ Finset.range n, ∑ w : Fin 4, f k (col w b) = ∑ k ∈ Finset.range n, ∑ c, f k c := by
  rw [Finset.sum_comm]
  exact Finset.sum_congr rfl fun k _ => lanes_sum (f k)

theorem lanes_forall (p : Fin 512 → Prop) : (∀ b : Fin 128, ∀ w : Fin 4, p (col w b)) ↔ ∀ c, p c :=
  ⟨fun h c => col_split c ▸ h (colR c) (colS c), fun h b w => h _⟩

variable (Q n : ℕ) (hQ : ∀ k < n, 512 * k ≤ Q) (hQ' : Q + 512 ≤ 33280)
include hQ hQ'

/-- A sum over chunks and columns is a sum over the keys. -/
theorem window_sum (G : ℕ → EReal) (H : Fin 32768 → EReal) (h0 : ∀ p < 512, G p = 0) (h1 : ∀ j : Fin 32768, G (j.val + 512) = H j)
    (h2 : ∀ j, H j ≠ 0 → ∃ k < n, ∃ c : Fin 512, Q - 512 * k + c.val = j.val + 512) :
    ∑ k ∈ Finset.range n, ∑ c : Fin 512, G (Q - 512 * k + c.val) = ∑ j, H j := by
  rw [← Finset.sum_product']
  have key : ∀ z ∈ Finset.range n ×ˢ (Finset.univ : Finset (Fin 512)), G (Q - 512 * z.1 + z.2.val) ≠ 0 → 512 ≤ Q - 512 * z.1 + z.2.val :=
    fun z _ h => not_lt.1 fun hlt => h (h0 _ hlt)
  have hz : ∀ z ∈ Finset.range n ×ˢ (Finset.univ : Finset (Fin 512)), 512 * z.1 ≤ Q :=
    fun z h => hQ z.1 (Finset.mem_range.1 (Finset.mem_product.1 h).1)
  refine Finset.sum_bij_ne_zero (fun z h _ => (⟨Q - 512 * z.1 + z.2.val - 512, by have := hz z h; have := z.2.isLt; omega⟩ : Fin 32768)) ?_ ?_ ?_ ?_
  · intro z _ _; exact Finset.mem_univ _
  · intro z hz1 hz2 y hy1 hy2 e
    have e := congrArg Fin.val e
    dsimp only at e
    have a1 := key z hz1 hz2
    have a2 := key y hy1 hy2
    have b1 := hz z hz1
    have b2 := hz y hy1
    have c1 := z.2.isLt
    have c2 := y.2.isLt
    have : z.1 = y.1 := by omega
    exact Prod.ext this (Fin.ext (by rw [this] at e a1 b1; omega))
  · intro j _ hj
    obtain ⟨k, hk, c, hc⟩ := h2 j hj
    refine ⟨(k, c), Finset.mem_product.2 ⟨Finset.mem_range.2 hk, Finset.mem_univ _⟩, ?_, ?_⟩
    · show G (Q - 512 * k + c.val) ≠ 0
      rw [hc, h1]; exact hj
    · exact Fin.ext (by show Q - 512 * k + c.val - 512 = j.val; omega)
  · intro z hz1 hz2
    have a1 := key z hz1 hz2
    rw [← h1]
    exact congrArg G (by dsimp only; omega)

/-- A bound on all chunks and columns is a bound on all keys. -/
theorem window_forall (G : ℕ → EReal) (H : Fin 32768 → EReal) (bot u : EReal) (hu : bot ≤ u) (h0 : ∀ p < 512, G p = bot) (h1 : ∀ j : Fin 32768, G (j.val + 512) = H j)
    (h2 : ∀ j, H j ≠ bot → ∃ k < n, ∃ c : Fin 512, Q - 512 * k + c.val = j.val + 512) :
    (∀ k < n, ∀ c : Fin 512, G (Q - 512 * k + c.val) ≤ u) ↔ ∀ j, H j ≤ u := by
  constructor
  · intro h j
    by_cases hj : H j = bot
    · exact hj ▸ hu
    · obtain ⟨k, hk, c, hc⟩ := h2 j hj
      have := h k hk c
      rwa [hc, h1] at this
  · intro h k hk c
    by_cases hp : Q - 512 * k + c.val < 512
    · rw [h0 _ hp]; exact hu
    · have := hQ k hk
      have hc := c.isLt
      have e : Q - 512 * k + c.val = (⟨Q - 512 * k + c.val - 512, by omega⟩ : Fin 32768).val + 512 := by dsimp only; omega
      rw [e, h1]; exact h _
end Cert.KernelIdeal
-- ==== Proof.Tails.lean ====
module

public import proofs.«01_k».proof.Proof.Ends
public import proofs.«01_k».proof.Proof.Math
public import proofs.«01_k».proof.Proof.Window
import all proofs.«01_k».proof.Proof.Gen.KernelIdeal.Skeleton

/-! # What the body computes between its passes, element by element -/

@[expose] public section
set_option maxRecDepth 16384
noncomputable section
namespace Cert.KernelIdeal
open Gen
open Idealize.ShloMosaic Idealize.ShloMosaic.TcCoe Idealize.ShloMosaic.Tactic

/-- The base-two logarithm of e, as the kernel has it. -/
def lg : EReal := (Named.named κ "log2e" (0x3FB8AA3B#32 : BitVec (FTy.bits .f32)) : Ideal .f32)

theorem lg_eq : lg = (((Real.log 2)⁻¹ : ℝ) : EReal) := by
  unfold lg
  simp [Named.named, κ]
theorem masked_eq : (Named.named κ "masked" (0xF149F2CA#32 : BitVec (FTy.bits .f32)) : Ideal .f32) = (⊥ : EReal) := by
  simp [Named.named, κ]

theorem p674 (l : Vec Ideal S32x128 .f32) (a : Fin 32) : (k0_pay674 l (ix2 a 0) : EReal) = Ideal.div 1 (∑ b : Fin 128, l (ix2 a b)) := by
  unfold k0_pay674; pointwise
theorem p675 (l m : Vec Ideal S32x128 .f32) (a : Fin 32) : (k0_pay675 l m (ix2 a 0) : EReal) = Row.rowMax (fun b : Fin 128 => m (ix2 a b)) * k0_pay674 l (ix2 a 0) * Row.c448 := by
  unfold k0_pay675 Row.rowMax; pointwise

theorem p676 (l m : Vec Ideal S32x128 .f32) (a : Fin 32) : (k0_pay676 l m (ix2 a 0) : EReal) = Row.corr lg (k0_pay675 l m (ix2 a 0)) := by
  unfold k0_pay676 Row.corr Row.corr1
  generalize k0_pay675 l m = y
  pointwise
  rfl
theorem p678 (x y z : FVec Ideal S32x1 .f32) (a : Fin 32) (b : Fin 128) :
    (k0_pay678 x y z (Scalar.ofBits .f32 0x00000000#32) (ix2 a b) : EReal)
      = x (ix2 a 0) * Ideal.exp2 (0 - Scalar.select (Ideal.cmp .oeq (y (ix2 a 0)) 0) 0 (z (ix2 a 0))) := by
  unfold k0_pay678 k0_pay677
  pointwise
  rfl
theorem p679 (y z : FVec Ideal S32x1 .f32) (a : Fin 32) (b : Fin 128) :
    (k0_pay679 y z (Scalar.ofBits .f32 0x00000000#32) (ix2 a b) : EReal) = Ideal.exp2 (Scalar.select (Ideal.cmp .oeq (y (ix2 a 0)) 0) 0 (z (ix2 a 0))) := by
  unfold k0_pay679 k0_pay677
  pointwise
  rfl
theorem p658 (l : Vec Ideal S32x128 .f32) (a : Fin 32) (b : Fin 128) : (k0_pay658 l (ix2 a b) : EReal) = Row.rowMax (fun b : Fin 128 => l (ix2 a b)) := by
  unfold k0_pay658 Row.rowMax; pointwise
theorem p655 (x : Fin 256) (b : Fin 128) : (k0_pay655 (F := Ideal) (ix2 x b) : EReal) = ⊥ := by
  unfold k0_pay655; pointwise
  exact masked_eq
theorem p667 (x : Fin 256) (b : Fin 128) : (k0_pay667 (F := Ideal) (ix2 x b) : EReal) = 0 := by
  unfold k0_pay667; pointwise
theorem p669 (x : Fin 256) (b : Fin 128) : (k0_pay669 (k0_pay668 (F := Ideal)) (ix2 x b) : EReal) = 0 := by
  unfold k0_pay669 k0_pay668; pointwise
theorem p719 (x : Fin 256) (b : Fin 128) : (k0_pay719 (F := Ideal) (ix2 x b) : EReal) = 0 := by
  unfold k0_pay719; pointwise
theorem lane_half : ∀ b : Fin 128, IntOp.cmpi .slt (BitVec.ofNat 32 b.val) 64#32 = BitVec.ofBool (decide (b.val < 64)) := by decide +kernel
theorem pay1_apply (A B : Vec Ideal S256x128 .f32) (a b : Fin 128) :
    (k0_pay1 (iota .tc S1x128 32 [1] iota_S1x128_d1_w32) A B (ix3 0 a b) : EReal)
    = if b.val < 64 then (A (ix2 ⟨a.val, by omega⟩ b) * B (ix2 ⟨a.val, by omega⟩ b) : EReal) else (A (ix2 ⟨128 + a.val, by omega⟩ b) * B (ix2 ⟨128 + a.val, by omega⟩ b) : EReal) := by
  unfold k0_pay1; pointwise
  rw [lane_half]
  by_cases h : b.val < 64
  · rw [if_pos h, decide_eq_true h]; rfl
  · rw [if_neg h, decide_eq_false h]; rfl

/-- The factor a strip's rows are multiplied by, and their scale. -/
theorem fV_apply (l m : Vec Ideal S32x128 .f32) (a : Fin 32) (b : Fin 128) : (fV l m (ix2 a b) : EReal)
    = Ideal.div 1 (∑ b : Fin 128, l (ix2 a b)) * Ideal.exp2 (0 - Row.kerExp lg (∑ b : Fin 128, l (ix2 a b)) (Row.rowMax fun b : Fin 128 => m (ix2 a b))) := by
  unfold fV Row.kerExp
  rw [p678, p676, p675, p674]
theorem cV_apply (l m : Vec Ideal S32x128 .f32) (a : Fin 32) (b : Fin 128) : (cV l m (ix2 a b) : EReal)
    = Ideal.exp2 (Row.kerExp lg (∑ b : Fin 128, l (ix2 a b)) (Row.rowMax fun b : Fin 128 => m (ix2 a b))) := by
  unfold cV Row.kerExp
  rw [p679, p676, p675, p674]
end Cert.KernelIdeal
-- ==== Proof.KernelRow.lean ====
module

public import proofs.«01_k».proof.Proof.Tails
import all proofs.«01_k».proof.Proof.Gen.KernelIdeal.Skeleton

/-! # A row of the accumulator and its scale

Given what the logits of a row are, in terms of the row's masked logits `Y`, the three passes leave
the row the reference defines. -/

@[expose] public section
set_option maxRecDepth 16384
noncomputable section
namespace Cert.KernelIdeal
open Gen
open Idealize.ShloMosaic Idealize.ShloMosaic.TcCoe Idealize.ShloMosaic.Tactic

variable (B : Buf)

/-- The number of chunks the point reads. -/
abbrev nOf : ℕ := (k0_t1_loop B.i (tableWord (F := Ideal) B.i B.a4 B.x4)).trips
/-- The slope of a row's head. -/
def slOf (x : Fin 256) : EReal := if x.val < 128 then (cx1 B).v57 else slopeV (cx1 B).v61

/-- The logit at a padded position, in base two. -/
def base2 (Y : Fin 32768 → EReal) (p : ℕ) : EReal := if h : 512 ≤ p ∧ p < 33280 then lg * Y ⟨p - 512, by omega⟩ else ⊥

/-- The exponential at a padded position. -/
def expAt (Y : Fin 32768 → EReal) (p : ℕ) : EReal := if h : 512 ≤ p ∧ p < 33280 then Ideal.exp (Y ⟨p - 512, by omega⟩ - Row.rowMax Y) else 0

/-- What row `x`'s logits, the scales and lane `d` of the values are. -/
structure RowData (x : Fin 256) (d : Fin 128) (Y vs V : Fin 32768 → EReal) : Prop where
  logit : ∀ k < nOf B, ∀ (c : Fin 512) (b : Fin 128), logitOf (cx1 B) (slOf B) x b (pp (cx1 B).v3 k c) = base2 Y (pp (cx1 B).v3 k c)
  scale : ∀ j : Fin 32768, B.a11.view.read (Elt Ideal) B.x11 (ix4 0 0 0 (fin33 (j.val + 512))) = vs j
  value : ∀ j : Fin 32768, B.a9.view.read (Elt Ideal) B.x9 (ix4 0 0 (fin33 (j.val + 512)) d) = V j
  window : ∀ j, Y j ≠ ⊥ → ∃ k < nOf B, ∃ c : Fin 512, pp (cx1 B).v3 k c = j.val + 512

theorem lg_pos : ∃ L : ℝ, 0 < L ∧ L = (Real.log 2)⁻¹ ∧ lg = (L : EReal) :=
  ⟨_, inv_pos.2 (Real.log_pos (by norm_num)), rfl, lg_eq⟩

theorem base2_lo (Y) : ∀ p < 512, base2 Y p = ⊥ := fun p hp => dif_neg (by omega)
theorem base2_at (Y) (j : Fin 32768) : base2 Y (j.val + 512) = lg * Y j :=
  (dif_pos (by have := j.isLt; omega)).trans (congrArg (fun z => lg * Y z) (Fin.ext (by dsimp only; omega)))
theorem expAt_lo (Y) : ∀ p < 512, expAt Y p = 0 := fun p hp => dif_neg (by omega)
theorem expAt_at (Y) (j : Fin 32768) : expAt Y (j.val + 512) = Ideal.exp (Y j - Row.rowMax Y) :=
  (dif_pos (by have := j.isLt; omega)).trans (congrArg (fun z => Ideal.exp (Y z - Row.rowMax Y)) (Fin.ext (by dsimp only; omega)))

theorem lg_bot : lg * ⊥ = ⊥ := by
  obtain ⟨L, hL, _, e⟩ := lg_pos
  rw [e]; exact EReal.coe_mul_bot_of_pos hL

theorem exp_base2 (Y) (p : ℕ) : Ideal.exp2 (base2 Y p - lg * Row.rowMax Y) = expAt Y p := by
  obtain ⟨L, hL, hL', e⟩ := lg_pos
  unfold base2 expAt
  split_ifs with h
  · rw [e]; exact Row.exp_base _ _ L hL'
  · rw [EReal.bot_sub]; rfl

theorem exp_zero (Y) (j : Fin 32768) (h : Y j = ⊥) : Ideal.exp (Y j - Row.rowMax Y) = 0 := by
  rw [h, EReal.bot_sub]; rfl

theorem lg_max (Y : Fin 32768 → EReal) (u : EReal) : lg * Row.rowMax Y ≤ u ↔ ∀ j, lg * Y j ≤ u := by
  obtain ⟨L, hL, hL', e⟩ := lg_pos
  have h0 : (0 : EReal) ≤ lg := by rw [e]; exact_mod_cast hL.le
  constructor
  · intro h j
    exact (mul_le_mul_of_nonneg_left (Row.le_rowMax Y j) h0).trans h
  · intro h
    obtain ⟨j, hj⟩ := Row.rowMax_mem Y
    rw [hj]; exact h j

variable {B}

theorem sc_le (g : (cx1 B).Good) (r : Fin 8) (a : Fin 32) (b : Fin 128) (u : EReal) : (sc B r (ix2 a b) : EReal) ≤ u
    ↔ ∀ k < nOf B, ∀ w : Fin 4, logitOf (cx1 B) (slOf B) (row r a) b (pp (cx1 B).v3 k (col w b)) ≤ u := by
  have e : sc B r (ix2 a b) = B.a19.view.read (Elt Ideal) (B.a19.view.writes (Elt Ideal) B.a19.view.junk (L19 B)) (ix2 (row r a) b) := strip_apply B.a19 _ r a b
  rw [e]
  unfold L19
  rw [View.writes_append]
  refine (lp1_max g _ _ _ le_rfl _ _ _).trans ?_
  have hb : (B.a19.view.read (Elt Ideal) (B.a19.view.writes (Elt Ideal) B.a19.view.junk ([⟨Rect.unit ![0, 0] S256x128.size inb_S256x128_S256x128_0_0, (k0_pay655 (F := Ideal))⟩])) (ix2 (row r a) b) : EReal) = ⊥ :=
    (congrFun (View.read_writes_full B.a19.view _ _ _ _) _).trans (p655 _ _)
  exact ⟨fun h => h.2, fun h => ⟨hb.le.trans bot_le, h⟩⟩

theorem win_le (g : (cx1 B).Good) : ∀ k < nOf B, 512 * k ≤ (cx1 B).v3.toNat + 128 := fun k hk => by
  have h1 := (small g ⟨k, hk⟩).1
  rw [g.h3]; dsimp only at h1; omega
theorem win_hi (g : (cx1 B).Good) : (cx1 B).v3.toNat + 128 + 512 ≤ 33280 := by
  have := tile_lt (cx1 B).i
  rw [g.h3]; omega

variable {x : Fin 256} {d : Fin 128} {Y vs V : Fin 32768 → EReal}

/-- The row's maximum, as the exponential pass reads it. -/
theorem c_read (g : (cx1 B).Good) (D : RowData B x d Y vs V) (b : Fin 128) :
    (B.a19.view.read (Elt Ideal) (B.a19.view.writes (Elt Ideal) B.a19.view.junk (L19' B)) (ix2 x b) : EReal) = lg * Row.rowMax Y := by
  unfold L19'
  rw [← row_split x, read_strips8, p658]
  refine eq_of_forall_ge_iff fun u => ?_
  rw [Row.rowMax_le, lg_max]
  refine (forall_congr' fun b => sc_le g _ _ b u).trans ?_
  rw [row_split]
  have h := window_forall ((cx1 B).v3.toNat + 128) (nOf B) (win_le g) (win_hi g) (base2 Y) (fun j => lg * Y j) ⊥ u bot_le (base2_lo Y) (base2_at Y)
    (fun j hj => D.window j fun e => hj (by rw [e]; exact lg_bot))
  refine Iff.trans ?_ h
  constructor
  · intro h k hk c
    have := h (colR c) k hk (colS c)
    rw [col_split, D.logit k hk] at this
    exact this
  · intro h b k hk w
    rw [D.logit k hk]
    exact h k hk _

theorem good3 (g : (cx1 B).Good) : (cx3 B).Good := ⟨g.hb, g.h3, g.h9⟩
theorem good5 (g : (cx1 B).Good) : (cx5 B).Good := ⟨g.hb, g.h3, g.h9⟩

theorem slope_word : (bodyRun.sl.r_7 (F := Ideal) B.i : EReal) = slopeV (bodyRun.sl.v61 B.i) := rfl

theorem logit3 (p : ℕ) (b : Fin 128) : logitOf (cx3 B) (fun x => if x.val < 128 then (cx3 B).v57 else (cx3 B).v95) x b p = logitOf (cx1 B) (slOf B) x b p := rfl

theorem exp_read (g : (cx1 B).Good) (D : RowData B x d Y vs V) (k : ℕ) (hk : k < nOf B) (c : Fin 512) (b : Fin 128) :
    expOf (cx3 B) x b (pp (cx3 B).v3 k c) = expAt Y (pp (cx1 B).v3 k c) := by
  unfold expOf
  rw [logit3]
  have h := c_read g D b
  refine Eq.trans ?_ (exp_base2 Y _)
  rw [← D.logit k hk c b, ← h]
  rfl

/-- The row's sum. -/
theorem sl_sum (g : (cx1 B).Good) (D : RowData B x d Y vs V) :
    ∑ b : Fin 128, (sl B (rowS x) (ix2 (rowR x) b) : EReal) = ∑ j, Ideal.exp (Y j - Row.rowMax Y) := by
  have h : ∀ b : Fin 128, (sl B (rowS x) (ix2 (rowR x) b) : EReal) = ∑ k ∈ Finset.range (nOf B), ∑ w : Fin 4, expAt Y (pp (cx1 B).v3 k (col w b)) := by
    intro b
    have e : sl B (rowS x) (ix2 (rowR x) b) = B.a20.view.read (Elt Ideal) (B.a20.view.writes (Elt Ideal) B.a20.view.junk ((pass3 B).2.2.1 ++ H20)) (ix2 (row (rowS x) (rowR x)) b) := strip_apply B.a20 _ _ _ b
    have hb : (B.a20.view.read (Elt Ideal) (B.a20.view.writes (Elt Ideal) B.a20.view.junk H20) (ix2 x b) : EReal) = 0 :=
      (congrFun (View.read_writes_full B.a20.view _ _ _ _) _).trans (p667 _ _)
    rw [e, row_split, View.writes_append]
    refine (lp3_sum (good3 g) _ _ _ _ _ le_rfl x b).trans ((congrArg₂ (· + ·) hb ?_).trans (zero_add _))
    exact Finset.sum_congr rfl fun k hk => Finset.sum_congr rfl fun w _ => exp_read g D k (Finset.mem_range.1 hk) (col w b) b
  rw [Finset.sum_congr rfl fun b _ => h b, lanes_all (nOf B) fun k c => expAt Y (pp (cx1 B).v3 k c)]
  refine window_sum ((cx1 B).v3.toNat + 128) (nOf B) (win_le g) (win_hi g) (expAt Y) _ (expAt_lo Y) (expAt_at Y) fun j hj => D.window j fun e => hj (exp_zero Y j e)

/-- The weighted exponential at a padded position. -/
def wAt (Y vs : Fin 32768 → EReal) (p : ℕ) : EReal := if h : 512 ≤ p ∧ p < 33280 then expAt Y p * vs ⟨p - 512, by omega⟩ else 0
theorem wAt_lo : ∀ p < 512, wAt Y vs p = 0 := fun p hp => dif_neg (by omega)
theorem wAt_at (j : Fin 32768) : wAt Y vs (j.val + 512) = Ideal.exp (Y j - Row.rowMax Y) * vs j :=
  (dif_pos (by have := j.isLt; omega)).trans (congrArg₂ (· * ·) (expAt_at Y j) (congrArg vs (Fin.ext (by dsimp only; omega))))

theorem w_read (g : (cx1 B).Good) (D : RowData B x d Y vs V) (k : ℕ) (hk : k < nOf B) (c : Fin 512) (b : Fin 128) :
    (expOf (cx3 B) x b (pp (cx3 B).v3 k c) * (B.a11.view.read (Elt Ideal) B.x11 (ix4 0 0 0 (fin33 (pp (cx3 B).v3 k c)))) : EReal)
      = wAt Y vs (pp (cx1 B).v3 k c) := by
  rw [exp_read g D k hk]
  have hp := pos_lt g ⟨k, hk⟩ c
  show _ * B.a11.view.read (Elt Ideal) B.x11 (ix4 0 0 0 (fin33 (pp (cx1 B).v3 k c))) = _
  dsimp only at hp
  generalize pp (cx1 B).v3 k c = p at hp
  by_cases h : 512 ≤ p
  · obtain ⟨j, rfl⟩ : ∃ j : Fin 32768, p = j.val + 512 := ⟨⟨p - 512, by omega⟩, by dsimp only; omega⟩
    rw [D.scale j, wAt_at, expAt_at]
  · rw [expAt_lo Y p (by omega), wAt_lo p (by omega)]
    exact zero_mul _

/-- The row's maximum of the weighted exponentials. -/
theorem sm_max (g : (cx1 B).Good) (D : RowData B x d Y vs V) (u : EReal) :
    Row.rowMax (fun b : Fin 128 => (sm B (rowS x) (ix2 (rowR x) b) : EReal)) ≤ u ↔ 0 ≤ u ∧ ∀ j, Ideal.exp (Y j - Row.rowMax Y) * vs j ≤ u := by
  have h : ∀ b : Fin 128, (sm B (rowS x) (ix2 (rowR x) b) : EReal) ≤ u ↔ 0 ≤ u ∧ ∀ k < nOf B, ∀ w : Fin 4, wAt Y vs (pp (cx1 B).v3 k (col w b)) ≤ u := by
    intro b
    have e : sm B (rowS x) (ix2 (rowR x) b) = B.a21.view.read (Elt Ideal) (B.a21.view.writes (Elt Ideal) B.a21.view.junk ((pass3 B).2.2.2 ++ H21)) (ix2 (row (rowS x) (rowR x)) b) := strip_apply B.a21 _ _ _ b
    have hb : (B.a21.view.read (Elt Ideal) (B.a21.view.writes (Elt Ideal) B.a21.view.junk H21) (ix2 x b) : EReal) = 0 :=
      (congrFun (View.read_writes_full B.a21.view _ _ _ _) _).trans (p669 _ _)
    rw [e, row_split, View.writes_append]
    refine (lp3_max (good3 g) _ _ _ _ _ le_rfl x b u).trans (and_congr (Iff.of_eq (congrArg (· ≤ u) hb)) ?_)
    exact forall_congr' fun k => forall_congr' fun hk => forall_congr' fun w => Iff.of_eq (congrArg (· ≤ u) (w_read g D k hk (col w b) b))
  rw [Row.rowMax_le]
  have hw : 0 ≤ u → ((∀ k < nOf B, ∀ c : Fin 512, wAt Y vs (pp (cx1 B).v3 k c) ≤ u) ↔ ∀ j, Ideal.exp (Y j - Row.rowMax Y) * vs j ≤ u) := fun hu =>
    window_forall ((cx1 B).v3.toNat + 128) (nOf B) (win_le g) (win_hi g) (wAt Y vs) (fun j => Ideal.exp (Y j - Row.rowMax Y) * vs j) 0 u hu wAt_lo wAt_at
      (fun j hj => D.window j fun e => hj (by rw [exp_zero Y j e]; exact zero_mul _))
  constructor
  · intro hb
    have h0 := ((h 0).1 (hb 0)).1
    refine ⟨h0, (hw h0).1 fun k hk c => ?_⟩
    have := ((h (colR c)).1 (hb (colR c))).2 k hk (colS c)
    rwa [col_split] at this
  · rintro ⟨h0, hj⟩ b
    exact (h b).2 ⟨h0, fun k hk w => (hw h0).2 hj k hk _⟩

/-- The row's sum, maximum, and factor. -/
def sumOf (B : Buf) (x : Fin 256) : EReal := ∑ b : Fin 128, (sl B (rowS x) (ix2 (rowR x) b) : EReal)
def maxOf (B : Buf) (x : Fin 256) : EReal := Row.rowMax (fun b : Fin 128 => (sm B (rowS x) (ix2 (rowR x) b) : EReal))
def facOf (B : Buf) (x : Fin 256) : EReal := Ideal.div 1 (sumOf B x) * Ideal.exp2 (0 - Row.kerExp lg (sumOf B x) (maxOf B x))

theorem fac_read (b : Fin 128) : (B.a22.view.read (Elt Ideal) (cx5 B).x22 (ix2 x b) : EReal) = facOf B x := by
  have e : (B.a22.view.read (Elt Ideal) (cx5 B).x22 (ix2 x b) : EReal) = fV (sl B (rowS x)) (sm B (rowS x)) (ix2 (rowR x) b) := by
    conv_lhs => rw [← row_split x]
    have := read_strips8 B.a22.view B.a22.view.junk (fun r => fV (sl B r) (sm B r)) [] (rowS x) (rowR x) b
    rw [List.append_nil] at this
    exact this
  rw [e, fV_apply]; rfl

theorem scl_read (b : Fin 128) : (sclW B (ix2 x b) : EReal) = Ideal.exp2 (Row.kerExp lg (sumOf B x) (maxOf B x)) := by
  have e : (sclW B (ix2 x b) : EReal) = cV (sl B (rowS x)) (sm B (rowS x)) (ix2 (rowR x) b) := by
    unfold sclW
    have := read_strips8 B.a19.view B.a19.view.junk (fun r => cV (sl B r) (sm B r)) (L19' B) (rowS x) (rowR x) b
    rw [row_split] at this
    exact (congrFun (full256 B.a19 _) _).trans this
  rw [e, cV_apply]; rfl

theorem code_read (g : (cx1 B).Good) (D : RowData B x d Y vs V) (k : ℕ) (hk : k < nOf B) (c : Fin 512) :
    codeOf (cx5 B) (fin64 k) x c = Row.clip (wAt Y vs (pp (cx1 B).v3 k c) * facOf B x) := by
  have hk64 := (small g ⟨k, hk⟩).2.1
  have hv : (fin64 k).val = k := Nat.mod_eq_of_lt hk64
  have e1 : (B.a13.view.read (Elt Ideal) (cx5 B).x13 (ix3 (fin64 k) x c) : EReal) = wAt Y vs (pp (cx1 B).v3 k c) := by
    refine (lp3_kept (good3 g) _ _ _ _ _ le_rfl (fin64 k) (by rw [hv]; exact hk) x c).trans ?_
    rw [hv]
    exact w_read g D k hk c _
  exact congrArg₂ (fun y z : EReal => Row.clip (y * z)) e1 (fac_read (colR c))

/-- The accumulator's element. -/
theorem acc_read (g : (cx1 B).Good) (D : RowData B x d Y vs V) :
    (accW B (ix2 x d) : EReal) = ∑ j, Row.clip (Ideal.exp (Y j - Row.rowMax Y) * vs j * facOf B x) * V j := by
  have e : (accW B (ix2 x d) : EReal) = B.a23.view.read (Elt Ideal) (B.a23.view.writes (Elt Ideal) B.a23.view.junk ((lp5 (cx5 B) B.f15 (B.a23.view.writes (Elt Ideal) B.a23.view.junk (H23)) (k0_t5_loop B.i (tableWord (F := Ideal) B.i B.a4 B.x4)).trips).2 ++ H23)) (ix2 x d) :=
    congrFun (full256 B.a23 _) _
  have hb : (B.a23.view.read (Elt Ideal) (B.a23.view.writes (Elt Ideal) B.a23.view.junk H23) (ix2 x d) : EReal) = 0 :=
    (congrFun (View.read_writes_full B.a23.view _ _ _ _) _).trans (p719 _ _)
  rw [e, View.writes_append]
  refine (lp5_acc (good5 g) _ _ _ le_rfl x d).trans ((congrArg₂ (· + ·) hb rfl).trans ((zero_add _).trans ?_))
  have hz : ∀ p, wAt Y vs p = 0 → Row.clip (wAt Y vs p * facOf B x) = 0 := fun p h => by rw [h]; exact (congrArg Row.clip (zero_mul _)).trans Row.clip_zero
  let G : ℕ → EReal := fun p => Row.clip (wAt Y vs p * facOf B x) * B.a9.view.read (Elt Ideal) B.x9 (ix4 0 0 (fin33 p) d)
  refine Eq.trans (b := ∑ k ∈ Finset.range (nOf B), ∑ c : Fin 512, G (pp (cx1 B).v3 k c)) ?_ ?_
  · exact Finset.sum_congr rfl fun k hk => Finset.sum_congr rfl fun c _ => congrArg (· * (B.a9.view.read (Elt Ideal) B.x9 (ix4 0 0 (fin33 (pp (cx1 B).v3 k c)) d) : EReal)) (code_read g D k (Finset.mem_range.1 hk) c)
  · refine window_sum ((cx1 B).v3.toNat + 128) (nOf B) (win_le g) (win_hi g) G _ (fun p hp => ?_) (fun j => ?_) fun j hj => D.window j fun e => hj ?_
    · show Row.clip _ * _ = (0 : EReal)
      rw [hz p (wAt_lo p hp)]; exact zero_mul _
    · show Row.clip _ * B.a9.view.read (Elt Ideal) B.x9 _ = _
      rw [wAt_at, D.value]
    · rw [← wAt_at, hz _ ?_]
      · exact zero_mul _
      · rw [wAt_at, exp_zero Y j e]; exact zero_mul _

/-- A row of what the body stores is the row the reference defines. -/
theorem row_out (g : (cx1 B).Good) (D : RowData B x d Y vs V) (hvs : ∀ j, 0 ≤ vs j) :
    (accW B (ix2 x d) * sclW B (ix2 x d) : EReal) = Row.refOut Y vs V := by
  obtain ⟨L, _, hL, e⟩ := lg_pos
  have h := Row.out_eq L hL Y vs V hvs (sumOf B x) (maxOf B x) (sl_sum g D) (sm_max g D)
  rw [← h, acc_read g D, scl_read]
  unfold Row.kerOut facOf
  rw [← e]
end Cert.KernelIdeal
-- ==== Proof.Entry.lean ====
module

public import proofs.«01_k».proof.Proof.KernelRow
import all proofs.«01_k».proof.Proof.Gen.KernelIdeal.Skeleton

/-! # What the body keeps of its inputs before the passes

Row `x` of the 256 rows is query `x % 128` of head `x / 128` of the pair. -/

@[expose] public section
set_option maxRecDepth 16384
noncomputable section
namespace Cert.KernelIdeal
open Gen
open Idealize.ShloMosaic Idealize.ShloMosaic.TcCoe Idealize.ShloMosaic.Tactic

/-- The head of the pair, and the query, of a row. -/
def hf (x : Fin 256) : Fin 2 := ⟨x.val / 128, by omega⟩
def tk (x : Fin 256) : Fin 128 := ⟨x.val % 128, by omega⟩

section Halves
variable {sig : RefSig} {κ : Kind} {sp : Space} {e : EltTy}
theorem read_halves (v : View sig κ sp S256x128 e) (f : v.ty.Contents (Elt Ideal)) (A B : Vec Ideal S128x128 e) (h1 h2) (x : Fin 256) (b : Fin 128) :
    v.read (Elt Ideal) (v.writes (Elt Ideal) f [⟨Rect.unit ![128, 0] S128x128.size h1, A⟩, ⟨Rect.unit ![0, 0] S128x128.size h2, B⟩]) (ix2 x b)
      = if x.val < 128 then B (ix2 (tk x) b) else A (ix2 (tk x) b) := by
  have hx := x.isLt
  split_ifs with h
  · rw [View.read_writes_cons_unit_of_not_mem v f h1 A _ (ix2 x b) rfl 0 (Or.inl h)]
    refine View.read_writes_cons_unit_of_mem v f h2 B [] (ix2 x b) (ix2 (tk x) b) rfl fun a => ?_
    fin_cases a
    · show x.val = 0 + x.val % 128; omega
    · exact (Nat.zero_add _).symm
  · refine View.read_writes_cons_unit_of_mem v f h1 A _ (ix2 x b) (ix2 (tk x) b) rfl fun a => ?_
    fin_cases a
    · show x.val = 128 + x.val % 128; omega
    · exact (Nat.zero_add _).symm
end Halves

section Pays
variable (q : Vec Ideal S1x128x128 .fp8e4m3) (qs : Vec Ideal S1x128x16 .f32) (ds : Vec Ideal S1x128x1 .i32)

theorem lanes_lo : ∀ l : Fin 128, IntOp.andi (IntOp.cmpi CmpIPredicate.sge (BitVec.ofNat 32 l.val) 0#32) (IntOp.cmpi CmpIPredicate.slt (BitVec.ofNat 32 l.val) 64#32) = BitVec.ofBool (decide (l.val < 64)) := by decide +kernel
theorem lanes_hi : ∀ l : Fin 128, IntOp.andi (IntOp.cmpi CmpIPredicate.sge (BitVec.ofNat 32 l.val) 64#32) (IntOp.cmpi CmpIPredicate.slt (BitVec.ofNat 32 l.val) 128#32) = BitVec.ofBool (decide (64 ≤ l.val)) := by decide +kernel
theorem head_bit : ∀ x h : Fin 16, IntOp.cmpi CmpIPredicate.eq (BitVec.ofNat 32 x.val) (BitVec.ofNat 32 h.val) = BitVec.ofBool (decide (x = h)) := by decide +kernel

theorem q646 (a l : Fin 128) : (k0_pay646 (k0_pay645 q) (ix2 a l) : EReal) = Scalar.select (BitVec.ofBool (decide (l.val < 64))) (q (ix3 0 a l) : EReal) 0 := by
  have h : (k0_pay642 q (ix2 a l) : EReal) = q (ix3 0 a l) := by unfold k0_pay642; pointwise
  rw [← lanes_lo, ← h]
  unfold k0_pay646 k0_pay645; pointwise
theorem q651 (a l : Fin 128) : (k0_pay651 (k0_pay650 (iota .tc S1x128 32 [1] iota_S1x128_d1_w32) (k0_pay642 q)) (ix2 a l) : EReal) = Scalar.select (BitVec.ofBool (decide (64 ≤ l.val))) (q (ix3 0 a l) : EReal) 0 := by
  rw [← lanes_hi]
  unfold k0_pay651 k0_pay650 k0_pay642; pointwise
theorem head_sum (f : Fin 16 → EReal) (h : Fin 16) : ∑ x : Fin 16, Scalar.select (IntOp.cmpi CmpIPredicate.eq (BitVec.ofNat 32 x.val) (BitVec.ofNat 32 h.val)) (f x) 0 = f h := by
  refine (Finset.sum_eq_single h (fun x _ hx => ?_) (fun hh => absurd (Finset.mem_univ _) hh)).trans ?_
  · rw [head_bit, decide_eq_false hx]; rfl
  · rw [head_bit, decide_eq_true rfl]; rfl
/-- The logits' scale in base two, an eighth of `lg`. -/
def slg : EReal := (Named.named κ "scaled_log2e" (0x3E38AA3B#32 : BitVec (FTy.bits .f32)) : Ideal .f32)
theorem q647 (h : Fin 16) (a l : Fin 128) : (k0_pay647 (k0_pay644 qs) (iota .tc S128x16 32 [1] iota_S128x16_d1_w32) (BitVec.ofNat 32 h.val) (ix2 a l) : EReal) = qs (ix3 0 a h) * slg := by
  rw [← head_sum (fun x => qs (ix3 0 a x)) h]
  unfold k0_pay647 k0_pay644 slg; pointwise
theorem q652 (h : Fin 16) (a l : Fin 128) : (k0_pay652 (k0_pay644 qs) (iota .tc S128x16 32 [1] iota_S128x16_d1_w32) (BitVec.ofNat 32 h.val) (ix2 a l) : EReal) = qs (ix3 0 a h) * slg := by
  rw [← head_sum (fun x => qs (ix3 0 a x)) h]
  unfold k0_pay652 k0_pay644 slg; pointwise
theorem q648 (a l : Fin 128) : (k0_pay648 (k0_pay643 ds) (ix2 a l) : BitVec 32) = ds (ix3 0 a 0) := by
  unfold k0_pay648 k0_pay643; pointwise
theorem q653 (a l : Fin 128) : (k0_pay653 (k0_pay643 ds) (ix2 a l) : BitVec 32) = ds (ix3 0 a 0) := by
  unfold k0_pay653 k0_pay643; pointwise
end Pays

variable (B : Buf)
/-- The number of a row's head among the sixteen. -/
def hd (x : Fin 256) : Fin 16 := ⟨(B.i 1).val * 4 + (B.i 2).val * 2 + x.val / 128, by
  have h1 : (B.i 1).val < 4 := (B.i 1).isLt
  have h2 : (B.i 2).val < 2 := (B.i 2).isLt
  omega⟩

theorem head_words : ∀ (g : Fin 4) (p : Fin 2), Scalar.addi (Scalar.addi (Scalar.muli (BitVec.ofNat 32 g.val) 4#32) (Scalar.muli (BitVec.ofNat 32 p.val) 2#32)) 0#32 = BitVec.ofNat 32 (g.val * 4 + p.val * 2)
    ∧ Scalar.addi (Scalar.addi (Scalar.muli (BitVec.ofNat 32 g.val) 4#32) (Scalar.muli (BitVec.ofNat 32 p.val) 2#32)) 1#32 = BitVec.ofNat 32 (g.val * 4 + p.val * 2 + 1) := by decide +kernel

theorem v23_word (x : Fin 256) (h : x.val < 128) : bodyRun.sl.v23 B.i = BitVec.ofNat 32 (hd B x).val :=
  ((head_words (B.i 1) (B.i 2)).1 : bodyRun.sl.v23 B.i = _).trans (congrArg (BitVec.ofNat 32) (by show _ = _ + x.val / 128; omega))
theorem v61_word (x : Fin 256) (h : ¬ x.val < 128) : bodyRun.sl.v61 B.i = BitVec.ofNat 32 (hd B x).val :=
  ((head_words (B.i 1) (B.i 2)).2 : bodyRun.sl.v61 B.i = _).trans (congrArg (BitVec.ofNat 32) (by have := x.isLt; show _ = _ + x.val / 128; omega))

theorem slOf_eq (x : Fin 256) : slOf B x = slopeV (BitVec.ofNat 32 (hd B x).val) := by
  unfold slOf
  split_ifs with h
  · rw [← v23_word B x h]; rfl
  · rw [← v61_word B x h]; rfl

theorem q_read (x : Fin 256) (l : Fin 128) : (B.a16.view.read (Elt Ideal) (cx1 B).x16 (ix2 x l) : EReal)
    = if l.val / 64 = x.val / 128 then (B.a5.view.read (Elt Ideal) B.x5 (ix3 0 (tk x) l) : EReal) else 0 := by
  have hx := x.isLt
  have hl := l.isLt
  have hr : B.a5.view.readAt (Elt Ideal) (Rect.unit ![0, 0, 0] S1x128x128.size inb_S1x128x128_S1x128x128_0_0_0).toLoadRect B.x5 = B.a5.view.read (Elt Ideal) B.x5 := View.readAt_full _ _ _
  refine (read_halves B.a16.view _ (k0_pay651 (bodyRun.sl.r_6 (F := Ideal) B.a5 B.x5)) (k0_pay646 (bodyRun.sl.r_4 (F := Ideal) B.a5 B.x5)) _ _ x l).trans ?_
  unfold bodyRun.sl.r_6 bodyRun.sl.r_4 bodyRun.sl.r_1 bodyRun.sl.v9
  rw [hr]
  split_ifs with h1 h2 h2
  · refine (q646 _ _ _).trans ?_
    rw [decide_eq_true (by omega : l.val < 64)]; rfl
  · refine (q646 _ _ _).trans ?_
    rw [decide_eq_false (by omega : ¬ l.val < 64)]; rfl
  · refine (q651 _ _ _).trans ?_
    rw [decide_eq_true (by omega : 64 ≤ l.val)]; rfl
  · refine (q651 _ _ _).trans ?_
    rw [decide_eq_false (by omega : ¬ 64 ≤ l.val)]; rfl

theorem qs_read (x : Fin 256) (b : Fin 128) : (B.a17.view.read (Elt Ideal) (cx1 B).x17 (ix2 x b) : EReal)
    = B.a6.view.read (Elt Ideal) B.x6 (ix3 0 (tk x) (hd B x)) * slg := by
  have hr : B.a6.view.readAt (Elt Ideal) (Rect.unit ![0, 0, 0] S1x128x16.size inb_S1x128x16_S1x128x16_0_0_0).toLoadRect B.x6 = B.a6.view.read (Elt Ideal) B.x6 := View.readAt_full _ _ _
  refine (read_halves B.a17.view _ (k0_pay652 (bodyRun.sl.r_3 (F := Ideal) B.a6 B.x6) bodyRun.sl.v19 (bodyRun.sl.v61 B.i)) (k0_pay647 (bodyRun.sl.r_3 (F := Ideal) B.a6 B.x6) bodyRun.sl.v19 (bodyRun.sl.v23 B.i)) _ _ x b).trans ?_
  unfold bodyRun.sl.r_3 bodyRun.sl.v19
  rw [hr]
  split_ifs with h
  · rw [v23_word B x h]; exact q647 _ _ _ _
  · rw [v61_word B x h]; exact q652 _ _ _ _

theorem ds_read (x : Fin 256) (b : Fin 128) : (B.a18.view.read (Elt Ideal) (cx1 B).x18 (ix2 x b) : BitVec 32) = B.a7.view.read (Elt Ideal) B.x7 (ix3 0 (tk x) 0) := by
  have hr : B.a7.view.readAt (Elt Ideal) (Rect.unit ![0, 0, 0] S1x128x1.size inb_S1x128x1_S1x128x1_0_0_0).toLoadRect B.x7 = B.a7.view.read (Elt Ideal) B.x7 := View.readAt_full _ _ _
  refine (read_halves B.a18.view _ (k0_pay653 (bodyRun.sl.r_2 (F := Ideal) B.a7 B.x7)) (k0_pay648 (bodyRun.sl.r_2 (F := Ideal) B.a7 B.x7)) _ _ x b).trans ?_
  unfold bodyRun.sl.r_2
  rw [hr]
  split_ifs with h
  · exact q648 _ _ _
  · exact q653 _ _ _

theorem good1 (hb : (tableWord (F := Ideal) B.i B.a4 B.x4).toNat ≤ 128 * (B.i 3).val) : (cx1 B).Good where
  hb := hb
  h3 := by
    have h : (B.i 3).val < 256 := (B.i 3).isLt
    show (BitVec.ofNat 32 (B.i 3).val * 128#32).toNat = 128 * (B.i 3).val
    rw [BitVec.toNat_mul, BitVec.toNat_ofNat]
    show ((B.i 3).val % 2 ^ 32 * 128) % 2 ^ 32 = _
    omega
  h9 := fun b => by
    show bodyRun.sl.v9 (ix2 0 b) = _
    unfold bodyRun.sl.v9; pointwise
end Cert.KernelIdeal
-- ==== Proof.Logits.lean ====
module

public import proofs.«01_k».proof.Proof.Entry
public import proofs.«01_k».proof.Proof.Cummax
import all proofs.«01_k».proof.Proof.Gen.KernelIdeal.Skeleton

/-! # The logits of a row

The kernel's logits are the reference's times the base-two logarithm of e. A key is visible when it is
not before the start of the query's segment; since the segments are in order, that is when it is in
the query's segment and not after the query. -/

@[expose] public section
set_option maxRecDepth 16384
noncomputable section
namespace Cert.KernelIdeal
open Gen
open Idealize.ShloMosaic Idealize.ShloMosaic.TcCoe Idealize.ShloMosaic.Tactic

/-- Lane `l` of the 64 of the row's head. -/
def ln (x : Fin 256) (l : Fin 64) : Fin 128 := ⟨64 * (x.val / 128) + l.val, by omega⟩

/-- The masked logit of a query at position `i` and the key `j`. -/
def rowLogit (qv : Fin 64 → EReal) (kv : Fin 32768 → Fin 64 → EReal) (qsr : EReal) (ks : Fin 32768 → EReal) (seg : Fin 32768 → BitVec 32) (sl : EReal) (i j : Fin 32768) : EReal :=
  Scalar.select (IntOp.andi (IntOp.cmpi .sle (BitVec.ofNat 32 j.val) (BitVec.ofNat 32 i.val)) (IntOp.cmpi .eq (seg i) (seg j)))
    ((∑ x : Fin 64, kv j x * qv x) * qsr * (ks j * Ideal.ofBits .f32 0x3E000000#32) -
      sl * FloatOps.sitofp (F := Ideal) .f32 (IntOp.subi (BitVec.ofNat 32 i.val) (BitVec.ofNat 32 j.val))) Row.minusInf

theorem scores_half (x : Fin 256) (q k : Fin 128 → EReal) :
    ∑ l : Fin 128, (if l.val / 64 = x.val / 128 then q l else 0) * k l = ∑ l : Fin 64, k (ln x l) * q (ln x l) := by
  have hx := x.isLt
  have e := Fin.sum_univ_add (a := 64) (b := 64) (fun l : Fin 128 => (if l.val / 64 = x.val / 128 then q l else 0) * k l)
  refine e.trans ?_
  by_cases h : x.val < 128
  · have h0 : x.val / 128 = 0 := by omega
    have z : ∀ l : Fin 64, (if (Fin.natAdd 64 l : Fin 128).val / 64 = x.val / 128 then q (Fin.natAdd 64 l : Fin 128) else 0) * k (Fin.natAdd 64 l : Fin 128) = 0 := fun l => by
      rw [if_neg (by show ¬ (64 + l.val) / 64 = _; omega)]; exact zero_mul _
    rw [Finset.sum_eq_zero (fun l _ => z l), add_zero]
    refine Finset.sum_congr rfl fun l _ => ?_
    have hl : (Fin.castAdd 64 l : Fin 128) = ln x l := Fin.ext (by show l.val = 64 * (x.val / 128) + l.val; omega)
    rw [if_pos (by show l.val / 64 = _; omega), hl, mul_comm]
  · have h0 : x.val / 128 = 1 := by omega
    have z : ∀ l : Fin 64, (if (Fin.castAdd 64 l : Fin 128).val / 64 = x.val / 128 then q (Fin.castAdd 64 l : Fin 128) else 0) * k (Fin.castAdd 64 l : Fin 128) = 0 := fun l => by
      rw [if_neg (by show ¬ l.val / 64 = _; omega)]; exact zero_mul _
    rw [Finset.sum_eq_zero (fun l _ => z l), zero_add]
    refine Finset.sum_congr rfl fun l _ => ?_
    have hl : (Fin.natAdd 64 l : Fin 128) = ln x l := Fin.ext (by show 64 + l.val = 64 * (x.val / 128) + l.val; omega)
    rw [if_pos (by show (64 + l.val) / 64 = _; omega), hl, mul_comm]

theorem eighth : Ideal.ofBits .f32 0x3E000000#32 = (((1 / 8 : ℝ)) : EReal) := by
  simp [Ideal.ofBits, Ideal.ieee, -EReal.coe_mul]; norm_num
theorem slg_eq : slg = Ideal.ofBits .f32 0x3E000000#32 * lg := by
  rw [eighth, lg_eq, ← EReal.coe_mul]
  unfold slg
  simp [Named.named, κ, -EReal.coe_mul]

theorem lg_sub (a b : EReal) : lg * (a - b) = lg * a - lg * b := by
  obtain ⟨L, hL, _, e⟩ := lg_pos
  rw [e, sub_eq_add_neg, EReal.left_distrib_of_nonneg_of_ne_top (by exact_mod_cast hL.le) (EReal.coe_ne_top L), mul_neg, ← sub_eq_add_neg]

/-- The kernel's slope is the reference's times `lg`. -/
theorem slope_eq (w : BitVec 32) : (slopeV w : EReal)
    = Ideal.exp2 (Ideal.div (Ideal.ofBits .f32 0xC1000000#32 * (FloatOps.sitofp (F := Ideal) .f32 w + 1)) (Ideal.ofBits .f32 0x41800000#32)) * lg := by
  have h1 : Ideal.ofBits .f32 0x3F800000#32 = ((1 : ℝ) : EReal) := by simp [Ideal.ofBits, Ideal.ieee, -EReal.coe_mul]; norm_num
  have h2 : Ideal.ofBits .f32 0xBF000000#32 = ((-1 / 2 : ℝ) : EReal) := by simp [Ideal.ofBits, Ideal.ieee, -EReal.coe_mul, -EReal.coe_neg]; norm_num
  have h3 : Ideal.ofBits .f32 0xC1000000#32 = ((-8 : ℝ) : EReal) := by simp [Ideal.ofBits, Ideal.ieee, -EReal.coe_mul, -EReal.coe_neg]; norm_num
  have h4 : Ideal.ofBits .f32 0x41800000#32 = ((16 : ℝ) : EReal) := by simp [Ideal.ofBits, Ideal.ieee, -EReal.coe_mul]; norm_num
  show Ideal.exp2 (Ideal.ofBits .f32 0xBF000000#32 * (((w.toInt : ℝ) : EReal) + Ideal.ofBits .f32 0x3F800000#32)) * lg
    = Ideal.exp2 (Ideal.div (Ideal.ofBits .f32 0xC1000000#32 * (((w.toInt : ℝ) : EReal) + 1)) (Ideal.ofBits .f32 0x41800000#32)) * lg
  rw [h1, h2, h3, h4]
  congr 2
  rw [← EReal.coe_one, ← EReal.coe_add, ← EReal.coe_mul, ← EReal.coe_mul]
  unfold Ideal.div
  rw [if_neg (by norm_num), ← EReal.coe_inv, ← EReal.coe_mul]
  congr 1
  ring

theorem sle_word (a b : ℕ) (ha : a < 32768) (hb : b < 32768) : IntOp.cmpi .sle (BitVec.ofNat 32 a) (BitVec.ofNat 32 b) = BitVec.ofBool (decide (a ≤ b)) := by
  show BitVec.ofBool (BitVec.sle (BitVec.ofNat 32 a) (BitVec.ofNat 32 b)) = _
  congr 1
  rw [BitVec.sle_eq_decide, BitVec.toInt_eq_toNat_of_lt, BitVec.toInt_eq_toNat_of_lt]
  · rw [BitVec.toNat_ofNat, BitVec.toNat_ofNat]
    exact decide_eq_decide.2 (by omega)
  · rw [BitVec.toNat_ofNat]; omega
  · rw [BitVec.toNat_ofNat]; omega
theorem sge_word (j : ℕ) (hj : j < 32768) (lo : BitVec 32) (hl : lo.toNat < 32768) : IntOp.cmpi .sge (BitVec.ofNat 32 j) lo = BitVec.ofBool (decide (lo.toNat ≤ j)) := by
  have e : lo = BitVec.ofNat 32 lo.toNat := by simp
  have := sle_word lo.toNat j hl hj
  rw [← e] at this
  exact this
theorem jw_at (j : ℕ) (hj : j < 32768) : jw (j + 512) = BitVec.ofNat 32 j := by
  unfold jw
  apply BitVec.eq_of_toNat_eq
  rw [BitVec.toNat_sub]
  simp only [BitVec.toNat_ofNat]
  omega
theorem jw_lo (p : ℕ) (hp : p < 512) (lo : BitVec 32) (hl : lo.toNat < 32768) : IntOp.cmpi .sge (jw p) lo = 0#1 := by
  have ht : (jw p).toNat = 2 ^ 32 - 512 + p := by
    unfold jw
    rw [BitVec.toNat_sub]
    simp only [BitVec.toNat_ofNat]
    omega
  show BitVec.ofBool (BitVec.sle lo (jw p)) = _
  rw [BitVec.sle_eq_decide, decide_eq_false]
  · rfl
  · rw [BitVec.toInt_eq_toNat_of_lt (by omega), BitVec.toInt_eq_toNat_cond, if_neg (by omega), ht]
    omega

theorem and_bits (a b : Bool) : IntOp.andi (BitVec.ofBool a) (BitVec.ofBool b) = BitVec.ofBool (a && b) := by cases a <;> cases b <;> rfl

/-- What the buffers of row `x` hold, in terms of its query, the keys and the values. -/
structure Inputs (B : Buf) (x : Fin 256) (d : Fin 128) (qv : Fin 64 → EReal) (kv : Fin 32768 → Fin 64 → EReal) (qsr : EReal) (ks vs V : Fin 32768 → EReal) (seg : Fin 32768 → BitVec 32) (i i0 : Fin 32768) : Prop where
  hi : i.val = 128 * (B.i 3).val + x.val % 128
  hi0 : i0.val = 128 * (B.i 3).val
  hq : ∀ l, B.a5.view.read (Elt Ideal) B.x5 (ix3 0 (tk x) (ln x l)) = qv l
  hqs : B.a6.view.read (Elt Ideal) B.x6 (ix3 0 (tk x) (hd B x)) = qsr
  hds : Cummax.Starts seg i (B.a7.view.read (Elt Ideal) B.x7 (ix3 0 (tk x) 0) : BitVec 32).toNat
  ht : Cummax.Starts seg i0 (tableWord (F := Ideal) B.i B.a4 B.x4).toNat
  hk : ∀ (j : Fin 32768) l, B.a8.view.read (Elt Ideal) B.x8 (ix4 0 0 (ln x l) (fin33 (j.val + 512))) = kv j l
  hks : ∀ j : Fin 32768, B.a10.view.read (Elt Ideal) B.x10 (ix4 0 0 0 (fin33 (j.val + 512))) = ks j
  hvs : ∀ j : Fin 32768, B.a11.view.read (Elt Ideal) B.x11 (ix4 0 0 0 (fin33 (j.val + 512))) = vs j
  hv : ∀ j : Fin 32768, B.a9.view.read (Elt Ideal) B.x9 (ix4 0 0 (fin33 (j.val + 512)) d) = V j
  sorted : ∀ a b : Fin 32768, a ≤ b → (seg a).toInt ≤ (seg b).toInt

/-- The reference's slope of a head. -/
def slopeR (w : BitVec 32) : EReal := Ideal.exp2 (Ideal.div (Ideal.ofBits .f32 0xC1000000#32 * (FloatOps.sitofp (F := Ideal) .f32 w + 1)) (Ideal.ofBits .f32 0x41800000#32))

variable {B : Buf} {x : Fin 256} {d : Fin 128} {qv : Fin 64 → EReal} {kv : Fin 32768 → Fin 64 → EReal} {qsr : EReal} {ks vs V : Fin 32768 → EReal} {seg : Fin 32768 → BitVec 32} {i i0 : Fin 32768}

theorem Inputs.good (I : Inputs B x d qv kv qsr ks vs V seg i i0) : (cx1 B).Good := good1 B (I.hi0 ▸ I.ht.le)

theorem iw_eq (I : Inputs B x d qv kv qsr ks vs V seg i i0) : iw (cx1 B).v3 x = BitVec.ofNat 32 i.val := by
  have h3 := I.good.h3
  have hi := I.hi
  have h : (cx1 B).v3 = BitVec.ofNat 32 (128 * (B.i 3).val) := by
    apply BitVec.eq_of_toNat_eq
    have : (B.i 3).val < 256 := (B.i 3).isLt
    rw [h3, BitVec.toNat_ofNat]
    show 128 * (B.i 3).val = _
    omega
  unfold iw
  rw [h, ← BitVec.ofNat_add, hi]

theorem ds_lt (I : Inputs B x d qv kv qsr ks vs V seg i i0) : (B.a7.view.read (Elt Ideal) B.x7 (ix3 0 (tk x) 0) : BitVec 32).toNat < 32768 :=
  lt_of_le_of_lt I.hds.le i.isLt

theorem logit_at (I : Inputs B x d qv kv qsr ks vs V seg i i0) (j : Fin 32768) (b : Fin 128) :
    logitOf (cx1 B) (slOf B) x b (j.val + 512) = lg * rowLogit qv kv qsr ks seg (slopeR (BitVec.ofNat 32 (hd B x).val)) i j := by
  unfold logitOf
  have e8 : ∑ l : Fin 128, ((cx1 B).a16.view.read (Elt Ideal) (cx1 B).x16 (ix2 x l) : EReal) * ((cx1 B).a8.view.read (Elt Ideal) (cx1 B).x8 (ix4 0 0 l (fin33 (j.val + 512))) : EReal)
      = ∑ l : Fin 64, kv j l * qv l := by
    refine Eq.trans (Finset.sum_congr rfl fun l _ => congrArg (· * (B.a8.view.read (Elt Ideal) B.x8 (ix4 0 0 l (fin33 (j.val + 512))) : EReal)) (q_read B x l)) ?_
    refine (scores_half x (fun l => B.a5.view.read (Elt Ideal) B.x5 (ix3 0 (tk x) l)) (fun l => B.a8.view.read (Elt Ideal) B.x8 (ix4 0 0 l (fin33 (j.val + 512))))).trans ?_
    exact Finset.sum_congr rfl fun l _ => congrArg₂ (· * ·) (I.hk j l) (I.hq l)
  have e10 : ((cx1 B).a10.view.read (Elt Ideal) (cx1 B).x10 (ix4 0 0 0 (fin33 (j.val + 512))) : EReal) = ks j := I.hks j
  have e17 : ((cx1 B).a17.view.read (Elt Ideal) (cx1 B).x17 (ix2 x b) : EReal) = qsr * slg := (qs_read B x b).trans (congrArg (· * slg) I.hqs)
  have e18 : ((cx1 B).a18.view.read (Elt Ideal) (cx1 B).x18 (ix2 x b) : BitVec 32) = _ := ds_read B x b
  rw [e8, e10, e17, e18, iw_eq I, jw_at j.val j.isLt]
  unfold cell rowLogit
  rw [masked_eq, sle_word _ _ j.isLt i.isLt, sge_word _ j.isLt _ (ds_lt I)]
  have hs : slOf B x = slopeR (BitVec.ofNat 32 (hd B x).val) * lg := (slOf_eq B x).trans (slope_eq _)
  rw [hs, slg_eq]
  show Scalar.select _ _ _ = lg * Scalar.select (IntOp.andi _ (BitVec.ofBool (seg i == seg j))) _ _
  rw [and_bits, and_bits]
  by_cases hj : j ≤ i
  · have hm := I.hds.mem_iff I.sorted j hj
    by_cases he : seg i = seg j
    · rw [decide_eq_true (show j.val ≤ i.val from hj), decide_eq_true (hm.2 he), beq_iff_eq.2 he]
      show (_ : EReal) - _ = lg * (_ - _)
      rw [lg_sub]
      congr 1
      · ac_rfl
      · rw [← mul_assoc, mul_comm lg]; rfl
    · rw [decide_eq_false (fun h => he (hm.1 h)), beq_eq_false_iff_ne.2 he, Bool.and_false]
      show (⊥ : EReal) = lg * Row.minusInf
      rw [Row.minusInf_eq, lg_bot]
  · rw [decide_eq_false (show ¬ j.val ≤ i.val from hj), Bool.false_and, Bool.false_and]
    show (⊥ : EReal) = lg * Row.minusInf
    rw [Row.minusInf_eq, lg_bot]

theorem logit_lo (I : Inputs B x d qv kv qsr ks vs V seg i i0) (p : ℕ) (hp : p < 512) (b : Fin 128) : logitOf (cx1 B) (slOf B) x b p = ⊥ := by
  unfold logitOf cell
  have e18 : ((cx1 B).a18.view.read (Elt Ideal) (cx1 B).x18 (ix2 x b) : BitVec 32) = _ := ds_read B x b
  rw [e18, jw_lo p hp _ (ds_lt I), masked_eq]
  have : ∀ a : BitVec 1, IntOp.andi a 0#1 = 0#1 := by decide
  rw [this]; rfl

/-- A visible key lies in the chunks the point reads. -/
theorem in_window (I : Inputs B x d qv kv qsr ks vs V seg i i0) (sl : EReal) (j : Fin 32768) (h : rowLogit qv kv qsr ks seg sl i j ≠ ⊥) :
    ∃ k < nOf B, ∃ c : Fin 512, pp (cx1 B).v3 k c = j.val + 512 := by
  have hv : j ≤ i ∧ seg i = seg j := by
    by_contra hn
    apply h
    unfold rowLogit
    rw [sle_word _ _ j.isLt i.isLt]
    show Scalar.select (IntOp.andi _ (BitVec.ofBool (seg i == seg j))) _ _ = _
    rw [and_bits]
    have : (decide (j.val ≤ i.val) && seg i == seg j) = false := by
      rw [Bool.eq_false_iff]
      intro hh
      rw [Bool.and_eq_true, decide_eq_true_iff, beq_iff_eq] at hh
      exact hn hh
    rw [this]
    exact Row.minusInf_eq
  obtain ⟨hji, hs⟩ := hv
  have hji' : j.val ≤ i.val := hji
  have hle := I.ht.le
  have hi := I.hi
  have hi0 := I.hi0
  have hlo : (tableWord (F := Ideal) B.i B.a4 B.x4).toNat ≤ j.val := by
    by_cases hj : j ≤ i0
    · refine (I.ht.mem_iff I.sorted j hj).2 ?_
      have h1 := I.sorted j i0 hj
      have h2 := I.sorted i0 i (show i0.val ≤ i.val by omega)
      rw [← hs] at h1
      rw [← hs]
      exact BitVec.eq_of_toInt_eq (le_antisymm h2 h1)
    · have : ¬ j.val ≤ i0.val := hj
      omega
  have hn : nOf B = (128 * (B.i 3).val + 128 - (tableWord (F := Ideal) B.i B.a4 B.x4).toNat + 511) / 512 := trips_main I.good.hb
  have h3 : (cx1 B).v3.toNat = 128 * (B.i 3).val := I.good.h3
  have ht := tile_lt B.i
  have hx := x.isLt
  refine ⟨(128 * (B.i 3).val + 127 - j.val) / 512, by rw [hn]; omega, ⟨j.val + 512 + 512 * ((128 * (B.i 3).val + 127 - j.val) / 512) - (128 * (B.i 3).val + 128), by omega⟩, ?_⟩
  unfold pp
  rw [h3]
  dsimp only
  omega

theorem rowData (I : Inputs B x d qv kv qsr ks vs V seg i i0) : RowData B x d (rowLogit qv kv qsr ks seg (slopeR (BitVec.ofNat 32 (hd B x).val)) i) vs V where
  logit k hk c b := by
    have hp := pos_lt I.good ⟨k, hk⟩ c
    dsimp only at hp
    generalize pp (cx1 B).v3 k c = p at hp
    by_cases h : 512 ≤ p
    · obtain ⟨j, rfl⟩ : ∃ j : Fin 32768, p = j.val + 512 := ⟨⟨p - 512, by omega⟩, by dsimp only; omega⟩
      rw [logit_at I, base2_at]
    · rw [logit_lo I p (by omega), base2_lo _ p (by omega)]
  scale := I.hvs
  value := I.hv
  window j h := in_window I _ j h

/-- The stored row is the reference's. -/
theorem row_value (I : Inputs B x d qv kv qsr ks vs V seg i i0) (h0 : ∀ j, 0 ≤ vs j) :
    (accW B (ix2 x d) * sclW B (ix2 x d) : EReal) = Row.refOut (rowLogit qv kv qsr ks seg (slopeR (BitVec.ofNat 32 (hd B x).val)) i) vs V :=
  row_out I.good (rowData I) h0
end Cert.KernelIdeal
-- ==== Proof.HostKernelIdeal.lean ====
module

public import proofs.«01_k».proof.Proof.Logits
public import proofs.«01_k».proof.Proof.TableKernelIdeal
public import Idealize.ShloMosaic.Lib.KernelVsHost

/-! # What the host lays out for the kernel, element by element -/

@[expose] public section
set_option maxRecDepth 16384
noncomputable section
namespace Cert.KernelIdeal
open Gen
open Idealize.ShloMosaic Idealize.ShloMosaic.TcCoe Idealize.ShloMosaic.Tactic

/-- Keys and values with the heads apart, keys by lane and values by position. -/
def keysT (x : Vec Ideal S2x32768x256 .fp8e4m3) : Vec Ideal S2x4x64x32768 .fp8e4m3 :=
  transpose S2x4x64x32768 [0, 2, 3, 1] (shapeCast S2x32768x4x64 x shapeCasts_S2x32768x256_S2x32768x4x64) transposes_S2x32768x4x64_S2x4x64x32768_0_2_3_1
def valsT (x : Vec Ideal S2x32768x256 .fp8e4m3) : Vec Ideal S2x4x32768x64 .fp8e4m3 :=
  transpose S2x4x32768x64 [0, 2, 1, 3] (shapeCast S2x32768x4x64 x shapeCasts_S2x32768x256_S2x32768x4x64) transposes_S2x32768x4x64_S2x4x32768x64_0_2_1_3
/-- Twice over, for the two heads of a pair. -/
def keysC (y : Vec Ideal S2x4x64x32768 .fp8e4m3) : Vec Ideal S2x4x128x32768 .fp8e4m3 :=
  concatenate S2x4x128x32768 2 [⟨S2x4x64x32768, y⟩, ⟨S2x4x64x32768, y⟩] concatenates_S2x4x64x32768_S2x4x64x32768_S2x4x128x32768_d2
def valsC (y : Vec Ideal S2x4x32768x64 .fp8e4m3) : Vec Ideal S2x4x32768x128 .fp8e4m3 :=
  concatenate S2x4x32768x128 3 [⟨S2x4x32768x64, y⟩, ⟨S2x4x32768x64, y⟩] concatenates_S2x4x32768x64_S2x4x32768x64_S2x4x32768x128_d3
/-- Padded by 512 positions in front. -/
def keysP (y : Vec Ideal S2x4x128x32768 .fp8e4m3) : Vec Ideal S2x4x128x33280 .fp8e4m3 :=
  pad S2x4x128x33280 ![0, 0, 0, 512] ![0, 0, 0, 0] ![0, 0, 0, 0] y (bitcastToFloat (F := Ideal) FTy.fp8e4m3 (constantI S_ 8 0#8)) pads_S2x4x128x32768_S2x4x128x33280_000_000_000_51200 h_S_
def valsP (y : Vec Ideal S2x4x32768x128 .fp8e4m3) : Vec Ideal S2x4x33280x128 .fp8e4m3 :=
  pad S2x4x33280x128 ![0, 0, 512, 0] ![0, 0, 0, 0] ![0, 0, 0, 0] y (bitcastToFloat (F := Ideal) FTy.fp8e4m3 (constantI S_ 8 0#8)) pads_S2x4x32768x128_S2x4x33280x128_000_000_51200_000 h_S_
def sclP (x : Vec Ideal S2x32768x4 .f32) : Vec Ideal S2x4x33280 .f32 :=
  pad S2x4x33280 ![0, 0, 512] ![0, 0, 0] ![0, 0, 0] (transpose S2x4x32768 [0, 2, 1] x transposes_S2x32768x4_S2x4x32768_0_2_1) (sitofp (F := Ideal) FTy.f32 (constantI S_ 32 0#32)) pads_S2x4x32768_S2x4x33280_000_000_51200 h_S_
def sclB (x : Vec Ideal S2x32768x4 .f32) : Vec Ideal S2x4x1x33280 .f32 :=
  broadcastInDim S2x4x1x33280 ![0, 1, 3] bcast_S2x4x33280_S2x4x1x33280_0_1_3 (sclP x)

theorem keysT_at (x) (b : Fin 2) (g : Fin 4) (l : Fin 64) (j : Fin 32768) : (keysT x (ix4 b g l j) : EReal) = x (ix3 b j ⟨g.val * 64 + l.val, by omega⟩) := by
  unfold keysT; pointwise
theorem valsT_at (x) (b : Fin 2) (g : Fin 4) (l : Fin 64) (j : Fin 32768) : (valsT x (ix4 b g j l) : EReal) = x (ix3 b j ⟨g.val * 64 + l.val, by omega⟩) := by
  unfold valsT; pointwise
theorem keysC_lo (y) (b : Fin 2) (g : Fin 4) (l : Fin 64) (j : Fin 32768) : (keysC y (ix4 b g ⟨l.val, by omega⟩ j) : EReal) = y (ix4 b g l j) := by
  unfold keysC; pointwise
theorem keysC_hi (y) (b : Fin 2) (g : Fin 4) (l : Fin 64) (j : Fin 32768) : (keysC y (ix4 b g ⟨64 + l.val, by omega⟩ j)) = y (ix4 b g l j) := by
  unfold keysC
  refine concatenate_pair_apply_right (α := Elt Ideal .fp8e4m3) (s₁ := S2x4x64x32768) (s₂ := S2x4x64x32768) (t := S2x4x128x32768) 2 y y _ _ rfl rfl (ix4 b g l j) (fun a ha => ?_) (Nat.add_comm _ _)
  fin_cases a <;> first | rfl | exact absurd rfl ha
theorem valsC_lo (y) (b : Fin 2) (g : Fin 4) (l : Fin 64) (j : Fin 32768) : (valsC y (ix4 b g j ⟨l.val, by omega⟩) : EReal) = y (ix4 b g j l) := by
  unfold valsC; pointwise
theorem valsC_hi (y) (b : Fin 2) (g : Fin 4) (l : Fin 64) (j : Fin 32768) : (valsC y (ix4 b g j ⟨64 + l.val, by omega⟩)) = y (ix4 b g j l) := by
  unfold valsC
  refine concatenate_pair_apply_right (α := Elt Ideal .fp8e4m3) (s₁ := S2x4x32768x64) (s₂ := S2x4x32768x64) (t := S2x4x32768x128) 3 y y _ _ rfl rfl (ix4 b g j l) (fun a ha => ?_) (Nat.add_comm _ _)
  fin_cases a <;> first | rfl | exact absurd rfl ha
theorem keysP_at (y) (b : Fin 2) (g : Fin 4) (l : Fin 128) (j : Fin 32768) : (keysP y (ix4 b g l (fin33 (j.val + 512)))) = y (ix4 b g l j) := by
  unfold keysP
  refine pad_apply_of_inside _ _ _ y _ _ _ _ (ix4 b g l j) fun a => ?_
  have := j.isLt
  fin_cases a
  · exact (by show b.val = 0 + b.val * 1; omega)
  · exact (by show g.val = 0 + g.val * 1; omega)
  · exact (by show l.val = 0 + l.val * 1; omega)
  · exact (by show (j.val + 512) % 33280 = 512 + j.val * 1; omega)
theorem valsP_at (y) (b : Fin 2) (g : Fin 4) (l : Fin 128) (j : Fin 32768) : (valsP y (ix4 b g (fin33 (j.val + 512)) l)) = y (ix4 b g j l) := by
  unfold valsP
  refine pad_apply_of_inside _ _ _ y _ _ _ _ (ix4 b g j l) fun a => ?_
  have := j.isLt
  fin_cases a
  · exact (by show b.val = 0 + b.val * 1; omega)
  · exact (by show g.val = 0 + g.val * 1; omega)
  · exact (by show (j.val + 512) % 33280 = 512 + j.val * 1; omega)
  · exact (by show l.val = 0 + l.val * 1; omega)
theorem sclT_at (x : Vec Ideal S2x32768x4 .f32) (b : Fin 2) (g : Fin 4) (j : Fin 32768) : (transpose S2x4x32768 [0, 2, 1] x transposes_S2x32768x4_S2x4x32768_0_2_1 (ix3 b g j) : EReal) = x (ix3 b j g) := by
  pointwise
theorem sclP_at (x) (b : Fin 2) (g : Fin 4) (j : Fin 32768) : (sclP x (ix3 b g (fin33 (j.val + 512)))) = x (ix3 b j g) := by
  unfold sclP
  refine (pad_apply_of_inside _ _ _ _ _ _ _ _ (ix3 b g j) fun a => ?_).trans (sclT_at x b g j)
  have := j.isLt
  fin_cases a
  · exact (by show b.val = 0 + b.val * 1; omega)
  · exact (by show g.val = 0 + g.val * 1; omega)
  · exact (by show (j.val + 512) % 33280 = 512 + j.val * 1; omega)
theorem sclB_at (x) (b : Fin 2) (g : Fin 4) (j : Fin 32768) : (sclB x (ix4 b g 0 (fin33 (j.val + 512))) : EReal) = x (ix3 b j g) := by
  have h : (sclB x (ix4 b g 0 (fin33 (j.val + 512))) : EReal) = sclP x (ix3 b g (fin33 (j.val + 512))) := by
    unfold sclB
    generalize sclP x = y
    generalize fin33 (j.val + 512) = p
    pointwise
  rw [h, sclP_at]

/-- A lane of a half, and its lane in a head. -/
theorem keys_at (x) (b : Fin 2) (g : Fin 4) (h : ℕ) (hh : h < 2) (l : Fin 64) (j : Fin 32768) :
    (keysP (keysC (keysT x)) (ix4 b g ⟨64 * h + l.val, by omega⟩ (fin33 (j.val + 512))) : EReal) = x (ix3 b j ⟨g.val * 64 + l.val, by omega⟩) := by
  rw [keysP_at]
  obtain rfl | rfl : h = 0 ∨ h = 1 := by omega
  · refine Eq.trans (congrArg (fun l => keysC (keysT x) (ix4 b g l j)) (Fin.ext (by show 64 * 0 + l.val = l.val; omega) : (_ : Fin 128) = ⟨l.val, by omega⟩)) ?_
    exact (keysC_lo _ b g l j).trans (keysT_at x b g l j)
  · refine Eq.trans (congrArg (fun l => keysC (keysT x) (ix4 b g l j)) (Fin.ext (by show 64 * 1 + l.val = 64 + l.val; omega) : (_ : Fin 128) = ⟨64 + l.val, by omega⟩)) ?_
    exact (keysC_hi _ b g l j).trans (keysT_at x b g l j)
theorem vals_at (x) (b : Fin 2) (g : Fin 4) (h : ℕ) (hh : h < 2) (l : Fin 64) (j : Fin 32768) :
    (valsP (valsC (valsT x)) (ix4 b g (fin33 (j.val + 512)) ⟨64 * h + l.val, by omega⟩) : EReal) = x (ix3 b j ⟨g.val * 64 + l.val, by omega⟩) := by
  rw [valsP_at]
  obtain rfl | rfl : h = 0 ∨ h = 1 := by omega
  · refine Eq.trans (congrArg (fun l => valsC (valsT x) (ix4 b g j l)) (Fin.ext (by show 64 * 0 + l.val = l.val; omega) : (_ : Fin 128) = ⟨l.val, by omega⟩)) ?_
    exact (valsC_lo _ b g l j).trans (valsT_at x b g l j)
  · refine Eq.trans (congrArg (fun l => valsC (valsT x) (ix4 b g j l)) (Fin.ext (by show 64 * 1 + l.val = 64 + l.val; omega) : (_ : Fin 128) = ⟨64 + l.val, by omega⟩)) ?_
    exact (valsC_hi _ b g l j).trans (valsT_at x b g l j)

variable (m : (ℓ : Loc nD τ sig) → Idealize.ShloMosaic.Buf (Elt Ideal) ℓ)
theorem V_main_v13 (c : Dev nD) : V (F := Ideal) m c main_v13 = keysP (keysC (keysT (m ((c : Thread nD τ).loc main_arg1)))) := by
  unfold_abbrev_sides
  simp only [List.flatten_cons, List.flatten_nil, List.append_nil, List.cons_append, List.nil_append]
  after_results
  simp only [StableHlo.TRef.toBuf, StableHlo.TRef.ofBuf, cast_cast, cast_eq, id_eq]
  rfl
theorem V_main_v16 (c : Dev nD) : V (F := Ideal) m c main_v16 = valsP (valsC (valsT (m ((c : Thread nD τ).loc main_arg2)))) := by
  unfold_abbrev_sides
  simp only [List.flatten_cons, List.flatten_nil, List.append_nil, List.cons_append, List.nil_append]
  after_results
  simp only [StableHlo.TRef.toBuf, StableHlo.TRef.ofBuf, cast_cast, cast_eq, id_eq]
  rfl
theorem V_main_v18 (c : Dev nD) : V (F := Ideal) m c main_v18 = broadcastInDim S2x32768x1 ![0, 1] bcast_S2x32768_S2x32768x1_0_1 (starts m c) := by
  unfold_abbrev_sides
  simp only [List.flatten_cons, List.flatten_nil, List.append_nil, List.cons_append, List.nil_append]
  after_results
  simp only [StableHlo.TRef.toBuf, StableHlo.TRef.ofBuf, cast_cast, cast_eq, id_eq]
theorem V_main_v21 (c : Dev nD) : V (F := Ideal) m c main_v21 = sclB (m ((c : Thread nD τ).loc main_arg4)) := by
  unfold_abbrev_sides
  simp only [List.flatten_cons, List.flatten_nil, List.append_nil, List.cons_append, List.nil_append]
  after_results
  simp only [StableHlo.TRef.toBuf, StableHlo.TRef.ofBuf, cast_cast, cast_eq, id_eq]
  rfl
theorem V_main_v24 (c : Dev nD) : V (F := Ideal) m c main_v24 = sclB (m ((c : Thread nD τ).loc main_arg5)) := by
  unfold_abbrev_sides
  simp only [List.flatten_cons, List.flatten_nil, List.append_nil, List.cons_append, List.nil_append]
  after_results
  simp only [StableHlo.TRef.toBuf, StableHlo.TRef.ofBuf, cast_cast, cast_eq, id_eq]
  rfl
end Cert.KernelIdeal
-- ==== Proof.Blocks.lean ====
/-
  Where an element of a window's block at a grid point lies in the window's array.
-/
module

public import proofs.«01_k».proof.Proof.HostKernelIdeal
public import Idealize.ShloMosaic.Lib.Pipeline.ValueKit
public import Idealize.ShloMosaic.Lib.Pipeline.Covers

@[expose] public section
set_option maxRecDepth 16384
noncomputable section
namespace Cert.KernelIdeal
open Gen
open Idealize.ShloMosaic Idealize.ShloMosaic.TcCoe Idealize.ShloMosaic.Tactic

theorem coord0 (i : grid0.Coords) : (i 0).val < 2 := (i 0).isLt
theorem coord1 (i : grid0.Coords) : (i 1).val < 4 := (i 1).isLt
theorem coord2 (i : grid0.Coords) : (i 2).val < 2 := (i 2).isLt
theorem coord3 (i : grid0.Coords) : (i 3).val < 256 := (i 3).isLt

/-- The batch, the head of the keys, the lane block and a row of a point. -/
def pb (i : grid0.Coords) : Fin 2 := ⟨(i 0).val, coord0 i⟩
def pg (i : grid0.Coords) : Fin 4 := ⟨(i 1).val, coord1 i⟩
def prow (i : grid0.Coords) (a : Fin 128) : Fin 32768 := ⟨128 * (i 3).val + a.val, by have := coord3 i; omega⟩
def plane (i : grid0.Coords) (k : Fin 128) : Fin 1024 := ⟨((i 1).val * 2 + (i 2).val) * 128 + k.val, by have := coord1 i; have := coord2 i; omega⟩

theorem map0 (i : grid0.Coords) : cc0_transform_0 i = ![(i 0).val, (i 3).val, (i 1).val * 2 + (i 2).val] := by
  have h0 := coord0 i; have h1 := coord1 i; have h2 := coord2 i; have h3 := coord3 i
  have h_arg0 : Affine.IsInt (BitVec.ofNat 32 (i 0).val) (((i 0).val : Int)) := Affine.ofNat _ (by omega)
  have h_arg1 : Affine.IsInt (BitVec.ofNat 32 (i 1).val) (((i 1).val : Int)) := Affine.ofNat _ (by omega)
  have h_arg2 : Affine.IsInt (BitVec.ofNat 32 (i 2).val) (((i 2).val : Int)) := Affine.ofNat _ (by omega)
  have h_arg3 : Affine.IsInt (BitVec.ofNat 32 (i 3).val) (((i 3).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have h_v1 : Affine.IsInt _ (2 * ((i 1).val : Int) + ((i 2).val : Int)) := Affine.addi h_v0 h_arg2 (by omega)
  exact Affine.vec_cons h_arg0 (by omega) <| Affine.vec_cons h_arg3 (by omega) <| Affine.vec_cons h_v1 (by omega) <| Affine.vec_nil
theorem map7 (i : grid0.Coords) : cc0_transform_7 i = ![(i 0).val, (i 3).val, (i 1).val * 2 + (i 2).val] := map0 i
theorem map1 (i : grid0.Coords) : cc0_transform_1 i = ![(i 0).val, (i 3).val, 0] := by
  have h0 := coord0 i; have h3 := coord3 i
  have h_arg0 : Affine.IsInt (BitVec.ofNat 32 (i 0).val) (((i 0).val : Int)) := Affine.ofNat _ (by omega)
  have h_arg3 : Affine.IsInt (BitVec.ofNat 32 (i 3).val) (((i 3).val : Int)) := Affine.ofNat _ (by omega)
  have h_c0 : Affine.IsInt 0#32 (0) := Affine.ofNat _ (by omega)
  exact Affine.vec_cons h_arg0 (by omega) <| Affine.vec_cons h_arg3 (by omega) <| Affine.vec_cons h_c0 (by omega) <| Affine.vec_nil
theorem map3 (i : grid0.Coords) : cc0_transform_3 i = ![(i 0).val, (i 1).val, 0, 0] := by
  have h0 := coord0 i; have h3 := coord1 i
  have h_arg0 : Affine.IsInt (BitVec.ofNat 32 (i 0).val) (((i 0).val : Int)) := Affine.ofNat _ (by omega)
  have h_arg1 : Affine.IsInt (BitVec.ofNat 32 (i 1).val) (((i 1).val : Int)) := Affine.ofNat _ (by omega)
  have h_c0 : Affine.IsInt 0#32 (0) := Affine.ofNat _ (by omega)
  exact Affine.vec_cons h_arg0 (by omega) <| Affine.vec_cons h_arg1 (by omega) <| Affine.vec_cons h_c0 (by omega) <| Affine.vec_cons h_c0 (by omega) <| Affine.vec_nil

variable (m : (ℓ : Loc nD τ sig) → Idealize.ShloMosaic.Buf (Elt Ideal) ℓ)

theorem blk0 (c : Dev nD) (t : Fin (cfgM m).N) (a k : Fin 128) :
    iblk (F := Ideal) m c 0 t (ix3 0 a k) = V m c main_arg0 (ix3 (pb (grid0.coords t)) (prow (grid0.coords t) a) (plane (grid0.coords t) k)) := by
  refine congrArg (V m c main_arg0) (funext fun d => Fin.ext ((Pipeline.Window.rect_emb_val ((cfgM m).win 0) t _ d).trans ?_))
  refine (congrArg (fun v : Fin 3 → ℕ => v d * S1x128x128.size d + (ix3 (0 : Fin 1) a k d).val) (map0 (grid0.coords t))).trans ?_
  fin_cases d
  · show (grid0.coords t 0).val * 1 + 0 = (grid0.coords t 0).val; omega
  · show (grid0.coords t 3).val * 128 + a.val = 128 * (grid0.coords t 3).val + a.val; omega
  · rfl
theorem blk1 (c : Dev nD) (t : Fin (cfgM m).N) (a : Fin 128) (k : Fin 16) :
    iblk (F := Ideal) m c 1 t (ix3 0 a k) = V m c main_arg3 (ix3 (pb (grid0.coords t)) (prow (grid0.coords t) a) k) := by
  refine congrArg (V m c main_arg3) (funext fun d => Fin.ext ((Pipeline.Window.rect_emb_val ((cfgM m).win 1) t _ d).trans ?_))
  refine (congrArg (fun v : Fin 3 → ℕ => v d * S1x128x16.size d + (ix3 (0 : Fin 1) a k d).val) (map1 (grid0.coords t))).trans ?_
  fin_cases d
  · show (grid0.coords t 0).val * 1 + 0 = (grid0.coords t 0).val; omega
  · show (grid0.coords t 3).val * 128 + a.val = 128 * (grid0.coords t 3).val + a.val; omega
  · show 0 * 16 + k.val = k.val; omega
theorem emb2 (t : Fin (cfgM m).N) (a : Fin 128) :
    (((cfgM m).win 2).blk t).view.emb (ix3 0 a 0) = (ix3 (pb (grid0.coords t)) (prow (grid0.coords t) a) 0 : S2x32768x1.Idx) := by
  refine funext fun d => Fin.ext ((Pipeline.Window.rect_emb_val ((cfgM m).win 2) t _ d).trans ?_)
  refine (congrArg (fun v : Fin 3 → ℕ => v d * S1x128x1.size d + (ix3 (0 : Fin 1) a (0 : Fin 1) d).val) (map1 (grid0.coords t))).trans ?_
  fin_cases d
  · show (grid0.coords t 0).val * 1 + 0 = (grid0.coords t 0).val; omega
  · show (grid0.coords t 3).val * 128 + a.val = 128 * (grid0.coords t 3).val + a.val; omega
  · rfl
theorem read2 (t : Fin (cfgM m).N) (a : Fin 128) (f : IVec S2x32768x1 32) :
    (((cfgM m).win 2).blk t).view.read (Elt Ideal) f (ix3 0 a 0) = f (ix3 (pb (grid0.coords t)) (prow (grid0.coords t) a) 0) :=
  congrArg f (emb2 m t a)
theorem blk2 (c : Dev nD) (t : Fin (cfgM m).N) (a : Fin 128) :
    iblk (F := Ideal) m c 2 t (ix3 0 a 0) = V m c main_v18 (ix3 (pb (grid0.coords t)) (prow (grid0.coords t) a) 0) := by
  unfold iblk
  exact read2 m t a (V m c main_v18)
theorem blk3 (c : Dev nD) (t : Fin (cfgM m).N) (l : Fin 128) (p : Fin 33280) :
    iblk (F := Ideal) m c 3 t (ix4 0 0 l p) = V m c main_v13 (ix4 (pb (grid0.coords t)) (pg (grid0.coords t)) l p) := by
  refine congrArg (V m c main_v13) (funext fun d => Fin.ext ((Pipeline.Window.rect_emb_val ((cfgM m).win 3) t _ d).trans ?_))
  refine (congrArg (fun v : Fin 4 → ℕ => v d * S1x1x128x33280.size d + (ix4 (0 : Fin 1) (0 : Fin 1) l p d).val) (map3 (grid0.coords t))).trans ?_
  fin_cases d
  · show (grid0.coords t 0).val * 1 + 0 = (grid0.coords t 0).val; omega
  · show (grid0.coords t 1).val * 1 + 0 = (grid0.coords t 1).val; omega
  · show 0 * 128 + l.val = l.val; omega
  · show 0 * 33280 + p.val = p.val; omega
theorem blk4 (c : Dev nD) (t : Fin (cfgM m).N) (p : Fin 33280) (l : Fin 128) :
    iblk (F := Ideal) m c 4 t (ix4 0 0 p l) = V m c main_v16 (ix4 (pb (grid0.coords t)) (pg (grid0.coords t)) p l) := by
  refine congrArg (V m c main_v16) (funext fun d => Fin.ext ((Pipeline.Window.rect_emb_val ((cfgM m).win 4) t _ d).trans ?_))
  refine (congrArg (fun v : Fin 4 → ℕ => v d * S1x1x33280x128.size d + (ix4 (0 : Fin 1) (0 : Fin 1) p l d).val) (map3 (grid0.coords t))).trans ?_
  fin_cases d
  · show (grid0.coords t 0).val * 1 + 0 = (grid0.coords t 0).val; omega
  · show (grid0.coords t 1).val * 1 + 0 = (grid0.coords t 1).val; omega
  · show 0 * 33280 + p.val = p.val; omega
  · show 0 * 128 + l.val = l.val; omega
/-- A row of scales in the place of a point. -/
theorem scale_place (t : Fin grid0.N) (p : Fin 33280) (d : Fin 4) :
    cc0_transform_3 (grid0.coords t) d * S1x1x1x33280.size d + (ix4 (0 : Fin 1) (0 : Fin 1) (0 : Fin 1) p d).val
      = (ix4 (pb (grid0.coords t)) (pg (grid0.coords t)) (0 : Fin 1) p d).val := by
  refine (congrArg (fun v : Fin 4 → ℕ => v d * S1x1x1x33280.size d + (ix4 (0 : Fin 1) (0 : Fin 1) (0 : Fin 1) p d).val) (map3 (grid0.coords t))).trans ?_
  fin_cases d
  · show (grid0.coords t 0).val * 1 + 0 = (grid0.coords t 0).val; omega
  · show (grid0.coords t 1).val * 1 + 0 = (grid0.coords t 1).val; omega
  · rfl
  · show 0 * 33280 + p.val = p.val; omega
theorem blk5 (c : Dev nD) (t : Fin (cfgM m).N) (p : Fin 33280) :
    iblk (F := Ideal) m c 5 t (ix4 0 0 0 p) = V m c main_v21 (ix4 (pb (grid0.coords t)) (pg (grid0.coords t)) 0 p) :=
  congrArg (V m c main_v21) (funext fun d => Fin.ext ((Pipeline.Window.rect_emb_val ((cfgM m).win 5) t _ d).trans (scale_place t p d)))
theorem blk6 (c : Dev nD) (t : Fin (cfgM m).N) (p : Fin 33280) :
    iblk (F := Ideal) m c 6 t (ix4 0 0 0 p) = V m c main_v24 (ix4 (pb (grid0.coords t)) (pg (grid0.coords t)) 0 p) :=
  congrArg (V m c main_v24) (funext fun d => Fin.ext ((Pipeline.Window.rect_emb_val ((cfgM m).win 6) t _ d).trans (scale_place t p d)))

/-- The place of an element of the output's block. -/
theorem emb7 (t : Fin (cfgM m).N) (a k : Fin 128) :
    (((cfgM m).win 7).blk t).view.emb (ix3 0 a k) = (ix3 (pb (grid0.coords t)) (prow (grid0.coords t) a) (plane (grid0.coords t) k) : S2x32768x1024.Idx) := by
  refine funext fun d => Fin.ext ((Pipeline.Window.rect_emb_val ((cfgM m).win 7) t _ d).trans ?_)
  refine (congrArg (fun v : Fin 3 → ℕ => v d * S1x128x128.size d + (ix3 (0 : Fin 1) a k d).val) (map7 (grid0.coords t))).trans ?_
  fin_cases d
  · show (grid0.coords t 0).val * 1 + 0 = (grid0.coords t 0).val; omega
  · show (grid0.coords t 3).val * 128 + a.val = 128 * (grid0.coords t 3).val + a.val; omega
  · rfl

theorem nblk7_0 : ((cfgM m).win 7).nblk (0 : Fin 3) = 2 := by
  unfold Pipeline.Window.nblk
  exact (by decide : (S2x32768x1024.size 0 + S1x128x128.size 0 - 1) / S1x128x128.size 0 = 2)
theorem nblk7_1 : ((cfgM m).win 7).nblk (1 : Fin 3) = 256 := by
  unfold Pipeline.Window.nblk
  exact (by decide : (S2x32768x1024.size 1 + S1x128x128.size 1 - 1) / S1x128x128.size 1 = 256)
theorem nblk7_2 : ((cfgM m).win 7).nblk (2 : Fin 3) = 8 := by
  unfold Pipeline.Window.nblk
  exact (by decide : (S2x32768x1024.size 2 + S1x128x128.size 2 - 1) / S1x128x128.size 2 = 8)

/-- The output's blocks fill its array. -/
theorem covers7 : ((cfgM m).win 7).Covers := by
  refine ((cfgM m).win 7).covers_of_indexMap_surj rfl (show ∀ a : Fin 3, 0 < S1x128x128.size a by decide) fun β => ?_
  have h0 : (β (0 : Fin 3)).val < 2 := (β (0 : Fin 3)).isLt.trans_le (Nat.le_of_eq (nblk7_0 m))
  have h1 : (β (1 : Fin 3)).val < 256 := (β (1 : Fin 3)).isLt.trans_le (Nat.le_of_eq (nblk7_1 m))
  have h2 : (β (2 : Fin 3)).val < 8 := (β (2 : Fin 3)).isLt.trans_le (Nat.le_of_eq (nblk7_2 m))
  refine ⟨fun | 0 => ⟨(β (0 : Fin 3)).val, h0⟩ | 1 => ⟨(β (2 : Fin 3)).val / 2, by show _ < 4; omega⟩ | 2 => ⟨(β (2 : Fin 3)).val % 2, by show _ < 2; omega⟩ | 3 => ⟨(β (1 : Fin 3)).val, h1⟩, fun (a : Fin 3) => ?_⟩
  refine (congrFun (map7 (fun | 0 => ⟨(β (0 : Fin 3)).val, h0⟩ | 1 => ⟨(β (2 : Fin 3)).val / 2, by show _ < 4; omega⟩ | 2 => ⟨(β (2 : Fin 3)).val % 2, by show _ < 2; omega⟩ | 3 => ⟨(β (1 : Fin 3)).val, h1⟩)) a).trans ?_
  fin_cases a
  · rfl
  · rfl
  · show (β (2 : Fin 3)).val / 2 * 2 + (β (2 : Fin 3)).val % 2 = (β (2 : Fin 3)).val; omega
end Cert.KernelIdeal
-- ==== Proof.Point.lean ====
/-
  What a grid point leaves in the output's block: the rows of `Cert.Row.refOut` of the arguments.
-/
module

public import proofs.«01_k».proof.Proof.Blocks
public import proofs.«01_k».proof.Proof.Ends

@[expose] public section
set_option maxRecDepth 16384
noncomputable section
namespace Cert.KernelIdeal
open Gen
open Idealize.ShloMosaic Idealize.ShloMosaic.TcCoe Idealize.ShloMosaic.Tactic

variable (m : (ℓ : Loc nD τ sig) → Idealize.ShloMosaic.Buf (Elt Ideal) ℓ)

abbrev aQ (c : Dev nD) : Vec Ideal S2x32768x1024 .fp8e4m3 := m ((c : Thread nD τ).loc main_arg0)
abbrev aK (c : Dev nD) : Vec Ideal S2x32768x256 .fp8e4m3 := m ((c : Thread nD τ).loc main_arg1)
abbrev aV (c : Dev nD) : Vec Ideal S2x32768x256 .fp8e4m3 := m ((c : Thread nD τ).loc main_arg2)
abbrev aQs (c : Dev nD) : Vec Ideal S2x32768x16 .f32 := m ((c : Thread nD τ).loc main_arg3)
abbrev aKs (c : Dev nD) : Vec Ideal S2x32768x4 .f32 := m ((c : Thread nD τ).loc main_arg4)
abbrev aVs (c : Dev nD) : Vec Ideal S2x32768x4 .f32 := m ((c : Thread nD τ).loc main_arg5)

/-- A lane of the queries and of the result, a lane of the keys and values, a head. -/
def laneQ (g q : Fin 4) (l : Fin 64) : Fin 1024 := ⟨g.val * 256 + q.val * 64 + l.val, by omega⟩
def laneK (g : Fin 4) (l : Fin 64) : Fin 256 := ⟨g.val * 64 + l.val, by omega⟩
def headQ (g q : Fin 4) : Fin 16 := ⟨g.val * 4 + q.val, by omega⟩

/-- An element of the result, from the arguments. -/
def rowAt (c : Dev nD) (b : Fin 2) (g q : Fin 4) (i : Fin 32768) (l : Fin 64) : EReal :=
  Row.refOut (rowLogit (fun l => aQ m c (ix3 b i (laneQ g q l))) (fun j l => aK m c (ix3 b j (laneK g l))) (aQs m c (ix3 b i (headQ g q)))
      (fun j => aKs m c (ix3 b j g)) (segRow m c b) (slopeR (BitVec.ofNat 32 (headQ g q).val)) i)
    (fun j => aVs m c (ix3 b j g)) (fun j => aV m c (ix3 b j (laneK g l)))

/-- The head of a half of a point. -/
def pq (i : grid0.Coords) (h : ℕ) (hh : h < 2) : Fin 4 := ⟨(i 2).val * 2 + h, by have := coord2 i; omega⟩

theorem starts_place (c : Dev nD) (b : Fin 2) (i : Fin 32768) : (V m c main_v18 (ix3 b i 0) : BitVec 32) = starts m c (ix2 b i) := by
  rw [V_main_v18]
  generalize starts m c = s
  exact (by pointwise : broadcastInDim S2x32768x1 ![0, 1] bcast_S2x32768_S2x32768x1_0_1 s (ix3 b i 0) = s (ix2 b i))

/-- The blocks of a point as the inputs of its rows. -/
theorem inputs_of (B : Buf) (c : Dev nD) (t : Fin (cfgM m).N) (hi : B.i = grid0.coords t)
    (h5 : B.a5.view.read (Elt Ideal) B.x5 = iblk m c 0 t) (h6 : B.a6.view.read (Elt Ideal) B.x6 = iblk m c 1 t)
    (h7 : B.a7.view.read (Elt Ideal) B.x7 = iblk m c 2 t) (h8 : B.a8.view.read (Elt Ideal) B.x8 = iblk m c 3 t)
    (h9 : B.a9.view.read (Elt Ideal) B.x9 = iblk m c 4 t) (h10 : B.a10.view.read (Elt Ideal) B.x10 = iblk m c 5 t)
    (h11 : B.a11.view.read (Elt Ideal) B.x11 = iblk m c 6 t)
    (ht : tableWord (F := Ideal) B.i B.a4 B.x4 = starts m c (ix2 (pb (grid0.coords t)) (prow (grid0.coords t) 0)))
    (sorted : ∀ a b : Fin 32768, a ≤ b → (segRow m c (pb (grid0.coords t)) a).toInt ≤ (segRow m c (pb (grid0.coords t)) b).toInt)
    (x : Fin 256) (h : ℕ) (hh : h < 2) (l : Fin 64) (hx : x.val / 128 = h) :
    Inputs B x ⟨64 * h + l.val, by omega⟩ (fun l => aQ m c (ix3 (pb (grid0.coords t)) (prow (grid0.coords t) (tk x)) (laneQ (pg (grid0.coords t)) (pq (grid0.coords t) h hh) l)))
      (fun j l => aK m c (ix3 (pb (grid0.coords t)) j (laneK (pg (grid0.coords t)) l)))
      (aQs m c (ix3 (pb (grid0.coords t)) (prow (grid0.coords t) (tk x)) (headQ (pg (grid0.coords t)) (pq (grid0.coords t) h hh))))
      (fun j => aKs m c (ix3 (pb (grid0.coords t)) j (pg (grid0.coords t)))) (fun j => aVs m c (ix3 (pb (grid0.coords t)) j (pg (grid0.coords t))))
      (fun j => aV m c (ix3 (pb (grid0.coords t)) j (laneK (pg (grid0.coords t)) l))) (segRow m c (pb (grid0.coords t)))
      (prow (grid0.coords t) (tk x)) (prow (grid0.coords t) 0) where
  hi := by rw [hi]; rfl
  hi0 := by rw [hi]; rfl
  hq l' := by
    rw [h5]
    refine (blk0 m c t (tk x) (ln x l')).trans ?_
    rw [V_main_arg0]
    refine congrArg (fun k => aQ m c (ix3 (pb (grid0.coords t)) (prow (grid0.coords t) (tk x)) k)) (Fin.ext ?_)
    show ((grid0.coords t 1).val * 2 + (grid0.coords t 2).val) * 128 + (64 * (x.val / 128) + l'.val) = (grid0.coords t 1).val * 256 + ((grid0.coords t 2).val * 2 + h) * 64 + l'.val
    omega
  hqs := by
    rw [h6]
    refine (blk1 m c t (tk x) (hd B x)).trans ?_
    rw [V_main_arg3]
    refine congrArg (fun k => aQs m c (ix3 (pb (grid0.coords t)) (prow (grid0.coords t) (tk x)) k)) (Fin.ext ?_)
    show (B.i 1).val * 4 + (B.i 2).val * 2 + x.val / 128 = (grid0.coords t 1).val * 4 + ((grid0.coords t 2).val * 2 + h)
    rw [hi]; omega
  hds := by
    have e : (B.a7.view.read (Elt Ideal) B.x7 (ix3 0 (tk x) 0) : BitVec 32) = starts m c (ix2 (pb (grid0.coords t)) (prow (grid0.coords t) (tk x))) := by
      rw [h7]
      exact (blk2 m c t (tk x)).trans (starts_place m c _ _)
    rw [e]
    exact starts_spec m c _ _
  ht := by rw [ht]; exact starts_spec m c _ _
  hk j l' := by
    rw [h8]
    refine (blk3 m c t (ln x l') (fin33 (j.val + 512))).trans ?_
    rw [V_main_v13]
    refine Eq.trans ?_ (keys_at (aK m c) (pb (grid0.coords t)) (pg (grid0.coords t)) h hh l' j)
    exact congrArg (fun k => keysP (keysC (keysT (aK m c))) (ix4 (pb (grid0.coords t)) (pg (grid0.coords t)) k (fin33 (j.val + 512)))) (Fin.ext (congrArg (fun n => 64 * n + l'.val) hx))
  hks j := by
    rw [h10]
    refine (blk5 m c t (fin33 (j.val + 512))).trans ?_
    rw [V_main_v21]
    exact sclB_at (aKs m c) _ _ j
  hvs j := by
    rw [h11]
    refine (blk6 m c t (fin33 (j.val + 512))).trans ?_
    rw [V_main_v24]
    exact sclB_at (aVs m c) _ _ j
  hv j := by
    rw [h9]
    refine (blk4 m c t (fin33 (j.val + 512)) _).trans ?_
    rw [V_main_v16]
    exact vals_at (aV m c) (pb (grid0.coords t)) (pg (grid0.coords t)) h hh l j
  sorted := sorted

/-- What the precondition gives of device `c`'s arguments. -/
structure Good (c : Dev nD) : Prop where
  sorted : ∀ (b : Fin 2) (i j : Fin 32768), i ≤ j → (segRow m c b i).toInt ≤ (segRow m c b j).toInt
  nonneg : ∀ (b : Fin 2) (j : Fin 32768) (g : Fin 4), (0 : EReal) ≤ aVs m c (ix3 b j g)

/-- The rows of a point, in a half `h` of its lanes. -/
theorem rows_of (B : Buf) (c : Dev nD) (G : Good m c) (t : Fin (cfgM m).N) (hi : B.i = grid0.coords t)
    (h5 : B.a5.view.read (Elt Ideal) B.x5 = iblk m c 0 t) (h6 : B.a6.view.read (Elt Ideal) B.x6 = iblk m c 1 t)
    (h7 : B.a7.view.read (Elt Ideal) B.x7 = iblk m c 2 t) (h8 : B.a8.view.read (Elt Ideal) B.x8 = iblk m c 3 t)
    (h9 : B.a9.view.read (Elt Ideal) B.x9 = iblk m c 4 t) (h10 : B.a10.view.read (Elt Ideal) B.x10 = iblk m c 5 t)
    (h11 : B.a11.view.read (Elt Ideal) B.x11 = iblk m c 6 t)
    (ht : tableWord (F := Ideal) B.i B.a4 B.x4 = starts m c (ix2 (pb (grid0.coords t)) (prow (grid0.coords t) 0)))
    (x : Fin 256) (h : ℕ) (hh : h < 2) (l : Fin 64) (hx : x.val / 128 = h) :
    (accW B (ix2 x ⟨64 * h + l.val, by omega⟩) * sclW B (ix2 x ⟨64 * h + l.val, by omega⟩) : EReal)
      = rowAt m c (pb (grid0.coords t)) (pg (grid0.coords t)) (pq (grid0.coords t) h hh) (prow (grid0.coords t) (tk x)) l := by
  refine (row_value (inputs_of m B c t hi h5 h6 h7 h8 h9 h10 h11 ht (G.sorted _) x h hh l hx) fun j => G.nonneg _ j _).trans ?_
  have e : (hd B x).val = (headQ (pg (grid0.coords t)) (pq (grid0.coords t) h hh)).val := by
    show (B.i 1).val * 4 + (B.i 2).val * 2 + x.val / 128 = (grid0.coords t 1).val * 4 + ((grid0.coords t 2).val * 2 + h)
    rw [hi]; omega
  rw [e]
  rfl

/-- The block of a point, element by element. -/
theorem block_of (B : Buf) (c : Dev nD) (G : Good m c) (t : Fin (cfgM m).N) (hi : B.i = grid0.coords t)
    (h5 : B.a5.view.read (Elt Ideal) B.x5 = iblk m c 0 t) (h6 : B.a6.view.read (Elt Ideal) B.x6 = iblk m c 1 t)
    (h7 : B.a7.view.read (Elt Ideal) B.x7 = iblk m c 2 t) (h8 : B.a8.view.read (Elt Ideal) B.x8 = iblk m c 3 t)
    (h9 : B.a9.view.read (Elt Ideal) B.x9 = iblk m c 4 t) (h10 : B.a10.view.read (Elt Ideal) B.x10 = iblk m c 5 t)
    (h11 : B.a11.view.read (Elt Ideal) B.x11 = iblk m c 6 t)
    (ht : tableWord (F := Ideal) B.i B.a4 B.x4 = starts m c (ix2 (pb (grid0.coords t)) (prow (grid0.coords t) 0)))
    (a : Fin 128) (h : ℕ) (hh : h < 2) (l : Fin 64) :
    (k0_pay1 (iota .tc S1x128 32 [1] iota_S1x128_d1_w32) (accW B) (sclW B) (ix3 0 a ⟨64 * h + l.val, by omega⟩) : EReal)
      = rowAt m c (pb (grid0.coords t)) (pg (grid0.coords t)) (pq (grid0.coords t) h hh) (prow (grid0.coords t) a) l := by
  refine (pay1_apply (accW B) (sclW B) a ⟨64 * h + l.val, by omega⟩).trans ?_
  obtain rfl | rfl : h = 0 ∨ h = 1 := by omega
  · rw [if_pos (show 64 * 0 + l.val < 64 by omega)]
    refine (rows_of m B c G t hi h5 h6 h7 h8 h9 h10 h11 ht ⟨a.val, by omega⟩ 0 hh l (by show a.val / 128 = 0; omega)).trans ?_
    exact congrArg (fun a => rowAt m c (pb (grid0.coords t)) (pg (grid0.coords t)) (pq (grid0.coords t) 0 hh) (prow (grid0.coords t) a) l) (Fin.ext (by show a.val % 128 = a.val; omega))
  · rw [if_neg (show ¬ 64 * 1 + l.val < 64 by omega)]
    refine (rows_of m B c G t hi h5 h6 h7 h8 h9 h10 h11 ht ⟨128 + a.val, by omega⟩ 1 hh l (by show (128 + a.val) / 128 = 1; omega)).trans ?_
    exact congrArg (fun a => rowAt m c (pb (grid0.coords t)) (pg (grid0.coords t)) (pq (grid0.coords t) 1 hh) (prow (grid0.coords t) a) l) (Fin.ext (by show (128 + a.val) % 128 = a.val; omega))

/-- The result array, from the arguments. -/
def result (c : Dev nD) : Vec Ideal S2x32768x1024 .bf16 := fun y =>
  rowAt m c (y 0) (⟨(y 2).val / 256, by have : (y 2).val < 1024 := (y 2).isLt; omega⟩) ⟨(y 2).val / 64 % 4, by omega⟩ (y 1) ⟨(y 2).val % 64, by omega⟩

theorem result_apply (c : Dev nD) (b : Fin 2) (g q : Fin 4) (i : Fin 32768) (l : Fin 64) (k : Fin 1024) (hk : k.val = g.val * 256 + q.val * 64 + l.val) :
    result m c (ix3 b i k) = rowAt m c b g q i l := by
  have e1 : (⟨k.val / 256, by omega⟩ : Fin 4) = g := Fin.ext (by show k.val / 256 = g.val; omega)
  have e2 : (⟨k.val / 64 % 4, by omega⟩ : Fin 4) = q := Fin.ext (by show k.val / 64 % 4 = q.val; omega)
  have e3 : (⟨k.val % 64, by omega⟩ : Fin 64) = l := Fin.ext (by show k.val % 64 = l.val; omega)
  show rowAt m c b ⟨k.val / 256, _⟩ ⟨k.val / 64 % 4, _⟩ i ⟨k.val % 64, _⟩ = _
  rw [e1, e2, e3]

/-- A point's block of the result. -/
def outBlk (c : Dev nD) (t : Fin (cfgM m).N) : Vec Ideal S1x128x128 .bf16 := fun y =>
  result m c (ix3 (pb (grid0.coords t)) (prow (grid0.coords t) (y 1)) (plane (grid0.coords t) (y 2)))

theorem block_eq (B : Buf) (c : Dev nD) (G : Good m c) (t : Fin (cfgM m).N) (hi : B.i = grid0.coords t)
    (h5 : B.a5.view.read (Elt Ideal) B.x5 = iblk m c 0 t) (h6 : B.a6.view.read (Elt Ideal) B.x6 = iblk m c 1 t)
    (h7 : B.a7.view.read (Elt Ideal) B.x7 = iblk m c 2 t) (h8 : B.a8.view.read (Elt Ideal) B.x8 = iblk m c 3 t)
    (h9 : B.a9.view.read (Elt Ideal) B.x9 = iblk m c 4 t) (h10 : B.a10.view.read (Elt Ideal) B.x10 = iblk m c 5 t)
    (h11 : B.a11.view.read (Elt Ideal) B.x11 = iblk m c 6 t)
    (ht : tableWord (F := Ideal) B.i B.a4 B.x4 = starts m c (ix2 (pb (grid0.coords t)) (prow (grid0.coords t) 0))) :
    k0_pay1 (iota .tc S1x128 32 [1] iota_S1x128_d1_w32) (accW B) (sclW B) = outBlk m c t := by
  funext y
  obtain ⟨z, a, k, rfl⟩ : ∃ (z : Fin 1) (a k : Fin 128), y = ix3 z a k := ⟨y 0, y 1, y 2, by funext d; fin_cases d <;> rfl⟩
  obtain rfl : z = 0 := Subsingleton.elim _ _
  have hk : k = ⟨64 * (k.val / 64) + (⟨k.val % 64, by omega⟩ : Fin 64).val, by show 64 * (k.val / 64) + k.val % 64 < 128; omega⟩ := Fin.ext (by show k.val = 64 * (k.val / 64) + k.val % 64; omega)
  refine Eq.trans (congrArg (fun k => k0_pay1 (iota .tc S1x128 32 [1] iota_S1x128_d1_w32) (accW B) (sclW B) (ix3 0 a k)) hk) ?_
  refine (block_of m B c G t hi h5 h6 h7 h8 h9 h10 h11 ht a (k.val / 64) (by omega) ⟨k.val % 64, by omega⟩).trans ?_
  refine (result_apply m c _ _ _ _ _ _ ?_).symm
  show ((grid0.coords t 1).val * 2 + (grid0.coords t 2).val) * 128 + k.val = (grid0.coords t 1).val * 256 + ((grid0.coords t 2).val * 2 + k.val / 64) * 64 + k.val % 64
  omega

theorem outOf_read (B : Buf) : B.a12.view.read (Elt Ideal) (B.a12.view.writes (Elt Ideal) B.f12 ((bodyRun (F := Ideal) B.c B.i B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.x4 B.x5 B.x6 B.x7 B.x8 B.x9 B.x10 B.x11 B.hw).1 B.f13 B.f14 B.f15 B.f16 B.f17 B.f18 B.f19 B.f20 B.f21 B.f22 B.f23))
    = k0_pay1 (iota .tc S1x128 32 [1] iota_S1x128_d1_w32) (accW B) (sclW B) := by
  rw [body_pieces B]
  exact View.read_writes_full B.a12.view B.f12 _ _ _

/-- `OutOf` with every buffer named: the block that the point leaves is the payload of its one store. -/
theorem outOf_elim (c : Dev nD) (i : grid0.Coords) (arg4 : Memref sig .tc .smem S2x256 .i32) (harg4 : arg4.IsWhole) (arg5 : Memref sig .tc .vmem S1x128x128 .fp8e4m3) (harg5 : arg5.IsWhole) (arg6 : Memref sig .tc .vmem S1x128x16 .f32) (harg6 : arg6.IsWhole) (arg7 : Memref sig .tc .vmem S1x128x1 .i32) (harg7 : arg7.IsWhole) (arg8 : Memref sig .tc .vmem S1x1x128x33280 .fp8e4m3) (harg8 : arg8.IsWhole) (arg9 : Memref sig .tc .vmem S1x1x33280x128 .fp8e4m3) (harg9 : arg9.IsWhole) (arg10 : Memref sig .tc .vmem S1x1x1x33280 .f32) (harg10 : arg10.IsWhole) (arg11 : Memref sig .tc .vmem S1x1x1x33280 .f32) (harg11 : arg11.IsWhole) (arg12 : Memref sig .tc .vmem S1x128x128 .bf16) (harg12 : arg12.IsWhole) (arg13 : Memref sig .tc .vmem S64x256x512 .f32) (harg13 : arg13.IsWhole) (arg14 : Memref sig .tc .vmem S256x512 .f32) (harg14 : arg14.IsWhole) (arg15 : Memref sig .tc .vmem S256x512 .fp8e4m3) (harg15 : arg15.IsWhole) (arg16 : Memref sig .tc .vmem S256x128 .fp8e4m3) (harg16 : arg16.IsWhole) (arg17 : Memref sig .tc .vmem S256x128 .f32) (harg17 : arg17.IsWhole) (arg18 : Memref sig .tc .vmem S256x128 .i32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (X4 : BufTy.Contents (Elt Ideal) arg4.view.ty)
    (hw : k0_chk1 i (tableWord (F := Ideal) i arg4 X4)) (x5 : Vec Ideal S1x128x128 .fp8e4m3) (x6 : Vec Ideal S1x128x16 .f32) (x7 : Vec Ideal S1x128x1 .i32) (x8 : Vec Ideal S1x1x128x33280 .fp8e4m3) (x9 : Vec Ideal S1x1x33280x128 .fp8e4m3) (x10 : Vec Ideal S1x1x1x33280 .f32) (x11 : Vec Ideal S1x1x1x33280 .f32) (Y : Vec Ideal S1x128x128 .bf16)
    (h : OutOf (F := Ideal) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X4 hw x5 x6 x7 x8 x9 x10 x11 Y) :
    ∃ B : Buf, B.i = i ∧ B.a5.view.read (Elt Ideal) B.x5 = x5 ∧ B.a6.view.read (Elt Ideal) B.x6 = x6 ∧ B.a7.view.read (Elt Ideal) B.x7 = x7 ∧ B.a8.view.read (Elt Ideal) B.x8 = x8
      ∧ B.a9.view.read (Elt Ideal) B.x9 = x9 ∧ B.a10.view.read (Elt Ideal) B.x10 = x10 ∧ B.a11.view.read (Elt Ideal) B.x11 = x11
      ∧ tableWord (F := Ideal) B.i B.a4 B.x4 = tableWord (F := Ideal) i arg4 X4
      ∧ Y = k0_pay1 (iota .tc S1x128 32 [1] iota_S1x128_d1_w32) (accW B) (sclW B) := by
  obtain ⟨X5, X6, X7, X8, X9, X10, X11, h5, h6, h7, h8, h9, h10, h11, f12, f13, f14, f15, f16, f17, f18, f19, f20, f21, f22, f23, hY⟩ := h
  exact ⟨⟨c, i, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, X4, X5, X6, X7, X8, X9, X10, X11, hw, f12, f13, f14, f15, f16, f17, f18, f19, f20, f21, f22, f23⟩,
    rfl, h5, h6, h7, h8, h9, h10, h11, rfl, hY.trans (outOf_read ⟨c, i, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, arg20, harg20, arg21, harg21, arg22, harg22, arg23, harg23, X4, X5, X6, X7, X8, X9, X10, X11, hw, f12, f13, f14, f15, f16, f17, f18, f19, f20, f21, f22, f23⟩)⟩

/-- Whatever a point may leave in the output's block is its block of the result. -/
theorem pointOut_eq (hT : TableOk m) (c : Dev nD) (G : Good m c) (t : Fin (cfgM m).N) (Y : Vec Ideal S1x128x128 .bf16) (hY : PointOut m hT c t Y) : Y = outBlk m c t := by
  unfold PointOut at hY
  obtain ⟨B, hi, h5, h6, h7, h8, h9, h10, h11, ht, rfl⟩ := outOf_elim _ _ _ _ _ _ _ _ _ _ _ _ _ _ _ _ _ _ _ _ _ _ _ _ _ _ _ _ _ _ _ _ _ _ _ _ _ _ _ _ _ _ _ _ _ _ _ _ _ _ _ _ hY
  refine block_eq m B c G t hi h5 h6 h7 h8 h9 h10 h11 (ht.trans ?_)
  obtain rfl : c = 0 := Subsingleton.elim _ _
  exact tableWord_eq m (grid0.coords t)

/-- The run of the kernel, read. -/
theorem value_run (ρ : Dev nD → PrngReg) (G : ∀ c, Good m c) :
    θ_run defs (onTc (τ := τ) (main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ⟨((h c).1).trans ?_, (h c).2⟩) (value_of m ρ (outBlk m) (tableOk m) fun c t Y hY => pointOut_eq m (tableOk m) c (G c) t Y hY)
  refine (dats m (outBlk m) 0 c).arrAt_eq_of_covers 7 (result m c) (covers7 m) (fun t _ y => ?_)
  obtain ⟨z, a, k, rfl⟩ : ∃ (z : Fin 1) (a k : Fin 128), y = ix3 z a k := ⟨y (0 : Fin 3), y (1 : Fin 3), y (2 : Fin 3), by funext d; fin_cases d <;> rfl⟩
  obtain rfl : z = 0 := Subsingleton.elim _ _
  exact (congrArg (result m c) (emb7 m t a k)).symm
end Cert.KernelIdeal
-- ==== Proof.RefParts.lean ====
/-
  What the reference stores at one element: the row of `Cert.Row.refOut` with the element's own logits,
  scales and codes.
-/
module

public import proofs.«01_k».proof.Proof.Gen.ReferenceIdeal.Frame
public import proofs.«01_k».proof.Proof.Math
import all proofs.«01_k».proof.Proof.Gen.ReferenceIdeal.Frame

@[expose] public section
set_option maxRecDepth 16384
set_option maxHeartbeats 200000
noncomputable section
namespace Cert.ReferenceIdeal
open Gen
open Idealize.ShloMosaic Idealize.ShloMosaic.TcCoe Idealize.ShloMosaic.Tactic

variable (v2 : FVec Ideal S2x32768x4x4x64 .f32) (v5 : FVec Ideal S2x32768x4x64 .f32) (v12 : FVec Ideal S2x4x4x32768x1 .f32) (v17 : FVec Ideal S2x4x1x1x32768 .f32) (v20 : FVec Ideal S2x4x1x1x32768 .f32) (v33 : FVec Ideal S1x4x4x1x1 .f32) (v34 : IVec S32768x32768 32) (v35 : IVec S32768x32768 32) (v36 : IVec S32768x32768 32) (v38 : Vec Ideal S2x32768 .i32)

/-- The lane of head `(g, q)`'s element `l`, of key/value head `g`'s, and the head itself. -/
abbrev lane (g q : Fin 4) (l : Fin 64) : Fin 1024 := ⟨g.val * 256 + q.val * 64 + l.val, by omega⟩
abbrev lane4 (g : Fin 4) (l : Fin 64) : Fin 256 := ⟨g.val * 64 + l.val, by omega⟩
abbrev headOf (g q : Fin 4) : Fin 16 := ⟨g.val * 4 + q.val, by omega⟩

theorem pay2_apply (v : Vec Ideal S2x32768x1024 .fp8e4m3) (b : Fin 2) (i : Fin 32768) (g q : Fin 4) (l : Fin 64) :
    (k0_pay2 v (ix5 b i g q l) : EReal) = v (ix3 b i (lane g q l)) := by
  unfold k0_pay2; pointwise
theorem pay3_apply (v : Vec Ideal S2x32768x256 .fp8e4m3) (b : Fin 2) (i : Fin 32768) (g : Fin 4) (l : Fin 64) :
    (k0_pay3 v (ix4 b i g l) : EReal) = v (ix3 b i (lane4 g l)) := by
  unfold k0_pay3; pointwise
theorem pay4_apply (v : Vec Ideal S2x32768x256 .fp8e4m3) (b : Fin 2) (i : Fin 32768) (g : Fin 4) (l : Fin 64) :
    (k0_pay4 v (ix4 b i g l) : EReal) = v (ix3 b i (lane4 g l)) := by
  unfold k0_pay4; pointwise
theorem pay5_apply (v : Vec Ideal S2x32768x16 .f32) (b : Fin 2) (i : Fin 32768) (g q : Fin 4) :
    (k0_pay5 v (ix5 b g q i 0) : EReal) = v (ix3 b i (headOf g q)) := by
  unfold k0_pay5; pointwise
theorem pay6_apply (v : Vec Ideal S2x32768x4 .f32) (b : Fin 2) (i : Fin 32768) (g : Fin 4) :
    (k0_pay6 v (ix5 b g 0 0 i) : EReal) = v (ix3 b i g) * Ideal.ofBits .f32 0x3E000000#32 := by
  unfold k0_pay6; pointwise
theorem pay7_apply (v : Vec Ideal S2x32768x4 .f32) (b : Fin 2) (i : Fin 32768) (g : Fin 4) :
    (k0_pay7 v (ix5 b g 0 0 i) : EReal) = v (ix3 b i g) := by
  unfold k0_pay7; pointwise
/-- The slope of head `(g, q)`. -/
def slope (g q : Fin 4) : EReal := Ideal.exp2 (Ideal.div (Ideal.ofBits .f32 0xC1000000#32 * (FloatOps.sitofp (F := Ideal) .f32 (IntOp.addi (IntOp.muli (BitVec.ofNat 32 g.val) 4#32) (BitVec.ofNat 32 q.val)) + 1)) (Ideal.ofBits .f32 0x41800000#32))
theorem pay8_apply (g q : Fin 4) : (k0_pay8 (F := Ideal) (ix5 0 g q 0 0) : EReal) = slope g q := by
  unfold k0_pay8; pointwise; rfl
theorem pay9_apply (i j : Fin 32768) : k0_pay9 (ix2 i j) = IntOp.subi (BitVec.ofNat 32 i.val) (BitVec.ofNat 32 j.val) := by
  unfold k0_pay9; pointwise

/-- One logit of row `(b, g, q, i)`. -/
def logit (b : Fin 2) (g q : Fin 4) (i j : Fin 32768) : EReal :=
  Scalar.select (IntOp.andi (IntOp.cmpi .sle (v35 (ix2 i j)) (v34 (ix2 i j))) (IntOp.cmpi .eq (v38 (ix2 b i)) (v38 (ix2 b j))))
    ((∑ x : Fin 64, (v5 (ix4 b j g x) : EReal) * v2 (ix5 b i g q x)) * v12 (ix5 b g q i 0) * v17 (ix5 b g 0 0 j) -
      v33 (ix5 0 g q 0 0) * FloatOps.sitofp (F := Ideal) .f32 (v36 (ix2 i j))) Row.minusInf

theorem pay10_apply (b : Fin 2) (g q : Fin 4) (i j : Fin 32768) : (k0_pay10 v2 v5 v12 v17 v20 v33 v34 v35 v36 v38 (ix5 b g q i j) : EReal)
    = Row.weight (logit v2 v5 v12 v17 v33 v34 v35 v36 v38 b g q i) (fun j => v20 (ix5 b g 0 0 j)) j := by
  unfold k0_pay10; pointwise
  unfold Row.weight Row.rowMax logit
  with_reducible rfl

theorem pay11_raw (b : Fin 2) (g q : Fin 4) (i : Fin 32768) : (k0_pay11 v2 v5 v12 v17 v20 v33 v34 v35 v36 v38 (ix5 b g q i 0) : EReal)
    = Finset.univ.fold max (Ideal.ofBits .f32 0xFF800000#32) fun j => FloatOps.absf (F := Ideal) (φ := .f32) (k0_pay10 v2 v5 v12 v17 v20 v33 v34 v35 v36 v38 (ix5 b g q i j)) := by
  unfold k0_pay11; pointwise

theorem pay11_apply (b : Fin 2) (g q : Fin 4) (i : Fin 32768) : (k0_pay11 v2 v5 v12 v17 v20 v33 v34 v35 v36 v38 (ix5 b g q i 0) : EReal)
    = Row.rowMax fun j => FloatOps.absf (F := Ideal) (φ := .f32) (Row.weight (logit v2 v5 v12 v17 v33 v34 v35 v36 v38 b g q i) (fun j => v20 (ix5 b g 0 0 j)) j) :=
  (pay11_raw v2 v5 v12 v17 v20 v33 v34 v35 v36 v38 b g q i).trans (congrArg (fun f : Fin 32768 → EReal => Finset.univ.fold max (Ideal.ofBits .f32 0xFF800000#32) f)
    (funext fun j => congrArg (FloatOps.absf (F := Ideal) (φ := .f32)) (pay10_apply v2 v5 v12 v17 v20 v33 v34 v35 v36 v38 b g q i j)))

theorem cmp_at (z : FVec Ideal S2x4x4x32768x1 .f32) (j : S2x4x4x32768x1.Idx) :
    (cmpf .oeq z (broadcast S2x4x4x32768x1 (Scalar.ofBits .f32 0x00000000#32)) : IVec S2x4x4x32768x1 1) j = Ideal.cmp .oeq (z j) (Ideal.ofBits .f32 0x00000000#32) := rfl
theorem pay12_eq : k0_pay12 v2 v5 v12 v17 v20 v33 v34 v35 v36 v38 = cmpf .oeq (k0_pay11 v2 v5 v12 v17 v20 v33 v34 v35 v36 v38) (broadcast S2x4x4x32768x1 (Scalar.ofBits .f32 0x00000000#32)) := by
  delta k0_pay12
  with_reducible rfl
theorem pay12_apply (b : Fin 2) (g q : Fin 4) (i : Fin 32768) : k0_pay12 v2 v5 v12 v17 v20 v33 v34 v35 v36 v38 (ix5 b g q i 0)
    = Ideal.cmp .oeq (k0_pay11 v2 v5 v12 v17 v20 v33 v34 v35 v36 v38 (ix5 b g q i 0)) (Ideal.ofBits .f32 0x00000000#32) := by
  rw [pay12_eq, cmp_at]

theorem log_at (z : FVec Ideal S2x4x4x32768x1 .f32) (j : S2x4x4x32768x1.Idx) :
    ((divf (log (mulf z (broadcast S2x4x4x32768x1 (Scalar.ofBits .f32 0x3B124925#32)))) (log (broadcast S2x4x4x32768x1 (Scalar.ofBits .f32 0x40000000#32))) : FVec Ideal S2x4x4x32768x1 .f32) j : EReal)
    = Ideal.div (Ideal.log ((z j : EReal) * Row.c448)) (Ideal.log (Ideal.ofBits .f32 0x40000000#32)) := rfl
theorem pay13_eq : k0_pay13 v2 v5 v12 v17 v20 v33 v34 v35 v36 v38 = divf (log (mulf (k0_pay11 v2 v5 v12 v17 v20 v33 v34 v35 v36 v38) (broadcast S2x4x4x32768x1 (Scalar.ofBits .f32 0x3B124925#32)))) (log (broadcast S2x4x4x32768x1 (Scalar.ofBits .f32 0x40000000#32))) := by
  delta k0_pay13
  with_reducible rfl
theorem pay13_apply (b : Fin 2) (g q : Fin 4) (i : Fin 32768) : (k0_pay13 v2 v5 v12 v17 v20 v33 v34 v35 v36 v38 (ix5 b g q i 0) : EReal)
    = Ideal.div (Ideal.log ((k0_pay11 v2 v5 v12 v17 v20 v33 v34 v35 v36 v38 (ix5 b g q i 0) : EReal) * Row.c448)) (Ideal.log (Ideal.ofBits .f32 0x40000000#32)) := by
  rw [pay13_eq, log_at]

theorem floatExp2 (x : EReal) : FloatOps.exp2 (F := Ideal) (φ := .f32) x = Ideal.exp2 x := rfl

theorem pay1_apply (v8 : FVec Ideal S2x32768x4x64 .f32) (v75 : FVec Ideal S2x4x4x32768x32768 .f32) (v82 : IVec S2x4x4x32768x1 1) (v86 : FVec Ideal S2x4x4x32768x1 .f32)
    (b : Fin 2) (g q : Fin 4) (i : Fin 32768) (l : Fin 64) :
    (k0_pay1 v8 v75 v82 v86 (ix3 b i ⟨g.val * 256 + q.val * 64 + l.val, by omega⟩) : EReal)
    = (∑ x, Row.clip ((v75 (ix5 b g q i x) : EReal) * Ideal.exp2 (0 - Scalar.select (v82 (ix5 b g q i 0)) 0 (Ideal.liftRound Int.floor (v86 (ix5 b g q i 0)) + 1))) * v8 (ix4 b x g l))
      * Ideal.exp2 (Scalar.select (v82 (ix5 b g q i 0)) 0 (Ideal.liftRound Int.floor (v86 (ix5 b g q i 0)) + 1)) := by
  unfold k0_pay1 Row.clip; pointwise
  simp only [floatExp2]

end Cert.ReferenceIdeal
-- ==== Proof.RefValue.lean ====
/-
  What the reference stores at one element: the row of `Cert.Row.refOut` with the element's own logits,
  scales and codes.
-/
module

public import proofs.«01_k».proof.Proof.RefParts
public import Idealize.ShloMosaic.Lib.Pipeline.ValueKit.Basic

@[expose] public section
set_option maxRecDepth 16384
set_option maxHeartbeats 400000
noncomputable section
namespace Cert.ReferenceIdeal
open Gen
open Idealize.ShloMosaic Idealize.ShloMosaic.TcCoe Idealize.ShloMosaic.Tactic

/-- The logit of query `i` of head `(g, q)` and key `j`, from the arguments. -/
def refLogit (x0 : Vec Ideal S2x32768x1024 .fp8e4m3) (x1 : Vec Ideal S2x32768x256 .fp8e4m3) (x3 : Vec Ideal S2x32768x16 .f32) (x4 : Vec Ideal S2x32768x4 .f32) (x6 : Vec Ideal S2x32768 .i32)
    (b : Fin 2) (g q : Fin 4) (i j : Fin 32768) : EReal :=
  Scalar.select (IntOp.andi (IntOp.cmpi .sle (BitVec.ofNat 32 j.val) (BitVec.ofNat 32 i.val)) (IntOp.cmpi .eq (x6 (ix2 b i)) (x6 (ix2 b j))))
    ((∑ x : Fin 64, (x1 (ix3 b j (lane4 g x)) : EReal) * x0 (ix3 b i (lane g q x))) * x3 (ix3 b i (headOf g q)) * (x4 (ix3 b j g) * Ideal.ofBits .f32 0x3E000000#32) -
      slope g q * FloatOps.sitofp (F := Ideal) .f32 (IntOp.subi (BitVec.ofNat 32 i.val) (BitVec.ofNat 32 j.val))) Row.minusInf

theorem logit_eq (x0 : Vec Ideal S2x32768x1024 .fp8e4m3) (x1 x2 : Vec Ideal S2x32768x256 .fp8e4m3) (x3 : Vec Ideal S2x32768x16 .f32) (x4 x5 : Vec Ideal S2x32768x4 .f32) (x6 : Vec Ideal S2x32768 .i32)
    (b : Fin 2) (g q : Fin 4) (i : Fin 32768) :
    logit (k0_pay2 x0) (k0_pay3 x1) (k0_pay5 x3) (k0_pay6 x4) (k0_pay8 (F := Ideal)) (k0_pay14 x0 x1 x2 x3 x4 x5 x6) (k0_pay15 x0 x1 x2 x3 x4 x5 x6) k0_pay9 x6 b g q i
    = refLogit x0 x1 x3 x4 x6 b g q i := by
  funext j
  unfold logit refLogit
  rw [pay5_apply, pay6_apply, pay8_apply, pay9_apply]
  simp only [pay2_apply, pay3_apply]
  have h14 : k0_pay14 x0 x1 x2 x3 x4 x5 x6 (ix2 i j) = BitVec.ofNat 32 i.val := by unfold k0_pay14; pointwise
  have h15 : k0_pay15 x0 x1 x2 x3 x4 x5 x6 (ix2 i j) = BitVec.ofNat 32 j.val := by unfold k0_pay15; pointwise
  rw [h14, h15]

theorem out_apply (x0 : Vec Ideal S2x32768x1024 .fp8e4m3) (x1 x2 : Vec Ideal S2x32768x256 .fp8e4m3) (x3 : Vec Ideal S2x32768x16 .f32) (x4 x5 : Vec Ideal S2x32768x4 .f32) (x6 : Vec Ideal S2x32768 .i32)
    (b : Fin 2) (g q : Fin 4) (i : Fin 32768) (l : Fin 64) :
    (out0_7 x0 x1 x2 x3 x4 x5 x6 (ix3 b i (lane g q l)) : EReal)
    = Row.refOut (refLogit x0 x1 x3 x4 x6 b g q i) (fun j => (x5 (ix3 b j g) : EReal)) (fun j => (x2 (ix3 b j (lane4 g l)) : EReal)) := by
  have h0 (x : Vec Ideal S2x32768x1024 .fp8e4m3) : View.ld x r0_0 = x := View.ld_unit_lit _ x (by decide)
  have h1 (x : Vec Ideal S2x32768x256 .fp8e4m3) : View.ld x r0_1 = x := View.ld_unit_lit _ x (by decide)
  have h2 (x : Vec Ideal S2x32768x16 .f32) : View.ld x r0_2 = x := View.ld_unit_lit _ x (by decide)
  have h3 (x : Vec Ideal S2x32768x4 .f32) : View.ld x r0_3 = x := View.ld_unit_lit _ x (by decide)
  have h4 (x : Vec Ideal S2x32768 .i32) : View.ld x r0_4 = x := View.ld_unit_lit _ x (by decide)
  unfold out0_7 k0_pay22 k0_pay21 k0_pay20 k0_pay19 k0_pay18 k0_pay17 k0_pay16
  rw [h0, h1, h1, h2, h3, h3, h4]
  rw [View.canon_cons_unit_lit _ _ _ (by decide)]
  refine (pay1_apply _ _ _ _ b g q i l).trans ?_
  rw [pay12_apply, pay13_apply, pay11_apply, logit_eq]
  simp only [pay10_apply, pay4_apply, logit_eq]
  unfold Row.refOut Row.gridExp Row.expo
  simp only [pay7_apply]

end Cert.ReferenceIdeal
-- ==== Proof.RefRun.lean ====
/-
  The run of the reference, read: its one block is the whole of every array, so that its result is
  `out0_7` of the arguments.
-/
module

public import proofs.«01_k».proof.Proof.RefValue
public import proofs.«01_k».proof.Proof.Gen.ReferenceIdeal.Frame
public import Idealize.ShloMosaic.Lib.Pipeline.ValueKit
public import Idealize.ShloMosaic.Lib.Pipeline.Covers

@[expose] public section
set_option maxRecDepth 16384
noncomputable section
namespace Cert.ReferenceIdeal
open Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The result array, from the arguments. -/
abbrev refResult (c : Dev nD) : Vec Ideal S2x32768x1024 .bf16 :=
  out0_7 (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

theorem map0 (w : Fin 8) (d : Fin (cfg0.win w).shape.rank) : (cfg0.win w).index t0_0 d = 0 := by
  revert d; fin_cases w <;> decide +kernel

theorem at_zero {a b n : ℕ} (h : a = 0) : a * b + n = n := by rw [h]; omega

theorem iblk0 (c : Dev nD) : iblk m c 0 t0_0 = m ((c.tc : Thread nD τ).loc main_arg0) :=
  funext fun y => congrArg (m ((c.tc : Thread nD τ).loc main_arg0)) (funext fun d => Fin.ext ((Pipeline.Window.rect_emb_val (cfg0.win 0) t0_0 y d).trans (at_zero (map0 0 d))))
theorem iblk1 (c : Dev nD) : iblk m c 1 t0_0 = m ((c.tc : Thread nD τ).loc main_arg1) :=
  funext fun y => congrArg (m ((c.tc : Thread nD τ).loc main_arg1)) (funext fun d => Fin.ext ((Pipeline.Window.rect_emb_val (cfg0.win 1) t0_0 y d).trans (at_zero (map0 1 d))))
theorem iblk2 (c : Dev nD) : iblk m c 2 t0_0 = m ((c.tc : Thread nD τ).loc main_arg2) :=
  funext fun y => congrArg (m ((c.tc : Thread nD τ).loc main_arg2)) (funext fun d => Fin.ext ((Pipeline.Window.rect_emb_val (cfg0.win 2) t0_0 y d).trans (at_zero (map0 2 d))))
theorem iblk3 (c : Dev nD) : iblk m c 3 t0_0 = m ((c.tc : Thread nD τ).loc main_arg3) :=
  funext fun y => congrArg (m ((c.tc : Thread nD τ).loc main_arg3)) (funext fun d => Fin.ext ((Pipeline.Window.rect_emb_val (cfg0.win 3) t0_0 y d).trans (at_zero (map0 3 d))))
theorem iblk4 (c : Dev nD) : iblk m c 4 t0_0 = m ((c.tc : Thread nD τ).loc main_arg4) :=
  funext fun y => congrArg (m ((c.tc : Thread nD τ).loc main_arg4)) (funext fun d => Fin.ext ((Pipeline.Window.rect_emb_val (cfg0.win 4) t0_0 y d).trans (at_zero (map0 4 d))))
theorem iblk5 (c : Dev nD) : iblk m c 5 t0_0 = m ((c.tc : Thread nD τ).loc main_arg5) :=
  funext fun y => congrArg (m ((c.tc : Thread nD τ).loc main_arg5)) (funext fun d => Fin.ext ((Pipeline.Window.rect_emb_val (cfg0.win 5) t0_0 y d).trans (at_zero (map0 5 d))))
theorem iblk6 (c : Dev nD) : iblk m c 6 t0_0 = m ((c.tc : Thread nD τ).loc main_arg6) :=
  funext fun y => congrArg (m ((c.tc : Thread nD τ).loc main_arg6)) (funext fun d => Fin.ext ((Pipeline.Window.rect_emb_val (cfg0.win 6) t0_0 y d).trans (at_zero (map0 6 d))))

theorem final7 (c : Dev nD) : (dats m 0 c).arrAt 7 cfg0.N = refResult m c := by
  refine (dats m 0 c).arrAt_eq_of_after_last 7 t0_0 (by decide +kernel) _ fun y => ?_
  rw [after0_7, iblk0, iblk1, iblk2, iblk3, iblk4, iblk5, iblk6]
  unfold refResult
  generalize out0_7 (F := Ideal) _ _ _ _ _ _ _ = R
  rfl

theorem ref_run (ρ : Dev nD → PrngReg) :
    θ_run defs (onTc (τ := τ) (main (F := Ideal))) ⟨m, fun _ => 0, ρ⟩ (fun r => ∀ c : Dev nD,
      r.2.mem ((c.tc : Thread nD τ).loc main_v0) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final7 m c),
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _),
      ((h c).1 4).trans ((dats m 0 c).arrAt_in 4 rfl _), ((h c).1 5).trans ((dats m 0 c).arrAt_in 5 rfl _),
      ((h c).1 6).trans ((dats m 0 c).arrAt_in 6 rfl _)⟩)
    (run_main m ρ)

end Cert.ReferenceIdeal
-- ==== Proof.Packed.lean ====
/-
  What the claim's precondition `packed` says, element by element: the segment ids never decrease along a
  row, and no value scale is negative.
-/
module

public import proofs.«01_k».proof.Defs
public import Idealize.ShloMosaic.Lib.ReduceAll
public import Idealize.ShloMosaic.Lib.Decide
public import Idealize.ShloMosaic.Lib.Pipeline.ValueKit

@[expose] public section
set_option maxRecDepth 16384
noncomputable section
namespace Cert.Pre_packed
open Idealize.ShloMosaic

instance facts : Facts where
  slices_S2x32768_S2x32767_0_0 := by decide
  slices_S2x32768_S2x32767_0_1 := by decide
  reducesTo_S2x32767_S_d0_1 := by decide
  h_S_ := by decide
  bcast_S_S2x32768x4 := by decide
  reducesTo_S2x32768x4_S_d0_1_2 := by decide

instance : Subsingleton S_.Idx := ⟨fun _ _ => funext fun a => a.elim0⟩

variable {x0 : FVec Ideal S2x32768x1024 .fp8e4m3} {x1 x2 : FVec Ideal S2x32768x256 .fp8e4m3} {x3 : FVec Ideal S2x32768x16 .f32} {x4 x5 : FVec Ideal S2x32768x4 .f32} {x6 : IVec S2x32768 32}

/-- Neighbouring ids are in order. -/
theorem step (h : fn (F := Ideal) x0 x1 x2 x3 x4 x5 x6 = fun _ => 1#1) (b : Fin 2) (k : Fin 32767) :
    (x6 (ix2 b ⟨k.val, by omega⟩)).toInt ≤ (x6 (ix2 b ⟨k.val + 1, by omega⟩)).toInt := by
  have h0 := congrFun h (fun a => a.elim0)
  unfold fn at h0
  obtain ⟨hs, -⟩ := IntOp.andi_eq_one.1 h0
  have hk := Host.reduce_andi_all _ _ _ _ _ hs (ix2 b k)
  have hl := IntOp.cmpi_sle.1 hk
  have e1 : extractStridedSlice S2x32767 ![0, 0] x6 Facts.slices_S2x32768_S2x32767_0_0 (ix2 b k) = x6 (ix2 b ⟨k.val, by omega⟩) := by
    refine congrArg x6 (funext fun d => Fin.ext ?_)
    fin_cases d
    · show 0 + b.val = b.val; omega
    · show 0 + k.val = k.val; omega
  have e2 : extractStridedSlice S2x32767 ![0, 1] x6 Facts.slices_S2x32768_S2x32767_0_1 (ix2 b k) = x6 (ix2 b ⟨k.val + 1, by omega⟩) := by
    refine congrArg x6 (funext fun d => Fin.ext ?_)
    fin_cases d
    · show 0 + b.val = b.val; omega
    · show 1 + k.val = k.val + 1; omega
  exact e1 ▸ e2 ▸ hl

/-- The ids of a row are in order. -/
theorem sorted (h : fn (F := Ideal) x0 x1 x2 x3 x4 x5 x6 = fun _ => 1#1) (b : Fin 2) (i j : Fin 32768) (hij : i ≤ j) :
    (x6 (ix2 b i)).toInt ≤ (x6 (ix2 b j)).toInt := by
  obtain ⟨i, hi⟩ := i
  obtain ⟨j, hj⟩ := j
  have hij' : i ≤ j := hij
  induction j, hij' using Nat.le_induction with
  | base => exact le_refl _
  | succ n hn ih => exact (ih (by omega) (show i ≤ n from hn)).trans (step h b ⟨n, by omega⟩)

/-- No value scale is negative. -/
theorem nonneg (h : fn (F := Ideal) x0 x1 x2 x3 x4 x5 x6 = fun _ => 1#1) (b : Fin 2) (j : Fin 32768) (g : Fin 4) :
    (0 : EReal) ≤ x5 (ix3 b j g) := by
  have h0 := congrFun h (fun a => a.elim0)
  unfold fn at h0
  obtain ⟨-, hv⟩ := IntOp.andi_eq_one.1 h0
  have hk := Host.reduce_andi_all _ _ _ _ _ hv (ix3 b j g)
  have hk' : BitVec.ofBool (decide ((Ideal.ofBits .f32 0x00000000#32 : EReal) ≤ x5 (ix3 b j g))) = 1#1 := hk
  have hz : (Ideal.ofBits .f32 0x00000000#32 : EReal) = 0 := Ideal.ofBits_zero_f32
  rw [hz] at hk'
  by_contra hn
  rw [decide_eq_false hn] at hk'
  exact absurd hk' (by decide)

end Cert.Pre_packed
-- ==== Proof.Algebraic.lean ====
/-
  The value claim: under the precondition, the kernel's result array and the reference's are one function of
  the arguments.
-/
module

public import proofs.«01_k».proof.Proof.Point
public import proofs.«01_k».proof.Proof.RefRun
public import proofs.«01_k».proof.Proof.Packed

@[expose] public section
set_option maxRecDepth 16384
noncomputable section
namespace Cert.Proof
open Idealize.ShloMosaic Idealize.ShloMosaic.TcCoe Idealize.SL.Sem

/-- The number of a head, as the reference forms it. -/
theorem head_word : ∀ g q : Fin 4, IntOp.addi (IntOp.muli (BitVec.ofNat 32 g.val) 4#32) (BitVec.ofNat 32 q.val) = BitVec.ofNat 32 (Cert.KernelIdeal.headQ g q).val := by decide

theorem slope_eq (g q : Fin 4) : Cert.ReferenceIdeal.slope g q = Cert.KernelIdeal.slopeR (BitVec.ofNat 32 (Cert.KernelIdeal.headQ g q).val) := by
  unfold Cert.ReferenceIdeal.slope Cert.KernelIdeal.slopeR
  rw [head_word]

variable (m : (ℓ : Loc Cert.KernelIdeal.nD Cert.KernelIdeal.τ Cert.KernelIdeal.sig) → Buf (Elt Ideal) ℓ)

/-- One element of the result, from both sides. -/
theorem element (c : Dev Cert.KernelIdeal.nD) (b : Fin 2) (g q : Fin 4) (i : Fin 32768) (l : Fin 64) :
    (Cert.ReferenceIdeal.Gen.out0_7 (Cert.KernelIdeal.aQ m c) (Cert.KernelIdeal.aK m c) (Cert.KernelIdeal.aV m c) (Cert.KernelIdeal.aQs m c) (Cert.KernelIdeal.aKs m c)
      (Cert.KernelIdeal.aVs m c) (Cert.KernelIdeal.segs m c) (ix3 b i (Cert.ReferenceIdeal.lane g q l)) : EReal) = Cert.KernelIdeal.rowAt m c b g q i l := by
  refine (Cert.ReferenceIdeal.out_apply _ _ _ _ _ _ _ b g q i l).trans ?_
  unfold Cert.KernelIdeal.rowAt
  refine congrArg (fun L => Cert.Row.refOut L _ _) (funext fun j => ?_)
  unfold Cert.ReferenceIdeal.refLogit Cert.KernelIdeal.rowLogit
  rw [slope_eq]
  rfl

/-- The whole result, from both sides. -/
theorem result_eq (c : Dev Cert.KernelIdeal.nD) :
    Cert.ReferenceIdeal.Gen.out0_7 (Cert.KernelIdeal.aQ m c) (Cert.KernelIdeal.aK m c) (Cert.KernelIdeal.aV m c) (Cert.KernelIdeal.aQs m c) (Cert.KernelIdeal.aKs m c)
      (Cert.KernelIdeal.aVs m c) (Cert.KernelIdeal.segs m c) = Cert.KernelIdeal.result m c := by
  funext y
  obtain ⟨b, i, k, rfl⟩ : ∃ (b : Fin 2) (i : Fin 32768) (k : Fin 1024), y = ix3 b i k := ⟨y 0, y 1, y 2, by funext d; fin_cases d <;> rfl⟩
  have hk : k = Cert.ReferenceIdeal.lane ⟨k.val / 256, by omega⟩ ⟨k.val / 64 % 4, by omega⟩ ⟨k.val % 64, by omega⟩ :=
    Fin.ext (by show k.val = k.val / 256 * 256 + k.val / 64 % 4 * 64 + k.val % 64; omega)
  refine (congrArg (fun k => Cert.ReferenceIdeal.Gen.out0_7 _ _ _ _ _ _ _ (ix3 b i k)) hk).trans ?_
  refine (element m c b _ _ i _).trans (Cert.KernelIdeal.result_apply m c b _ _ i _ k ?_).symm
  show k.val = k.val / 256 * 256 + k.val / 64 % 4 * 64 + k.val % 64
  omega

/-- What the precondition says of the arguments. -/
theorem good (h : Cert.Pre_KernelIdeal_packed m) (c : Dev Cert.KernelIdeal.nD) : Cert.KernelIdeal.Good m c where
  sorted b i j hij := Cert.Pre_packed.sorted (h c) b i j hij
  nonneg b j g := Cert.Pre_packed.nonneg (h c) b j g

theorem algebraic : Cert.algebraic_KernelIdeal_ReferenceIdeal_pre_packed := by
  intro m g m' g' hp ha
  refine ⟨fun c => Cert.KernelIdeal.result m c, Cert.KernelIdeal.value_run m g (good m hp), ?_⟩
  refine (θ_run Cert.ReferenceIdeal.defs _ _).mono (fun r h c => ⟨((h c).1).trans ?_, (h c).2⟩) (Cert.ReferenceIdeal.ref_run m' g')
  obtain ⟨h0, h1, h2, h3, h4, h5, h6⟩ := ha c
  unfold Cert.ReferenceIdeal.refResult
  rw [h0, h1, h2, h3, h4, h5, h6]
  exact result_eq m c

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.TableKernel
public import proofs.«01_k».proof.Proof.TableKernelIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_packed.facts,
  fun m ρ _ => Cert.Kernel.frame_of m ρ (fun c t => Cert.Kernel.iblk m c 7 t) (Cert.Kernel.tableOk m),
  fun m ρ _ => Cert.KernelIdeal.frame_of m ρ (fun c t => Cert.KernelIdeal.iblk m c 7 t) (Cert.KernelIdeal.tableOk m),
  fun m ρ _ => Cert.KernelIdeal.frame_of m ρ (fun c t => Cert.KernelIdeal.iblk m c 7 t) (Cert.KernelIdeal.tableOk m),
  fun m ρ _ => Cert.ReferenceIdeal.Gen.frame m ρ,
  fun m ρ _ => Cert.ReferenceIdeal.Gen.frame m ρ,
  ⟨IdealRules.named_const.statement Cert.KernelIdeal.κ "scaled_log2e" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "masked" .f32 0xF149F2CA#32 ⊥ rfl⟩,
  algebraic⟩

end Cert.Proof

end
